-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Up [hPre_experts_up : Cert.Pre_experts_up.Facts] (m : (ℓ : Loc Cert.Up.nD Cert.Up.τ Cert.Up.sig) → Buf (Elt Bits) ℓ) : Prop :=
  ∀ c : Dev Cert.Up.nD,
    (Cert.Pre_experts_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) = (fun _ => 1#1)

def Pre_UpIdeal [hPre_experts_up : Cert.Pre_experts_up.Facts] (m : (ℓ : Loc Cert.UpIdeal.nD Cert.UpIdeal.τ Cert.UpIdeal.sig) → Buf (Elt Ideal) ℓ) : Prop :=
  ∀ c : Dev Cert.UpIdeal.nD,
    (Cert.Pre_experts_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_experts_up [hPre_experts_up : Cert.Pre_experts_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_experts_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))) = (fun _ => 1#1)

def Pre_Down [hPre_experts_down : Cert.Pre_experts_down.Facts] (m : (ℓ : Loc Cert.Down.nD Cert.Down.τ Cert.Down.sig) → Buf (Elt Bits) ℓ) : Prop :=
  ∀ c : Dev Cert.Down.nD,
    (Cert.Pre_experts_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_experts_down : Cert.Pre_experts_down.Facts] (m : (ℓ : Loc Cert.DownIdeal.nD Cert.DownIdeal.τ Cert.DownIdeal.sig) → Buf (Elt Ideal) ℓ) : Prop :=
  ∀ c : Dev Cert.DownIdeal.nD,
    (Cert.Pre_experts_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_experts_down [hPre_experts_down : Cert.Pre_experts_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_experts_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kpe (m : (ℓ : Loc Cert.Kpe.nD Cert.Kpe.τ Cert.Kpe.sig) → Buf (Elt Bits) ℓ) : Prop :=
  True

def Pre_KpeIdeal (m : (ℓ : Loc Cert.KpeIdeal.nD Cert.KpeIdeal.τ Cert.KpeIdeal.sig) → Buf (Elt Ideal) ℓ) : Prop :=
  True

def Pre_KpeRefIdeal (m : (ℓ : Loc Cert.KpeRefIdeal.nD Cert.KpeRefIdeal.τ Cert.KpeRefIdeal.sig) → Buf (Elt Ideal) ℓ) : Prop :=
  True

def Pre_Ckv (m : (ℓ : Loc Cert.Ckv.nD Cert.Ckv.τ Cert.Ckv.sig) → Buf (Elt Bits) ℓ) : Prop :=
  True

def Pre_CkvIdeal (m : (ℓ : Loc Cert.CkvIdeal.nD Cert.CkvIdeal.τ Cert.CkvIdeal.sig) → Buf (Elt Ideal) ℓ) : Prop :=
  True

def Pre_CkvRefIdeal (m : (ℓ : Loc Cert.CkvRefIdeal.nD Cert.CkvRefIdeal.τ Cert.CkvRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombRefIdeal (m : (ℓ : Loc Cert.CombRefIdeal.nD Cert.CombRefIdeal.τ Cert.CombRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Rotk (m : (ℓ : Loc Cert.Rotk.nD Cert.Rotk.τ Cert.Rotk.sig) → Buf (Elt Bits) ℓ) : Prop :=
  True

def Pre_RotkIdeal (m : (ℓ : Loc Cert.RotkIdeal.nD Cert.RotkIdeal.τ Cert.RotkIdeal.sig) → Buf (Elt Ideal) ℓ) : Prop :=
  True

def Pre_RotkRefIdeal (m : (ℓ : Loc Cert.RotkRefIdeal.nD Cert.RotkRefIdeal.τ Cert.RotkRefIdeal.sig) → Buf (Elt Ideal) ℓ) : Prop :=
  True

def Pre_Rotq (m : (ℓ : Loc Cert.Rotq.nD Cert.Rotq.τ Cert.Rotq.sig) → Buf (Elt Bits) ℓ) : Prop :=
  True

def Pre_RotqIdeal (m : (ℓ : Loc Cert.RotqIdeal.nD Cert.RotqIdeal.τ Cert.RotqIdeal.sig) → Buf (Elt Ideal) ℓ) : Prop :=
  True

def Pre_RotqRefIdeal (m : (ℓ : Loc Cert.RotqRefIdeal.nD Cert.RotqRefIdeal.τ Cert.RotqRefIdeal.sig) → Buf (Elt Ideal) ℓ) : Prop :=
  True

def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftRefIdeal (m : (ℓ : Loc Cert.DftRefIdeal.nD Cert.DftRefIdeal.τ Cert.DftRefIdeal.sig) → Buf (Elt Ideal) ℓ) : Prop :=
  True

def Pre_Pos (m : (ℓ : Loc Cert.Pos.nD Cert.Pos.τ Cert.Pos.sig) → Buf (Elt Bits) ℓ) : Prop :=
  True

def Pre_PosIdeal (m : (ℓ : Loc Cert.PosIdeal.nD Cert.PosIdeal.τ Cert.PosIdeal.sig) → Buf (Elt Ideal) ℓ) : Prop :=
  True

def Pre_PosRefIdeal (m : (ℓ : Loc Cert.PosRefIdeal.nD Cert.PosRefIdeal.τ Cert.PosRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Up [hUp : Cert.Up.Facts] [hPre_experts_up : Cert.Pre_experts_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_experts_up : Cert.Pre_experts_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_experts_up [hUpRefIdeal : Cert.UpRefIdeal.Facts] [hPre_experts_up : Cert.Pre_experts_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_experts_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] [hPre_experts_down : Cert.Pre_experts_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_experts_down : Cert.Pre_experts_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_experts_down [hDownRefIdeal : Cert.DownRefIdeal.Facts] [hPre_experts_down : Cert.Pre_experts_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_experts_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Kpe [hKpe : Cert.Kpe.Facts] : Prop :=
  ∀ (m : (ℓ : Loc Cert.Kpe.nD Cert.Kpe.τ Cert.Kpe.sig) → Buf (Elt Bits) ℓ) (g : Dev Cert.Kpe.nD → PrngReg), Pre_Kpe m →
    θ_run (Cert.Kpe.defs (F := Bits)) (onTc (τ := Cert.Kpe.τ) (Cert.Kpe.main (F := Bits))) ⟨m, fun _ => 0, g⟩ (fun r => (∀ c : Dev Cert.Kpe.nD,
      r.2.mem ((c.tc : Thread Cert.Kpe.nD Cert.Kpe.τ).loc Cert.Kpe.main_arg0) = m ((c.tc : Thread Cert.Kpe.nD Cert.Kpe.τ).loc Cert.Kpe.main_arg0)
      ∧ r.2.mem ((c.tc : Thread Cert.Kpe.nD Cert.Kpe.τ).loc Cert.Kpe.main_arg1) = m ((c.tc : Thread Cert.Kpe.nD Cert.Kpe.τ).loc Cert.Kpe.main_arg1))
      ∧ r.2.sem = fun _ => 0)

def quiescent_KpeIdeal [hKpeIdeal : Cert.KpeIdeal.Facts] : Prop :=
  ∀ (m : (ℓ : Loc Cert.KpeIdeal.nD Cert.KpeIdeal.τ Cert.KpeIdeal.sig) → Buf (Elt Ideal) ℓ) (g : Dev Cert.KpeIdeal.nD → PrngReg), Pre_KpeIdeal m →
    θ_run (Cert.KpeIdeal.defs (F := Ideal)) (onTc (τ := Cert.KpeIdeal.τ) (Cert.KpeIdeal.main (F := Ideal))) ⟨m, fun _ => 0, g⟩ (fun r => (∀ c : Dev Cert.KpeIdeal.nD,
      r.2.mem ((c.tc : Thread Cert.KpeIdeal.nD Cert.KpeIdeal.τ).loc Cert.KpeIdeal.main_arg0) = m ((c.tc : Thread Cert.KpeIdeal.nD Cert.KpeIdeal.τ).loc Cert.KpeIdeal.main_arg0)
      ∧ r.2.mem ((c.tc : Thread Cert.KpeIdeal.nD Cert.KpeIdeal.τ).loc Cert.KpeIdeal.main_arg1) = m ((c.tc : Thread Cert.KpeIdeal.nD Cert.KpeIdeal.τ).loc Cert.KpeIdeal.main_arg1))
      ∧ r.2.sem = fun _ => 0)

def quiescent_KpeRefIdeal [hKpeRefIdeal : Cert.KpeRefIdeal.Facts] : Prop :=
  ∀ (m : (ℓ : Loc Cert.KpeRefIdeal.nD Cert.KpeRefIdeal.τ Cert.KpeRefIdeal.sig) → Buf (Elt Ideal) ℓ) (g : Dev Cert.KpeRefIdeal.nD → PrngReg), Pre_KpeRefIdeal m →
    θ_run (Cert.KpeRefIdeal.defs (F := Ideal)) (onTc (τ := Cert.KpeRefIdeal.τ) (Cert.KpeRefIdeal.main (F := Ideal))) ⟨m, fun _ => 0, g⟩ (fun r => (∀ c : Dev Cert.KpeRefIdeal.nD,
      r.2.mem ((c.tc : Thread Cert.KpeRefIdeal.nD Cert.KpeRefIdeal.τ).loc Cert.KpeRefIdeal.main_arg0) = m ((c.tc : Thread Cert.KpeRefIdeal.nD Cert.KpeRefIdeal.τ).loc Cert.KpeRefIdeal.main_arg0)
      ∧ r.2.mem ((c.tc : Thread Cert.KpeRefIdeal.nD Cert.KpeRefIdeal.τ).loc Cert.KpeRefIdeal.main_arg1) = m ((c.tc : Thread Cert.KpeRefIdeal.nD Cert.KpeRefIdeal.τ).loc Cert.KpeRefIdeal.main_arg1))
      ∧ r.2.sem = fun _ => 0)

def quiescent_Ckv [hCkv : Cert.Ckv.Facts] : Prop :=
  ∀ (m : (ℓ : Loc Cert.Ckv.nD Cert.Ckv.τ Cert.Ckv.sig) → Buf (Elt Bits) ℓ) (g : Dev Cert.Ckv.nD → PrngReg), Pre_Ckv m →
    θ_run (Cert.Ckv.defs (F := Bits)) (onTc (τ := Cert.Ckv.τ) (Cert.Ckv.main (F := Bits))) ⟨m, fun _ => 0, g⟩ (fun r => (∀ c : Dev Cert.Ckv.nD,
      r.2.mem ((c.tc : Thread Cert.Ckv.nD Cert.Ckv.τ).loc Cert.Ckv.main_arg0) = m ((c.tc : Thread Cert.Ckv.nD Cert.Ckv.τ).loc Cert.Ckv.main_arg0)
      ∧ r.2.mem ((c.tc : Thread Cert.Ckv.nD Cert.Ckv.τ).loc Cert.Ckv.main_arg1) = m ((c.tc : Thread Cert.Ckv.nD Cert.Ckv.τ).loc Cert.Ckv.main_arg1))
      ∧ r.2.sem = fun _ => 0)

def quiescent_CkvIdeal [hCkvIdeal : Cert.CkvIdeal.Facts] : Prop :=
  ∀ (m : (ℓ : Loc Cert.CkvIdeal.nD Cert.CkvIdeal.τ Cert.CkvIdeal.sig) → Buf (Elt Ideal) ℓ) (g : Dev Cert.CkvIdeal.nD → PrngReg), Pre_CkvIdeal m →
    θ_run (Cert.CkvIdeal.defs (F := Ideal)) (onTc (τ := Cert.CkvIdeal.τ) (Cert.CkvIdeal.main (F := Ideal))) ⟨m, fun _ => 0, g⟩ (fun r => (∀ c : Dev Cert.CkvIdeal.nD,
      r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
      ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1))
      ∧ r.2.sem = fun _ => 0)

def quiescent_CkvRefIdeal [hCkvRefIdeal : Cert.CkvRefIdeal.Facts] : Prop :=
  ∀ (m : (ℓ : Loc Cert.CkvRefIdeal.nD Cert.CkvRefIdeal.τ Cert.CkvRefIdeal.sig) → Buf (Elt Ideal) ℓ) (g : Dev Cert.CkvRefIdeal.nD → PrngReg), Pre_CkvRefIdeal m →
    θ_run (Cert.CkvRefIdeal.defs (F := Ideal)) (onTc (τ := Cert.CkvRefIdeal.τ) (Cert.CkvRefIdeal.main (F := Ideal))) ⟨m, fun _ => 0, g⟩ (fun r => (∀ c : Dev Cert.CkvRefIdeal.nD,
      r.2.mem ((c.tc : Thread Cert.CkvRefIdeal.nD Cert.CkvRefIdeal.τ).loc Cert.CkvRefIdeal.main_arg0) = m ((c.tc : Thread Cert.CkvRefIdeal.nD Cert.CkvRefIdeal.τ).loc Cert.CkvRefIdeal.main_arg0)
      ∧ r.2.mem ((c.tc : Thread Cert.CkvRefIdeal.nD Cert.CkvRefIdeal.τ).loc Cert.CkvRefIdeal.main_arg1) = m ((c.tc : Thread Cert.CkvRefIdeal.nD Cert.CkvRefIdeal.τ).loc Cert.CkvRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Rotk [hRotk : Cert.Rotk.Facts] : Prop :=
  ∀ (m : (ℓ : Loc Cert.Rotk.nD Cert.Rotk.τ Cert.Rotk.sig) → Buf (Elt Bits) ℓ) (g : Dev Cert.Rotk.nD → PrngReg), Pre_Rotk m →
    θ_run (Cert.Rotk.defs (F := Bits)) (onTc (τ := Cert.Rotk.τ) (Cert.Rotk.main (F := Bits))) ⟨m, fun _ => 0, g⟩ (fun r => (∀ c : Dev Cert.Rotk.nD,
      r.2.mem ((c.tc : Thread Cert.Rotk.nD Cert.Rotk.τ).loc Cert.Rotk.main_arg0) = m ((c.tc : Thread Cert.Rotk.nD Cert.Rotk.τ).loc Cert.Rotk.main_arg0))
      ∧ r.2.sem = fun _ => 0)

def quiescent_RotkIdeal [hRotkIdeal : Cert.RotkIdeal.Facts] : Prop :=
  ∀ (m : (ℓ : Loc Cert.RotkIdeal.nD Cert.RotkIdeal.τ Cert.RotkIdeal.sig) → Buf (Elt Ideal) ℓ) (g : Dev Cert.RotkIdeal.nD → PrngReg), Pre_RotkIdeal m →
    θ_run (Cert.RotkIdeal.defs (F := Ideal)) (onTc (τ := Cert.RotkIdeal.τ) (Cert.RotkIdeal.main (F := Ideal))) ⟨m, fun _ => 0, g⟩ (fun r => (∀ c : Dev Cert.RotkIdeal.nD,
      r.2.mem ((c.tc : Thread Cert.RotkIdeal.nD Cert.RotkIdeal.τ).loc Cert.RotkIdeal.main_arg0) = m ((c.tc : Thread Cert.RotkIdeal.nD Cert.RotkIdeal.τ).loc Cert.RotkIdeal.main_arg0))
      ∧ r.2.sem = fun _ => 0)

def quiescent_RotkRefIdeal [hRotkRefIdeal : Cert.RotkRefIdeal.Facts] : Prop :=
  ∀ (m : (ℓ : Loc Cert.RotkRefIdeal.nD Cert.RotkRefIdeal.τ Cert.RotkRefIdeal.sig) → Buf (Elt Ideal) ℓ) (g : Dev Cert.RotkRefIdeal.nD → PrngReg), Pre_RotkRefIdeal m →
    θ_run (Cert.RotkRefIdeal.defs (F := Ideal)) (onTc (τ := Cert.RotkRefIdeal.τ) (Cert.RotkRefIdeal.main (F := Ideal))) ⟨m, fun _ => 0, g⟩ (fun r => (∀ c : Dev Cert.RotkRefIdeal.nD,
      r.2.mem ((c.tc : Thread Cert.RotkRefIdeal.nD Cert.RotkRefIdeal.τ).loc Cert.RotkRefIdeal.main_arg0) = m ((c.tc : Thread Cert.RotkRefIdeal.nD Cert.RotkRefIdeal.τ).loc Cert.RotkRefIdeal.main_arg0))
      ∧ r.2.sem = fun _ => 0)

def quiescent_Rotq [hRotq : Cert.Rotq.Facts] : Prop :=
  ∀ (m : (ℓ : Loc Cert.Rotq.nD Cert.Rotq.τ Cert.Rotq.sig) → Buf (Elt Bits) ℓ) (g : Dev Cert.Rotq.nD → PrngReg), Pre_Rotq m →
    θ_run (Cert.Rotq.defs (F := Bits)) (onTc (τ := Cert.Rotq.τ) (Cert.Rotq.main (F := Bits))) ⟨m, fun _ => 0, g⟩ (fun r => (∀ c : Dev Cert.Rotq.nD,
      r.2.mem ((c.tc : Thread Cert.Rotq.nD Cert.Rotq.τ).loc Cert.Rotq.main_arg0) = m ((c.tc : Thread Cert.Rotq.nD Cert.Rotq.τ).loc Cert.Rotq.main_arg0)
      ∧ r.2.mem ((c.tc : Thread Cert.Rotq.nD Cert.Rotq.τ).loc Cert.Rotq.main_arg1) = m ((c.tc : Thread Cert.Rotq.nD Cert.Rotq.τ).loc Cert.Rotq.main_arg1))
      ∧ r.2.sem = fun _ => 0)

def quiescent_RotqIdeal [hRotqIdeal : Cert.RotqIdeal.Facts] : Prop :=
  ∀ (m : (ℓ : Loc Cert.RotqIdeal.nD Cert.RotqIdeal.τ Cert.RotqIdeal.sig) → Buf (Elt Ideal) ℓ) (g : Dev Cert.RotqIdeal.nD → PrngReg), Pre_RotqIdeal m →
    θ_run (Cert.RotqIdeal.defs (F := Ideal)) (onTc (τ := Cert.RotqIdeal.τ) (Cert.RotqIdeal.main (F := Ideal))) ⟨m, fun _ => 0, g⟩ (fun r => (∀ c : Dev Cert.RotqIdeal.nD,
      r.2.mem ((c.tc : Thread Cert.RotqIdeal.nD Cert.RotqIdeal.τ).loc Cert.RotqIdeal.main_arg0) = m ((c.tc : Thread Cert.RotqIdeal.nD Cert.RotqIdeal.τ).loc Cert.RotqIdeal.main_arg0)
      ∧ r.2.mem ((c.tc : Thread Cert.RotqIdeal.nD Cert.RotqIdeal.τ).loc Cert.RotqIdeal.main_arg1) = m ((c.tc : Thread Cert.RotqIdeal.nD Cert.RotqIdeal.τ).loc Cert.RotqIdeal.main_arg1))
      ∧ r.2.sem = fun _ => 0)

def quiescent_RotqRefIdeal [hRotqRefIdeal : Cert.RotqRefIdeal.Facts] : Prop :=
  ∀ (m : (ℓ : Loc Cert.RotqRefIdeal.nD Cert.RotqRefIdeal.τ Cert.RotqRefIdeal.sig) → Buf (Elt Ideal) ℓ) (g : Dev Cert.RotqRefIdeal.nD → PrngReg), Pre_RotqRefIdeal m →
    θ_run (Cert.RotqRefIdeal.defs (F := Ideal)) (onTc (τ := Cert.RotqRefIdeal.τ) (Cert.RotqRefIdeal.main (F := Ideal))) ⟨m, fun _ => 0, g⟩ (fun r => (∀ c : Dev Cert.RotqRefIdeal.nD,
      r.2.mem ((c.tc : Thread Cert.RotqRefIdeal.nD Cert.RotqRefIdeal.τ).loc Cert.RotqRefIdeal.main_arg0) = m ((c.tc : Thread Cert.RotqRefIdeal.nD Cert.RotqRefIdeal.τ).loc Cert.RotqRefIdeal.main_arg0)
      ∧ r.2.mem ((c.tc : Thread Cert.RotqRefIdeal.nD Cert.RotqRefIdeal.τ).loc Cert.RotqRefIdeal.main_arg1) = m ((c.tc : Thread Cert.RotqRefIdeal.nD Cert.RotqRefIdeal.τ).loc Cert.RotqRefIdeal.main_arg1))
      ∧ r.2.sem = fun _ => 0)

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0))
      ∧ r.2.sem = fun _ => 0)

def quiescent_DftRefIdeal [hDftRefIdeal : Cert.DftRefIdeal.Facts] : Prop :=
  ∀ (m : (ℓ : Loc Cert.DftRefIdeal.nD Cert.DftRefIdeal.τ Cert.DftRefIdeal.sig) → Buf (Elt Ideal) ℓ) (g : Dev Cert.DftRefIdeal.nD → PrngReg), Pre_DftRefIdeal m →
    θ_run (Cert.DftRefIdeal.defs (F := Ideal)) (onTc (τ := Cert.DftRefIdeal.τ) (Cert.DftRefIdeal.main (F := Ideal))) ⟨m, fun _ => 0, g⟩ (fun r => (∀ c : Dev Cert.DftRefIdeal.nD,
      r.2.mem ((c.tc : Thread Cert.DftRefIdeal.nD Cert.DftRefIdeal.τ).loc Cert.DftRefIdeal.main_arg0) = m ((c.tc : Thread Cert.DftRefIdeal.nD Cert.DftRefIdeal.τ).loc Cert.DftRefIdeal.main_arg0))
      ∧ r.2.sem = fun _ => 0)

def quiescent_Pos [hPos : Cert.Pos.Facts] : Prop :=
  ∀ (m : (ℓ : Loc Cert.Pos.nD Cert.Pos.τ Cert.Pos.sig) → Buf (Elt Bits) ℓ) (g : Dev Cert.Pos.nD → PrngReg), Pre_Pos m →
    θ_run (Cert.Pos.defs (F := Bits)) (onTc (τ := Cert.Pos.τ) (Cert.Pos.main (F := Bits))) ⟨m, fun _ => 0, g⟩ (fun r => (∀ c : Dev Cert.Pos.nD,
      r.2.mem ((c.tc : Thread Cert.Pos.nD Cert.Pos.τ).loc Cert.Pos.main_arg0) = m ((c.tc : Thread Cert.Pos.nD Cert.Pos.τ).loc Cert.Pos.main_arg0))
      ∧ r.2.sem = fun _ => 0)

def quiescent_PosIdeal [hPosIdeal : Cert.PosIdeal.Facts] : Prop :=
  ∀ (m : (ℓ : Loc Cert.PosIdeal.nD Cert.PosIdeal.τ Cert.PosIdeal.sig) → Buf (Elt Ideal) ℓ) (g : Dev Cert.PosIdeal.nD → PrngReg), Pre_PosIdeal m →
    θ_run (Cert.PosIdeal.defs (F := Ideal)) (onTc (τ := Cert.PosIdeal.τ) (Cert.PosIdeal.main (F := Ideal))) ⟨m, fun _ => 0, g⟩ (fun r => (∀ c : Dev Cert.PosIdeal.nD,
      r.2.mem ((c.tc : Thread Cert.PosIdeal.nD Cert.PosIdeal.τ).loc Cert.PosIdeal.main_arg0) = m ((c.tc : Thread Cert.PosIdeal.nD Cert.PosIdeal.τ).loc Cert.PosIdeal.main_arg0))
      ∧ r.2.sem = fun _ => 0)

def quiescent_PosRefIdeal [hPosRefIdeal : Cert.PosRefIdeal.Facts] : Prop :=
  ∀ (m : (ℓ : Loc Cert.PosRefIdeal.nD Cert.PosRefIdeal.τ Cert.PosRefIdeal.sig) → Buf (Elt Ideal) ℓ) (g : Dev Cert.PosRefIdeal.nD → PrngReg), Pre_PosRefIdeal m →
    θ_run (Cert.PosRefIdeal.defs (F := Ideal)) (onTc (τ := Cert.PosRefIdeal.τ) (Cert.PosRefIdeal.main (F := Ideal))) ⟨m, fun _ => 0, g⟩ (fun r => (∀ c : Dev Cert.PosRefIdeal.nD,
      r.2.mem ((c.tc : Thread Cert.PosRefIdeal.nD Cert.PosRefIdeal.τ).loc Cert.PosRefIdeal.main_arg0) = m ((c.tc : Thread Cert.PosRefIdeal.nD Cert.PosRefIdeal.τ).loc Cert.PosRefIdeal.main_arg0))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Up_UpIdeal : Prop :=
  True

def algebraic_UpIdeal_UpRefIdeal [hUpIdeal : Cert.UpIdeal.Facts] [hUpRefIdeal : Cert.UpRefIdeal.Facts] [hPre_experts_up : Cert.Pre_experts_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v106) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] [hPre_experts_down : Cert.Pre_experts_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v65) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v10) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Kpe_KpeIdeal : Prop :=
  True

def algebraic_KpeIdeal_KpeRefIdeal [hKpeIdeal : Cert.KpeIdeal.Facts] [hKpeRefIdeal : Cert.KpeRefIdeal.Facts] : Prop :=
  ∀ (m : (ℓ : Loc Cert.KpeIdeal.nD Cert.KpeIdeal.τ Cert.KpeIdeal.sig) → Buf (Elt Ideal) ℓ) (g : Dev Cert.KpeIdeal.nD → PrngReg)
    (m' : (ℓ : Loc Cert.KpeRefIdeal.nD Cert.KpeRefIdeal.τ Cert.KpeRefIdeal.sig) → Buf (Elt Ideal) ℓ) (g' : Dev Cert.KpeRefIdeal.nD → PrngReg), Pre_KpeIdeal m →
    (∀ c : Dev Cert.KpeIdeal.nD,
      m' ((c.tc : Thread Cert.KpeRefIdeal.nD Cert.KpeRefIdeal.τ).loc Cert.KpeRefIdeal.main_arg0) = m ((c.tc : Thread Cert.KpeIdeal.nD Cert.KpeIdeal.τ).loc Cert.KpeIdeal.main_arg0)
      ∧ m' ((c.tc : Thread Cert.KpeRefIdeal.nD Cert.KpeRefIdeal.τ).loc Cert.KpeRefIdeal.main_arg1) = m ((c.tc : Thread Cert.KpeIdeal.nD Cert.KpeIdeal.τ).loc Cert.KpeIdeal.main_arg1)) →
    ∃ (v0 : (c : Dev Cert.KpeIdeal.nD) → Buf (Elt Ideal) ((c.tc : Thread Cert.KpeIdeal.nD Cert.KpeIdeal.τ).loc Cert.KpeIdeal.main_v2)),
      θ_run (Cert.KpeIdeal.defs (F := Ideal)) (onTc (τ := Cert.KpeIdeal.τ) (Cert.KpeIdeal.main (F := Ideal))) ⟨m, fun _ => 0, g⟩ (fun r => ∀ c : Dev Cert.KpeIdeal.nD,
          r.2.mem ((c.tc : Thread Cert.KpeIdeal.nD Cert.KpeIdeal.τ).loc Cert.KpeIdeal.main_v2) = v0 c
          ∧ r.2.mem ((c.tc : Thread Cert.KpeIdeal.nD Cert.KpeIdeal.τ).loc Cert.KpeIdeal.main_arg0) = m ((c.tc : Thread Cert.KpeIdeal.nD Cert.KpeIdeal.τ).loc Cert.KpeIdeal.main_arg0)
          ∧ r.2.mem ((c.tc : Thread Cert.KpeIdeal.nD Cert.KpeIdeal.τ).loc Cert.KpeIdeal.main_arg1) = m ((c.tc : Thread Cert.KpeIdeal.nD Cert.KpeIdeal.τ).loc Cert.KpeIdeal.main_arg1))
      ∧ θ_run (Cert.KpeRefIdeal.defs (F := Ideal)) (onTc (τ := Cert.KpeRefIdeal.τ) (Cert.KpeRefIdeal.main (F := Ideal))) ⟨m', fun _ => 0, g'⟩ (fun r => ∀ c : Dev Cert.KpeRefIdeal.nD,
          r.2.mem ((c.tc : Thread Cert.KpeRefIdeal.nD Cert.KpeRefIdeal.τ).loc Cert.KpeRefIdeal.main_v6) = v0 c
          ∧ r.2.mem ((c.tc : Thread Cert.KpeRefIdeal.nD Cert.KpeRefIdeal.τ).loc Cert.KpeRefIdeal.main_arg0) = m' ((c.tc : Thread Cert.KpeRefIdeal.nD Cert.KpeRefIdeal.τ).loc Cert.KpeRefIdeal.main_arg0)
          ∧ r.2.mem ((c.tc : Thread Cert.KpeRefIdeal.nD Cert.KpeRefIdeal.τ).loc Cert.KpeRefIdeal.main_arg1) = m' ((c.tc : Thread Cert.KpeRefIdeal.nD Cert.KpeRefIdeal.τ).loc Cert.KpeRefIdeal.main_arg1))

def preserves_Ckv_CkvIdeal : Prop :=
  True

def algebraic_CkvIdeal_CkvRefIdeal [hCkvIdeal : Cert.CkvIdeal.Facts] [hCkvRefIdeal : Cert.CkvRefIdeal.Facts] : Prop :=
  ∀ (m : (ℓ : Loc Cert.CkvIdeal.nD Cert.CkvIdeal.τ Cert.CkvIdeal.sig) → Buf (Elt Ideal) ℓ) (g : Dev Cert.CkvIdeal.nD → PrngReg)
    (m' : (ℓ : Loc Cert.CkvRefIdeal.nD Cert.CkvRefIdeal.τ Cert.CkvRefIdeal.sig) → Buf (Elt Ideal) ℓ) (g' : Dev Cert.CkvRefIdeal.nD → PrngReg), Pre_CkvIdeal m →
    (∀ c : Dev Cert.CkvIdeal.nD,
      m' ((c.tc : Thread Cert.CkvRefIdeal.nD Cert.CkvRefIdeal.τ).loc Cert.CkvRefIdeal.main_arg0) = m ((c.tc : Thread Cert.CkvIdeal.nD Cert.CkvIdeal.τ).loc Cert.CkvIdeal.main_arg0)
      ∧ m' ((c.tc : Thread Cert.CkvRefIdeal.nD Cert.CkvRefIdeal.τ).loc Cert.CkvRefIdeal.main_arg1) = m ((c.tc : Thread Cert.CkvIdeal.nD Cert.CkvIdeal.τ).loc Cert.CkvIdeal.main_arg1)) →
    ∃ (v0 : (c : Dev Cert.CkvIdeal.nD) → Buf (Elt Ideal) ((c.tc : Thread Cert.CkvIdeal.nD Cert.CkvIdeal.τ).loc Cert.CkvIdeal.main_v5)) (v1 : (c : Dev Cert.CkvIdeal.nD) → Buf (Elt Ideal) ((c.tc : Thread Cert.CkvIdeal.nD Cert.CkvIdeal.τ).loc Cert.CkvIdeal.main_v3_1)),
      θ_run (Cert.CkvIdeal.defs (F := Ideal)) (onTc (τ := Cert.CkvIdeal.τ) (Cert.CkvIdeal.main (F := Ideal))) ⟨m, fun _ => 0, g⟩ (fun r => ∀ c : Dev Cert.CkvIdeal.nD,
          r.2.mem ((c.tc : Thread Cert.CkvIdeal.nD Cert.CkvIdeal.τ).loc Cert.CkvIdeal.main_v5) = v0 c
          ∧ r.2.mem ((c.tc : Thread Cert.CkvIdeal.nD Cert.CkvIdeal.τ).loc Cert.CkvIdeal.main_v3_1) = v1 c
          ∧ r.2.mem ((c.tc : Thread Cert.CkvIdeal.nD Cert.CkvIdeal.τ).loc Cert.CkvIdeal.main_arg0) = m ((c.tc : Thread Cert.CkvIdeal.nD Cert.CkvIdeal.τ).loc Cert.CkvIdeal.main_arg0)
          ∧ r.2.mem ((c.tc : Thread Cert.CkvIdeal.nD Cert.CkvIdeal.τ).loc Cert.CkvIdeal.main_arg1) = m ((c.tc : Thread Cert.CkvIdeal.nD Cert.CkvIdeal.τ).loc Cert.CkvIdeal.main_arg1))
      ∧ θ_run (Cert.CkvRefIdeal.defs (F := Ideal)) (onTc (τ := Cert.CkvRefIdeal.τ) (Cert.CkvRefIdeal.main (F := Ideal))) ⟨m', fun _ => 0, g'⟩ (fun r => ∀ c : Dev Cert.CkvRefIdeal.nD,
          r.2.mem ((c.tc : Thread Cert.CkvRefIdeal.nD Cert.CkvRefIdeal.τ).loc Cert.CkvRefIdeal.main_v17) = v0 c
          ∧ r.2.mem ((c.tc : Thread Cert.CkvRefIdeal.nD Cert.CkvRefIdeal.τ).loc Cert.CkvRefIdeal.main_v18) = v1 c
          ∧ r.2.mem ((c.tc : Thread Cert.CkvRefIdeal.nD Cert.CkvRefIdeal.τ).loc Cert.CkvRefIdeal.main_arg0) = m' ((c.tc : Thread Cert.CkvRefIdeal.nD Cert.CkvRefIdeal.τ).loc Cert.CkvRefIdeal.main_arg0)
          ∧ r.2.mem ((c.tc : Thread Cert.CkvRefIdeal.nD Cert.CkvRefIdeal.τ).loc Cert.CkvRefIdeal.main_arg1) = m' ((c.tc : Thread Cert.CkvRefIdeal.nD Cert.CkvRefIdeal.τ).loc Cert.CkvRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v4) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v14) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v13) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v3)) (v1 : (c : Dev Cert.FinalIdeal.nD) → Buf (Elt Ideal) ((c.tc : Thread Cert.FinalIdeal.nD Cert.FinalIdeal.τ).loc Cert.FinalIdeal.main_v5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_v5) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v16) = v0 c
          ∧ r.2.mem ((c.tc : Thread Cert.FinalRefIdeal.nD Cert.FinalRefIdeal.τ).loc Cert.FinalRefIdeal.main_v29) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v23) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v37) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Comb_CombIdeal : Prop :=
  True

def algebraic_CombIdeal_CombRefIdeal [hCombIdeal : Cert.CombIdeal.Facts] [hCombRefIdeal : Cert.CombRefIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)) →
    ∃ (v0 : (c : Dev Cert.CombIdeal.nD) → Buf (Elt Ideal) ((c.tc : Thread Cert.CombIdeal.nD Cert.CombIdeal.τ).loc Cert.CombIdeal.main_v0)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v0) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v17) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v33) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Rotk_RotkIdeal : Prop :=
  True

def algebraic_RotkIdeal_RotkRefIdeal [hRotkIdeal : Cert.RotkIdeal.Facts] [hRotkRefIdeal : Cert.RotkRefIdeal.Facts] : Prop :=
  ∀ (m : (ℓ : Loc Cert.RotkIdeal.nD Cert.RotkIdeal.τ Cert.RotkIdeal.sig) → Buf (Elt Ideal) ℓ) (g : Dev Cert.RotkIdeal.nD → PrngReg)
    (m' : (ℓ : Loc Cert.RotkRefIdeal.nD Cert.RotkRefIdeal.τ Cert.RotkRefIdeal.sig) → Buf (Elt Ideal) ℓ) (g' : Dev Cert.RotkRefIdeal.nD → PrngReg), Pre_RotkIdeal m →
    (∀ c : Dev Cert.RotkIdeal.nD,
      m' ((c.tc : Thread Cert.RotkRefIdeal.nD Cert.RotkRefIdeal.τ).loc Cert.RotkRefIdeal.main_arg0) = m ((c.tc : Thread Cert.RotkIdeal.nD Cert.RotkIdeal.τ).loc Cert.RotkIdeal.main_arg0)) →
    ∃ (v0 : (c : Dev Cert.RotkIdeal.nD) → Buf (Elt Ideal) ((c.tc : Thread Cert.RotkIdeal.nD Cert.RotkIdeal.τ).loc Cert.RotkIdeal.main_v61)),
      θ_run (Cert.RotkIdeal.defs (F := Ideal)) (onTc (τ := Cert.RotkIdeal.τ) (Cert.RotkIdeal.main (F := Ideal))) ⟨m, fun _ => 0, g⟩ (fun r => ∀ c : Dev Cert.RotkIdeal.nD,
          r.2.mem ((c.tc : Thread Cert.RotkIdeal.nD Cert.RotkIdeal.τ).loc Cert.RotkIdeal.main_v61) = v0 c
          ∧ r.2.mem ((c.tc : Thread Cert.RotkIdeal.nD Cert.RotkIdeal.τ).loc Cert.RotkIdeal.main_arg0) = m ((c.tc : Thread Cert.RotkIdeal.nD Cert.RotkIdeal.τ).loc Cert.RotkIdeal.main_arg0))
      ∧ θ_run (Cert.RotkRefIdeal.defs (F := Ideal)) (onTc (τ := Cert.RotkRefIdeal.τ) (Cert.RotkRefIdeal.main (F := Ideal))) ⟨m', fun _ => 0, g'⟩ (fun r => ∀ c : Dev Cert.RotkRefIdeal.nD,
          r.2.mem ((c.tc : Thread Cert.RotkRefIdeal.nD Cert.RotkRefIdeal.τ).loc Cert.RotkRefIdeal.main_v51) = v0 c
          ∧ r.2.mem ((c.tc : Thread Cert.RotkRefIdeal.nD Cert.RotkRefIdeal.τ).loc Cert.RotkRefIdeal.main_arg0) = m' ((c.tc : Thread Cert.RotkRefIdeal.nD Cert.RotkRefIdeal.τ).loc Cert.RotkRefIdeal.main_arg0))

def preserves_Rotq_RotqIdeal : Prop :=
  True

def algebraic_RotqIdeal_RotqRefIdeal [hRotqIdeal : Cert.RotqIdeal.Facts] [hRotqRefIdeal : Cert.RotqRefIdeal.Facts] : Prop :=
  ∀ (m : (ℓ : Loc Cert.RotqIdeal.nD Cert.RotqIdeal.τ Cert.RotqIdeal.sig) → Buf (Elt Ideal) ℓ) (g : Dev Cert.RotqIdeal.nD → PrngReg)
    (m' : (ℓ : Loc Cert.RotqRefIdeal.nD Cert.RotqRefIdeal.τ Cert.RotqRefIdeal.sig) → Buf (Elt Ideal) ℓ) (g' : Dev Cert.RotqRefIdeal.nD → PrngReg), Pre_RotqIdeal m →
    (∀ c : Dev Cert.RotqIdeal.nD,
      m' ((c.tc : Thread Cert.RotqRefIdeal.nD Cert.RotqRefIdeal.τ).loc Cert.RotqRefIdeal.main_arg0) = m ((c.tc : Thread Cert.RotqIdeal.nD Cert.RotqIdeal.τ).loc Cert.RotqIdeal.main_arg0)
      ∧ m' ((c.tc : Thread Cert.RotqRefIdeal.nD Cert.RotqRefIdeal.τ).loc Cert.RotqRefIdeal.main_arg1) = m ((c.tc : Thread Cert.RotqIdeal.nD Cert.RotqIdeal.τ).loc Cert.RotqIdeal.main_arg1)) →
    ∃ (v0 : (c : Dev Cert.RotqIdeal.nD) → Buf (Elt Ideal) ((c.tc : Thread Cert.RotqIdeal.nD Cert.RotqIdeal.τ).loc Cert.RotqIdeal.main_v66)),
      θ_run (Cert.RotqIdeal.defs (F := Ideal)) (onTc (τ := Cert.RotqIdeal.τ) (Cert.RotqIdeal.main (F := Ideal))) ⟨m, fun _ => 0, g⟩ (fun r => ∀ c : Dev Cert.RotqIdeal.nD,
          r.2.mem ((c.tc : Thread Cert.RotqIdeal.nD Cert.RotqIdeal.τ).loc Cert.RotqIdeal.main_v66) = v0 c
          ∧ r.2.mem ((c.tc : Thread Cert.RotqIdeal.nD Cert.RotqIdeal.τ).loc Cert.RotqIdeal.main_arg0) = m ((c.tc : Thread Cert.RotqIdeal.nD Cert.RotqIdeal.τ).loc Cert.RotqIdeal.main_arg0)
          ∧ r.2.mem ((c.tc : Thread Cert.RotqIdeal.nD Cert.RotqIdeal.τ).loc Cert.RotqIdeal.main_arg1) = m ((c.tc : Thread Cert.RotqIdeal.nD Cert.RotqIdeal.τ).loc Cert.RotqIdeal.main_arg1))
      ∧ θ_run (Cert.RotqRefIdeal.defs (F := Ideal)) (onTc (τ := Cert.RotqRefIdeal.τ) (Cert.RotqRefIdeal.main (F := Ideal))) ⟨m', fun _ => 0, g'⟩ (fun r => ∀ c : Dev Cert.RotqRefIdeal.nD,
          r.2.mem ((c.tc : Thread Cert.RotqRefIdeal.nD Cert.RotqRefIdeal.τ).loc Cert.RotqRefIdeal.main_v59) = v0 c
          ∧ r.2.mem ((c.tc : Thread Cert.RotqRefIdeal.nD Cert.RotqRefIdeal.τ).loc Cert.RotqRefIdeal.main_arg0) = m' ((c.tc : Thread Cert.RotqRefIdeal.nD Cert.RotqRefIdeal.τ).loc Cert.RotqRefIdeal.main_arg0)
          ∧ r.2.mem ((c.tc : Thread Cert.RotqRefIdeal.nD Cert.RotqRefIdeal.τ).loc Cert.RotqRefIdeal.main_arg1) = m' ((c.tc : Thread Cert.RotqRefIdeal.nD Cert.RotqRefIdeal.τ).loc Cert.RotqRefIdeal.main_arg1))

def preserves_Dft_DftIdeal : Prop :=
  True

def algebraic_DftIdeal_DftRefIdeal [hDftIdeal : Cert.DftIdeal.Facts] [hDftRefIdeal : Cert.DftRefIdeal.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.DftRefIdeal.nD Cert.DftRefIdeal.τ Cert.DftRefIdeal.sig) → Buf (Elt Ideal) ℓ) (g' : Dev Cert.DftRefIdeal.nD → PrngReg), Pre_DftIdeal m →
    (∀ c : Dev Cert.DftIdeal.nD,
      m' ((c.tc : Thread Cert.DftRefIdeal.nD Cert.DftRefIdeal.τ).loc Cert.DftRefIdeal.main_arg0) = m ((c.tc : Thread Cert.DftIdeal.nD Cert.DftIdeal.τ).loc Cert.DftIdeal.main_arg0)) →
    ∃ (v0 : (c : Dev Cert.DftIdeal.nD) → Buf (Elt Ideal) ((c.tc : Thread Cert.DftIdeal.nD Cert.DftIdeal.τ).loc Cert.DftIdeal.main_v18)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v18) = v0 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0))
      ∧ θ_run (Cert.DftRefIdeal.defs (F := Ideal)) (onTc (τ := Cert.DftRefIdeal.τ) (Cert.DftRefIdeal.main (F := Ideal))) ⟨m', fun _ => 0, g'⟩ (fun r => ∀ c : Dev Cert.DftRefIdeal.nD,
          r.2.mem ((c.tc : Thread Cert.DftRefIdeal.nD Cert.DftRefIdeal.τ).loc Cert.DftRefIdeal.main_v22) = v0 c
          ∧ r.2.mem ((c.tc : Thread Cert.DftRefIdeal.nD Cert.DftRefIdeal.τ).loc Cert.DftRefIdeal.main_arg0) = m' ((c.tc : Thread Cert.DftRefIdeal.nD Cert.DftRefIdeal.τ).loc Cert.DftRefIdeal.main_arg0))

def preserves_Pos_PosIdeal : Prop :=
  True

def algebraic_PosIdeal_PosRefIdeal [hPosIdeal : Cert.PosIdeal.Facts] [hPosRefIdeal : Cert.PosRefIdeal.Facts] : Prop :=
  ∀ (m : (ℓ : Loc Cert.PosIdeal.nD Cert.PosIdeal.τ Cert.PosIdeal.sig) → Buf (Elt Ideal) ℓ) (g : Dev Cert.PosIdeal.nD → PrngReg)
    (m' : (ℓ : Loc Cert.PosRefIdeal.nD Cert.PosRefIdeal.τ Cert.PosRefIdeal.sig) → Buf (Elt Ideal) ℓ) (g' : Dev Cert.PosRefIdeal.nD → PrngReg), Pre_PosIdeal m →
    (∀ c : Dev Cert.PosIdeal.nD,
      m' ((c.tc : Thread Cert.PosRefIdeal.nD Cert.PosRefIdeal.τ).loc Cert.PosRefIdeal.main_arg0) = m ((c.tc : Thread Cert.PosIdeal.nD Cert.PosIdeal.τ).loc Cert.PosIdeal.main_arg0)) →
    ∃ (v0 : (c : Dev Cert.PosIdeal.nD) → Buf (Elt Ideal) ((c.tc : Thread Cert.PosIdeal.nD Cert.PosIdeal.τ).loc Cert.PosIdeal.main_v19)),
      θ_run (Cert.PosIdeal.defs (F := Ideal)) (onTc (τ := Cert.PosIdeal.τ) (Cert.PosIdeal.main (F := Ideal))) ⟨m, fun _ => 0, g⟩ (fun r => ∀ c : Dev Cert.PosIdeal.nD,
          r.2.mem ((c.tc : Thread Cert.PosIdeal.nD Cert.PosIdeal.τ).loc Cert.PosIdeal.main_v19) = v0 c
          ∧ r.2.mem ((c.tc : Thread Cert.PosIdeal.nD Cert.PosIdeal.τ).loc Cert.PosIdeal.main_arg0) = m ((c.tc : Thread Cert.PosIdeal.nD Cert.PosIdeal.τ).loc Cert.PosIdeal.main_arg0))
      ∧ θ_run (Cert.PosRefIdeal.defs (F := Ideal)) (onTc (τ := Cert.PosRefIdeal.τ) (Cert.PosRefIdeal.main (F := Ideal))) ⟨m', fun _ => 0, g'⟩ (fun r => ∀ c : Dev Cert.PosRefIdeal.nD,
          r.2.mem ((c.tc : Thread Cert.PosRefIdeal.nD Cert.PosRefIdeal.τ).loc Cert.PosRefIdeal.main_v30) = v0 c
          ∧ r.2.mem ((c.tc : Thread Cert.PosRefIdeal.nD Cert.PosRefIdeal.τ).loc Cert.PosRefIdeal.main_arg0) = m' ((c.tc : Thread Cert.PosRefIdeal.nD Cert.PosRefIdeal.τ).loc Cert.PosRefIdeal.main_arg0))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGates : Cert.Gates.Facts) (hGatesIdeal : Cert.GatesIdeal.Facts) (hGatesRefIdeal : Cert.GatesRefIdeal.Facts) (hProj : Cert.Proj.Facts) (hProjIdeal : Cert.ProjIdeal.Facts) (hProjRefIdeal : Cert.ProjRefIdeal.Facts) (hKpe : Cert.Kpe.Facts) (hKpeIdeal : Cert.KpeIdeal.Facts) (hKpeRefIdeal : Cert.KpeRefIdeal.Facts) (hCkv : Cert.Ckv.Facts) (hCkvIdeal : Cert.CkvIdeal.Facts) (hCkvRefIdeal : Cert.CkvRefIdeal.Facts) (hKv : Cert.Kv.Facts) (hKvIdeal : Cert.KvIdeal.Facts) (hKvRefIdeal : Cert.KvRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFinal : Cert.Final.Facts) (hFinalIdeal : Cert.FinalIdeal.Facts) (hFinalRefIdeal : Cert.FinalRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hComb : Cert.Comb.Facts) (hCombIdeal : Cert.CombIdeal.Facts) (hCombRefIdeal : Cert.CombRefIdeal.Facts) (hConv : Cert.Conv.Facts) (hConvIdeal : Cert.ConvIdeal.Facts) (hConvRefIdeal : Cert.ConvRefIdeal.Facts) (hRotk : Cert.Rotk.Facts) (hRotkIdeal : Cert.RotkIdeal.Facts) (hRotkRefIdeal : Cert.RotkRefIdeal.Facts) (hRotq : Cert.Rotq.Facts) (hRotqIdeal : Cert.RotqIdeal.Facts) (hRotqRefIdeal : Cert.RotqRefIdeal.Facts) (hDft : Cert.Dft.Facts) (hDftIdeal : Cert.DftIdeal.Facts) (hDftRefIdeal : Cert.DftRefIdeal.Facts) (hPos : Cert.Pos.Facts) (hPosIdeal : Cert.PosIdeal.Facts) (hPosRefIdeal : Cert.PosRefIdeal.Facts) (hPre_experts_up : Cert.Pre_experts_up.Facts) (hPre_experts_down : Cert.Pre_experts_down.Facts),
    quiescent_Attn (hAttn := hAttn)
    ∧ quiescent_AttnIdeal (hAttnIdeal := hAttnIdeal)
    ∧ quiescent_AttnRefIdeal (hAttnRefIdeal := hAttnRefIdeal)
    ∧ quiescent_Up (hUp := hUp) (hPre_experts_up := hPre_experts_up)
    ∧ quiescent_UpIdeal (hUpIdeal := hUpIdeal) (hPre_experts_up := hPre_experts_up)
    ∧ quiescent_UpRefIdeal (hUpRefIdeal := hUpRefIdeal)
    ∧ quiescent_UpRefIdeal_pre_experts_up (hUpRefIdeal := hUpRefIdeal) (hPre_experts_up := hPre_experts_up)
    ∧ quiescent_Down (hDown := hDown) (hPre_experts_down := hPre_experts_down)
    ∧ quiescent_DownIdeal (hDownIdeal := hDownIdeal) (hPre_experts_down := hPre_experts_down)
    ∧ quiescent_DownRefIdeal (hDownRefIdeal := hDownRefIdeal)
    ∧ quiescent_DownRefIdeal_pre_experts_down (hDownRefIdeal := hDownRefIdeal) (hPre_experts_down := hPre_experts_down)
    ∧ quiescent_Gates (hGates := hGates)
    ∧ quiescent_GatesIdeal (hGatesIdeal := hGatesIdeal)
    ∧ quiescent_GatesRefIdeal (hGatesRefIdeal := hGatesRefIdeal)
    ∧ quiescent_Proj (hProj := hProj)
    ∧ quiescent_ProjIdeal (hProjIdeal := hProjIdeal)
    ∧ quiescent_ProjRefIdeal (hProjRefIdeal := hProjRefIdeal)
    ∧ quiescent_Kpe (hKpe := hKpe)
    ∧ quiescent_KpeIdeal (hKpeIdeal := hKpeIdeal)
    ∧ quiescent_KpeRefIdeal (hKpeRefIdeal := hKpeRefIdeal)
    ∧ quiescent_Ckv (hCkv := hCkv)
    ∧ quiescent_CkvIdeal (hCkvIdeal := hCkvIdeal)
    ∧ quiescent_CkvRefIdeal (hCkvRefIdeal := hCkvRefIdeal)
    ∧ quiescent_Kv (hKv := hKv)
    ∧ quiescent_KvIdeal (hKvIdeal := hKvIdeal)
    ∧ quiescent_KvRefIdeal (hKvRefIdeal := hKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Final (hFinal := hFinal)
    ∧ quiescent_FinalIdeal (hFinalIdeal := hFinalIdeal)
    ∧ quiescent_FinalRefIdeal (hFinalRefIdeal := hFinalRefIdeal)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormRefIdeal (hNormRefIdeal := hNormRefIdeal)
    ∧ quiescent_Comb (hComb := hComb)
    ∧ quiescent_CombIdeal (hCombIdeal := hCombIdeal)
    ∧ quiescent_CombRefIdeal (hCombRefIdeal := hCombRefIdeal)
    ∧ quiescent_Conv (hConv := hConv)
    ∧ quiescent_ConvIdeal (hConvIdeal := hConvIdeal)
    ∧ quiescent_ConvRefIdeal (hConvRefIdeal := hConvRefIdeal)
    ∧ quiescent_Rotk (hRotk := hRotk)
    ∧ quiescent_RotkIdeal (hRotkIdeal := hRotkIdeal)
    ∧ quiescent_RotkRefIdeal (hRotkRefIdeal := hRotkRefIdeal)
    ∧ quiescent_Rotq (hRotq := hRotq)
    ∧ quiescent_RotqIdeal (hRotqIdeal := hRotqIdeal)
    ∧ quiescent_RotqRefIdeal (hRotqRefIdeal := hRotqRefIdeal)
    ∧ quiescent_Dft (hDft := hDft)
    ∧ quiescent_DftIdeal (hDftIdeal := hDftIdeal)
    ∧ quiescent_DftRefIdeal (hDftRefIdeal := hDftRefIdeal)
    ∧ quiescent_Pos (hPos := hPos)
    ∧ quiescent_PosIdeal (hPosIdeal := hPosIdeal)
    ∧ quiescent_PosRefIdeal (hPosRefIdeal := hPosRefIdeal)
    ∧ preserves_Attn_AttnIdeal
    ∧ algebraic_AttnIdeal_AttnRefIdeal (hAttnIdeal := hAttnIdeal) (hAttnRefIdeal := hAttnRefIdeal)
    ∧ preserves_Up_UpIdeal
    ∧ algebraic_UpIdeal_UpRefIdeal (hUpIdeal := hUpIdeal) (hUpRefIdeal := hUpRefIdeal) (hPre_experts_up := hPre_experts_up)
    ∧ preserves_Down_DownIdeal
    ∧ algebraic_DownIdeal_DownRefIdeal (hDownIdeal := hDownIdeal) (hDownRefIdeal := hDownRefIdeal) (hPre_experts_down := hPre_experts_down)
    ∧ preserves_Gates_GatesIdeal
    ∧ algebraic_GatesIdeal_GatesRefIdeal (hGatesIdeal := hGatesIdeal) (hGatesRefIdeal := hGatesRefIdeal)
    ∧ preserves_Proj_ProjIdeal
    ∧ algebraic_ProjIdeal_ProjRefIdeal (hProjIdeal := hProjIdeal) (hProjRefIdeal := hProjRefIdeal)
    ∧ preserves_Kpe_KpeIdeal
    ∧ algebraic_KpeIdeal_KpeRefIdeal (hKpeIdeal := hKpeIdeal) (hKpeRefIdeal := hKpeRefIdeal)
    ∧ preserves_Ckv_CkvIdeal
    ∧ algebraic_CkvIdeal_CkvRefIdeal (hCkvIdeal := hCkvIdeal) (hCkvRefIdeal := hCkvRefIdeal)
    ∧ preserves_Kv_KvIdeal
    ∧ algebraic_KvIdeal_KvRefIdeal (hKvIdeal := hKvIdeal) (hKvRefIdeal := hKvRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Final_FinalIdeal
    ∧ algebraic_FinalIdeal_FinalRefIdeal (hFinalIdeal := hFinalIdeal) (hFinalRefIdeal := hFinalRefIdeal)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal (hNormIdeal := hNormIdeal) (hNormRefIdeal := hNormRefIdeal)
    ∧ preserves_Comb_CombIdeal
    ∧ algebraic_CombIdeal_CombRefIdeal (hCombIdeal := hCombIdeal) (hCombRefIdeal := hCombRefIdeal)
    ∧ preserves_Conv_ConvIdeal
    ∧ algebraic_ConvIdeal_ConvRefIdeal (hConvIdeal := hConvIdeal) (hConvRefIdeal := hConvRefIdeal)
    ∧ preserves_Rotk_RotkIdeal
    ∧ algebraic_RotkIdeal_RotkRefIdeal (hRotkIdeal := hRotkIdeal) (hRotkRefIdeal := hRotkRefIdeal)
    ∧ preserves_Rotq_RotqIdeal
    ∧ algebraic_RotqIdeal_RotqRefIdeal (hRotqIdeal := hRotqIdeal) (hRotqRefIdeal := hRotqRefIdeal)
    ∧ preserves_Dft_DftIdeal
    ∧ algebraic_DftIdeal_DftRefIdeal (hDftIdeal := hDftIdeal) (hDftRefIdeal := hDftRefIdeal)
    ∧ preserves_Pos_PosIdeal
    ∧ algebraic_PosIdeal_PosRefIdeal (hPosIdeal := hPosIdeal) (hPosRefIdeal := hPosRefIdeal)
-- ==== Pre_experts_down.lean ====
abbrev S20480x14336 : Shape := ⟨2, ![20480, 14336]⟩
abbrev S8x14336x4096 : Shape := ⟨3, ![8, 14336, 4096]⟩
abbrev S40 : Shape := ⟨1, ![40]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S20480x14336 .bf16) (main_arg1 : FVec F S8x14336x4096 .f32) (main_arg2 : IVec S40 32) (main_arg3 : IVec S40 32) : IVec S40 1 :=
  let main_c : IVec S_ 32 := constantI S_ 32 0#32
  let main_v0 : IVec S40 32 := broadcastInDim S40 ![] bcast_S_S40 main_c
  let main_v1 : IVec S40 1 := cmpi .sge main_arg2 main_v0
  let main_c_0 : IVec S_ 32 := constantI S_ 32 8#32
  let main_v2 : IVec S40 32 := broadcastInDim S40 ![] bcast_S_S40 main_c_0
  let main_v3 : IVec S40 1 := cmpi .slt main_arg2 main_v2
  let main_v4 : IVec S40 1 := andi main_v1 main_v3
  main_v4
-- ==== Pre_experts_up.lean ====
abbrev S20480x4096 : Shape := ⟨2, ![20480, 4096]⟩
abbrev S8x4096x14336 : Shape := ⟨3, ![8, 4096, 14336]⟩
abbrev S40 : Shape := ⟨1, ![40]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S20480x4096 .bf16) (main_arg1 : FVec F S8x4096x14336 .f32) (main_arg2 : FVec F S8x4096x14336 .f32) (main_arg3 : IVec S40 32) (main_arg4 : IVec S40 32) : IVec S40 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  main_v4
-- ==== Attn.lean ====
abbrev S2x2048x4096 : Shape := ⟨3, ![2, 2048, 4096]⟩
abbrev S2x2304x4096 : Shape := ⟨3, ![2, 2304, 4096]⟩
abbrev S2x2304x64 : Shape := ⟨3, ![2, 2304, 64]⟩
abbrev S_ : Shape := ⟨0, ![]⟩
abbrev S2x2304x128 : Shape := ⟨3, ![2, 2304, 128]⟩
abbrev S2x2048x2048 : Shape := ⟨3, ![2, 2048, 2048]⟩
abbrev S1x512x256 : Shape := ⟨3, ![1, 512, 256]⟩
abbrev S1x2304x128 : Shape := ⟨3, ![1, 2304, 128]⟩
abbrev S1x512x128 : Shape := ⟨3, ![1, 512, 128]⟩
abbrev S2304x128 : Shape := ⟨2, ![2304, 128]⟩
abbrev S2304x256 : Shape := ⟨2, ![2304, 256]⟩
abbrev S512x256 : Shape := ⟨2, ![512, 256]⟩
abbrev S512x2304 : Shape := ⟨2, ![512, 2304]⟩
abbrev S512 : Shape := ⟨1, ![512]⟩
abbrev S512x1 : Shape := ⟨2, ![512, 1]⟩
abbrev S512x128 : Shape := ⟨2, ![512, 128]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x4096, .bf16⟩
  | .hbm, ⟨1, _⟩ => ⟨S2x2304x4096, .bf16⟩
  | .hbm, ⟨2, _⟩ => ⟨S2x2304x64, .bf16⟩
  | .hbm, ⟨3, _⟩ => ⟨S_, .i32⟩
  | .hbm, ⟨4, _⟩ => ⟨S_, .bf16⟩
  | .hbm, ⟨5, _⟩ => ⟨S2x2304x128, .bf16⟩
  | .hbm, ⟨6, _⟩ => ⟨S2x2048x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x2304x128, .bf16⟩
  | .local _ .vmem, ⟨7, _⟩ => ⟨S1x2304x128, .bf16⟩
  | .local _ .vmem, ⟨8, _⟩ => ⟨S1x512x128, .bf16⟩
  | .local _ .vmem, ⟨9, _⟩ => ⟨S1x512x128, .bf16⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S2x2048x4096 : Shape := ⟨3, ![2, 2048, 4096]⟩
abbrev S2x2304x4096 : Shape := ⟨3, ![2, 2304, 4096]⟩
abbrev S2x2304x64 : Shape := ⟨3, ![2, 2304, 64]⟩
abbrev S2x2048x16x256 : Shape := ⟨4, ![2, 2048, 16, 256]⟩
abbrev S2x2048x16x128 : Shape := ⟨4, ![2, 2048, 16, 128]⟩
abbrev S2x2048x16x64 : Shape := ⟨4, ![2, 2048, 16, 64]⟩
abbrev S2x2304x16x256 : Shape := ⟨4, ![2, 2304, 16, 256]⟩
abbrev S2x2304x16x128 : Shape := ⟨4, ![2, 2304, 16, 128]⟩
abbrev S2x16x2048x2304 : Shape := ⟨4, ![2, 16, 2048, 2304]⟩
abbrev S2x2304x2048x16 : Shape := ⟨4, ![2, 2304, 2048, 16]⟩
abbrev S_ : Shape := ⟨0, ![]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩
abbrev S2x2048x2048 : Shape := ⟨3, ![2, 2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S2x2304x4096, .bf16⟩
  | .hbm, ⟨2, _⟩ => ⟨S2x2304x64, .bf16⟩
  | .hbm, ⟨3, _⟩ => ⟨S2x2048x4096, .f32⟩
  | .hbm, ⟨4, _⟩ => ⟨S2x2048x16x256, .f32⟩
  | .hbm, ⟨5, _⟩ => ⟨S2x2048x16x128, .f32⟩
  | .hbm, ⟨6, _⟩ => ⟨S2x2048x16x64, .f32⟩
  | .hbm, ⟨7, _⟩ => ⟨S2x2304x4096, .f32⟩
  | .hbm, ⟨8, _⟩ => ⟨S2x2304x16x256, .f32⟩
  | .hbm, ⟨9, _⟩ => ⟨S2x2304x16x128, .f32⟩
  | .hbm, ⟨10, _⟩ => ⟨S2x2304x16x128, .f32⟩
  | .hbm, ⟨11, _⟩ => ⟨S2x16x2048x2304, .f32⟩
  | .hbm, ⟨12, _⟩ => ⟨S2x2304x64, .f32⟩
  | .hbm, ⟨13, _⟩ => ⟨S2x2304x2048x16, .f32⟩
  | .hbm, ⟨14, _⟩ => ⟨S2x16x2048x2304, .f32⟩
  | .hbm, ⟨15, _⟩ => ⟨S2x16x2048x2304, .f32⟩
  | .hbm, ⟨16, _⟩ => ⟨S_, .f32⟩
  | .hbm, ⟨17, _⟩ => ⟨S2x16x2048x2304, .f32⟩
  | .hbm, ⟨18, _⟩ => ⟨S2x16x2048x2304, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2304, .f32⟩
  | .hbm, ⟨26, _⟩ => ⟨S2x16x2048x2304, .f32⟩
  | .hbm, ⟨27, _⟩ => ⟨S2x16x2048x2304, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2304, .f32⟩
  | .hbm, ⟨32, _⟩ => ⟨S2x16x2048x2304, .f32⟩
  | .hbm, ⟨33, _⟩ => ⟨S2x16x128x2048, .f32⟩
  | .hbm, ⟨34, _⟩ => ⟨S2x2048x16x128, .f32⟩
  | .hbm, ⟨35, _⟩ => ⟨S2x2048x2048, .f32⟩
  | .hbm, ⟨36, _⟩ => ⟨S2x2048x2048, .bf16⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Up.lean ====
abbrev S20480x4096 : Shape := ⟨2, ![20480, 4096]⟩
abbrev S8x4096x14336 : Shape := ⟨3, ![8, 4096, 14336]⟩
abbrev S40 : Shape := ⟨1, ![40]⟩
abbrev S20480x14336 : Shape := ⟨2, ![20480, 14336]⟩
abbrev S512x4096 : Shape := ⟨2, ![512, 4096]⟩
abbrev S1 : Shape := ⟨1, ![1]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 8
  | .smem => 2
  | _ => 0

abbrev bufTy : (tb : Table) → Fin (tcTables nBuf tb) → BufTy
  | .hbm, ⟨0, _⟩ => ⟨S20480x4096, .bf16⟩
  | .hbm, ⟨1, _⟩ => ⟨S8x4096x14336, .f32⟩
  | .hbm, ⟨2, _⟩ => ⟨S8x4096x14336, .f32⟩
  | .hbm, ⟨3, _⟩ => ⟨S20480x14336, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .smem, ⟨0, _⟩ => ⟨S40, .i32⟩
  | .local _ .smem, ⟨1, _⟩ => ⟨S40, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![28, 40], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  let v2 : BitVec 1 := Scalar.cmpi .ne v1 c0_i32
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S20480x4096 : Shape := ⟨2, ![20480, 4096]⟩
abbrev S8x4096x14336 : Shape := ⟨3, ![8, 4096, 14336]⟩
abbrev S40 : Shape := ⟨1, ![40]⟩
abbrev S40x512 : Shape := ⟨2, ![40, 512]⟩
abbrev S20480 : Shape := ⟨1, ![20480]⟩
abbrev S20480x1 : Shape := ⟨2, ![20480, 1]⟩
abbrev S_ : Shape := ⟨0, ![]⟩
abbrev S20480x14336 : Shape := ⟨2, ![20480, 14336]⟩
abbrev S1x4096x14336 : Shape := ⟨3, ![1, 4096, 14336]⟩
abbrev S4096x14336 : Shape := ⟨2, ![4096, 14336]⟩

abbrev nBuf : Space → Nat
  | .hbm => 194
  | .vmem => 0
  | .smem => 0
  | _ => 0

abbrev hbmTy0_0 (i : Nat) : BufTy := match i % 128 with
  | 0 => ⟨S20480x4096, .bf16⟩
  | 1 => ⟨S8x4096x14336, .f32⟩
  | 2 => ⟨S8x4096x14336, .f32⟩
  | 3 => ⟨S40, .i32⟩
  | 4 => ⟨S40, .i32⟩
  | 5 => ⟨S20480x4096, .f32⟩
  | 6 => ⟨S40x512, .i32⟩
  | 7 => ⟨S20480, .i32⟩
  | 8 => ⟨S20480x1, .i32⟩
  | 9 => ⟨S40x512, .i32⟩
  | 10 => ⟨S20480, .i32⟩
  | 11 => ⟨S20480x1, .i32⟩
  | 12 => ⟨S_, .i32⟩
  | 13 => ⟨S20480x1, .i32⟩
  | 14 => ⟨S20480x1, .i1⟩
  | 15 => ⟨S_, .f32⟩
  | 16 => ⟨S20480x14336, .f32⟩
  | 17 => ⟨S1x4096x14336, .f32⟩
  | 18 => ⟨S4096x14336, .f32⟩
  | 19 => ⟨S20480x14336, .f32⟩
  | 20 => ⟨S20480x14336, .f32⟩
  | 21 => ⟨S20480x14336, .f32⟩
  | 22 => ⟨S_, .f32⟩
  | 23 => ⟨S20480x14336, .f32⟩
  | 24 => ⟨S20480x14336, .f32⟩
  | 25 => ⟨S_, .f32⟩
  | 26 => ⟨S20480x14336, .f32⟩
  | 27 => ⟨S20480x14336, .f32⟩
  | 28 => ⟨S20480x14336, .f32⟩
  | 29 => ⟨S1x4096x14336, .f32⟩
  | 30 => ⟨S4096x14336, .f32⟩
  | 31 => ⟨S20480x14336, .f32⟩
  | 32 => ⟨S20480x14336, .f32⟩
  | 33 => ⟨S_, .i32⟩
  | 34 => ⟨S20480x1, .i32⟩
  | 35 => ⟨S20480x1, .i1⟩
  | 36 => ⟨S20480x1, .i1⟩
  | 37 => ⟨S20480x14336, .i1⟩
  | 38 => ⟨S20480x14336, .f32⟩
  | 39 => ⟨S1x4096x14336, .f32⟩
  | 40 => ⟨S4096x14336, .f32⟩
  | 41 => ⟨S20480x14336, .f32⟩
  | 42 => ⟨S20480x14336, .f32⟩
  | 43 => ⟨S20480x14336, .f32⟩
  | 44 => ⟨S_, .f32⟩
  | 45 => ⟨S20480x14336, .f32⟩
  | 46 => ⟨S20480x14336, .f32⟩
  | 47 => ⟨S_, .f32⟩
  | 48 => ⟨S20480x14336, .f32⟩
  | 49 => ⟨S20480x14336, .f32⟩
  | 50 => ⟨S20480x14336, .f32⟩
  | 51 => ⟨S1x4096x14336, .f32⟩
  | 52 => ⟨S4096x14336, .f32⟩
  | 53 => ⟨S20480x14336, .f32⟩
  | 54 => ⟨S20480x14336, .f32⟩
  | 55 => ⟨S_, .i32⟩
  | 56 => ⟨S20480x1, .i32⟩
  | 57 => ⟨S20480x1, .i1⟩
  | 58 => ⟨S20480x1, .i1⟩
  | 59 => ⟨S20480x14336, .i1⟩
  | 60 => ⟨S20480x14336, .f32⟩
  | 61 => ⟨S1x4096x14336, .f32⟩
  | 62 => ⟨S4096x14336, .f32⟩
  | 63 => ⟨S20480x14336, .f32⟩
  | 64 => ⟨S20480x14336, .f32⟩
  | 65 => ⟨S20480x14336, .f32⟩
  | 66 => ⟨S_, .f32⟩
  | 67 => ⟨S20480x14336, .f32⟩
  | 68 => ⟨S20480x14336, .f32⟩
  | 69 => ⟨S_, .f32⟩
  | 70 => ⟨S20480x14336, .f32⟩
  | 71 => ⟨S20480x14336, .f32⟩
  | 72 => ⟨S20480x14336, .f32⟩
  | 73 => ⟨S1x4096x14336, .f32⟩
  | 74 => ⟨S4096x14336, .f32⟩
  | 75 => ⟨S20480x14336, .f32⟩
  | 76 => ⟨S20480x14336, .f32⟩
  | 77 => ⟨S_, .i32⟩
  | 78 => ⟨S20480x1, .i32⟩
  | 79 => ⟨S20480x1, .i1⟩
  | 80 => ⟨S20480x1, .i1⟩
  | 81 => ⟨S20480x14336, .i1⟩
  | 82 => ⟨S20480x14336, .f32⟩
  | 83 => ⟨S1x4096x14336, .f32⟩
  | 84 => ⟨S4096x14336, .f32⟩
  | 85 => ⟨S20480x14336, .f32⟩
  | 86 => ⟨S20480x14336, .f32⟩
  | 87 => ⟨S20480x14336, .f32⟩
  | 88 => ⟨S_, .f32⟩
  | 89 => ⟨S20480x14336, .f32⟩
  | 90 => ⟨S20480x14336, .f32⟩
  | 91 => ⟨S_, .f32⟩
  | 92 => ⟨S20480x14336, .f32⟩
  | 93 => ⟨S20480x14336, .f32⟩
  | 94 => ⟨S20480x14336, .f32⟩
  | 95 => ⟨S1x4096x14336, .f32⟩
  | 96 => ⟨S4096x14336, .f32⟩
  | 97 => ⟨S20480x14336, .f32⟩
  | 98 => ⟨S20480x14336, .f32⟩
  | 99 => ⟨S_, .i32⟩
  | 100 => ⟨S20480x1, .i32⟩
  | 101 => ⟨S20480x1, .i1⟩
  | 102 => ⟨S20480x1, .i1⟩
  | 103 => ⟨S20480x14336, .i1⟩
  | 104 => ⟨S20480x14336, .f32⟩
  | 105 => ⟨S1x4096x14336, .f32⟩
  | 106 => ⟨S4096x14336, .f32⟩
  | 107 => ⟨S20480x14336, .f32⟩
  | 108 => ⟨S20480x14336, .f32⟩
  | 109 => ⟨S20480x14336, .f32⟩
  | 110 => ⟨S_, .f32⟩
  | 111 => ⟨S20480x14336, .f32⟩
  | 112 => ⟨S20480x14336, .f32⟩
  | 113 => ⟨S_, .f32⟩
  | 114 => ⟨S20480x14336, .f32⟩
  | 115 => ⟨S20480x14336, .f32⟩
  | 116 => ⟨S20480x14336, .f32⟩
  | 117 => ⟨S1x4096x14336, .f32⟩
  | 118 => ⟨S4096x14336, .f32⟩
  | 119 => ⟨S20480x14336, .f32⟩
  | 120 => ⟨S20480x14336, .f32⟩
  | 121 => ⟨S_, .i32⟩
  | 122 => ⟨S20480x1, .i32⟩
  | 123 => ⟨S20480x1, .i1⟩
  | 124 => ⟨S20480x1, .i1⟩
  | 125 => ⟨S20480x14336, .i1⟩
  | 126 => ⟨S20480x14336, .f32⟩
  | 127 => ⟨S1x4096x14336, .f32⟩
  | _ => ⟨S20480x4096, .bf16⟩

abbrev hbmTy0_1 (i : Nat) : BufTy := match i % 128 with
  | 0 => ⟨S4096x14336, .f32⟩
  | 1 => ⟨S20480x14336, .f32⟩
  | 2 => ⟨S20480x14336, .f32⟩
  | 3 => ⟨S20480x14336, .f32⟩
  | 4 => ⟨S_, .f32⟩
  | 5 => ⟨S20480x14336, .f32⟩
  | 6 => ⟨S20480x14336, .f32⟩
  | 7 => ⟨S_, .f32⟩
  | 8 => ⟨S20480x14336, .f32⟩
  | 9 => ⟨S20480x14336, .f32⟩
  | 10 => ⟨S20480x14336, .f32⟩
  | 11 => ⟨S1x4096x14336, .f32⟩
  | 12 => ⟨S4096x14336, .f32⟩
  | 13 => ⟨S20480x14336, .f32⟩
  | 14 => ⟨S20480x14336, .f32⟩
  | 15 => ⟨S_, .i32⟩
  | 16 => ⟨S20480x1, .i32⟩
  | 17 => ⟨S20480x1, .i1⟩
  | 18 => ⟨S20480x1, .i1⟩
  | 19 => ⟨S20480x14336, .i1⟩
  | 20 => ⟨S20480x14336, .f32⟩
  | 21 => ⟨S1x4096x14336, .f32⟩
  | 22 => ⟨S4096x14336, .f32⟩
  | 23 => ⟨S20480x14336, .f32⟩
  | 24 => ⟨S20480x14336, .f32⟩
  | 25 => ⟨S20480x14336, .f32⟩
  | 26 => ⟨S_, .f32⟩
  | 27 => ⟨S20480x14336, .f32⟩
  | 28 => ⟨S20480x14336, .f32⟩
  | 29 => ⟨S_, .f32⟩
  | 30 => ⟨S20480x14336, .f32⟩
  | 31 => ⟨S20480x14336, .f32⟩
  | 32 => ⟨S20480x14336, .f32⟩
  | 33 => ⟨S1x4096x14336, .f32⟩
  | 34 => ⟨S4096x14336, .f32⟩
  | 35 => ⟨S20480x14336, .f32⟩
  | 36 => ⟨S20480x14336, .f32⟩
  | 37 => ⟨S_, .i32⟩
  | 38 => ⟨S20480x1, .i32⟩
  | 39 => ⟨S20480x1, .i1⟩
  | 40 => ⟨S20480x1, .i1⟩
  | 41 => ⟨S20480x14336, .i1⟩
  | 42 => ⟨S20480x14336, .f32⟩
  | 43 => ⟨S1x4096x14336, .f32⟩
  | 44 => ⟨S4096x14336, .f32⟩
  | 45 => ⟨S20480x14336, .f32⟩
  | 46 => ⟨S20480x14336, .f32⟩
  | 47 => ⟨S20480x14336, .f32⟩
  | 48 => ⟨S_, .f32⟩
  | 49 => ⟨S20480x14336, .f32⟩
  | 50 => ⟨S20480x14336, .f32⟩
  | 51 => ⟨S_, .f32⟩
  | 52 => ⟨S20480x14336, .f32⟩
  | 53 => ⟨S20480x14336, .f32⟩
  | 54 => ⟨S20480x14336, .f32⟩
  | 55 => ⟨S1x4096x14336, .f32⟩
  | 56 => ⟨S4096x14336, .f32⟩
  | 57 => ⟨S20480x14336, .f32⟩
  | 58 => ⟨S20480x14336, .f32⟩
  | 59 => ⟨S_, .i32⟩
  | 60 => ⟨S20480x1, .i32⟩
  | 61 => ⟨S20480x1, .i1⟩
  | 62 => ⟨S20480x1, .i1⟩
  | 63 => ⟨S20480x14336, .i1⟩
  | 64 => ⟨S20480x14336, .f32⟩
  | 65 => ⟨S20480x14336, .bf16⟩
  | _ => ⟨S20480x4096, .bf16⟩

abbrev hbmTy (i : Nat) : BufTy := match i / 128 with
  | 0 => hbmTy0_0 i
  | 1 => hbmTy0_1 i
  | _ => ⟨S20480x4096, .bf16⟩

abbrev bufTy : (tb : Table) → Fin (tcTables nBuf tb) → BufTy
  | .hbm, ⟨i, _⟩ => hbmTy i
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call3_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call4_v0 : Ref sig .tc := ⟨.hbm, 64, rfl⟩
abbrev main_call4_v1 : Ref sig .tc := ⟨.hbm, 65, rfl⟩
abbrev main_call4_cst : Ref sig .tc := ⟨.hbm, 66, rfl⟩
abbrev main_call4_v2 : Ref sig .tc := ⟨.hbm, 67, rfl⟩
abbrev main_call4_v3 : Ref sig .tc := ⟨.hbm, 68, rfl⟩
abbrev main_call4_cst_0 : Ref sig .tc := ⟨.hbm, 69, rfl⟩
abbrev main_call4_v4 : Ref sig .tc := ⟨.hbm, 70, rfl⟩
abbrev main_call4_v5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_2 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call5_v0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call6_v0 : Ref sig .tc := ⟨.hbm, 86, rfl⟩
abbrev main_call6_v1 : Ref sig .tc := ⟨.hbm, 87, rfl⟩
abbrev main_call6_cst : Ref sig .tc := ⟨.hbm, 88, rfl⟩
abbrev main_call6_v2 : Ref sig .tc := ⟨.hbm, 89, rfl⟩
abbrev main_call6_v3 : Ref sig .tc := ⟨.hbm, 90, rfl⟩
abbrev main_call6_cst_0 : Ref sig .tc := ⟨.hbm, 91, rfl⟩
abbrev main_call6_v4 : Ref sig .tc := ⟨.hbm, 92, rfl⟩
abbrev main_call6_v5 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_3 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_call7_v0 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_call8_v0 : Ref sig .tc := ⟨.hbm, 108, rfl⟩
abbrev main_call8_v1 : Ref sig .tc := ⟨.hbm, 109, rfl⟩
abbrev main_call8_cst : Ref sig .tc := ⟨.hbm, 110, rfl⟩
abbrev main_call8_v2 : Ref sig .tc := ⟨.hbm, 111, rfl⟩
abbrev main_call8_v3 : Ref sig .tc := ⟨.hbm, 112, rfl⟩
abbrev main_call8_cst_0 : Ref sig .tc := ⟨.hbm, 113, rfl⟩
abbrev main_call8_v4 : Ref sig .tc := ⟨.hbm, 114, rfl⟩
abbrev main_call8_v5 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_4 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_call9_v0 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_call10_v0 : Ref sig .tc := ⟨.hbm, 130, rfl⟩
abbrev main_call10_v1 : Ref sig .tc := ⟨.hbm, 131, rfl⟩
abbrev main_call10_cst : Ref sig .tc := ⟨.hbm, 132, rfl⟩
abbrev main_call10_v2 : Ref sig .tc := ⟨.hbm, 133, rfl⟩
abbrev main_call10_v3 : Ref sig .tc := ⟨.hbm, 134, rfl⟩
abbrev main_call10_cst_0 : Ref sig .tc := ⟨.hbm, 135, rfl⟩
abbrev main_call10_v4 : Ref sig .tc := ⟨.hbm, 136, rfl⟩
abbrev main_call10_v5 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_c_5 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_call11_v0 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_call12_v0 : Ref sig .tc := ⟨.hbm, 152, rfl⟩
abbrev main_call12_v1 : Ref sig .tc := ⟨.hbm, 153, rfl⟩
abbrev main_call12_cst : Ref sig .tc := ⟨.hbm, 154, rfl⟩
abbrev main_call12_v2 : Ref sig .tc := ⟨.hbm, 155, rfl⟩
abbrev main_call12_v3 : Ref sig .tc := ⟨.hbm, 156, rfl⟩
abbrev main_call12_cst_0 : Ref sig .tc := ⟨.hbm, 157, rfl⟩
abbrev main_call12_v4 : Ref sig .tc := ⟨.hbm, 158, rfl⟩
abbrev main_call12_v5 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_c_6 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_call13_v0 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_call14_v0 : Ref sig .tc := ⟨.hbm, 174, rfl⟩
abbrev main_call14_v1 : Ref sig .tc := ⟨.hbm, 175, rfl⟩
abbrev main_call14_cst : Ref sig .tc := ⟨.hbm, 176, rfl⟩
abbrev main_call14_v2 : Ref sig .tc := ⟨.hbm, 177, rfl⟩
abbrev main_call14_v3 : Ref sig .tc := ⟨.hbm, 178, rfl⟩
abbrev main_call14_cst_0 : Ref sig .tc := ⟨.hbm, 179, rfl⟩
abbrev main_call14_v4 : Ref sig .tc := ⟨.hbm, 180, rfl⟩
abbrev main_call14_v5 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_c_7 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_call15_v0 : Ref sig .tc := ⟨.hbm, 191, rfl⟩
abbrev main_v105 : Ref sig .tc := ⟨.hbm, 192, rfl⟩
abbrev main_v106 : Ref sig .tc := ⟨.hbm, 193, rfl⟩

abbrev nD : Nat := 1
abbrev τ : Topo := Topo.v7x

variable {F : FTy → Type} [FloatOps F]
-- ==== Down.lean ====
abbrev S20480x14336 : Shape := ⟨2, ![20480, 14336]⟩
abbrev S8x14336x4096 : Shape := ⟨3, ![8, 14336, 4096]⟩
abbrev S40 : Shape := ⟨1, ![40]⟩
abbrev S20480x4096 : Shape := ⟨2, ![20480, 4096]⟩
abbrev S512x2048 : Shape := ⟨2, ![512, 2048]⟩
abbrev S1 : Shape := ⟨1, ![1]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 7
  | .smem => 2
  | _ => 0

abbrev bufTy : (tb : Table) → Fin (tcTables nBuf tb) → BufTy
  | .hbm, ⟨0, _⟩ => ⟨S20480x14336, .bf16⟩
  | .hbm, ⟨1, _⟩ => ⟨S8x14336x4096, .f32⟩
  | .hbm, ⟨2, _⟩ => ⟨S20480x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .smem, ⟨0, _⟩ => ⟨S40, .i32⟩
  | .local _ .smem, ⟨1, _⟩ => ⟨S40, .i32⟩
  | _, _ => ⟨S20480x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![40, 4, 7], ![false, false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v1 : BitVec 32) : BitVec 1 :=
  let c0_i32 : BitVec 32 := 0#32
  let v2 : BitVec 1 := Scalar.cmpi .ne v1 c0_i32
  let arg2 : BitVec 32 := BitVec.ofNat 32 (i 2).val
  let c6_i32 : BitVec 32 := 6#32
  let v11 : BitVec 1 := Scalar.cmpi .eq arg2 c6_i32
  let v12 : BitVec 1 := Scalar.andi v2 v11
  let v13 : BitVec 32 := Scalar.extui v12
  let c0_i32_4 : BitVec 32 := 0#32
  let v14 : BitVec 1 := Scalar.cmpi .ne v13 c0_i32_4
  v14

def k0_cond4 (i : grid0.Coords) (v1 : BitVec 32) : BitVec 1 :=
  let c0_i32 : BitVec 32 := 0#32
  let v2 : BitVec 1 := Scalar.cmpi .ne v1 c0_i32
  let v_true : BitVec 1 := 1#1
  let v15 : BitVec 1 := Scalar.xori v2 v_true
  let arg2 : BitVec 32 := BitVec.ofNat 32 (i 2).val
  let c6_i32_5 : BitVec 32 := 6#32
  let v16 : BitVec 1 := Scalar.cmpi .eq arg2 c6_i32_5
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 1 (Rect.unit (s := S40) ![v0.toNat] S1.size (k0_off1_inb i)) numel1_S1
  let c0_i32 : BitVec 32 := 0#32
  let v2 : BitVec 1 := Scalar.cmpi .ne v1 c0_i32
  let c0_i32_0 : BitVec 32 := 0#32
  let v3 : BitVec 32 := Scalar.select v2 arg0 c0_i32_0
  let c0_i32_1 : BitVec 32 := 0#32
  let v4 : BitVec 32 := Scalar.select v2 arg2 c0_i32_1
  let c0_i32_2 : BitVec 32 := 0#32
  ![v3.toNat, v4.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .ne v3 c0_i32
  let c0_i32_0 : BitVec 32 := 0#32
  let v5 : BitVec 32 := Scalar.select v4 arg2 c0_i32_0
  let c0_i32_1 : BitVec 32 := 0#32
  ![v1.toNat, v5.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S20480x14336 : Shape := ⟨2, ![20480, 14336]⟩
abbrev S8x14336x4096 : Shape := ⟨3, ![8, 14336, 4096]⟩
abbrev S40 : Shape := ⟨1, ![40]⟩
abbrev S40x512 : Shape := ⟨2, ![40, 512]⟩
abbrev S20480 : Shape := ⟨1, ![20480]⟩
abbrev S20480x1 : Shape := ⟨2, ![20480, 1]⟩
abbrev S_ : Shape := ⟨0, ![]⟩
abbrev S20480x4096 : Shape := ⟨2, ![20480, 4096]⟩
abbrev S1x14336x4096 : Shape := ⟨3, ![1, 14336, 4096]⟩
abbrev S14336x4096 : Shape := ⟨2, ![14336, 4096]⟩

abbrev nBuf : Space → Nat
  | .hbm => 88
  | .vmem => 0
  | .smem => 0
  | _ => 0

abbrev bufTy : (tb : Table) → Fin (tcTables nBuf tb) → BufTy
  | .hbm, ⟨0, _⟩ => ⟨S20480x14336, .bf16⟩
  | .hbm, ⟨1, _⟩ => ⟨S8x14336x4096, .f32⟩
  | .hbm, ⟨2, _⟩ => ⟨S40, .i32⟩
  | .hbm, ⟨3, _⟩ => ⟨S40, .i32⟩
  | .hbm, ⟨4, _⟩ => ⟨S20480x14336, .f32⟩
  | .hbm, ⟨5, _⟩ => ⟨S40x512, .i32⟩
  | .hbm, ⟨6, _⟩ => ⟨S20480, .i32⟩
  | .hbm, ⟨7, _⟩ => ⟨S20480x1, .i32⟩
  | .hbm, ⟨8, _⟩ => ⟨S40x512, .i32⟩
  | .hbm, ⟨9, _⟩ => ⟨S20480, .i32⟩
  | .hbm, ⟨10, _⟩ => ⟨S20480x1, .i32⟩
  | .hbm, ⟨11, _⟩ => ⟨S_, .i32⟩
  | .hbm, ⟨12, _⟩ => ⟨S20480x1, .i32⟩
  | .hbm, ⟨13, _⟩ => ⟨S20480x1, .i1⟩
  | .hbm, ⟨14, _⟩ => ⟨S_, .f32⟩
  | .hbm, ⟨15, _⟩ => ⟨S20480x4096, .f32⟩
  | .hbm, ⟨16, _⟩ => ⟨S_, .i32⟩
  | .hbm, ⟨17, _⟩ => ⟨S20480x1, .i32⟩
  | .hbm, ⟨18, _⟩ => ⟨S20480x1, .i1⟩
  | .hbm, ⟨19, _⟩ => ⟨S20480x1, .i1⟩
  | .hbm, ⟨20, _⟩ => ⟨S1x14336x4096, .f32⟩
  | .hbm, ⟨21, _⟩ => ⟨S14336x4096, .f32⟩
  | .hbm, ⟨22, _⟩ => ⟨S20480x4096, .f32⟩
  | .hbm, ⟨23, _⟩ => ⟨S20480x4096, .i1⟩
  | .hbm, ⟨24, _⟩ => ⟨S20480x4096, .f32⟩
  | .hbm, ⟨25, _⟩ => ⟨S_, .i32⟩
  | .hbm, ⟨26, _⟩ => ⟨S20480x1, .i32⟩
  | .hbm, ⟨27, _⟩ => ⟨S20480x1, .i1⟩
  | .hbm, ⟨28, _⟩ => ⟨S20480x1, .i1⟩
  | .hbm, ⟨29, _⟩ => ⟨S1x14336x4096, .f32⟩
  | .hbm, ⟨30, _⟩ => ⟨S14336x4096, .f32⟩
  | .hbm, ⟨31, _⟩ => ⟨S20480x4096, .f32⟩
  | .hbm, ⟨32, _⟩ => ⟨S20480x4096, .i1⟩
  | .hbm, ⟨33, _⟩ => ⟨S20480x4096, .f32⟩
  | .hbm, ⟨34, _⟩ => ⟨S_, .i32⟩
  | .hbm, ⟨35, _⟩ => ⟨S20480x1, .i32⟩
  | .hbm, ⟨36, _⟩ => ⟨S20480x1, .i1⟩
  | .hbm, ⟨37, _⟩ => ⟨S20480x1, .i1⟩
  | .hbm, ⟨38, _⟩ => ⟨S1x14336x4096, .f32⟩
  | .hbm, ⟨39, _⟩ => ⟨S14336x4096, .f32⟩
  | .hbm, ⟨40, _⟩ => ⟨S20480x4096, .f32⟩
  | .hbm, ⟨41, _⟩ => ⟨S20480x4096, .i1⟩
  | .hbm, ⟨42, _⟩ => ⟨S20480x4096, .f32⟩
  | .hbm, ⟨43, _⟩ => ⟨S_, .i32⟩
  | .hbm, ⟨44, _⟩ => ⟨S20480x1, .i32⟩
  | .hbm, ⟨45, _⟩ => ⟨S20480x1, .i1⟩
  | .hbm, ⟨46, _⟩ => ⟨S20480x1, .i1⟩
  | .hbm, ⟨47, _⟩ => ⟨S1x14336x4096, .f32⟩
  | .hbm, ⟨48, _⟩ => ⟨S14336x4096, .f32⟩
  | .hbm, ⟨49, _⟩ => ⟨S20480x4096, .f32⟩
  | .hbm, ⟨50, _⟩ => ⟨S20480x4096, .i1⟩
  | .hbm, ⟨51, _⟩ => ⟨S20480x4096, .f32⟩
  | .hbm, ⟨52, _⟩ => ⟨S_, .i32⟩
  | .hbm, ⟨53, _⟩ => ⟨S20480x1, .i32⟩
  | .hbm, ⟨54, _⟩ => ⟨S20480x1, .i1⟩
  | .hbm, ⟨55, _⟩ => ⟨S20480x1, .i1⟩
  | .hbm, ⟨56, _⟩ => ⟨S1x14336x4096, .f32⟩
  | .hbm, ⟨57, _⟩ => ⟨S14336x4096, .f32⟩
  | .hbm, ⟨58, _⟩ => ⟨S20480x4096, .f32⟩
  | .hbm, ⟨59, _⟩ => ⟨S20480x4096, .i1⟩
  | .hbm, ⟨60, _⟩ => ⟨S20480x4096, .f32⟩
  | .hbm, ⟨61, _⟩ => ⟨S_, .i32⟩
  | .hbm, ⟨62, _⟩ => ⟨S20480x1, .i32⟩
  | .hbm, ⟨63, _⟩ => ⟨S20480x1, .i1⟩
  | .hbm, ⟨64, _⟩ => ⟨S20480x1, .i1⟩
  | .hbm, ⟨65, _⟩ => ⟨S1x14336x4096, .f32⟩
  | .hbm, ⟨66, _⟩ => ⟨S14336x4096, .f32⟩
  | .hbm, ⟨67, _⟩ => ⟨S20480x4096, .f32⟩
  | .hbm, ⟨68, _⟩ => ⟨S20480x4096, .i1⟩
  | .hbm, ⟨69, _⟩ => ⟨S20480x4096, .f32⟩
  | .hbm, ⟨70, _⟩ => ⟨S_, .i32⟩
  | .hbm, ⟨71, _⟩ => ⟨S20480x1, .i32⟩
  | .hbm, ⟨72, _⟩ => ⟨S20480x1, .i1⟩
  | .hbm, ⟨73, _⟩ => ⟨S20480x1, .i1⟩
  | .hbm, ⟨74, _⟩ => ⟨S1x14336x4096, .f32⟩
  | .hbm, ⟨75, _⟩ => ⟨S14336x4096, .f32⟩
  | .hbm, ⟨76, _⟩ => ⟨S20480x4096, .f32⟩
  | .hbm, ⟨77, _⟩ => ⟨S20480x4096, .i1⟩
  | .hbm, ⟨78, _⟩ => ⟨S20480x4096, .f32⟩
  | .hbm, ⟨79, _⟩ => ⟨S_, .i32⟩
  | .hbm, ⟨80, _⟩ => ⟨S20480x1, .i32⟩
  | .hbm, ⟨81, _⟩ => ⟨S20480x1, .i1⟩
  | .hbm, ⟨82, _⟩ => ⟨S20480x1, .i1⟩
  | .hbm, ⟨83, _⟩ => ⟨S1x14336x4096, .f32⟩
  | .hbm, ⟨84, _⟩ => ⟨S14336x4096, .f32⟩
  | .hbm, ⟨85, _⟩ => ⟨S20480x4096, .f32⟩
  | .hbm, ⟨86, _⟩ => ⟨S20480x4096, .i1⟩
  | .hbm, ⟨87, _⟩ => ⟨S20480x4096, .f32⟩
  | _, _ => ⟨S20480x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_v0 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_v0 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call3_v0 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call4_v0 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call5_v0 : Ref sig .tc := ⟨.hbm, 68, rfl⟩
abbrev main_v51 : Ref sig .tc := ⟨.hbm, 69, rfl⟩
abbrev main_c_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call6_v0 : Ref sig .tc := ⟨.hbm, 77, rfl⟩
abbrev main_v58 : Ref sig .tc := ⟨.hbm, 78, rfl⟩
abbrev main_c_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call7_v0 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Gates.lean ====
abbrev S8192x4096 : Shape := ⟨2, ![8192, 4096]⟩
abbrev S2x4096x17984 : Shape := ⟨3, ![2, 4096, 17984]⟩
abbrev S1x4096x12288 : Shape := ⟨3, ![1, 4096, 12288]⟩
abbrev S4096x12288 : Shape := ⟨2, ![4096, 12288]⟩
abbrev S8192x12288 : Shape := ⟨2, ![8192, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x17984, .f32⟩
  | .hbm, ⟨2, _⟩ => ⟨S1x4096x12288, .f32⟩
  | .hbm, ⟨3, _⟩ => ⟨S4096x12288, .f32⟩
  | .hbm, ⟨4, _⟩ => ⟨S4096x12288, .bf16⟩
  | .hbm, ⟨5, _⟩ => ⟨S8192x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 24, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesRefIdeal.lean ====
abbrev S8192x4096 : Shape := ⟨2, ![8192, 4096]⟩
abbrev S2x4096x17984 : Shape := ⟨3, ![2, 4096, 17984]⟩
abbrev S1x4096x17984 : Shape := ⟨3, ![1, 4096, 17984]⟩
abbrev S4096x17984 : Shape := ⟨2, ![4096, 17984]⟩
abbrev S8192x17984 : Shape := ⟨2, ![8192, 17984]⟩
abbrev S8192x12288 : Shape := ⟨2, ![8192, 12288]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x17984, .f32⟩
  | .hbm, ⟨2, _⟩ => ⟨S8192x4096, .f32⟩
  | .hbm, ⟨3, _⟩ => ⟨S1x4096x17984, .f32⟩
  | .hbm, ⟨4, _⟩ => ⟨S4096x17984, .f32⟩
  | .hbm, ⟨5, _⟩ => ⟨S8192x17984, .f32⟩
  | .hbm, ⟨6, _⟩ => ⟨S8192x12288, .f32⟩
  | .hbm, ⟨7, _⟩ => ⟨S8192x12288, .f32⟩
  | .hbm, ⟨8, _⟩ => ⟨S8192x12288, .f32⟩
  | .hbm, ⟨9, _⟩ => ⟨S_, .f32⟩
  | .hbm, ⟨10, _⟩ => ⟨S8192x12288, .f32⟩
  | .hbm, ⟨11, _⟩ => ⟨S8192x12288, .f32⟩
  | .hbm, ⟨12, _⟩ => ⟨S_, .f32⟩
  | .hbm, ⟨13, _⟩ => ⟨S8192x12288, .f32⟩
  | .hbm, ⟨14, _⟩ => ⟨S8192x12288, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proj.lean ====
abbrev S8192x4096 : Shape := ⟨2, ![8192, 4096]⟩
abbrev S2x4096x17984 : Shape := ⟨3, ![2, 4096, 17984]⟩
abbrev S8192x5632 : Shape := ⟨2, ![8192, 5632]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x17984, .f32⟩
  | .hbm, ⟨2, _⟩ => ⟨S8192x5632, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S8192x4096 : Shape := ⟨2, ![8192, 4096]⟩
abbrev S2x4096x17984 : Shape := ⟨3, ![2, 4096, 17984]⟩
abbrev S1x4096x17984 : Shape := ⟨3, ![1, 4096, 17984]⟩
abbrev S4096x17984 : Shape := ⟨2, ![4096, 17984]⟩
abbrev S8192x17984 : Shape := ⟨2, ![8192, 17984]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x17984, .f32⟩
  | .hbm, ⟨2, _⟩ => ⟨S8192x4096, .f32⟩
  | .hbm, ⟨3, _⟩ => ⟨S1x4096x17984, .f32⟩
  | .hbm, ⟨4, _⟩ => ⟨S4096x17984, .f32⟩
  | .hbm, ⟨5, _⟩ => ⟨S8192x17984, .f32⟩
  | .hbm, ⟨6, _⟩ => ⟨S8192x5632, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kpe.lean ====
abbrev S8192x4096 : Shape := ⟨2, ![8192, 4096]⟩
abbrev S2x4096x17984 : Shape := ⟨3, ![2, 4096, 17984]⟩
abbrev S8192x128 : Shape := ⟨2, ![8192, 128]⟩
abbrev S1024x4096 : Shape := ⟨2, ![1024, 4096]⟩
abbrev S1x4096x128 : Shape := ⟨3, ![1, 4096, 128]⟩
abbrev S1024x128 : Shape := ⟨2, ![1024, 128]⟩
abbrev S4096x128 : Shape := ⟨2, ![4096, 128]⟩
abbrev S4096x64 : Shape := ⟨2, ![4096, 64]⟩
abbrev S16x256x64 : Shape := ⟨3, ![16, 256, 64]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x17984, .f32⟩
  | .hbm, ⟨2, _⟩ => ⟨S8192x128, .f32⟩
  | .hbm, ⟨3, _⟩ => ⟨S4096x64, .f32⟩
  | .hbm, ⟨4, _⟩ => ⟨S16x256x64, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x128, .f32⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c44_i32 : BitVec 32 := 44#32
  let c0_i32_1 : BitVec 32 := 0#32
  ![c0_i32.toNat, c0_i32_0.toNat, c44_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== KpeRefIdeal.lean ====
abbrev S8192x4096 : Shape := ⟨2, ![8192, 4096]⟩
abbrev S2x4096x17984 : Shape := ⟨3, ![2, 4096, 17984]⟩
abbrev S4096x4096 : Shape := ⟨2, ![4096, 4096]⟩
abbrev S16x256x4096 : Shape := ⟨3, ![16, 256, 4096]⟩
abbrev S1x4096x17984 : Shape := ⟨3, ![1, 4096, 17984]⟩
abbrev S4096x17984 : Shape := ⟨2, ![4096, 17984]⟩
abbrev S16x256x17984 : Shape := ⟨3, ![16, 256, 17984]⟩
abbrev S16x256x64 : Shape := ⟨3, ![16, 256, 64]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x17984, .f32⟩
  | .hbm, ⟨2, _⟩ => ⟨S4096x4096, .bf16⟩
  | .hbm, ⟨3, _⟩ => ⟨S16x256x4096, .bf16⟩
  | .hbm, ⟨4, _⟩ => ⟨S16x256x4096, .f32⟩
  | .hbm, ⟨5, _⟩ => ⟨S1x4096x17984, .f32⟩
  | .hbm, ⟨6, _⟩ => ⟨S4096x17984, .f32⟩
  | .hbm, ⟨7, _⟩ => ⟨S16x256x17984, .f32⟩
  | .hbm, ⟨8, _⟩ => ⟨S16x256x64, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Ckv.lean ====
abbrev S8192x5632 : Shape := ⟨2, ![8192, 5632]⟩
abbrev S2x512 : Shape := ⟨2, ![2, 512]⟩
abbrev S1x512 : Shape := ⟨2, ![1, 512]⟩
abbrev S512 : Shape := ⟨1, ![512]⟩
abbrev S8192x512 : Shape := ⟨2, ![8192, 512]⟩
abbrev S1024x512 : Shape := ⟨2, ![1024, 512]⟩
abbrev S1024 : Shape := ⟨1, ![1024]⟩
abbrev S1024x1 : Shape := ⟨2, ![1024, 1]⟩
abbrev S4096x512 : Shape := ⟨2, ![4096, 512]⟩
abbrev S16x256x512 : Shape := ⟨3, ![16, 256, 512]⟩

abbrev nBuf : Space → Nat
  | .hbm => 9
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S2x512, .f32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S8192x512, .bf16⟩
  | .hbm, ⟨7, _⟩ => ⟨S4096x512, .f32⟩
  | .hbm, ⟨8, _⟩ => ⟨S16x256x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CkvRefIdeal.lean ====
abbrev S8192x5632 : Shape := ⟨2, ![8192, 5632]⟩
abbrev S2x512 : Shape := ⟨2, ![2, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S512 : Shape := ⟨1, ![512]⟩
abbrev S4096x512 : Shape := ⟨2, ![4096, 512]⟩
abbrev S16x256x512 : Shape := ⟨3, ![16, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S4096x512, .f32⟩
  | .hbm, ⟨22, _⟩ => ⟨S16x256x512, .f32⟩
  | .hbm, ⟨23, _⟩ => ⟨S8192x512, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kv.lean ====
abbrev S8704x512 : Shape := ⟨2, ![8704, 512]⟩
abbrev S2x512x4096 : Shape := ⟨3, ![2, 512, 4096]⟩
abbrev S8704x4096 : Shape := ⟨2, ![8704, 4096]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x512, .bf16⟩
  | .hbm, ⟨1, _⟩ => ⟨S2x512x4096, .f32⟩
  | .hbm, ⟨2, _⟩ => ⟨S8704x4096, .bf16⟩
  | .local _ .vmem, ⟨0, _⟩ => ⟨S512x512, .bf16⟩
  | .local _ .vmem, ⟨1, _⟩ => ⟨S512x512, .bf16⟩
  | .local _ .vmem, ⟨2, _⟩ => ⟨S1x512x512, .f32⟩
  | .local _ .vmem, ⟨3, _⟩ => ⟨S1x512x512, .f32⟩
  | .local _ .vmem, ⟨4, _⟩ => ⟨S512x512, .bf16⟩
  | .local _ .vmem, ⟨5, _⟩ => ⟨S512x512, .bf16⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S8704x512 : Shape := ⟨2, ![8704, 512]⟩
abbrev S2x512x4096 : Shape := ⟨3, ![2, 512, 4096]⟩
abbrev S1x512x4096 : Shape := ⟨3, ![1, 512, 4096]⟩
abbrev S512x4096 : Shape := ⟨2, ![512, 4096]⟩
abbrev S8704x4096 : Shape := ⟨2, ![8704, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S2x512x4096, .f32⟩
  | .hbm, ⟨2, _⟩ => ⟨S8704x512, .f32⟩
  | .hbm, ⟨3, _⟩ => ⟨S1x512x4096, .f32⟩
  | .hbm, ⟨4, _⟩ => ⟨S512x4096, .f32⟩
  | .hbm, ⟨5, _⟩ => ⟨S8704x4096, .f32⟩
  | .hbm, ⟨6, _⟩ => ⟨S8704x4096, .bf16⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S8192x12288 : Shape := ⟨2, ![8192, 12288]⟩
abbrev S2x1024x4096 : Shape := ⟨3, ![2, 1024, 4096]⟩
abbrev S2x2048x4096 : Shape := ⟨3, ![2, 2048, 4096]⟩
abbrev S8192x4096 : Shape := ⟨2, ![8192, 4096]⟩
abbrev S1024x1024 : Shape := ⟨2, ![1024, 1024]⟩
abbrev S1024x2048 : Shape := ⟨2, ![1024, 2048]⟩
abbrev S1x1024x256 : Shape := ⟨3, ![1, 1024, 256]⟩
abbrev S1x2048x256 : Shape := ⟨3, ![1, 2048, 256]⟩
abbrev S1024x256 : Shape := ⟨2, ![1024, 256]⟩
abbrev S2048x256 : Shape := ⟨2, ![2048, 256]⟩

abbrev nBuf : Space → Nat
  | .hbm => 8
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x12288, .f32⟩
  | .hbm, ⟨4, _⟩ => ⟨S2x1024x4096, .f32⟩
  | .hbm, ⟨5, _⟩ => ⟨S2x1024x4096, .f32⟩
  | .hbm, ⟨6, _⟩ => ⟨S2x2048x4096, .f32⟩
  | .hbm, ⟨7, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x2048x256, .f32⟩
  | .local _ .vmem, ⟨11, _⟩ => ⟨S1x2048x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .bf16⟩
  | .local _ .vmem, ⟨19, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MergeRefIdeal.lean ====
abbrev S8192x1024 : Shape := ⟨2, ![8192, 1024]⟩
abbrev S8192x2048 : Shape := ⟨2, ![8192, 2048]⟩
abbrev S8192x12288 : Shape := ⟨2, ![8192, 12288]⟩
abbrev S2x1024x4096 : Shape := ⟨3, ![2, 1024, 4096]⟩
abbrev S2x2048x4096 : Shape := ⟨3, ![2, 2048, 4096]⟩
abbrev S8192x4096 : Shape := ⟨2, ![8192, 4096]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x12288, .f32⟩
  | .hbm, ⟨4, _⟩ => ⟨S2x1024x4096, .f32⟩
  | .hbm, ⟨5, _⟩ => ⟨S2x1024x4096, .f32⟩
  | .hbm, ⟨6, _⟩ => ⟨S2x2048x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1x1024x4096, .f32⟩
  | .hbm, ⟨12, _⟩ => ⟨S1024x4096, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S1x1024x4096, .f32⟩
  | .hbm, ⟨17, _⟩ => ⟨S1024x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x2048, .f32⟩
  | .hbm, ⟨22, _⟩ => ⟨S1x2048x4096, .f32⟩
  | .hbm, ⟨23, _⟩ => ⟨S2048x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Out.lean ====
abbrev S8192x4096 : Shape := ⟨2, ![8192, 4096]⟩
abbrev S2x4096x4096 : Shape := ⟨3, ![2, 4096, 4096]⟩
abbrev S8x6x1x4096 : Shape := ⟨4, ![8, 6, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x512 : Shape := ⟨4, ![1, 1, 1, 512]⟩
abbrev S4096x512 : Shape := ⟨2, ![4096, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8x6x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c2_i32_7 : BitVec 32 := 2#32
  let c0_i32_8 : BitVec 32 := 0#32
  let c0_i32_9 : BitVec 32 := 0#32
  ![v20.toNat, c2_i32_7.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutRefIdeal.lean ====
abbrev S8192x4096 : Shape := ⟨2, ![8192, 4096]⟩
abbrev S2x4096x4096 : Shape := ⟨3, ![2, 4096, 4096]⟩
abbrev S8x6x1x4096 : Shape := ⟨4, ![8, 6, 1, 4096]⟩
abbrev S8x1x1x4096 : Shape := ⟨4, ![8, 1, 1, 4096]⟩
abbrev S8x4096 : Shape := ⟨2, ![8, 4096]⟩
abbrev S1x4096 : Shape := ⟨2, ![1, 4096]⟩
abbrev S4096x4096 : Shape := ⟨2, ![4096, 4096]⟩
abbrev S2048x4096 : Shape := ⟨2, ![2048, 4096]⟩
abbrev S1x4096x4096 : Shape := ⟨3, ![1, 4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8x6x1x4096, .f32⟩
  | .hbm, ⟨4, _⟩ => ⟨S8x1x1x4096, .f32⟩
  | .hbm, ⟨5, _⟩ => ⟨S8x4096, .f32⟩
  | .hbm, ⟨6, _⟩ => ⟨S1x4096, .f32⟩
  | .hbm, ⟨7, _⟩ => ⟨S4096x4096, .f32⟩
  | .hbm, ⟨8, _⟩ => ⟨S1x4096, .f32⟩
  | .hbm, ⟨9, _⟩ => ⟨S2048x4096, .f32⟩
  | .hbm, ⟨10, _⟩ => ⟨S1x4096, .f32⟩
  | .hbm, ⟨11, _⟩ => ⟨S2048x4096, .f32⟩
  | .hbm, ⟨12, _⟩ => ⟨S8192x4096, .f32⟩
  | .hbm, ⟨13, _⟩ => ⟨S8192x4096, .f32⟩
  | .hbm, ⟨14, _⟩ => ⟨S1x4096x4096, .f32⟩
  | .hbm, ⟨15, _⟩ => ⟨S4096x4096, .f32⟩
  | .hbm, ⟨16, _⟩ => ⟨S8192x4096, .f32⟩
  | .hbm, ⟨17, _⟩ => ⟨S8192x4096, .f32⟩
  | .hbm, ⟨18, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== FfnUp.lean ====
abbrev S8192x4096 : Shape := ⟨2, ![8192, 4096]⟩
abbrev S1x4096x11008 : Shape := ⟨3, ![1, 4096, 11008]⟩
abbrev S8192x11008 : Shape := ⟨2, ![8192, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S8192x4096, .f32⟩
  | .hbm, ⟨4, _⟩ => ⟨S4096x11008, .f32⟩
  | .hbm, ⟨5, _⟩ => ⟨S8192x11008, .f32⟩
  | .hbm, ⟨6, _⟩ => ⟨S8192x11008, .f32⟩
  | .hbm, ⟨7, _⟩ => ⟨S8192x11008, .f32⟩
  | .hbm, ⟨8, _⟩ => ⟨S_, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S4096x11008, .f32⟩
  | .hbm, ⟨16, _⟩ => ⟨S8192x11008, .f32⟩
  | .hbm, ⟨17, _⟩ => ⟨S8192x11008, .f32⟩
  | .hbm, ⟨18, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S8192x11008 : Shape := ⟨2, ![8192, 11008]⟩
abbrev S1x11008x4096 : Shape := ⟨3, ![1, 11008, 4096]⟩
abbrev S8192x4096 : Shape := ⟨2, ![8192, 4096]⟩
abbrev S8x6x1x4096 : Shape := ⟨4, ![8, 6, 1, 4096]⟩
abbrev S1024x5504 : Shape := ⟨2, ![1024, 5504]⟩
abbrev S1x5504x256 : Shape := ⟨3, ![1, 5504, 256]⟩
abbrev S1024x256 : Shape := ⟨2, ![1024, 256]⟩
abbrev S1x1x1x256 : Shape := ⟨4, ![1, 1, 1, 256]⟩
abbrev S5504x256 : Shape := ⟨2, ![5504, 256]⟩
abbrev S1x256 : Shape := ⟨2, ![1, 256]⟩

abbrev nBuf : Space → Nat
  | .hbm => 5
  | .vmem => 11
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S8x6x1x4096, .f32⟩
  | .hbm, ⟨4, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x256, .f32⟩
  | .local _ .vmem, ⟨3, _⟩ => ⟨S1x5504x256, .f32⟩
  | .local _ .vmem, ⟨4, _⟩ => ⟨S1024x256, .f32⟩
  | .local _ .vmem, ⟨5, _⟩ => ⟨S1024x256, .f32⟩
  | .local _ .vmem, ⟨6, _⟩ => ⟨S1x1x1x256, .f32⟩
  | .local _ .vmem, ⟨7, _⟩ => ⟨S1x1x1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c5_i32 : BitVec 32 := 5#32
  let c0_i32_7 : BitVec 32 := 0#32
  let c0_i32_8 : BitVec 32 := 0#32
  ![v20.toNat, c5_i32.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDownRefIdeal.lean ====
abbrev S8192x11008 : Shape := ⟨2, ![8192, 11008]⟩
abbrev S1x11008x4096 : Shape := ⟨3, ![1, 11008, 4096]⟩
abbrev S8192x4096 : Shape := ⟨2, ![8192, 4096]⟩
abbrev S8x6x1x4096 : Shape := ⟨4, ![8, 6, 1, 4096]⟩
abbrev S8x1x1x4096 : Shape := ⟨4, ![8, 1, 1, 4096]⟩
abbrev S8x4096 : Shape := ⟨2, ![8, 4096]⟩
abbrev S1x4096 : Shape := ⟨2, ![1, 4096]⟩
abbrev S4096x4096 : Shape := ⟨2, ![4096, 4096]⟩
abbrev S2048x4096 : Shape := ⟨2, ![2048, 4096]⟩
abbrev S11008x4096 : Shape := ⟨2, ![11008, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .f32⟩
  | .hbm, ⟨3, _⟩ => ⟨S8x6x1x4096, .f32⟩
  | .hbm, ⟨4, _⟩ => ⟨S8x1x1x4096, .f32⟩
  | .hbm, ⟨5, _⟩ => ⟨S8x4096, .f32⟩
  | .hbm, ⟨6, _⟩ => ⟨S1x4096, .f32⟩
  | .hbm, ⟨7, _⟩ => ⟨S4096x4096, .f32⟩
  | .hbm, ⟨8, _⟩ => ⟨S1x4096, .f32⟩
  | .hbm, ⟨9, _⟩ => ⟨S2048x4096, .f32⟩
  | .hbm, ⟨10, _⟩ => ⟨S1x4096, .f32⟩
  | .hbm, ⟨11, _⟩ => ⟨S2048x4096, .f32⟩
  | .hbm, ⟨12, _⟩ => ⟨S8192x4096, .f32⟩
  | .hbm, ⟨13, _⟩ => ⟨S8192x11008, .f32⟩
  | .hbm, ⟨14, _⟩ => ⟨S11008x4096, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Final.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096x4096 : Shape := ⟨2, ![4096, 4096]⟩
abbrev S16x256x4096 : Shape := ⟨3, ![16, 256, 4096]⟩
abbrev S2x2048x4096 : Shape := ⟨3, ![2, 2048, 4096]⟩

abbrev nBuf : Space → Nat
  | .hbm => 8
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S4096x4096, .f32⟩
  | .hbm, ⟨5, _⟩ => ⟨S16x256x4096, .f32⟩
  | .hbm, ⟨6, _⟩ => ⟨S4096x4096, .f32⟩
  | .hbm, ⟨7, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x4096 : Shape := ⟨2, ![8192, 4096]⟩
abbrev S4096 : Shape := ⟨1, ![4096]⟩
abbrev S4096x4096 : Shape := ⟨2, ![4096, 4096]⟩
abbrev S16x256x4096 : Shape := ⟨3, ![16, 256, 4096]⟩
abbrev S2x2048x4096 : Shape := ⟨3, ![2, 2048, 4096]⟩
abbrev S_ : Shape := ⟨0, ![]⟩
abbrev S16x256 : Shape := ⟨2, ![16, 256]⟩
abbrev S16x256x1 : Shape := ⟨3, ![16, 256, 1]⟩
abbrev S1x1x4096 : Shape := ⟨3, ![1, 1, 4096]⟩
abbrev S2x2048 : Shape := ⟨2, ![2, 2048]⟩
abbrev S2x2048x1 : Shape := ⟨3, ![2, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x4096, .f32⟩
  | .hbm, ⟨3, _⟩ => ⟨S16x256x4096, .f32⟩
  | .hbm, ⟨4, _⟩ => ⟨S4096x4096, .f32⟩
  | .hbm, ⟨5, _⟩ => ⟨S2x2048x4096, .f32⟩
  | .hbm, ⟨6, _⟩ => ⟨S16x256x4096, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x4096, .f32⟩
  | .hbm, ⟨18, _⟩ => ⟨S16x256x4096, .f32⟩
  | .hbm, ⟨19, _⟩ => ⟨S1x1x4096, .f32⟩
  | .hbm, ⟨20, _⟩ => ⟨S16x256x4096, .f32⟩
  | .hbm, ⟨21, _⟩ => ⟨S16x256x4096, .f32⟩
  | .hbm, ⟨22, _⟩ => ⟨S2x2048x4096, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S2x2048x4096, .f32⟩
  | .hbm, ⟨34, _⟩ => ⟨S2x2048x4096, .f32⟩
  | .hbm, ⟨35, _⟩ => ⟨S1x1x4096, .f32⟩
  | .hbm, ⟨36, _⟩ => ⟨S2x2048x4096, .f32⟩
  | .hbm, ⟨37, _⟩ => ⟨S2x2048x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Ada.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S2x1x24576 : Shape := ⟨3, ![2, 1, 24576]⟩
abbrev S2x8x24576 : Shape := ⟨3, ![2, 8, 24576]⟩
abbrev S1x4096x1024 : Shape := ⟨3, ![1, 4096, 1024]⟩
abbrev S1x1x1024 : Shape := ⟨3, ![1, 1, 1024]⟩
abbrev S1x8x1024 : Shape := ⟨3, ![1, 8, 1024]⟩
abbrev S4096x1024 : Shape := ⟨2, ![4096, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S2x1x24576, .f32⟩
  | .hbm, ⟨9, _⟩ => ⟨S2x8x24576, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 45
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S8x4096, .f32⟩
  | .hbm, ⟨15, _⟩ => ⟨S8x4096, .f32⟩
  | .hbm, ⟨16, _⟩ => ⟨S8x4096, .f32⟩
  | .hbm, ⟨17, _⟩ => ⟨S1x4096x24576, .f32⟩
  | .hbm, ⟨18, _⟩ => ⟨S4096x24576, .f32⟩
  | .hbm, ⟨19, _⟩ => ⟨S8x24576, .f32⟩
  | .hbm, ⟨20, _⟩ => ⟨S1x24576, .f32⟩
  | .hbm, ⟨21, _⟩ => ⟨S24576, .f32⟩
  | .hbm, ⟨22, _⟩ => ⟨S1x24576, .f32⟩
  | .hbm, ⟨23, _⟩ => ⟨S8x24576, .f32⟩
  | .hbm, ⟨24, _⟩ => ⟨S8x24576, .f32⟩
  | .hbm, ⟨25, _⟩ => ⟨S8x4096, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096, .f32⟩
  | .hbm, ⟨34, _⟩ => ⟨S1x4096x24576, .f32⟩
  | .hbm, ⟨35, _⟩ => ⟨S4096x24576, .f32⟩
  | .hbm, ⟨36, _⟩ => ⟨S8x24576, .f32⟩
  | .hbm, ⟨37, _⟩ => ⟨S1x24576, .f32⟩
  | .hbm, ⟨38, _⟩ => ⟨S24576, .f32⟩
  | .hbm, ⟨39, _⟩ => ⟨S1x24576, .f32⟩
  | .hbm, ⟨40, _⟩ => ⟨S8x24576, .f32⟩
  | .hbm, ⟨41, _⟩ => ⟨S8x24576, .f32⟩
  | .hbm, ⟨42, _⟩ => ⟨S1x8x24576, .f32⟩
  | .hbm, ⟨43, _⟩ => ⟨S1x8x24576, .f32⟩
  | .hbm, ⟨44, _⟩ => ⟨S2x8x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Norm.lean ====
abbrev S8192x4096 : Shape := ⟨2, ![8192, 4096]⟩
abbrev S2x4096 : Shape := ⟨2, ![2, 4096]⟩
abbrev S8x6x1x4096 : Shape := ⟨4, ![8, 6, 1, 4096]⟩
abbrev S1x4096 : Shape := ⟨2, ![1, 4096]⟩
abbrev S4096 : Shape := ⟨1, ![4096]⟩
abbrev S256x4096 : Shape := ⟨2, ![256, 4096]⟩
abbrev S1x1x1x4096 : Shape := ⟨4, ![1, 1, 1, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S8x6x1x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![v20.toNat, c1_i32_7.toNat, c0_i32_8.toNat, c0_i32_9.toNat]

def cc0_transform_3 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![v20.toNat, c0_i32_7.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S8192x4096 : Shape := ⟨2, ![8192, 4096]⟩
abbrev S2x4096 : Shape := ⟨2, ![2, 4096]⟩
abbrev S8x6x1x4096 : Shape := ⟨4, ![8, 6, 1, 4096]⟩
abbrev S8x1x1x4096 : Shape := ⟨4, ![8, 1, 1, 4096]⟩
abbrev S8x4096 : Shape := ⟨2, ![8, 4096]⟩
abbrev S1x4096 : Shape := ⟨2, ![1, 4096]⟩
abbrev S4096x4096 : Shape := ⟨2, ![4096, 4096]⟩
abbrev S2048x4096 : Shape := ⟨2, ![2048, 4096]⟩
abbrev S_ : Shape := ⟨0, ![]⟩
abbrev S8192 : Shape := ⟨1, ![8192]⟩
abbrev S8192x1 : Shape := ⟨2, ![8192, 1]⟩
abbrev S4096 : Shape := ⟨1, ![4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S8x6x1x4096, .f32⟩
  | .hbm, ⟨3, _⟩ => ⟨S8x1x1x4096, .f32⟩
  | .hbm, ⟨4, _⟩ => ⟨S8x4096, .f32⟩
  | .hbm, ⟨5, _⟩ => ⟨S1x4096, .f32⟩
  | .hbm, ⟨6, _⟩ => ⟨S4096x4096, .f32⟩
  | .hbm, ⟨7, _⟩ => ⟨S1x4096, .f32⟩
  | .hbm, ⟨8, _⟩ => ⟨S2048x4096, .f32⟩
  | .hbm, ⟨9, _⟩ => ⟨S1x4096, .f32⟩
  | .hbm, ⟨10, _⟩ => ⟨S2048x4096, .f32⟩
  | .hbm, ⟨11, _⟩ => ⟨S8192x4096, .f32⟩
  | .hbm, ⟨12, _⟩ => ⟨S8x1x1x4096, .f32⟩
  | .hbm, ⟨13, _⟩ => ⟨S8x4096, .f32⟩
  | .hbm, ⟨14, _⟩ => ⟨S1x4096, .f32⟩
  | .hbm, ⟨15, _⟩ => ⟨S4096x4096, .f32⟩
  | .hbm, ⟨16, _⟩ => ⟨S1x4096, .f32⟩
  | .hbm, ⟨17, _⟩ => ⟨S2048x4096, .f32⟩
  | .hbm, ⟨18, _⟩ => ⟨S1x4096, .f32⟩
  | .hbm, ⟨19, _⟩ => ⟨S2048x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Comb.lean ====
abbrev S8192x4096 : Shape := ⟨2, ![8192, 4096]⟩
abbrev S8192x128 : Shape := ⟨2, ![8192, 128]⟩
abbrev S8x6x1x4096 : Shape := ⟨4, ![8, 6, 1, 4096]⟩
abbrev S256x4096 : Shape := ⟨2, ![256, 4096]⟩
abbrev S256x128 : Shape := ⟨2, ![256, 128]⟩
abbrev S1x1x1x4096 : Shape := ⟨4, ![1, 1, 1, 4096]⟩
abbrev S256x1 : Shape := ⟨2, ![256, 1]⟩
abbrev S1x4096 : Shape := ⟨2, ![1, 4096]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x128, .f32⟩
  | .hbm, ⟨4, _⟩ => ⟨S8x6x1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x128, .f32⟩
  | .local _ .vmem, ⟨7, _⟩ => ⟨S256x128, .f32⟩
  | .local _ .vmem, ⟨8, _⟩ => ⟨S1x1x1x4096, .f32⟩
  | .local _ .vmem, ⟨9, _⟩ => ⟨S1x1x1x4096, .f32⟩
  | .local _ .vmem, ⟨10, _⟩ => ⟨S256x4096, .f32⟩
  | .local _ .vmem, ⟨11, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c5_i32 : BitVec 32 := 5#32
  let c0_i32_7 : BitVec 32 := 0#32
  let c0_i32_8 : BitVec 32 := 0#32
  let c0_i32_9 : BitVec 32 := 0#32
  ![v20.toNat, c5_i32.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombRefIdeal.lean ====
abbrev S8192x4096 : Shape := ⟨2, ![8192, 4096]⟩
abbrev S8192x128 : Shape := ⟨2, ![8192, 128]⟩
abbrev S8x6x1x4096 : Shape := ⟨4, ![8, 6, 1, 4096]⟩
abbrev S8x1x1x4096 : Shape := ⟨4, ![8, 1, 1, 4096]⟩
abbrev S8x4096 : Shape := ⟨2, ![8, 4096]⟩
abbrev S1x4096 : Shape := ⟨2, ![1, 4096]⟩
abbrev S4096x4096 : Shape := ⟨2, ![4096, 4096]⟩
abbrev S2048x4096 : Shape := ⟨2, ![2048, 4096]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x128, .f32⟩
  | .hbm, ⟨4, _⟩ => ⟨S8x6x1x4096, .f32⟩
  | .hbm, ⟨5, _⟩ => ⟨S8x1x1x4096, .f32⟩
  | .hbm, ⟨6, _⟩ => ⟨S8x4096, .f32⟩
  | .hbm, ⟨7, _⟩ => ⟨S1x4096, .f32⟩
  | .hbm, ⟨8, _⟩ => ⟨S4096x4096, .f32⟩
  | .hbm, ⟨9, _⟩ => ⟨S1x4096, .f32⟩
  | .hbm, ⟨10, _⟩ => ⟨S2048x4096, .f32⟩
  | .hbm, ⟨11, _⟩ => ⟨S1x4096, .f32⟩
  | .hbm, ⟨12, _⟩ => ⟨S2048x4096, .f32⟩
  | .hbm, ⟨13, _⟩ => ⟨S8192x4096, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Conv.lean ====
abbrev S8192x5632 : Shape := ⟨2, ![8192, 5632]⟩
abbrev S2x3x1024 : Shape := ⟨3, ![2, 3, 1024]⟩
abbrev S1x3x1024 : Shape := ⟨3, ![1, 3, 1024]⟩
abbrev S3x1024 : Shape := ⟨2, ![3, 1024]⟩
abbrev S4096x1024 : Shape := ⟨2, ![4096, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S2x3x1024, .f32⟩
  | .hbm, ⟨2, _⟩ => ⟨S1x3x1024, .f32⟩
  | .hbm, ⟨3, _⟩ => ⟨S3x1024, .f32⟩
  | .hbm, ⟨4, _⟩ => ⟨S4096x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c4_i32 : BitVec 32 := 4#32
  let v1 : BitVec 32 := Scalar.addi c4_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c8_i32 : BitVec 32 := 8#32
  let v1 : BitVec 32 := Scalar.addi c8_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c12_i32 : BitVec 32 := 12#32
  let v1 : BitVec 32 := Scalar.addi c12_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8192x5632 : Shape := ⟨2, ![8192, 5632]⟩
abbrev S2x3x1024 : Shape := ⟨3, ![2, 3, 1024]⟩
abbrev S4096x5632 : Shape := ⟨2, ![4096, 5632]⟩
abbrev S2x2048x5632 : Shape := ⟨3, ![2, 2048, 5632]⟩
abbrev S2x2048x1024 : Shape := ⟨3, ![2, 2048, 1024]⟩
abbrev S1x3x1024 : Shape := ⟨3, ![1, 3, 1024]⟩
abbrev S3x1024 : Shape := ⟨2, ![3, 1024]⟩
abbrev S2x1x1024 : Shape := ⟨3, ![2, 1, 1024]⟩
abbrev S_ : Shape := ⟨0, ![]⟩
abbrev S2x2047x1024 : Shape := ⟨3, ![2, 2047, 1024]⟩
abbrev S1x1024 : Shape := ⟨2, ![1, 1024]⟩
abbrev S1024 : Shape := ⟨1, ![1024]⟩
abbrev S1x1x1024 : Shape := ⟨3, ![1, 1, 1024]⟩
abbrev S4096x1024 : Shape := ⟨2, ![4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2x3x1024, .f32⟩
  | .hbm, ⟨2, _⟩ => ⟨S4096x5632, .f32⟩
  | .hbm, ⟨3, _⟩ => ⟨S2x2048x5632, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S1x3x1024, .f32⟩
  | .hbm, ⟨8, _⟩ => ⟨S3x1024, .f32⟩
  | .hbm, ⟨9, _⟩ => ⟨S2x2048x1024, .f32⟩
  | .hbm, ⟨10, _⟩ => ⟨S2x1x1024, .f32⟩
  | .hbm, ⟨11, _⟩ => ⟨S_, .f32⟩
  | .hbm, ⟨12, _⟩ => ⟨S2x1x1024, .f32⟩
  | .hbm, ⟨13, _⟩ => ⟨S2x2047x1024, .f32⟩
  | .hbm, ⟨14, _⟩ => ⟨S2x2048x1024, .f32⟩
  | .hbm, ⟨15, _⟩ => ⟨S2x2047x1024, .f32⟩
  | .hbm, ⟨16, _⟩ => ⟨S2x2048x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S4096x1024, .f32⟩
  | .hbm, ⟨36, _⟩ => ⟨S4096x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== Rotk.lean ====
abbrev S8192x128 : Shape := ⟨2, ![8192, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S1 : Shape := ⟨1, ![1]⟩
abbrev S1024x128 : Shape := ⟨2, ![1024, 128]⟩
abbrev S1024x64 : Shape := ⟨2, ![1024, 64]⟩
abbrev S3072x128 : Shape := ⟨2, ![3072, 128]⟩

abbrev nBuf : Space → Nat
  | .hbm => 111
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S32, .i32⟩
  | .hbm, ⟨2, _⟩ => ⟨S32x64, .i32⟩
  | .hbm, ⟨3, _⟩ => ⟨S2048, .i32⟩
  | .hbm, ⟨4, _⟩ => ⟨S2048, .f32⟩
  | .hbm, ⟨5, _⟩ => ⟨S64, .i32⟩
  | .hbm, ⟨6, _⟩ => ⟨S1x64, .i32⟩
  | .hbm, ⟨7, _⟩ => ⟨S32x64, .i32⟩
  | .hbm, ⟨8, _⟩ => ⟨S2048, .i32⟩
  | .hbm, ⟨9, _⟩ => ⟨S2048, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x64, .f32⟩
  | .hbm, ⟨32, _⟩ => ⟨S2048x64, .f32⟩
  | .hbm, ⟨33, _⟩ => ⟨S2048x64, .f32⟩
  | .hbm, ⟨34, _⟩ => ⟨S64, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S_, .i1⟩
  | .hbm, ⟨51, _⟩ => ⟨S64, .i1⟩
  | .hbm, ⟨52, _⟩ => ⟨S64, .i1⟩
  | .hbm, ⟨53, _⟩ => ⟨S64, .i1⟩
  | .hbm, ⟨54, _⟩ => ⟨S64, .i32⟩
  | .hbm, ⟨55, _⟩ => ⟨S64, .i32⟩
  | .hbm, ⟨56, _⟩ => ⟨S64, .i32⟩
  | .hbm, ⟨57, _⟩ => ⟨S_, .i32⟩
  | .hbm, ⟨58, _⟩ => ⟨S64, .i32⟩
  | .hbm, ⟨59, _⟩ => ⟨S64, .i1⟩
  | .hbm, ⟨60, _⟩ => ⟨S2048x64, .f32⟩
  | .hbm, ⟨61, _⟩ => ⟨S_, .f32⟩
  | .hbm, ⟨62, _⟩ => ⟨S_, .f32⟩
  | .hbm, ⟨63, _⟩ => ⟨S2048x64, .i1⟩
  | .hbm, ⟨64, _⟩ => ⟨S2048x64, .f32⟩
  | .hbm, ⟨65, _⟩ => ⟨S2048x64, .f32⟩
  | .hbm, ⟨66, _⟩ => ⟨S_, .f32⟩
  | .hbm, ⟨67, _⟩ => ⟨S_, .f32⟩
  | .hbm, ⟨68, _⟩ => ⟨S2048x64, .i1⟩
  | .hbm, ⟨69, _⟩ => ⟨S2048x64, .f32⟩
  | .hbm, ⟨70, _⟩ => ⟨S2048x64, .f32⟩
  | .hbm, ⟨71, _⟩ => ⟨S_, .f32⟩
  | .hbm, ⟨72, _⟩ => ⟨S2048x128, .f32⟩
  | .hbm, ⟨73, _⟩ => ⟨S_, .i32⟩
  | .hbm, ⟨74, _⟩ => ⟨S1, .i32⟩
  | .hbm, ⟨75, _⟩ => ⟨S2048x128, .f32⟩
  | .hbm, ⟨76, _⟩ => ⟨S_, .f32⟩
  | .hbm, ⟨77, _⟩ => ⟨S1024x128, .f32⟩
  | .hbm, ⟨78, _⟩ => ⟨S_, .i32⟩
  | .hbm, ⟨79, _⟩ => ⟨S1, .i32⟩
  | .hbm, ⟨80, _⟩ => ⟨S_, .f32⟩
  | .hbm, ⟨81, _⟩ => ⟨S1024x64, .f32⟩
  | .hbm, ⟨82, _⟩ => ⟨S1024x128, .f32⟩
  | .hbm, ⟨83, _⟩ => ⟨S3072x128, .f32⟩
  | .hbm, ⟨84, _⟩ => ⟨S_, .f32⟩
  | .hbm, ⟨85, _⟩ => ⟨S2048x128, .f32⟩
  | .hbm, ⟨86, _⟩ => ⟨S_, .i32⟩
  | .hbm, ⟨87, _⟩ => ⟨S1, .i32⟩
  | .hbm, ⟨88, _⟩ => ⟨S2048x128, .f32⟩
  | .hbm, ⟨89, _⟩ => ⟨S_, .f32⟩
  | .hbm, ⟨90, _⟩ => ⟨S1024x128, .f32⟩
  | .hbm, ⟨91, _⟩ => ⟨S_, .i32⟩
  | .hbm, ⟨92, _⟩ => ⟨S1, .i32⟩
  | .hbm, ⟨93, _⟩ => ⟨S_, .f32⟩
  | .hbm, ⟨94, _⟩ => ⟨S1024x64, .f32⟩
  | .hbm, ⟨95, _⟩ => ⟨S1024x128, .f32⟩
  | .hbm, ⟨96, _⟩ => ⟨S3072x128, .f32⟩
  | .hbm, ⟨97, _⟩ => ⟨S_, .f32⟩
  | .hbm, ⟨98, _⟩ => ⟨S2048x128, .f32⟩
  | .hbm, ⟨99, _⟩ => ⟨S_, .i32⟩
  | .hbm, ⟨100, _⟩ => ⟨S1, .i32⟩
  | .hbm, ⟨101, _⟩ => ⟨S2048x128, .f32⟩
  | .hbm, ⟨102, _⟩ => ⟨S_, .f32⟩
  | .hbm, ⟨103, _⟩ => ⟨S1024x128, .f32⟩
  | .hbm, ⟨104, _⟩ => ⟨S_, .i32⟩
  | .hbm, ⟨105, _⟩ => ⟨S1, .i32⟩
  | .hbm, ⟨106, _⟩ => ⟨S_, .f32⟩
  | .hbm, ⟨107, _⟩ => ⟨S1024x64, .f32⟩
  | .hbm, ⟨108, _⟩ => ⟨S1024x128, .f32⟩
  | .hbm, ⟨109, _⟩ => ⟨S3072x128, .f32⟩
  | .hbm, ⟨110, _⟩ => ⟨S8192x128, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_c : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v31 : Ref sig .tc := ⟨.hbm, 56, rfl⟩
abbrev main_c_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v35 : Ref sig .tc := ⟨.hbm, 65, rfl⟩
abbrev main_cst_4 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩
abbrev main_c_6 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_c_8 : Ref sig .tc := ⟨.hbm, 78, rfl⟩
abbrev main_v41 : Ref sig .tc := ⟨.hbm, 79, rfl⟩
abbrev main_cst_9 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_10 : Ref sig .tc := ⟨.hbm, 84, rfl⟩
abbrev main_v45 : Ref sig .tc := ⟨.hbm, 85, rfl⟩
abbrev main_c_11 : Ref sig .tc := ⟨.hbm, 86, rfl⟩
abbrev main_v46 : Ref sig .tc := ⟨.hbm, 87, rfl⟩
abbrev main_v47 : Ref sig .tc := ⟨.hbm, 88, rfl⟩
abbrev main_cst_12 : Ref sig .tc := ⟨.hbm, 89, rfl⟩
abbrev main_v48 : Ref sig .tc := ⟨.hbm, 90, rfl⟩
abbrev main_c_13 : Ref sig .tc := ⟨.hbm, 91, rfl⟩
abbrev main_v49 : Ref sig .tc := ⟨.hbm, 92, rfl⟩
abbrev main_cst_14 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_15 : Ref sig .tc := ⟨.hbm, 97, rfl⟩
abbrev main_v53 : Ref sig .tc := ⟨.hbm, 98, rfl⟩
abbrev main_c_16 : Ref sig .tc := ⟨.hbm, 99, rfl⟩
abbrev main_v54 : Ref sig .tc := ⟨.hbm, 100, rfl⟩
abbrev main_v55 : Ref sig .tc := ⟨.hbm, 101, rfl⟩
abbrev main_cst_17 : Ref sig .tc := ⟨.hbm, 102, rfl⟩
abbrev main_v56 : Ref sig .tc := ⟨.hbm, 103, rfl⟩
abbrev main_c_18 : Ref sig .tc := ⟨.hbm, 104, rfl⟩
abbrev main_v57 : Ref sig .tc := ⟨.hbm, 105, rfl⟩
abbrev main_cst_19 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_2 (i : grid0.Coords) : Fin 2 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_3 (i : grid0.Coords) : Fin 2 → Nat :=
  let arg0 : BitVec 32 := BitVec.ofNat 32 (i 0).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotkRefIdeal.lean ====
abbrev S8192x128 : Shape := ⟨2, ![8192, 128]⟩
abbrev S8192x64 : Shape := ⟨2, ![8192, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S4096x64 : Shape := ⟨2, ![4096, 64]⟩
abbrev S2x2048x64 : Shape := ⟨3, ![2, 2048, 64]⟩
abbrev S1x2048x64 : Shape := ⟨3, ![1, 2048, 64]⟩
abbrev S2x2048x16 : Shape := ⟨3, ![2, 2048, 16]⟩

abbrev nBuf : Space → Nat
  | .hbm => 58
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x64, .f32⟩
  | .hbm, ⟨2, _⟩ => ⟨S32, .i32⟩
  | .hbm, ⟨3, _⟩ => ⟨S32x64, .i32⟩
  | .hbm, ⟨4, _⟩ => ⟨S2048, .i32⟩
  | .hbm, ⟨5, _⟩ => ⟨S2048, .f32⟩
  | .hbm, ⟨6, _⟩ => ⟨S64, .i32⟩
  | .hbm, ⟨7, _⟩ => ⟨S1x64, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S4096x64, .f32⟩
  | .hbm, ⟨36, _⟩ => ⟨S2x2048x64, .f32⟩
  | .hbm, ⟨37, _⟩ => ⟨S1x2048x64, .f32⟩
  | .hbm, ⟨38, _⟩ => ⟨S1x2048x64, .f32⟩
  | .hbm, ⟨39, _⟩ => ⟨S2x2048x16, .f32⟩
  | .hbm, ⟨40, _⟩ => ⟨S2x2048x16, .f32⟩
  | .hbm, ⟨41, _⟩ => ⟨S2x2048x16, .f32⟩
  | .hbm, ⟨42, _⟩ => ⟨S2x2048x16, .f32⟩
  | .hbm, ⟨43, _⟩ => ⟨S2x2048x16, .f32⟩
  | .hbm, ⟨44, _⟩ => ⟨S2x2048x16, .f32⟩
  | .hbm, ⟨45, _⟩ => ⟨S2x2048x64, .f32⟩
  | .hbm, ⟨46, _⟩ => ⟨S2x2048x64, .f32⟩
  | .hbm, ⟨47, _⟩ => ⟨S2x2048x64, .f32⟩
  | .hbm, ⟨48, _⟩ => ⟨S2x2048x64, .f32⟩
  | .hbm, ⟨49, _⟩ => ⟨S2x2048x64, .f32⟩
  | .hbm, ⟨50, _⟩ => ⟨S2x2048x64, .f32⟩
  | .hbm, ⟨51, _⟩ => ⟨S4096x64, .f32⟩
  | .hbm, ⟨52, _⟩ => ⟨S4096x64, .f32⟩
  | .hbm, ⟨53, _⟩ => ⟨S8192x64, .f32⟩
  | .hbm, ⟨54, _⟩ => ⟨S_, .i32⟩
  | .hbm, ⟨55, _⟩ => ⟨S_, .f32⟩
  | .hbm, ⟨56, _⟩ => ⟨S8192x128, .f32⟩
  | .hbm, ⟨57, _⟩ => ⟨S8192x128, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_c : Ref sig .tc := ⟨.hbm, 54, rfl⟩
abbrev main_call0_v0 : Ref sig .tc := ⟨.hbm, 55, rfl⟩
abbrev main_v50 : Ref sig .tc := ⟨.hbm, 56, rfl⟩
abbrev main_v51 : Ref sig .tc := ⟨.hbm, 57, rfl⟩

abbrev nD : Nat := 1
abbrev τ : Topo := Topo.v7x

variable {F : FTy → Type} [FloatOps F]
-- ==== Rotq.lean ====
abbrev S8192x1024 : Shape := ⟨2, ![8192, 1024]⟩
abbrev S2x1024x3072 : Shape := ⟨3, ![2, 1024, 3072]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x256 : Shape := ⟨2, ![2048, 256]⟩
abbrev S1 : Shape := ⟨1, ![1]⟩
abbrev S1024x256 : Shape := ⟨2, ![1024, 256]⟩
abbrev S1024x64 : Shape := ⟨2, ![1024, 64]⟩
abbrev S3072x256 : Shape := ⟨2, ![3072, 256]⟩
abbrev S1x1024x3072 : Shape := ⟨3, ![1, 1024, 3072]⟩
abbrev S1024x3072 : Shape := ⟨2, ![1024, 3072]⟩
abbrev S1024x16x192 : Shape := ⟨3, ![1024, 16, 192]⟩
abbrev S1024x16x256 : Shape := ⟨3, ![1024, 16, 256]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 119
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2x1024x3072, .f32⟩
  | .hbm, ⟨2, _⟩ => ⟨S32, .i32⟩
  | .hbm, ⟨3, _⟩ => ⟨S32x64, .i32⟩
  | .hbm, ⟨4, _⟩ => ⟨S2048, .i32⟩
  | .hbm, ⟨5, _⟩ => ⟨S2048, .f32⟩
  | .hbm, ⟨6, _⟩ => ⟨S64, .i32⟩
  | .hbm, ⟨7, _⟩ => ⟨S1x64, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048x1, .f32⟩
  | .hbm, ⟨23, _⟩ => ⟨S1x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S64, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S_, .i32⟩
  | .hbm, ⟨48, _⟩ => ⟨S64, .i32⟩
  | .hbm, ⟨49, _⟩ => ⟨S64, .i1⟩
  | .hbm, ⟨50, _⟩ => ⟨S_, .i32⟩
  | .hbm, ⟨51, _⟩ => ⟨S_, .i1⟩
  | .hbm, ⟨52, _⟩ => ⟨S64, .i1⟩
  | .hbm, ⟨53, _⟩ => ⟨S64, .i1⟩
  | .hbm, ⟨54, _⟩ => ⟨S64, .i1⟩
  | .hbm, ⟨55, _⟩ => ⟨S64, .i32⟩
  | .hbm, ⟨56, _⟩ => ⟨S64, .i32⟩
  | .hbm, ⟨57, _⟩ => ⟨S64, .i32⟩
  | .hbm, ⟨58, _⟩ => ⟨S_, .i32⟩
  | .hbm, ⟨59, _⟩ => ⟨S64, .i32⟩
  | .hbm, ⟨60, _⟩ => ⟨S64, .i1⟩
  | .hbm, ⟨61, _⟩ => ⟨S2048x64, .f32⟩
  | .hbm, ⟨62, _⟩ => ⟨S_, .f32⟩
  | .hbm, ⟨63, _⟩ => ⟨S_, .f32⟩
  | .hbm, ⟨64, _⟩ => ⟨S2048x64, .i1⟩
  | .hbm, ⟨65, _⟩ => ⟨S2048x64, .f32⟩
  | .hbm, ⟨66, _⟩ => ⟨S2048x64, .f32⟩
  | .hbm, ⟨67, _⟩ => ⟨S_, .f32⟩
  | .hbm, ⟨68, _⟩ => ⟨S_, .f32⟩
  | .hbm, ⟨69, _⟩ => ⟨S2048x64, .i1⟩
  | .hbm, ⟨70, _⟩ => ⟨S2048x64, .f32⟩
  | .hbm, ⟨71, _⟩ => ⟨S2048x64, .f32⟩
  | .hbm, ⟨72, _⟩ => ⟨S_, .f32⟩
  | .hbm, ⟨73, _⟩ => ⟨S2048x256, .f32⟩
  | .hbm, ⟨74, _⟩ => ⟨S_, .i32⟩
  | .hbm, ⟨75, _⟩ => ⟨S1, .i32⟩
  | .hbm, ⟨76, _⟩ => ⟨S2048x256, .f32⟩
  | .hbm, ⟨77, _⟩ => ⟨S_, .f32⟩
  | .hbm, ⟨78, _⟩ => ⟨S1024x256, .f32⟩
  | .hbm, ⟨79, _⟩ => ⟨S_, .i32⟩
  | .hbm, ⟨80, _⟩ => ⟨S1, .i32⟩
  | .hbm, ⟨81, _⟩ => ⟨S_, .f32⟩
  | .hbm, ⟨82, _⟩ => ⟨S1024x64, .f32⟩
  | .hbm, ⟨83, _⟩ => ⟨S1024x256, .f32⟩
  | .hbm, ⟨84, _⟩ => ⟨S3072x256, .f32⟩
  | .hbm, ⟨85, _⟩ => ⟨S_, .f32⟩
  | .hbm, ⟨86, _⟩ => ⟨S2048x256, .f32⟩
  | .hbm, ⟨87, _⟩ => ⟨S_, .i32⟩
  | .hbm, ⟨88, _⟩ => ⟨S1, .i32⟩
  | .hbm, ⟨89, _⟩ => ⟨S2048x256, .f32⟩
  | .hbm, ⟨90, _⟩ => ⟨S_, .f32⟩
  | .hbm, ⟨91, _⟩ => ⟨S1024x256, .f32⟩
  | .hbm, ⟨92, _⟩ => ⟨S_, .i32⟩
  | .hbm, ⟨93, _⟩ => ⟨S1, .i32⟩
  | .hbm, ⟨94, _⟩ => ⟨S_, .f32⟩
  | .hbm, ⟨95, _⟩ => ⟨S1024x64, .f32⟩
  | .hbm, ⟨96, _⟩ => ⟨S1024x256, .f32⟩
  | .hbm, ⟨97, _⟩ => ⟨S3072x256, .f32⟩
  | .hbm, ⟨98, _⟩ => ⟨S_, .f32⟩
  | .hbm, ⟨99, _⟩ => ⟨S2048x256, .f32⟩
  | .hbm, ⟨100, _⟩ => ⟨S_, .i32⟩
  | .hbm, ⟨101, _⟩ => ⟨S1, .i32⟩
  | .hbm, ⟨102, _⟩ => ⟨S2048x256, .f32⟩
  | .hbm, ⟨103, _⟩ => ⟨S_, .f32⟩
  | .hbm, ⟨104, _⟩ => ⟨S1024x256, .f32⟩
  | .hbm, ⟨105, _⟩ => ⟨S_, .i32⟩
  | .hbm, ⟨106, _⟩ => ⟨S1, .i32⟩
  | .hbm, ⟨107, _⟩ => ⟨S_, .f32⟩
  | .hbm, ⟨108, _⟩ => ⟨S1024x64, .f32⟩
  | .hbm, ⟨109, _⟩ => ⟨S1024x256, .f32⟩
  | .hbm, ⟨110, _⟩ => ⟨S3072x256, .f32⟩
  | .hbm, ⟨111, _⟩ => ⟨S1x1024x3072, .f32⟩
  | .hbm, ⟨112, _⟩ => ⟨S1024x3072, .f32⟩
  | .hbm, ⟨113, _⟩ => ⟨S1024x16x192, .f32⟩
  | .hbm, ⟨114, _⟩ => ⟨S_, .i32⟩
  | .hbm, ⟨115, _⟩ => ⟨S_, .f32⟩
  | .hbm, ⟨116, _⟩ => ⟨S1024x16x256, .f32⟩
  | .hbm, ⟨117, _⟩ => ⟨S1024x4096, .f32⟩
  | .hbm, ⟨118, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v31 : Ref sig .tc := ⟨.hbm, 57, rfl⟩
abbrev main_c_2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v35 : Ref sig .tc := ⟨.hbm, 66, rfl⟩
abbrev main_cst_4 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_c_6 : Ref sig .tc := ⟨.hbm, 74, rfl⟩
abbrev main_v38 : Ref sig .tc := ⟨.hbm, 75, rfl⟩
abbrev main_v39 : Ref sig .tc := ⟨.hbm, 76, rfl⟩
abbrev main_cst_7 : Ref sig .tc := ⟨.hbm, 77, rfl⟩
abbrev main_v40 : Ref sig .tc := ⟨.hbm, 78, rfl⟩
abbrev main_c_8 : Ref sig .tc := ⟨.hbm, 79, rfl⟩
abbrev main_v41 : Ref sig .tc := ⟨.hbm, 80, rfl⟩
abbrev main_cst_9 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_10 : Ref sig .tc := ⟨.hbm, 85, rfl⟩
abbrev main_v45 : Ref sig .tc := ⟨.hbm, 86, rfl⟩
abbrev main_c_11 : Ref sig .tc := ⟨.hbm, 87, rfl⟩
abbrev main_v46 : Ref sig .tc := ⟨.hbm, 88, rfl⟩
abbrev main_v47 : Ref sig .tc := ⟨.hbm, 89, rfl⟩
abbrev main_cst_12 : Ref sig .tc := ⟨.hbm, 90, rfl⟩
abbrev main_v48 : Ref sig .tc := ⟨.hbm, 91, rfl⟩
abbrev main_c_13 : Ref sig .tc := ⟨.hbm, 92, rfl⟩
abbrev main_v49 : Ref sig .tc := ⟨.hbm, 93, rfl⟩
abbrev main_cst_14 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_15 : Ref sig .tc := ⟨.hbm, 98, rfl⟩
abbrev main_v53 : Ref sig .tc := ⟨.hbm, 99, rfl⟩
abbrev main_c_16 : Ref sig .tc := ⟨.hbm, 100, rfl⟩
abbrev main_v54 : Ref sig .tc := ⟨.hbm, 101, rfl⟩
abbrev main_v55 : Ref sig .tc := ⟨.hbm, 102, rfl⟩
abbrev main_cst_17 : Ref sig .tc := ⟨.hbm, 103, rfl⟩
abbrev main_v56 : Ref sig .tc := ⟨.hbm, 104, rfl⟩
abbrev main_c_18 : Ref sig .tc := ⟨.hbm, 105, rfl⟩
abbrev main_v57 : Ref sig .tc := ⟨.hbm, 106, rfl⟩
abbrev main_cst_19 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_20 : Ref sig .tc := ⟨.hbm, 114, rfl⟩
abbrev main_call3_v0 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c4_i32_0 : BitVec 32 := 4#32
  let v1 : BitVec 32 := Scalar.subi arg0 c4_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RotqRefIdeal.lean ====
abbrev S8192x1024 : Shape := ⟨2, ![8192, 1024]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S8192x3072 : Shape := ⟨2, ![8192, 3072]⟩
abbrev S8192x16x192 : Shape := ⟨3, ![8192, 16, 192]⟩
abbrev S8192x16x128 : Shape := ⟨3, ![8192, 16, 128]⟩
abbrev S8192x16x64 : Shape := ⟨3, ![8192, 16, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S4096x16x64 : Shape := ⟨3, ![4096, 16, 64]⟩
abbrev S2x2048x16x64 : Shape := ⟨4, ![2, 2048, 16, 64]⟩
abbrev S1x2048x1x64 : Shape := ⟨4, ![1, 2048, 1, 64]⟩
abbrev S2x2048x16x16 : Shape := ⟨4, ![2, 2048, 16, 16]⟩
abbrev S8192x16x256 : Shape := ⟨3, ![8192, 16, 256]⟩
abbrev S8192x4096 : Shape := ⟨2, ![8192, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x3072, .f32⟩
  | .hbm, ⟨2, _⟩ => ⟨S8192x1024, .f32⟩
  | .hbm, ⟨3, _⟩ => ⟨S1x1024x3072, .f32⟩
  | .hbm, ⟨4, _⟩ => ⟨S1024x3072, .f32⟩
  | .hbm, ⟨5, _⟩ => ⟨S8192x3072, .f32⟩
  | .hbm, ⟨6, _⟩ => ⟨S8192x16x192, .f32⟩
  | .hbm, ⟨7, _⟩ => ⟨S8192x16x128, .f32⟩
  | .hbm, ⟨8, _⟩ => ⟨S8192x16x64, .f32⟩
  | .hbm, ⟨9, _⟩ => ⟨S32, .i32⟩
  | .hbm, ⟨10, _⟩ => ⟨S32x64, .i32⟩
  | .hbm, ⟨11, _⟩ => ⟨S2048, .i32⟩
  | .hbm, ⟨12, _⟩ => ⟨S2048, .f32⟩
  | .hbm, ⟨13, _⟩ => ⟨S64, .i32⟩
  | .hbm, ⟨14, _⟩ => ⟨S1x64, .i32⟩
  | .hbm, ⟨15, _⟩ => ⟨S32x64, .i32⟩
  | .hbm, ⟨16, _⟩ => ⟨S2048, .i32⟩
  | .hbm, ⟨17, _⟩ => ⟨S2048, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S2048x1, .f32⟩
  | .hbm, ⟨30, _⟩ => ⟨S1x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x1, .f32⟩
  | .hbm, ⟨35, _⟩ => ⟨S1x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x64, .f32⟩
  | .hbm, ⟨40, _⟩ => ⟨S2048x64, .f32⟩
  | .hbm, ⟨41, _⟩ => ⟨S2048x64, .f32⟩
  | .hbm, ⟨42, _⟩ => ⟨S4096x16x64, .f32⟩
  | .hbm, ⟨43, _⟩ => ⟨S2x2048x16x64, .f32⟩
  | .hbm, ⟨44, _⟩ => ⟨S1x2048x1x64, .f32⟩
  | .hbm, ⟨45, _⟩ => ⟨S1x2048x1x64, .f32⟩
  | .hbm, ⟨46, _⟩ => ⟨S2x2048x16x16, .f32⟩
  | .hbm, ⟨47, _⟩ => ⟨S2x2048x16x16, .f32⟩
  | .hbm, ⟨48, _⟩ => ⟨S2x2048x16x16, .f32⟩
  | .hbm, ⟨49, _⟩ => ⟨S2x2048x16x16, .f32⟩
  | .hbm, ⟨50, _⟩ => ⟨S2x2048x16x16, .f32⟩
  | .hbm, ⟨51, _⟩ => ⟨S2x2048x16x16, .f32⟩
  | .hbm, ⟨52, _⟩ => ⟨S2x2048x16x64, .f32⟩
  | .hbm, ⟨53, _⟩ => ⟨S2x2048x16x64, .f32⟩
  | .hbm, ⟨54, _⟩ => ⟨S2x2048x16x64, .f32⟩
  | .hbm, ⟨55, _⟩ => ⟨S2x2048x16x64, .f32⟩
  | .hbm, ⟨56, _⟩ => ⟨S2x2048x16x64, .f32⟩
  | .hbm, ⟨57, _⟩ => ⟨S2x2048x16x64, .f32⟩
  | .hbm, ⟨58, _⟩ => ⟨S4096x16x64, .f32⟩
  | .hbm, ⟨59, _⟩ => ⟨S4096x16x64, .f32⟩
  | .hbm, ⟨60, _⟩ => ⟨S8192x16x64, .f32⟩
  | .hbm, ⟨61, _⟩ => ⟨S8192x16x192, .f32⟩
  | .hbm, ⟨62, _⟩ => ⟨S_, .i32⟩
  | .hbm, ⟨63, _⟩ => ⟨S_, .f32⟩
  | .hbm, ⟨64, _⟩ => ⟨S8192x16x256, .f32⟩
  | .hbm, ⟨65, _⟩ => ⟨S8192x4096, .f32⟩
  | .hbm, ⟨66, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_c : Ref sig .tc := ⟨.hbm, 62, rfl⟩
abbrev main_call0_v0 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]
-- ==== Dft.lean ====
abbrev S8192x5632 : Shape := ⟨2, ![8192, 5632]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S8192x2048 : Shape := ⟨2, ![8192, 2048]⟩
abbrev S1024x256 : Shape := ⟨2, ![1024, 256]⟩
abbrev S1024x512 : Shape := ⟨2, ![1024, 512]⟩

abbrev nBuf : Space → Nat
  | .hbm => 44
  | .vmem => 5
  | .smem => 0
  | _ => 0

abbrev bufTy : (tb : Table) → Fin (tcTables nBuf tb) → BufTy
  | .hbm, ⟨0, _⟩ => ⟨S8192x5632, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S_, .i1⟩
  | .hbm, ⟨23, _⟩ => ⟨S256x256, .i1⟩
  | .hbm, ⟨24, _⟩ => ⟨S256x256, .i1⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x512, .f32⟩
  | .hbm, ⟨42, _⟩ => ⟨S256x512, .bf16⟩
  | .hbm, ⟨43, _⟩ => ⟨S8192x2048, .bf16⟩
  | .local _ .vmem, ⟨0, _⟩ => ⟨S1024x256, .f32⟩
  | .local _ .vmem, ⟨1, _⟩ => ⟨S1024x256, .f32⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DftRefIdeal.lean ====
abbrev S8192x5632 : Shape := ⟨2, ![8192, 5632]⟩
abbrev S8192x1024 : Shape := ⟨2, ![8192, 1024]⟩
abbrev S8192x4x256 : Shape := ⟨3, ![8192, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S8192x4x512 : Shape := ⟨3, ![8192, 4, 512]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x4x256, .f32⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i1⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S_, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S_, .f32⟩
  | .hbm, ⟨41, _⟩ => ⟨S256x256, .f32⟩
  | .hbm, ⟨42, _⟩ => ⟨S256x256, .f32⟩
  | .hbm, ⟨43, _⟩ => ⟨S8192x4x256, .f32⟩
  | .hbm, ⟨44, _⟩ => ⟨S8192x4x256, .f32⟩
  | .hbm, ⟨45, _⟩ => ⟨S8192x4x512, .f32⟩
  | .hbm, ⟨46, _⟩ => ⟨S8192x2048, .f32⟩
  | .hbm, ⟨47, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩

abbrev nD : Nat := 1
abbrev τ : Topo := Topo.v7x

variable {F : FTy → Type} [FloatOps F]
-- ==== Pos.lean ====
abbrev S8192x2048 : Shape := ⟨2, ![8192, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4096x1024 : Shape := ⟨2, ![4096, 1024]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 45
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048, .i32⟩
  | .hbm, ⟨2, _⟩ => ⟨S2048x1, .i32⟩
  | .hbm, ⟨3, _⟩ => ⟨S1x2048, .i32⟩
  | .hbm, ⟨4, _⟩ => ⟨S2048x2048, .i32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S_, .i1⟩
  | .hbm, ⟨23, _⟩ => ⟨S2048x2048, .i1⟩
  | .hbm, ⟨24, _⟩ => ⟨S2048x2048, .i1⟩
  | .hbm, ⟨25, _⟩ => ⟨S2048x2048, .i1⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .bf16⟩
  | .hbm, ⟨42, _⟩ => ⟨S2048x2048, .f32⟩
  | .hbm, ⟨43, _⟩ => ⟨S2048x2048, .bf16⟩
  | .hbm, ⟨44, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1024x256, .bf16⟩
  | .local _ .vmem, ⟨9, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let v18 : BitVec 32 := Scalar.muli c2_i32_5 arg1
  let c0_i32_6 : BitVec 32 := 0#32
  ![v17.toNat, v18.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let v18 : BitVec 32 := Scalar.muli c2_i32_5 arg1
  let c1_i32_6 : BitVec 32 := 1#32
  let v19 : BitVec 32 := Scalar.addi v18 c1_i32_6
  let c0_i32_7 : BitVec 32 := 0#32
  ![v17.toNat, v19.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== PosRefIdeal.lean ====
abbrev S8192x2048 : Shape := ⟨2, ![8192, 2048]⟩
abbrev S4096x2048 : Shape := ⟨2, ![4096, 2048]⟩
abbrev S2x2048x4x2x256 : Shape := ⟨5, ![2, 2048, 4, 2, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x2048x4x1x256 : Shape := ⟨5, ![2, 2048, 4, 1, 256]⟩
abbrev S2x2048x4x256 : Shape := ⟨4, ![2, 2048, 4, 256]⟩
abbrev S2x4x256x2048 : Shape := ⟨4, ![2, 4, 256, 2048]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S4096x2048, .f32⟩
  | .hbm, ⟨3, _⟩ => ⟨S2x2048x4x2x256, .f32⟩
  | .hbm, ⟨4, _⟩ => ⟨S2048, .i32⟩
  | .hbm, ⟨5, _⟩ => ⟨S2048x1, .i32⟩
  | .hbm, ⟨6, _⟩ => ⟨S1x2048, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S_, .i32⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S2048x2048, .i1⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2x2048x4x1x256, .f32⟩
  | .hbm, ⟨45, _⟩ => ⟨S2x2048x4x256, .f32⟩
  | .hbm, ⟨46, _⟩ => ⟨S2x4x256x2048, .f32⟩
  | .hbm, ⟨47, _⟩ => ⟨S2x2048x4x256, .f32⟩
  | .hbm, ⟨48, _⟩ => ⟨S2048x2048, .f32⟩
  | .hbm, ⟨49, _⟩ => ⟨S2x2048x4x1x256, .f32⟩
  | .hbm, ⟨50, _⟩ => ⟨S2x2048x4x256, .f32⟩
  | .hbm, ⟨51, _⟩ => ⟨S2x4x256x2048, .f32⟩
  | .hbm, ⟨52, _⟩ => ⟨S2x2048x4x256, .f32⟩
  | .hbm, ⟨53, _⟩ => ⟨S2x2048x4x256, .f32⟩
  | .hbm, ⟨54, _⟩ => ⟨S4096x1024, .f32⟩
  | .hbm, ⟨55, _⟩ => ⟨S4096x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Proof.AttnReference.lean ====
/- The reference attention read at one element: scores, softmax weights, the weighted sum of the values. -/
module
public import proofs.«01_k».proof.Proof.Gen.AttnRefIdeal.Read
public import Idealize.ShloMosaic.Lib.Pointwise
@[expose] public section
set_option maxRecDepth 16384
noncomputable section
open Idealize.ShloMosaic Idealize.ShloMosaic.TcCoe Idealize.SL.Sem

namespace Cert.Attention

/-- The largest of a row of scores (the fold starts from the literal both programs start from). -/
def rowTop {n : ℕ} (s : Fin n → EReal) : EReal := Finset.univ.fold max (Ideal.ofBits .f32 0xFF800000#32) s

/-- The softmax weight of entry `k` of a row of scores. -/
def weight {n : ℕ} (s : Fin n → EReal) (k : Fin n) : EReal :=
  Ideal.div (Ideal.exp (s k - rowTop s)) (∑ j, Ideal.exp (s j - rowTop s))

/-- The fold's own starting value is below every fold: taking the maximum with it once more changes nothing. -/
theorem max_rowTop {n : ℕ} (s : Fin n → EReal) : max (Ideal.ofBits .f32 0xFF800000#32) (rowTop s) = rowTop s :=
  max_eq_right ((Finset.le_fold_max _).2 (.inl le_rfl))

/-- The number both programs multiply a score by. -/
def scale : EReal := Ideal.ofBits .f32 0x3D93CD3A#32

end Cert.Attention

namespace Cert.AttnRefIdeal.At
open Cert.AttnRefIdeal Cert.AttnRefIdeal.Gen Cert.AttnRefIdeal.Read Cert.Attention

variable (q : FVec Ideal S2x2048x4096 .bf16) (kv : FVec Ideal S2x2304x4096 .bf16) (kp : FVec Ideal S2x2304x64 .bf16)

/-- The score of query `l` against key `k` in head `h` of batch row `b`: the position-free part plus the rotary part, scaled. -/
def score (b : Fin 2) (h : Fin 16) (l : Fin 2048) (k : Fin 2304) : EReal :=
  (∑ j : Fin 128, q (ix3 b l (⟨h.val * 256 + j.val, by omega⟩ : Fin 4096)) * kv (ix3 b k (⟨h.val * 256 + j.val, by omega⟩ : Fin 4096))
    + ∑ j : Fin 64, kp (ix3 b k j) * q (ix3 b l (⟨h.val * 256 + (128 + j.val), by omega⟩ : Fin 4096))) * scale

/-- The queries split into heads of 256 lanes. -/
theorem query_at (b : Fin 2) (l : Fin 2048) (h : Fin 16) (j : Fin 256) :
    val_main_v1 (F := Ideal) q (ix4 b l h j) = q (ix3 b l (⟨h.val * 256 + j.val, by omega⟩ : Fin 4096)) := by
  pointwise [val_main_v1, val_main_v0]

/-- The keys and values split into heads of 256 lanes. -/
theorem keyValue_at (b : Fin 2) (l : Fin 2304) (h : Fin 16) (j : Fin 256) :
    val_main_v5 (F := Ideal) kv (ix4 b l h j) = kv (ix3 b l (⟨h.val * 256 + j.val, by omega⟩ : Fin 4096)) := by
  pointwise [val_main_v5, val_main_v4]

/-- The scaled scores. -/
theorem score_at (b : Fin 2) (h : Fin 16) (l : Fin 2048) (k : Fin 2304) :
    val_main_v14 (F := Ideal) q kv kp (ix4 b h l k) = score q kv kp b h l k := by
  pointwise [val_main_v14, val_main_v13, val_main_v12, val_main_v11, val_main_v10, val_main_v9, val_main_v8, val_main_v7, val_main_v6,
    val_main_v3, val_main_v2, query_at, keyValue_at, val_main_cst, score, scale]

/-- A maximum over the last axis of a rank-4 array, read at an index. -/
theorem max_at (x : FVec Ideal S2x16x2048x2304 .f32) (b : Fin 2) (h : Fin 16) (l : Fin 2048) :
    Host.reduce FloatOps.maximumf x (constant (F := Ideal) S_ .f32 0xFF800000#32) reducesTo_S2x16x2048x2304_S2x16x2048_d3 h_S_ (ix3 b h l)
      = rowTop fun k : Fin 2304 => x (ix4 b h l k) := by
  pointwise [rowTop]

/-- The row maxima. -/
theorem top_at (b : Fin 2) (h : Fin 16) (l : Fin 2048) :
    val_main_v15 (F := Ideal) q kv kp (ix3 b h l) = rowTop fun k : Fin 2304 => val_main_v14 (F := Ideal) q kv kp (ix4 b h l k) :=
  max_at (val_main_v14 (F := Ideal) q kv kp) b h l

/-- The row maxima once more compared with minus infinity. -/
theorem shift_at (b : Fin 2) (h : Fin 16) (l : Fin 2048) :
    val_main_v17 (F := Ideal) q kv kp (ix3 b h l) = rowTop (score q kv kp b h l) := by
  have e : (fun k : Fin 2304 => val_main_v14 (F := Ideal) q kv kp (ix4 b h l k)) = score q kv kp b h l :=
    funext fun k => score_at q kv kp b h l k
  rw [val_main_v17_apply, Ideal.maximumf_def, val_main_v16_apply, val_main_cst_1, top_at, e]
  exact max_rowTop _

/-- The row maxima repeated along the keys. -/
theorem spread_at (b : Fin 2) (h : Fin 16) (l : Fin 2048) (k : Fin 2304) :
    val_main_v19 (F := Ideal) q kv kp (ix4 b h l k) = val_main_v17 (F := Ideal) q kv kp (ix3 b h l) := by
  unfold val_main_v19 val_main_v18
  generalize val_main_v17 (F := Ideal) q kv kp = X
  pointwise

/-- Exponentials over their sum, with scores and row maxima left as they are. -/
theorem quotient_at (b : Fin 2) (h : Fin 16) (l : Fin 2048) (k : Fin 2304) : val_main_v25 (F := Ideal) q kv kp (ix4 b h l k) =
    Ideal.div (Ideal.exp (val_main_v14 (F := Ideal) q kv kp (ix4 b h l k) - val_main_v19 (F := Ideal) q kv kp (ix4 b h l k)))
     (∑ j : Fin 2304, Ideal.exp (val_main_v14 (F := Ideal) q kv kp (ix4 b h l j) - val_main_v19 (F := Ideal) q kv kp (ix4 b h l j))) := by
  unfold val_main_v25 val_main_v24 val_main_v23 val_main_v22 val_main_v21 val_main_v20 val_main_cst_2
  generalize val_main_v14 (F := Ideal) q kv kp = X
  generalize val_main_v19 (F := Ideal) q kv kp = Y
  pointwise

/-- The softmax weights. -/
theorem weight_at (b : Fin 2) (h : Fin 16) (l : Fin 2048) (k : Fin 2304) :
    val_main_v25 (F := Ideal) q kv kp (ix4 b h l k) = weight (score q kv kp b h l) k := by
  rw [quotient_at]
  simp only [spread_at, shift_at, score_at, weight]

/-- The last product, its heads laid side by side, with the weights left as they are. -/
theorem mix_at (b : Fin 2) (l : Fin 2048) (h : Fin 16) (d : Fin 128) :
    val_main_v29 (F := Ideal) q kv kp (ix3 b l (⟨h.val * 128 + d.val, by omega⟩ : Fin 2048))
      = ∑ k : Fin 2304, kv (ix3 b k (⟨h.val * 256 + (128 + d.val), by omega⟩ : Fin 4096)) * val_main_v25 (F := Ideal) q kv kp (ix4 b h l k) := by
  pointwise [val_main_v29, val_main_v28, val_main_v27, val_main_v26, val_main_v7, keyValue_at]

/-- THE REFERENCE at feature `d` of head `h` of query `l`: the values of that head averaged with the softmax weights. -/
theorem result_at (b : Fin 2) (l : Fin 2048) (h : Fin 16) (d : Fin 128) :
    val_main_v29 (F := Ideal) q kv kp (ix3 b l (⟨h.val * 128 + d.val, by omega⟩ : Fin 2048))
      = ∑ k : Fin 2304, kv (ix3 b k (⟨h.val * 256 + (128 + d.val), by omega⟩ : Fin 4096)) * weight (score q kv kp b h l) k := by
  rw [mix_at]
  simp only [weight_at]

end Cert.AttnRefIdeal.At
end
-- ==== Proof.AttnBlock.lean ====
/- One grid point of the attention kernel: what its body stores, as a function of the blocks it loads. -/
module
public import proofs.«01_k».proof.Proof.Gen.AttnIdeal.Value
public import proofs.«01_k».proof.Proof.AttnReference
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.AttnIdeal.At
open Cert.AttnIdeal Cert.AttnIdeal.Gen Cert.Attention

/-- A block's score: row `r` of the query block against key `k` of the two key blocks laid side by side. -/
def blockScore (kn kp : FVec Ideal S1x2304x128 .bf16) (q : FVec Ideal S1x512x256 .bf16) (r : Fin 512) (k : Fin 2304) : EReal :=
  (∑ j : Fin 128, q (ix3 0 r (⟨j.val, by omega⟩ : Fin 256)) * kn (ix3 0 k j)
    + ∑ j : Fin 128, q (ix3 0 r (⟨128 + j.val, by omega⟩ : Fin 256)) * kp (ix3 0 k j)) * scale

/-- What the body stores at row `r`, feature `d`: the value block averaged with the softmax weights of the block's scores. -/
theorem pay_at (kn kp : FVec Ideal S1x2304x128 .bf16) (q : FVec Ideal S1x512x256 .bf16) (v : FVec Ideal S1x2304x128 .bf16)
    (r : Fin 512) (d : Fin 128) :
    k0_pay1 (F := Ideal) kn kp q v (ix3 0 r d) = ∑ k : Fin 2304, weight (blockScore kn kp q r) k * v (ix3 0 k d) := by
  pointwise [k0_pay1, weight, rowTop, blockScore, scale]

/-- Where each window's block lies, in terms of the grid point's number. -/
theorem idx : ∀ t : Fin cfg0.N,
    win0_0.index t = ![t.val / 64, t.val % 4, t.val / 4 % 16] ∧ win0_1.index t = ![t.val / 64, 0, 2 * (t.val / 4 % 16)]
      ∧ win0_2.index t = ![t.val / 64, 0, 0] ∧ win0_3.index t = ![t.val / 64, 0, 2 * (t.val / 4 % 16) + 1]
      ∧ win0_4.index t = ![t.val / 64, t.val % 4, t.val / 4 % 16] :=
  (by decide +kernel : ∀ t : Fin grid0.N, _)

variable (m : (ℓ : Loc nD τ sig) → Buf (Elt Ideal) ℓ)

/-- The batch row of a grid point. -/
def batch (t : Fin cfg0.N) : Fin 2 := ⟨t.val / 64, by have := t.isLt; have : cfg0.N = 128 := rfl; omega⟩
/-- The head of a grid point. -/
def head (t : Fin cfg0.N) : Fin 16 := ⟨t.val / 4 % 16, by omega⟩
/-- The query a row of a grid point's block stands for. -/
def query (t : Fin cfg0.N) (r : Fin 512) : Fin 2048 := ⟨t.val % 4 * 512 + r.val, by omega⟩

/-- The query block. -/
theorem read_query (c : Dev nD) (t : Fin cfg0.N) (r : Fin 512) (j : Fin 256) :
    (show FVec Ideal S1x512x256 .bf16 from iblk m c 0 t) (ix3 0 r j)
      = (show FVec Ideal S2x2048x4096 .bf16 from m ((c : Thread nD τ).loc main_arg0)) (ix3 (batch t) (query t r) (⟨(head t).val * 256 + j.val, by have := (head t).isLt; omega⟩ : Fin 4096)) := by
  blk_ext [iblk, V, idx t, batch, query, head]

/-- The block of position-free keys. -/
theorem read_key (c : Dev nD) (t : Fin cfg0.N) (k : Fin 2304) (j : Fin 128) :
    (show FVec Ideal S1x2304x128 .bf16 from iblk m c 1 t) (ix3 0 k j)
      = (show FVec Ideal S2x2304x4096 .bf16 from m ((c : Thread nD τ).loc main_arg1)) (ix3 (batch t) k (⟨(head t).val * 256 + j.val, by have := (head t).isLt; omega⟩ : Fin 4096)) := by
  blk_ext [iblk, V, idx t, batch, head]

/-- The block of values. -/
theorem read_value (c : Dev nD) (t : Fin cfg0.N) (k : Fin 2304) (j : Fin 128) :
    (show FVec Ideal S1x2304x128 .bf16 from iblk m c 3 t) (ix3 0 k j)
      = (show FVec Ideal S2x2304x4096 .bf16 from m ((c : Thread nD τ).loc main_arg1)) (ix3 (batch t) k (⟨(head t).val * 256 + (128 + j.val), by have := (head t).isLt; omega⟩ : Fin 4096)) := by
  blk_ext [iblk, V, idx t, batch, head]

/-- When the grid starts, the padded rotary keys are the argument with zeros appended to every row. -/
theorem entry_rotary (c : Dev nD) : (show FVec Ideal S2x2304x128 .bf16 from V m c main_v0)
    = pad S2x2304x128 ![0, 0, 0] ![0, 0, 64] ![0, 0, 0] (show FVec Ideal S2x2304x64 .bf16 from m ((c : Thread nD τ).loc main_arg2))
        (sitofp .bf16 (constantI S_ 32 0#32)) pads_S2x2304x64_S2x2304x128_000_000_0640 h_S_ := by
  show V m c main_v0 = _
  simp only [V, hostOps0, hostOps0_1, List.flatten_cons, List.flatten_nil, List.append_nil, List.cons_append, List.nil_append]
  after_results_simp
  rfl

/-- The block of rotary keys: the argument's 64 lanes and then zeros. -/
theorem read_rotary (c : Dev nD) (t : Fin cfg0.N) (k : Fin 2304) (j : Fin 128) :
    (show FVec Ideal S1x2304x128 .bf16 from iblk m c 2 t) (ix3 0 k j)
      = if h : j.val < 64 then (show FVec Ideal S2x2304x64 .bf16 from m ((c : Thread nD τ).loc main_arg2)) (ix3 (batch t) k (⟨j.val, h⟩ : Fin 64)) else 0 := by
  have e : (show FVec Ideal S1x2304x128 .bf16 from iblk m c 2 t) (ix3 0 k j)
      = (show FVec Ideal S2x2304x128 .bf16 from V m c main_v0) (ix3 (batch t) k j) := by
    blk_ext [iblk, idx t, batch]
  rw [e, entry_rotary]
  pointwise
  rw [show (FloatOps.sitofp .bf16 (0#32) : Ideal .bf16) = 0 from by
    rw [show (FloatOps.sitofp .bf16 (0#32) : Ideal .bf16) = (((0#32 : BitVec 32).toInt : ℝ) : EReal) from rfl]; simp]

end Cert.AttnIdeal.At
end
-- ==== Proof.AttnValue.lean ====
/- The whole result array of the attention kernel is the reference's result. -/
module
public import proofs.«01_k».proof.Proof.AttnBlock
@[expose] public section
set_option maxRecDepth 16384
noncomputable section
open Idealize.ShloMosaic Idealize.ShloMosaic.TcCoe Idealize.SL.Sem
open Idealize.ShloMosaic.Pipeline (Dat)
namespace Cert.AttnIdeal.At
open Cert.AttnIdeal Cert.AttnIdeal.Gen Cert.Attention

/-- A sum over 128 lanes whose second factor vanishes from lane 64 on is the sum over the first 64 lanes. -/
theorem sum_padded (x : Fin 128 → EReal) (y : Fin 64 → EReal) :
    (∑ j : Fin 128, x j * (if h : j.val < 64 then y ⟨j.val, h⟩ else 0)) = ∑ j : Fin 64, y j * x ⟨j.val, by omega⟩ := by
  rw [Fin.sum_univ_add (a := 64) (b := 64)]
  have e : ∀ j : Fin 64, x (Fin.natAdd 64 j) * (if h : (Fin.natAdd 64 j).val < 64 then y ⟨(Fin.natAdd 64 j).val, h⟩ else 0) = 0 := fun j => by
    rw [dif_neg (by simp), mul_zero]
  simp only [e, Finset.sum_const_zero, add_zero]
  refine Finset.sum_congr rfl fun j _ => ?_
  rw [dif_pos (by simp), mul_comm]
  rfl

variable (m : (ℓ : Loc nD τ sig) → Buf (Elt Ideal) ℓ)

/-- The three argument arrays. -/
abbrev argQ (c : Dev nD) : FVec Ideal S2x2048x4096 .bf16 := m ((c : Thread nD τ).loc main_arg0)
abbrev argKV (c : Dev nD) : FVec Ideal S2x2304x4096 .bf16 := m ((c : Thread nD τ).loc main_arg1)
abbrev argKP (c : Dev nD) : FVec Ideal S2x2304x64 .bf16 := m ((c : Thread nD τ).loc main_arg2)

/-- The scores a grid point computes are the reference's scores of its batch row, head and queries. -/
theorem score_eq (c : Dev nD) (t : Fin cfg0.N) (r : Fin 512) :
    blockScore (iblk m c 1 t) (iblk m c 2 t) (iblk m c 0 t) r
      = Cert.AttnRefIdeal.At.score (argQ m c) (argKV m c) (argKP m c) (batch t) (head t) (query t r) := by
  funext k
  unfold blockScore Cert.AttnRefIdeal.At.score
  congr 1
  congr 1
  · refine Finset.sum_congr rfl fun j _ => ?_
    exact Ideal.mul_congr (read_query m c t r _) (read_key m c t k j)
  · refine Eq.trans ?_ (sum_padded
      (fun j => argQ m c (ix3 (batch t) (query t r) (⟨(head t).val * 256 + (128 + j.val), by have := (head t).isLt; omega⟩ : Fin 4096)))
      (fun j => argKP m c (ix3 (batch t) k j)))
    refine Finset.sum_congr rfl fun j _ => ?_
    exact Ideal.mul_congr (read_query m c t r _) (read_rotary m c t k j)

/-- What a grid point stores at an element of its block is the reference's result at the element's place in the array. -/
theorem point (c : Dev nD) (t : Fin cfg0.N) (r : Fin 512) (d : Fin 128) :
    k0_pay1 (F := Ideal) (iblk m c 1 t) (iblk m c 2 t) (iblk m c 0 t) (iblk m c 3 t) (ix3 0 r d)
      = Cert.AttnRefIdeal.Read.val_main_v29 (F := Ideal) (argQ m c) (argKV m c) (argKP m c)
          (ix3 (batch t) (query t r) (⟨(head t).val * 128 + d.val, by have := (head t).isLt; omega⟩ : Fin 2048)) := by
  rw [pay_at, Cert.AttnRefIdeal.At.result_at, score_eq]
  refine Finset.sum_congr rfl fun k _ => ?_
  refine Eq.trans ?_ (mul_comm _ _)
  exact Ideal.mul_congr rfl (read_value m c t k d)

/-- THE RESULT ARRAY after the run is the reference's result of the arguments. -/
theorem final (c : Dev nD) : (dats m 0 c).arrAt 4 (cfgs 0).N
    = Cert.AttnRefIdeal.Read.val_main_v29 (F := Ideal) (argQ m c) (argKV m c) (argKP m c) := by
  refine (dats m 0 c).arrAt_eq_of_covers 4 _ (by decide +kernel) fun t _ y => ?_
  blk_simp
  rw [after0_4]; frame_out
  idx_vars y
  obtain rfl : y0 = 0 := Subsingleton.elim _ _
  refine (point m c t y1 y2).trans ?_
  blk_ext [idx t, batch, query, head]

end Cert.AttnIdeal.At
end
-- ==== Proof.AttnClaims.lean ====
/- The attention's claims, each from the program's run. -/
module
public import proofs.«01_k».proof.Defs
public import proofs.«01_k».proof.Proof.Gen.Attn
public import proofs.«01_k».proof.Proof.Gen.Attn.Frame
public import proofs.«01_k».proof.Proof.AttnValue
public import proofs.«01_k».proof.Proof.Gen.AttnRefIdeal.Run
public import Idealize.ShloMosaic.Adequacy
@[expose] public section
noncomputable section
open Idealize.ShloMosaic Idealize.ShloMosaic.TcCoe Idealize.SL.Sem
namespace Cert.AttnClaims

/-- The attention kernel terminates, leaves its arguments and ends with every counter at zero. -/
theorem frame_kernel : Cert.quiescent_Attn := fun m ρ _ => Cert.Attn.Gen.frame m ρ

/-- So does the kernel over the extended reals. -/
theorem frame_ideal : Cert.quiescent_AttnIdeal := fun m ρ _ => Cert.AttnIdeal.Gen.frame m ρ

/-- So does the reference over the extended reals: it runs host operations only and declares no semaphore. -/
theorem frame_reference : Cert.quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The kernel's idealization rewrites nothing. -/
theorem preserves : Cert.preserves_Attn_AttnIdeal := trivial

/-- THE VALUE: from the same arguments kernel and reference end with equal results. -/
theorem algebraic : Cert.algebraic_AttnIdeal_AttnRefIdeal := fun m ρ m' ρ' _ hag =>
  ⟨fun c => Cert.AttnRefIdeal.Read.val_main_v29 (F := Ideal) (Cert.AttnIdeal.At.argQ m c) (Cert.AttnIdeal.At.argKV m c) (Cert.AttnIdeal.At.argKP m c),
    (θ_run Cert.AttnIdeal.defs _ _).mono (fun _ h c => ⟨(h c).1.trans (Cert.AttnIdeal.At.final m c), (h c).2⟩)
      (Cert.AttnIdeal.Value.run_blocks (F := Ideal) m ρ),
    (θ_run Cert.AttnRefIdeal.defs _ _).mono (fun _ h c => ⟨(h c).1.trans (by
        rw [Cert.AttnRefIdeal.Read.val_main_v29_eq, (hag c).1, (hag c).2.1, (hag c).2.2]), (h c).2⟩)
      (Cert.AttnRefIdeal.Value.run (F := Ideal) m' ρ')⟩

end Cert.AttnClaims
end
-- ==== Proof.UpIdealRun.lean ====
module

public import proofs.«01_k».proof.Proof.Gen.UpIdeal.Launch
public import proofs.«01_k».proof.Proof.Gen.UpIdeal.Skeleton
public import Idealize.ShloMosaic.Lib.Pipeline.FrameBody
public import Idealize.ShloMosaic.Lib.Ring
public import Idealize.ShloMosaic.Lib.Tactic
public import Idealize.ShloMosaic.Lib.Exec
public import Idealize.ShloMosaic.Lib.WordCmp
public import Idealize.ShloMosaic.Lib.Claim

/-! The runs of the expert up-projection's body, for every contents of its two tables. The second table says whether
a tile of rows is active; the body multiplies on an active tile and stores zeros on any other. -/

@[expose] public section

set_option maxRecDepth 16384

noncomputable section

namespace Cert.UpIdeal.Run

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables -/

/-- The tables as the body is handed them: whole buffers in scalar memory. -/
abbrev tableE : Memref sig .tc .smem S40 .i32 := Memref.whole main_arg3
abbrev tableA : Memref sig .tc .smem S40 .i32 := Memref.whole main_arg4
theorem whole_tableE : tableE.IsWhole := Memref.isWhole_whole _
theorem whole_tableA : tableA.IsWhole := Memref.isWhole_whole _

/-- A table held for reading: half the full share, at the contents `f`. -/
abbrev TableBuf (c : Dev nD) {S : Shape} {e : EltTy} (M : Memref sig .tc .smem S e) : Type := Buf (Elt F) (M.view.loc (c : Thread nD τ))
abbrev held (c : Dev nD) {S : Shape} {e : EltTy} (M : Memref sig .tc .smem S e) (f : TableBuf (F := F) c M) : sProp 𝕄 :=
  M.view.loc (c : Thread nD τ) ↦{fullShare.right} f

/-- The word of the second table the body reads at the grid point `i`. -/
abbrev word (c : Dev nD) (i : grid0.Coords) (T : TableBuf (F := F) c tableA) : BitVec 32 :=
  View.readAt (Elt F) tableA.view (Rect.unit (s := S40) (k0_off1 i) S1.size (k0_off1_inb i)).toLoadRect T (Shape.Idx.first (numel1_S1.symm ▸ Nat.one_pos))

/-- The body's two conditions are opposite: the first holds of a non-zero word, the second of a zero one. -/
theorem cond1_iff (w : BitVec 32) : k0_cond1 w = 1#1 ↔ w ≠ 0#32 := by
  simp only [k0_cond1]
  by_cases h : w = 0#32
  · subst h; decide
  · have a : (w == 0#32) = false := by simpa using h
    simp [Scalar.cmpi, Scalar.extui, IntOp.cmpi, bne, a, h]
theorem cond2_iff (w : BitVec 32) : k0_cond2 w = 1#1 ↔ w = 0#32 := by
  simp only [k0_cond2]
  by_cases h : w = 0#32
  · subst h; decide
  · have a : (w == 0#32) = false := by simpa using h
    simp [Scalar.cmpi, Scalar.extui, IntOp.cmpi, bne, a, h]

/-- One staging buffer of the output, through which its contents are stated. -/
abbrev outView : View sig .tc .vmem S512x512 .bf16 := (Memref.whole cc0_stg3_0 : Memref sig .tc .vmem S512x512 .bf16).view

/-! ## The body on an active tile -/

set_option maxHeartbeats 8000000 in
/-- On an active tile the body runs from any whole staging buffers, leaves its inputs and the tables as they were and
    writes the pieces found here into the output's buffer. -/
noncomputable def runOn (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec F S512x4096 .bf16) (x1 : Vec F S1x4096x512 .f32) (x2 : Vec F S1x4096x512 .f32) (xt0 : TableBuf (F := F) c tableE) (xt1 : TableBuf (F := F) c tableA)
    (h1 : k0_cond1 (word c i xt1) = 1#1) (h2 : ¬ k0_cond2 (word c i xt1) = 1#1) :
    { L3 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ held c tableE xt0 ∗ held c tableA xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ held c tableE xt0 ∗ held c tableA xt1) -∗ K ⟨⟩))
          ⊢ wp frame (wpE (defs₀ (F := F)) Variants.none c none) E (cc0_moe_up i tableE whole_tableE tableA whole_tableA arg4 harg4 arg5 harg5 arg6 harg6 arg7 harg7) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec! (disch := first | (guard_target = k0_cond1 _ = _; exact h1) | (guard_target = ¬(k0_cond2 _ = _); exact h2))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

/-- The pieces cover the output's block. -/
theorem cover_on (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec F S512x4096 .bf16) (x1 : Vec F S1x4096x512 .f32) (x2 : Vec F S1x4096x512 .f32) (xt0 : TableBuf (F := F) c tableE) (xt1 : TableBuf (F := F) c tableA)
    (h1 : k0_cond1 (word c i xt1) = 1#1) (h2 : ¬ k0_cond2 (word c i xt1) = 1#1) (y : S512x512.Idx) :
    ∃ pc ∈ (runOn c i arg4 harg4 arg5 harg5 arg6 harg6 arg7 harg7 x0 x1 x2 xt0 xt1 h1 h2).1, y ∈ pc.1.set :=
  View.cover_of_tiledL (runOn c i arg4 harg4 arg5 harg5 arg6 harg6 arg7 harg7 x0 x1 x2 xt0 xt1 h1 h2).1 S512x512.size (by sl_kernel_rfl) y

/-- What the body leaves in the output's buffer on an active tile. -/
def outOn (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec F S512x4096 .bf16) (x1 : Vec F S1x4096x512 .f32) (x2 : Vec F S1x4096x512 .f32) (xt0 : TableBuf (F := F) c tableE) (xt1 : TableBuf (F := F) c tableA)
    (h1 : k0_cond1 (word c i xt1) = 1#1) (h2 : ¬ k0_cond2 (word c i xt1) = 1#1) : Vec F S512x512 .bf16 :=
  outView.read (Elt F) (outView.writes (Elt F) outView.junk (runOn c i arg4 harg4 arg5 harg5 arg6 harg6 arg7 harg7 x0 x1 x2 xt0 xt1 h1 h2).1)

/-! ## The body on any other tile -/

set_option maxHeartbeats 8000000 in
/-- On a tile that is not active the body writes the pieces found here, and leaves the rest as it was. -/
noncomputable def runOff (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec F S512x4096 .bf16) (x1 : Vec F S1x4096x512 .f32) (x2 : Vec F S1x4096x512 .f32) (xt0 : TableBuf (F := F) c tableE) (xt1 : TableBuf (F := F) c tableA)
    (h1 : ¬ k0_cond1 (word c i xt1) = 1#1) (h2 : k0_cond2 (word c i xt1) = 1#1) :
    { L3 : List (View.Piece (Elt F) S512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ held c tableE xt0 ∗ held c tableA xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ held c tableE xt0 ∗ held c tableA xt1) -∗ K ⟨⟩))
          ⊢ wp frame (wpE (defs₀ (F := F)) Variants.none c none) E (cc0_moe_up i tableE whole_tableE tableA whole_tableA arg4 harg4 arg5 harg5 arg6 harg6 arg7 harg7) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec! (disch := first | (guard_target = ¬(k0_cond1 _ = _); exact h1) | (guard_target = k0_cond2 _ = _; exact h2))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HT0]; · iexact HT0
    iexact HT1

/-- The pieces cover the output's block. -/
theorem cover_off (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec F S512x4096 .bf16) (x1 : Vec F S1x4096x512 .f32) (x2 : Vec F S1x4096x512 .f32) (xt0 : TableBuf (F := F) c tableE) (xt1 : TableBuf (F := F) c tableA)
    (h1 : ¬ k0_cond1 (word c i xt1) = 1#1) (h2 : k0_cond2 (word c i xt1) = 1#1) (y : S512x512.Idx) :
    ∃ pc ∈ (runOff c i arg4 harg4 arg5 harg5 arg6 harg6 arg7 harg7 x0 x1 x2 xt0 xt1 h1 h2).1, y ∈ pc.1.set :=
  View.cover_of_tiledL (runOff c i arg4 harg4 arg5 harg5 arg6 harg6 arg7 harg7 x0 x1 x2 xt0 xt1 h1 h2).1 S512x512.size (by sl_kernel_rfl) y

/-- What the body leaves in the output's buffer on a tile that is not active. -/
def outOff (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec F S512x4096 .bf16) (x1 : Vec F S1x4096x512 .f32) (x2 : Vec F S1x4096x512 .f32) (xt0 : TableBuf (F := F) c tableE) (xt1 : TableBuf (F := F) c tableA)
    (h1 : ¬ k0_cond1 (word c i xt1) = 1#1) (h2 : k0_cond2 (word c i xt1) = 1#1) : Vec F S512x512 .bf16 :=
  outView.read (Elt F) (outView.writes (Elt F) outView.junk (runOff c i arg4 harg4 arg5 harg5 arg6 harg6 arg7 harg7 x0 x1 x2 xt0 xt1 h1 h2).1)

end Cert.UpIdeal.Run

end
-- ==== Proof.UpIdealFrame.lean ====
module

public import proofs.«01_k».proof.Proof.UpIdealRun

/-! The pipeline of the expert up-projection for every contents of its tables whose blocks lie inside the arrays:
what each window's buffer holds point by point, the run of the whole call, and the frame. -/

@[expose] public section

set_option maxRecDepth 16384

noncomputable section

namespace Cert.UpIdeal.Run

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the tables -/

/-- A core's buffers when the pipeline is entered: as launched. -/
abbrev V (c : Dev nD) (b : Ref sig .tc) : Buf (Elt F) ((c : Thread nD τ).loc b) := m ((c : Thread nD τ).loc b)

set_option maxHeartbeats 800000 in
/-- The program is the pipeline alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents in the launch memory. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every block the tables select lies inside its array. -/
abbrev Ok : Prop := ok0 (F := F) (tbl m)
/-- The pipeline at those tables. -/
abbrev adm (hO : Ok m) : (pcfg0 (F := F)).Adm := ⟨tbl m, hO⟩
abbrev cfgM (hO : Ok m) : Pipeline.Cfg sig Λ₀ := cfg0 (adm m hO)

theorem tables_held (c : Dev nD) : (Pipeline.ΦT pre0 (tbl m) c : sProp 𝕄) = iprop(held c tableE (tbl m 0) ∗ held c tableA (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The output is stored at every point, on one path or the other. -/
theorem not_idle (pf : pre0.Contents (Elt F)) (i : grid0.Coords) : idle0 pf 3 i = false := by
  show (!(k0_cond1 (pf.atD 1 (k0_off1 i)) == 1#1) && !(k0_cond2 (pf.atD 1 (k0_off1 i)) == 1#1)) = false
  generalize (pf.atD 1 (k0_off1 i) : BitVec 32) = w
  by_cases h : w = 0#32
  · rw [(cond2_iff w).mpr h]; simp
  · rw [(cond1_iff w).mpr h]; simp

/-! ## The windows' buffers -/

/-- Each window's staging buffer at a point, and the body on them. -/
abbrev ms0 (hO : Ok m) (t : Fin (cfgM m hO).N) : Memref sig .tc .vmem S512x4096 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x4096x512 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x4096x512 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S512x512 .bf16 := spec0_3.stage ((cfgM m hO).slots t 3)
abbrev hs3 (hO : Ok m) (t : Fin (cfgM m hO).N) : (ms3 m hO t).IsWhole := hstage0_3 (((cfgM m hO).slots t 3).cast nbuf0_3)
abbrev bodyAt (hO : Ok m) (t : Fin (cfgM m hO).N) : Prog (TpuEff nD τ sig (Elt F) Λ₀ .tc) PUnit :=
  cc0_moe_up (grid0.coords t) (Memref.whole main_arg3) (Memref.isWhole_whole _) (Memref.whole main_arg4) (Memref.isWhole_whole _) (ms0 m hO t) (hs0 m hO t) (ms1 m hO t) (hs1 m hO t) (ms2 m hO t) (hs2 m hO t) (ms3 m hO t) (hs3 m hO t)

/-- Window `w`'s block at point `t`, read off its array at launch. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output's buffer holds after the body at point `t`: the product's path on an active tile, zeros elsewhere. -/
def outsAt (hO : Ok m) (c : Dev nD) (t : Fin (cfgM m hO).N) : Vec F S512x512 .bf16 :=
  if h : word c (grid0.coords t) (tbl m 1) = 0#32 then
    outOff c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1)
      (fun h1 => (cond1_iff _).mp h1 h) ((cond2_iff _).mpr h)
  else
    outOn c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1)
      ((cond1_iff _).mpr h) (fun h2 => h ((cond2_iff _).mp h2))

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = (outsAt m hO c t) := by dsimp only [dats]; try rfl

/-- An input's buffer holds its block whenever the body runs, fetched at that point or before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-! ## The body at a point -/

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

/-- The body at any point, on either path. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, tables_held]
  unfold outsAt
  split
  · next h =>
    unfold outOff
    iintro ⟨⟨HΦ, ⟨HT0, HT1⟩⟩, Ho, ⟨%d0, H0⟩, ⟨%d1, H1⟩, ⟨%d2, H2⟩, ⟨%d3, H3⟩⟩
    iapply ((runOff c (grid0.coords t) _ _ _ _ _ _ _ _ (iblk m hO c 0 t) (iblk m hO c 1 t) (iblk m hO c 2 t) (tbl m 0) (tbl m 1) (fun h1 => (cond1_iff _).mp h1 h) ((cond2_iff _).mpr h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_off c _ _ _ _ _ _ _ _ _ _ _ _ _ _ _ _)
  · next h =>
    unfold outOn
    iintro ⟨⟨HΦ, ⟨HT0, HT1⟩⟩, Ho, ⟨%d0, H0⟩, ⟨%d1, H1⟩, ⟨%d2, H2⟩, ⟨%d3, H3⟩⟩
    iapply ((runOn c (grid0.coords t) _ _ _ _ _ _ _ _ (iblk m hO c 0 t) (iblk m hO c 1 t) (iblk m hO c 2 t) (tbl m 0) (tbl m 1) ((cond1_iff _).mpr h) (fun h2 => h ((cond2_iff _).mp h2))).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_on c _ _ _ _ _ _ _ _ _ _ _ _ _ _ _ _)

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs_row m hO]
  rewrite [show (cfgM m hO).idle (3 : Fin 4) ((cfgM m hO).grid.coords t) = false from not_idle (tbl m) _]
  exact triple_restated (sound_body m hO c t) rfl .rfl fun _ => .rfl

/-! ## The run of the call -/

set_option backward.isDefEq.respectTransparency.types false in
/-- The call terminates without fault; every array ends as the proof data says, and every semaphore counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The result array ends at what the proof data computes, and the arguments end as they began. -/
theorem run_value (hO : Ok m) : θ_run defs (onTc (τ := τ) (main (F := F))) ⟨m, fun _ => 0, ρ⟩ (fun r => ∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).1 0).trans (((dats m hO 0 c).arrAt_in 0 rfl _).trans (A_eq m hO c 0)),
      ((h c).1 1).trans (((dats m hO 0 c).arrAt_in 1 rfl _).trans (A_eq m hO c 1)),
      ((h c).1 2).trans (((dats m hO 0 c).arrAt_in 2 rfl _).trans (A_eq m hO c 2)),
      (h c).2 main_arg3 (by decide : main_arg3 ∈ Pipeline.restRefs sig spec0),
      (h c).2 main_arg4 (by decide : main_arg4 ∈ Pipeline.restRefs sig spec0)⟩) (run m ρ hO)

/-- The frame: the call terminates without fault, its arguments end unchanged and every semaphore counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run_value m ρ hO)) ((θ_run defs _ _).mono (fun _ h => h.2) (run_quiescent m ρ hO))

/-! ## The blocks lie inside the arrays when the first table names experts -/

theorem coord0_lt (i : grid0.Coords) : (i 0).val < 28 := (i 0).isLt
theorem coord1_lt (i : grid0.Coords) : (i 1).val < 40 := (i 1).isLt

/-- The position of a tile of rows in the tables. -/
def tile (i : grid0.Coords) : S40.Idx := fun | ⟨0, _⟩ => i 1

/-- The words of the two tables for the tile of a point. -/
def wordE (T : pre0.Contents (Elt F)) (i : grid0.Coords) : BitVec 32 := T 0 (tile i)
def wordA (T : pre0.Contents (Elt F)) (i : grid0.Coords) : BitVec 32 := T 1 (tile i)

/-- The offset at which the body and the index maps read the tables is the tile. -/
theorem off1_eq (i : grid0.Coords) : k0_off1 i 0 = (i 1).val := by
  have := coord1_lt i
  show (BitVec.setWidth _ (BitVec.ofNat 32 (i 1).val)).toNat = _
  simp only [BitVec.toNat_ofNat, BitVec.toNat_setWidth]
  omega

theorem unit_tile (i : grid0.Coords) (x : S1.Idx) :
    (Rect.unit (s := S40) (k0_off1 i) S1.size (k0_off1_inb i)).emb x = tile i := by
  funext a
  have ha : a = (0 : Fin 1) := Subsingleton.elim _ _
  subst ha
  apply Fin.ext
  show k0_off1 i 0 + 1 * (x 0).val = (i 1).val
  have hx : (x 0).val < 1 := (x 0).isLt
  rw [off1_eq]
  omega

/-- The body's word is the second table's at the tile. -/
theorem word_eq (c : Dev nD) (i : grid0.Coords) (T : TableBuf (F := F) c tableA) : word c i T = T (tile i) :=
  congrArg T (unit_tile i _)

theorem at_wordE (T : pre0.Contents (Elt F)) (i : grid0.Coords) :
    T.at 0 (Rect.unit (s := S40) (k0_off1 i) S1.size (k0_off1_inb i)) numel1_S1 = wordE T i := congrArg (T 0) (unit_tile i _)
theorem at_wordA (T : pre0.Contents (Elt F)) (i : grid0.Coords) :
    T.at 1 (Rect.unit (s := S40) (k0_off1 i) S1.size (k0_off1_inb i)) numel1_S1 = wordA T i := congrArg (T 1) (unit_tile i _)

/-- The index map of the rows: the tile itself where it is active, else the first tile. -/
theorem rows_map (T : pre0.Contents (Elt F)) (i : grid0.Coords) :
    cc0_transform_0 k0_off1_inb numel1_S1 T i = ![if wordA T i = 0#32 then 0 else (i 1).val, 0] := by
  have h1 := coord1_lt i
  have e := at_wordA T i
  funext a
  fin_cases a
  · show (Scalar.select (Scalar.cmpi .ne (T.at 1 (Rect.unit (s := S40) (k0_off1 i) S1.size (k0_off1_inb i)) numel1_S1) 0#32)
      (BitVec.ofNat 32 (i 1).val) 0#32).toNat = _
    rw [e]
    by_cases h : wordA T i = 0#32
    · simp [h, Scalar.select, Scalar.cmpi, IntOp.cmpi]
    · have hb : (wordA T i != 0#32) = true := by simpa [bne_iff_ne] using h
      have hc : Scalar.cmpi .ne (wordA T i) 0#32 = 1#1 := by simp [Scalar.cmpi, IntOp.cmpi, hb]
      rw [hc]
      show (BitVec.ofNat 32 (i 1).val).toNat = if wordA T i = 0#32 then 0 else (i 1).val
      rw [if_neg h]
      simp only [BitVec.toNat_ofNat]
      omega
  · rfl

/-- The index map of the first weights: the tile's expert and the tile of columns. -/
theorem weights_map (T : pre0.Contents (Elt F)) (i : grid0.Coords) :
    cc0_transform_1 k0_off1_inb numel1_S1 T i = ![(wordE T i).toNat, 0, (i 0).val] := by
  have h0 := coord0_lt i
  have e := at_wordE T i
  funext a
  fin_cases a
  · exact congrArg BitVec.toNat e
  · rfl
  · show (BitVec.ofNat 32 (i 0).val).toNat = (i 0).val
    simp only [BitVec.toNat_ofNat]; omega

/-- The index map of the second weights: the same. -/
theorem weights_map' (T : pre0.Contents (Elt F)) (i : grid0.Coords) :
    cc0_transform_2 k0_off1_inb numel1_S1 T i = ![(wordE T i).toNat, 0, (i 0).val] := weights_map T i

/-- The index map of the result: the tile of rows and the tile of columns. -/
theorem out_map (i : grid0.Coords) : cc0_transform_3 i = ![(i 1).val, (i 0).val] := by
  have h0 := coord0_lt i
  have h1 := coord1_lt i
  funext a
  fin_cases a
  · show (BitVec.ofNat 32 (i 1).val).toNat = (i 1).val
    simp only [BitVec.toNat_ofNat]; omega
  · show (BitVec.ofNat 32 (i 0).val).toNat = (i 0).val
    simp only [BitVec.toNat_ofNat]; omega

/-- The first table's words name one of the eight experts at every tile. -/
def Experts : Prop := ∀ j : S40.Idx, (tbl m 0 j : BitVec 32).toNat < 8

theorem ok_of_experts (h : Experts m) : Ok m := by
  refine ⟨fun i => ⟨fun a => ?_, .inr (Affine.block_words_dvd (of_decide_eq_true rfl) (by decide))⟩,
    fun i => ⟨fun a => ?_, .inl rfl⟩, fun i => ⟨fun a => ?_, .inl rfl⟩⟩
  all_goals
    have h0 := coord0_lt i
    have h1 := coord1_lt i
    have he : (wordE (tbl m) i).toNat < 8 := h (tile i)
  · rw [rows_map]
    fin_cases a
    · show ((if wordA (tbl m) i = 0#32 then 0 else (i 1).val) + 1) * 512 ≤ 20480
      split <;> omega
    · show (0 + 1) * 4096 ≤ 4096
      omega
  · rw [weights_map]
    fin_cases a
    · show ((wordE (tbl m) i).toNat + 1) * 1 ≤ 8
      omega
    · show (0 + 1) * 4096 ≤ 4096
      omega
    · show ((i 0).val + 1) * 512 ≤ 14336
      omega
  · rw [weights_map']
    fin_cases a
    · show ((wordE (tbl m) i).toNat + 1) * 1 ≤ 8
      omega
    · show (0 + 1) * 4096 ≤ 4096
      omega
    · show ((i 0).val + 1) * 512 ≤ 14336
      omega

end Cert.UpIdeal.Run

end
-- ==== Proof.UpReference.lean ====
/- The reference's expert up-projection read at one element. -/
module
public import proofs.«01_k».proof.Proof.Gen.UpRefIdeal.Read
public import Idealize.ShloMosaic.Lib.Pointwise
@[expose] public section
set_option maxRecDepth 16384
noncomputable section
open Idealize.ShloMosaic Idealize.ShloMosaic.TcCoe Idealize.SL.Sem

namespace Cert.Experts

/-- The choice both programs make for an expert: the tile is active and its word is the expert's number. -/
theorem choose_eq (a e w : BitVec 32) (p r : EReal) :
    Scalar.select (IntOp.andi (IntOp.cmpi .ne a 0#32) (IntOp.cmpi .eq e w)) p r = if a ≠ 0#32 ∧ e = w then p else r := by
  by_cases ha : a = 0#32
  · subst ha; simp [Scalar.select, IntOp.andi, IntOp.cmpi]
  · have ha' : (a != 0#32) = true := by simpa [bne_iff_ne] using ha
    by_cases he : e = w
    · subst he; simp [Scalar.select, IntOp.andi, IntOp.cmpi, ha, ha']
    · have he' : (e == w) = false := by simpa using he
      simp [Scalar.select, IntOp.andi, IntOp.cmpi, ha, ha', he, he']

/-- A word that is at least 0 and less than 8, read signed, is one of the numbers 0 to 7. -/
theorem word_lt {w : BitVec 32} (h : IntOp.andi (IntOp.cmpi .sge w 0#32) (IntOp.cmpi .slt w 8#32) = 1#1) : w.toNat < 8 := by
  have h2 : IntOp.cmpi .sge w 0#32 = 1#1 ∧ IntOp.cmpi .slt w 8#32 = 1#1 := by
    generalize IntOp.cmpi .sge w 0#32 = a at h ⊢
    generalize IntOp.cmpi .slt w 8#32 = b at h ⊢
    revert a b
    decide
  have ob : ∀ b : Bool, BitVec.ofBool b = 1#1 → b = true := by decide
  have h0 : (0#32).sle w = true := ob _ h2.1
  have h8 : w.slt 8#32 = true := ob _ h2.2
  rw [BitVec.sle_iff_toInt_le] at h0
  rw [BitVec.slt_iff_toInt_lt] at h8
  have e0 : (0#32 : BitVec 32).toInt = 0 := by decide
  have e8 : (8#32 : BitVec 32).toInt = 8 := by decide
  have e := BitVec.toInt_eq_toNat_cond w
  split at e <;> omega

/-- A gated product: the gate times its logistic times the linear part. -/
def gated (a b : EReal) : EReal := a * Ideal.div 1 (1 + Ideal.exp (-a)) * b

end Cert.Experts

namespace Cert.UpRefIdeal.At
open Cert.UpRefIdeal Cert.UpRefIdeal.Gen Cert.UpRefIdeal.Read Cert.Experts

/-- The tile a row lies in. -/
def tileOf (q : Fin 20480) : Fin 40 := ⟨q.val / 512, by omega⟩

variable (x : FVec Ideal S20480x4096 .bf16) (w1 w3 : FVec Ideal S8x4096x14336 .f32) (te ta : S40.Idx → BitVec 32)

/-- Row `q`, column `n` of the rows times an expert's weights. -/
def product (w : FVec Ideal S8x4096x14336 .f32) (e : Fin 8) (q : Fin 20480) (n : Fin 14336) : EReal :=
  ∑ k : Fin 4096, x (ix2 q k) * w (ix3 e k n)

/-- The expert's number, repeated along the tile's rows. -/
theorem expert_at (q : Fin 20480) : val_main_v3 (F := Ideal) te (ix2 q 0) = te (ix1 (tileOf q)) := by
  pointwise [val_main_v3, val_main_v2, val_main_v1, tileOf]

/-- Whether the row's tile is active. -/
theorem active_at (q : Fin 20480) : val_main_v8 (F := Ideal) ta (ix2 q 0) = IntOp.cmpi .ne (ta (ix1 (tileOf q))) 0#32 := by
  pointwise [val_main_v8, val_main_v7, val_main_c, val_main_v6, val_main_v5, val_main_v4, tileOf]

/-- The array the choices start from. -/
theorem zero_at (q : Fin 20480) (n : Fin 14336) : val_main_v9 (F := Ideal) (ix2 q n) = 0 := by
  pointwise [val_main_v9, val_main_cst]

/-! Expert 0. -/
theorem gate0_at (q : Fin 20480) (n : Fin 14336) : val_main_v12 (F := Ideal) x w1 (ix2 q n) = product x w1 0 q n := by
  pointwise [val_main_v12, val_main_v11, val_main_v10, val_main_v0, product]

theorem prod0_at (q : Fin 20480) (n : Fin 14336) :
    val_main_v17 (F := Ideal) x w1 w3 (ix2 q n) = gated (product x w1 0 q n) (product x w3 0 q n) := by
  rw [← gate0_at x w1 q n]
  unfold val_main_v17 val_main_v13 val_main_call0_v5 val_main_call0_v4 val_main_call0_cst_0 val_main_call0_v3 val_main_call0_v2 val_main_call0_cst val_main_call0_v1 val_main_call0_v0
  generalize val_main_v12 (F := Ideal) x w1 = X
  pointwise [val_main_v16, val_main_v15, val_main_v14, val_main_v0, product, gated]

theorem pick0_at (q : Fin 20480) (n : Fin 14336) :
    val_main_v21 (F := Ideal) x w1 w3 te ta (ix2 q n)
      = if ta (ix1 (tileOf q)) ≠ 0#32 ∧ te (ix1 (tileOf q)) = 0#32 then gated (product x w1 0 q n) (product x w3 0 q n)
        else val_main_v9 (F := Ideal) (ix2 q n) := by
  rw [← prod0_at x w1 w3 q n, ← choose_eq]
  unfold val_main_v21 val_main_call1_v0 val_main_v20 val_main_v19 val_main_v18 val_main_c_0
  generalize val_main_v17 (F := Ideal) x w1 w3 = X
  generalize val_main_v9 (F := Ideal) = Y
  pointwise [expert_at, active_at]

/-! Expert 1. -/
theorem gate1_at (q : Fin 20480) (n : Fin 14336) : val_main_v24 (F := Ideal) x w1 (ix2 q n) = product x w1 1 q n := by
  pointwise [val_main_v24, val_main_v23, val_main_v22, val_main_v0, product]

theorem prod1_at (q : Fin 20480) (n : Fin 14336) :
    val_main_v29 (F := Ideal) x w1 w3 (ix2 q n) = gated (product x w1 1 q n) (product x w3 1 q n) := by
  rw [← gate1_at x w1 q n]
  unfold val_main_v29 val_main_v25 val_main_call2_v5 val_main_call2_v4 val_main_call2_cst_0 val_main_call2_v3 val_main_call2_v2 val_main_call2_cst val_main_call2_v1 val_main_call2_v0
  generalize val_main_v24 (F := Ideal) x w1 = X
  pointwise [val_main_v28, val_main_v27, val_main_v26, val_main_v0, product, gated]

theorem pick1_at (q : Fin 20480) (n : Fin 14336) :
    val_main_v33 (F := Ideal) x w1 w3 te ta (ix2 q n)
      = if ta (ix1 (tileOf q)) ≠ 0#32 ∧ te (ix1 (tileOf q)) = 1#32 then gated (product x w1 1 q n) (product x w3 1 q n)
        else val_main_v21 (F := Ideal) x w1 w3 te ta (ix2 q n) := by
  rw [← prod1_at x w1 w3 q n, ← choose_eq]
  unfold val_main_v33 val_main_call3_v0 val_main_v32 val_main_v31 val_main_v30 val_main_c_1
  generalize val_main_v29 (F := Ideal) x w1 w3 = X
  generalize val_main_v21 (F := Ideal) x w1 w3 te ta = Y
  pointwise [expert_at, active_at]

/-! Expert 2. -/
theorem gate2_at (q : Fin 20480) (n : Fin 14336) : val_main_v36 (F := Ideal) x w1 (ix2 q n) = product x w1 2 q n := by
  pointwise [val_main_v36, val_main_v35, val_main_v34, val_main_v0, product]

theorem prod2_at (q : Fin 20480) (n : Fin 14336) :
    val_main_v41 (F := Ideal) x w1 w3 (ix2 q n) = gated (product x w1 2 q n) (product x w3 2 q n) := by
  rw [← gate2_at x w1 q n]
  unfold val_main_v41 val_main_v37 val_main_call4_v5 val_main_call4_v4 val_main_call4_cst_0 val_main_call4_v3 val_main_call4_v2 val_main_call4_cst val_main_call4_v1 val_main_call4_v0
  generalize val_main_v36 (F := Ideal) x w1 = X
  pointwise [val_main_v40, val_main_v39, val_main_v38, val_main_v0, product, gated]

theorem pick2_at (q : Fin 20480) (n : Fin 14336) :
    val_main_v45 (F := Ideal) x w1 w3 te ta (ix2 q n)
      = if ta (ix1 (tileOf q)) ≠ 0#32 ∧ te (ix1 (tileOf q)) = 2#32 then gated (product x w1 2 q n) (product x w3 2 q n)
        else val_main_v33 (F := Ideal) x w1 w3 te ta (ix2 q n) := by
  rw [← prod2_at x w1 w3 q n, ← choose_eq]
  unfold val_main_v45 val_main_call5_v0 val_main_v44 val_main_v43 val_main_v42 val_main_c_2
  generalize val_main_v41 (F := Ideal) x w1 w3 = X
  generalize val_main_v33 (F := Ideal) x w1 w3 te ta = Y
  pointwise [expert_at, active_at]

/-! Expert 3. -/
theorem gate3_at (q : Fin 20480) (n : Fin 14336) : val_main_v48 (F := Ideal) x w1 (ix2 q n) = product x w1 3 q n := by
  pointwise [val_main_v48, val_main_v47, val_main_v46, val_main_v0, product]

theorem prod3_at (q : Fin 20480) (n : Fin 14336) :
    val_main_v53 (F := Ideal) x w1 w3 (ix2 q n) = gated (product x w1 3 q n) (product x w3 3 q n) := by
  rw [← gate3_at x w1 q n]
  unfold val_main_v53 val_main_v49 val_main_call6_v5 val_main_call6_v4 val_main_call6_cst_0 val_main_call6_v3 val_main_call6_v2 val_main_call6_cst val_main_call6_v1 val_main_call6_v0
  generalize val_main_v48 (F := Ideal) x w1 = X
  pointwise [val_main_v52, val_main_v51, val_main_v50, val_main_v0, product, gated]

theorem pick3_at (q : Fin 20480) (n : Fin 14336) :
    val_main_v57 (F := Ideal) x w1 w3 te ta (ix2 q n)
      = if ta (ix1 (tileOf q)) ≠ 0#32 ∧ te (ix1 (tileOf q)) = 3#32 then gated (product x w1 3 q n) (product x w3 3 q n)
        else val_main_v45 (F := Ideal) x w1 w3 te ta (ix2 q n) := by
  rw [← prod3_at x w1 w3 q n, ← choose_eq]
  unfold val_main_v57 val_main_call7_v0 val_main_v56 val_main_v55 val_main_v54 val_main_c_3
  generalize val_main_v53 (F := Ideal) x w1 w3 = X
  generalize val_main_v45 (F := Ideal) x w1 w3 te ta = Y
  pointwise [expert_at, active_at]

/-! Expert 4. -/
theorem gate4_at (q : Fin 20480) (n : Fin 14336) : val_main_v60 (F := Ideal) x w1 (ix2 q n) = product x w1 4 q n := by
  pointwise [val_main_v60, val_main_v59, val_main_v58, val_main_v0, product]

theorem prod4_at (q : Fin 20480) (n : Fin 14336) :
    val_main_v65 (F := Ideal) x w1 w3 (ix2 q n) = gated (product x w1 4 q n) (product x w3 4 q n) := by
  rw [← gate4_at x w1 q n]
  unfold val_main_v65 val_main_v61 val_main_call8_v5 val_main_call8_v4 val_main_call8_cst_0 val_main_call8_v3 val_main_call8_v2 val_main_call8_cst val_main_call8_v1 val_main_call8_v0
  generalize val_main_v60 (F := Ideal) x w1 = X
  pointwise [val_main_v64, val_main_v63, val_main_v62, val_main_v0, product, gated]

theorem pick4_at (q : Fin 20480) (n : Fin 14336) :
    val_main_v69 (F := Ideal) x w1 w3 te ta (ix2 q n)
      = if ta (ix1 (tileOf q)) ≠ 0#32 ∧ te (ix1 (tileOf q)) = 4#32 then gated (product x w1 4 q n) (product x w3 4 q n)
        else val_main_v57 (F := Ideal) x w1 w3 te ta (ix2 q n) := by
  rw [← prod4_at x w1 w3 q n, ← choose_eq]
  unfold val_main_v69 val_main_call9_v0 val_main_v68 val_main_v67 val_main_v66 val_main_c_4
  generalize val_main_v65 (F := Ideal) x w1 w3 = X
  generalize val_main_v57 (F := Ideal) x w1 w3 te ta = Y
  pointwise [expert_at, active_at]

/-! Expert 5. -/
theorem gate5_at (q : Fin 20480) (n : Fin 14336) : val_main_v72 (F := Ideal) x w1 (ix2 q n) = product x w1 5 q n := by
  pointwise [val_main_v72, val_main_v71, val_main_v70, val_main_v0, product]

theorem prod5_at (q : Fin 20480) (n : Fin 14336) :
    val_main_v77 (F := Ideal) x w1 w3 (ix2 q n) = gated (product x w1 5 q n) (product x w3 5 q n) := by
  rw [← gate5_at x w1 q n]
  unfold val_main_v77 val_main_v73 val_main_call10_v5 val_main_call10_v4 val_main_call10_cst_0 val_main_call10_v3 val_main_call10_v2 val_main_call10_cst val_main_call10_v1 val_main_call10_v0
  generalize val_main_v72 (F := Ideal) x w1 = X
  pointwise [val_main_v76, val_main_v75, val_main_v74, val_main_v0, product, gated]

theorem pick5_at (q : Fin 20480) (n : Fin 14336) :
    val_main_v81 (F := Ideal) x w1 w3 te ta (ix2 q n)
      = if ta (ix1 (tileOf q)) ≠ 0#32 ∧ te (ix1 (tileOf q)) = 5#32 then gated (product x w1 5 q n) (product x w3 5 q n)
        else val_main_v69 (F := Ideal) x w1 w3 te ta (ix2 q n) := by
  rw [← prod5_at x w1 w3 q n, ← choose_eq]
  unfold val_main_v81 val_main_call11_v0 val_main_v80 val_main_v79 val_main_v78 val_main_c_5
  generalize val_main_v77 (F := Ideal) x w1 w3 = X
  generalize val_main_v69 (F := Ideal) x w1 w3 te ta = Y
  pointwise [expert_at, active_at]

/-! Expert 6. -/
theorem gate6_at (q : Fin 20480) (n : Fin 14336) : val_main_v84 (F := Ideal) x w1 (ix2 q n) = product x w1 6 q n := by
  pointwise [val_main_v84, val_main_v83, val_main_v82, val_main_v0, product]

theorem prod6_at (q : Fin 20480) (n : Fin 14336) :
    val_main_v89 (F := Ideal) x w1 w3 (ix2 q n) = gated (product x w1 6 q n) (product x w3 6 q n) := by
  rw [← gate6_at x w1 q n]
  unfold val_main_v89 val_main_v85 val_main_call12_v5 val_main_call12_v4 val_main_call12_cst_0 val_main_call12_v3 val_main_call12_v2 val_main_call12_cst val_main_call12_v1 val_main_call12_v0
  generalize val_main_v84 (F := Ideal) x w1 = X
  pointwise [val_main_v88, val_main_v87, val_main_v86, val_main_v0, product, gated]

theorem pick6_at (q : Fin 20480) (n : Fin 14336) :
    val_main_v93 (F := Ideal) x w1 w3 te ta (ix2 q n)
      = if ta (ix1 (tileOf q)) ≠ 0#32 ∧ te (ix1 (tileOf q)) = 6#32 then gated (product x w1 6 q n) (product x w3 6 q n)
        else val_main_v81 (F := Ideal) x w1 w3 te ta (ix2 q n) := by
  rw [← prod6_at x w1 w3 q n, ← choose_eq]
  unfold val_main_v93 val_main_call13_v0 val_main_v92 val_main_v91 val_main_v90 val_main_c_6
  generalize val_main_v89 (F := Ideal) x w1 w3 = X
  generalize val_main_v81 (F := Ideal) x w1 w3 te ta = Y
  pointwise [expert_at, active_at]

/-! Expert 7. -/
theorem gate7_at (q : Fin 20480) (n : Fin 14336) : val_main_v96 (F := Ideal) x w1 (ix2 q n) = product x w1 7 q n := by
  pointwise [val_main_v96, val_main_v95, val_main_v94, val_main_v0, product]

theorem prod7_at (q : Fin 20480) (n : Fin 14336) :
    val_main_v101 (F := Ideal) x w1 w3 (ix2 q n) = gated (product x w1 7 q n) (product x w3 7 q n) := by
  rw [← gate7_at x w1 q n]
  unfold val_main_v101 val_main_v97 val_main_call14_v5 val_main_call14_v4 val_main_call14_cst_0 val_main_call14_v3 val_main_call14_v2 val_main_call14_cst val_main_call14_v1 val_main_call14_v0
  generalize val_main_v96 (F := Ideal) x w1 = X
  pointwise [val_main_v100, val_main_v99, val_main_v98, val_main_v0, product, gated]

theorem pick7_at (q : Fin 20480) (n : Fin 14336) :
    val_main_v105 (F := Ideal) x w1 w3 te ta (ix2 q n)
      = if ta (ix1 (tileOf q)) ≠ 0#32 ∧ te (ix1 (tileOf q)) = 7#32 then gated (product x w1 7 q n) (product x w3 7 q n)
        else val_main_v93 (F := Ideal) x w1 w3 te ta (ix2 q n) := by
  rw [← prod7_at x w1 w3 q n, ← choose_eq]
  unfold val_main_v105 val_main_call15_v0 val_main_v104 val_main_v103 val_main_v102 val_main_c_7
  generalize val_main_v101 (F := Ideal) x w1 w3 = X
  generalize val_main_v93 (F := Ideal) x w1 w3 te ta = Y
  pointwise [expert_at, active_at]

/-- THE REFERENCE at row `q`, column `n`: the gated product of the row with its tile's expert's weights where the tile is
active, zero elsewhere. -/
theorem result_at (q : Fin 20480) (n : Fin 14336) (h : (te (ix1 (tileOf q))).toNat < 8) :
    val_main_v106 (F := Ideal) x w1 w3 te ta (ix2 q n)
      = if ta (ix1 (tileOf q)) = 0#32 then 0
        else gated (product x w1 ⟨(te (ix1 (tileOf q))).toNat, h⟩ q n) (product x w3 ⟨(te (ix1 (tileOf q))).toNat, h⟩ q n) := by
  have e : val_main_v106 (F := Ideal) x w1 w3 te ta (ix2 q n) = val_main_v105 (F := Ideal) x w1 w3 te ta (ix2 q n) := by
    unfold val_main_v106
    generalize val_main_v105 (F := Ideal) x w1 w3 te ta = X
    pointwise
  rw [e, pick7_at, pick6_at, pick5_at, pick4_at, pick3_at, pick2_at, pick1_at, pick0_at, zero_at]
  generalize te (ix1 (tileOf q)) = E at h ⊢
  obtain ⟨i, rfl⟩ : ∃ i : Fin 8, E = BitVec.ofNat 32 i.val := ⟨⟨E.toNat, h⟩, by simp⟩
  by_cases ha : ta (ix1 (tileOf q)) = 0#32
  · simp [ha]
  · fin_cases i <;> simp [ha]

end Cert.UpRefIdeal.At
end
-- ==== Proof.UpIdealValue.lean ====
/- The result array of the expert up-projection's kernel, element by element. -/
module
public import proofs.«01_k».proof.Proof.UpIdealFrame
public import proofs.«01_k».proof.Proof.UpReference
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.UpIdeal.Run
open Cert.UpIdeal Cert.UpIdeal.Gen Cert.Experts

/-- What the body stores on an active tile. -/
theorem pay_at (x : FVec Ideal S512x4096 .bf16) (a b : FVec Ideal S1x4096x512 .f32) (r n : Fin 512) :
    k0_pay1 (F := Ideal) x a b (ix2 r n)
      = gated (∑ k : Fin 4096, x (ix2 r k) * a (ix3 0 k n)) (∑ k : Fin 4096, x (ix2 r k) * b (ix3 0 k n)) := by
  pointwise [k0_pay1, gated, Ideal.logistic]

/-- What it stores on any other. -/
theorem zero_at (r n : Fin 512) : k0_pay2 (F := Ideal) (ix2 r n) = 0 := by
  pointwise [k0_pay2]

/-- On an active tile the output's buffer ends at what the body stores of its three blocks. -/
theorem outOn_eq (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec Ideal S512x4096 .bf16) (x1 : Vec Ideal S1x4096x512 .f32) (x2 : Vec Ideal S1x4096x512 .f32) (xt0 : TableBuf (F := Ideal) c tableE) (xt1 : TableBuf (F := Ideal) c tableA)
    (h1 : k0_cond1 (word c i xt1) = 1#1) (h2 : ¬ k0_cond2 (word c i xt1) = 1#1) :
    outOn c i arg4 harg4 arg5 harg5 arg6 harg6 arg7 harg7 x0 x1 x2 xt0 xt1 h1 h2 = k0_pay1 x0 x1 x2 := by
  frame_out

/-- On any other tile it ends at zeros. -/
theorem outOff_eq (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (x0 : Vec Ideal S512x4096 .bf16) (x1 : Vec Ideal S1x4096x512 .f32) (x2 : Vec Ideal S1x4096x512 .f32) (xt0 : TableBuf (F := Ideal) c tableE) (xt1 : TableBuf (F := Ideal) c tableA)
    (h1 : ¬ k0_cond1 (word c i xt1) = 1#1) (h2 : k0_cond2 (word c i xt1) = 1#1) :
    outOff c i arg4 harg4 arg5 harg5 arg6 harg6 arg7 harg7 x0 x1 x2 xt0 xt1 h1 h2 = k0_pay2 (F := Ideal) := by
  frame_out

variable (m : (ℓ : Loc nD τ sig) → Buf (Elt Ideal) ℓ) (hO : Ok m)

abbrev argX (c : Dev nD) : FVec Ideal S20480x4096 .bf16 := m ((c : Thread nD τ).loc main_arg0)
abbrev argW1 (c : Dev nD) : FVec Ideal S8x4096x14336 .f32 := m ((c : Thread nD τ).loc main_arg1)
abbrev argW3 (c : Dev nD) : FVec Ideal S8x4096x14336 .f32 := m ((c : Thread nD τ).loc main_arg2)
abbrev argE (c : Dev nD) : S40.Idx → BitVec 32 := m ((c : Thread nD τ).loc main_arg3)
abbrev argA (c : Dev nD) : S40.Idx → BitVec 32 := m ((c : Thread nD τ).loc main_arg4)

/-- The grid's point number `t` is tile of columns `t / 40`, tile of rows `t % 40`. -/
theorem coords_eq : ∀ t : Fin grid0.N, (grid0.coords t 0).val = t.val / 40 ∧ (grid0.coords t 1).val = t.val % 40 := by
  decide +kernel

def rowAt (t : Fin (cfgM m hO).N) (r : Fin 512) : Fin 20480 := ⟨t.val % 40 * 512 + r.val, by omega⟩
def colAt (t : Fin (cfgM m hO).N) (n : Fin 512) : Fin 14336 := ⟨t.val / 40 * 512 + n.val, by
  have := t.isLt; have : (cfgM m hO).N = 1120 := rfl; omega⟩

theorem idx_rows (t : Fin (cfgM m hO).N) (h : wordA (tbl m) (grid0.coords t) ≠ 0#32) :
    ((cfgM m hO).win 0).index t = ![t.val % 40, 0] := by
  have := rows_map (tbl m) (grid0.coords t)
  rw [if_neg h, (coords_eq t).2] at this
  exact this

theorem read_rows (c : Dev nD) (t : Fin (cfgM m hO).N) (h : wordA (tbl m) (grid0.coords t) ≠ 0#32) (r : Fin 512) (k : Fin 4096) :
    (show FVec Ideal S512x4096 .bf16 from iblk m hO c 0 t) (ix2 r k) = argX m c (ix2 (rowAt m hO t r) k) := by
  blk_ext [iblk, V, idx_rows m hO t h, rowAt]

theorem idx_weights (t : Fin (cfgM m hO).N) :
    ((cfgM m hO).win 1).index t = ![(wordE (tbl m) (grid0.coords t)).toNat, 0, t.val / 40] := by
  have := weights_map (tbl m) (grid0.coords t)
  rw [(coords_eq t).1] at this
  exact this

theorem idx_weights' (t : Fin (cfgM m hO).N) :
    ((cfgM m hO).win 2).index t = ![(wordE (tbl m) (grid0.coords t)).toNat, 0, t.val / 40] := by
  have := weights_map' (tbl m) (grid0.coords t)
  rw [(coords_eq t).1] at this
  exact this

theorem idx_out (t : Fin (cfgM m hO).N) : ((cfgM m hO).win 3).index t = ![t.val % 40, t.val / 40] := by
  have := out_map (grid0.coords t)
  rw [(coords_eq t).1, (coords_eq t).2] at this
  exact this

/-- The expert of a grid point. -/
def expertAt (hE : Experts m) (t : Fin (cfgM m hO).N) : Fin 8 := ⟨(wordE (tbl m) (grid0.coords t)).toNat, hE _⟩

theorem read_gate (hE : Experts m) (c : Dev nD) (t : Fin (cfgM m hO).N) (k : Fin 4096) (n : Fin 512) :
    (show FVec Ideal S1x4096x512 .f32 from iblk m hO c 1 t) (ix3 0 k n) = argW1 m c (ix3 (expertAt m hO hE t) k (colAt m hO t n)) := by
  blk_ext [iblk, V, idx_weights m hO t, colAt, expertAt]

theorem read_linear (hE : Experts m) (c : Dev nD) (t : Fin (cfgM m hO).N) (k : Fin 4096) (n : Fin 512) :
    (show FVec Ideal S1x4096x512 .f32 from iblk m hO c 2 t) (ix3 0 k n) = argW3 m c (ix3 (expertAt m hO hE t) k (colAt m hO t n)) := by
  blk_ext [iblk, V, idx_weights' m hO t, colAt, expertAt]

/-- The reference's tile of a row of a grid point is the point's own tile. -/
theorem tile_row (t : Fin (cfgM m hO).N) (r : Fin 512) :
    ix1 (Cert.UpRefIdeal.At.tileOf (rowAt m hO t r)) = tile (grid0.coords t) := by
  funext a
  match a with
  | ⟨0, _⟩ =>
    apply Fin.ext
    show (t.val % 40 * 512 + r.val) / 512 = (grid0.coords t 1).val
    rw [(coords_eq t).2]
    omega

/-- The tables the index maps read are the arguments. -/
theorem table_E (c : Dev nD) : (tbl m 0 : S40.Idx → BitVec 32) = argE m c := by
  obtain rfl : c = 0 := Subsingleton.elim _ _
  rfl
theorem table_A (c : Dev nD) : (tbl m 1 : S40.Idx → BitVec 32) = argA m c := by
  obtain rfl : c = 0 := Subsingleton.elim _ _
  rfl

/-- The reference's result of the arguments. -/
abbrev wanted (c : Dev nD) : FVec Ideal S20480x14336 .bf16 :=
  Cert.UpRefIdeal.Read.val_main_v106 (F := Ideal) (argX m c) (argW1 m c) (argW3 m c) (argE m c) (argA m c)

/-- The reference at an element of a grid point's block. -/
theorem wanted_at (hE : Experts m) (c : Dev nD) (t : Fin (cfgM m hO).N) (r n : Fin 512) :
    wanted m c (ix2 (rowAt m hO t r) (colAt m hO t n))
      = if wordA (tbl m) (grid0.coords t) = 0#32 then 0
        else gated (Cert.UpRefIdeal.At.product (argX m c) (argW1 m c) (expertAt m hO hE t) (rowAt m hO t r) (colAt m hO t n))
          (Cert.UpRefIdeal.At.product (argX m c) (argW3 m c) (expertAt m hO hE t) (rowAt m hO t r) (colAt m hO t n)) := by
  have eE : argE m c (ix1 (Cert.UpRefIdeal.At.tileOf (rowAt m hO t r))) = wordE (tbl m) (grid0.coords t) := by
    rw [tile_row, ← table_E]; rfl
  have eA : argA m c (ix1 (Cert.UpRefIdeal.At.tileOf (rowAt m hO t r))) = wordA (tbl m) (grid0.coords t) := by
    rw [tile_row, ← table_A]; rfl
  have hlt : (argE m c (ix1 (Cert.UpRefIdeal.At.tileOf (rowAt m hO t r)))).toNat < 8 := by rw [eE]; exact hE _
  have hi : (⟨(argE m c (ix1 (Cert.UpRefIdeal.At.tileOf (rowAt m hO t r)))).toNat, hlt⟩ : Fin 8) = expertAt m hO hE t :=
    Fin.ext (by
      show (argE m c (ix1 (Cert.UpRefIdeal.At.tileOf (rowAt m hO t r)))).toNat = (wordE (tbl m) (grid0.coords t)).toNat
      rw [eE])
  rw [wanted, Cert.UpRefIdeal.At.result_at _ _ _ _ _ _ _ hlt, hi, eA]

/-- What a grid point leaves in its block is the reference's result there. -/
theorem point (hE : Experts m) (c : Dev nD) (t : Fin (cfgM m hO).N) (r n : Fin 512) :
    (show FVec Ideal S512x512 .bf16 from outsAt m hO c t) (ix2 r n) = wanted m c (ix2 (rowAt m hO t r) (colAt m hO t n)) := by
  rw [wanted_at m hO hE c t r n]
  have ew : word c (grid0.coords t) (tbl m 1) = wordA (tbl m) (grid0.coords t) := word_eq c _ _
  unfold outsAt
  by_cases h : wordA (tbl m) (grid0.coords t) = 0#32
  · rw [dif_pos (ew.trans h), if_pos h]
    exact (congrFun (outOff_eq _ _ _ _ _ _ _ _ _ _ _ _ _ _ _ _ _) (ix2 r n)).trans (zero_at r n)
  · rw [dif_neg (fun h' => h (ew.symm.trans h')), if_neg h]
    refine ((congrFun (outOn_eq _ _ _ _ _ _ _ _ _ _ _ _ _ _ _ _ _) (ix2 r n)).trans (pay_at _ _ _ r n)).trans ?_
    unfold Cert.UpRefIdeal.At.product
    congr 1
    · exact Finset.sum_congr rfl fun k _ => Ideal.mul_congr (read_rows m hO c t h r k) (read_gate m hO hE c t k n)
    · exact Finset.sum_congr rfl fun k _ => Ideal.mul_congr (read_rows m hO c t h r k) (read_linear m hO hE c t k n)

/-- The blocks written back cover the result. -/
theorem covers : ((cfgM m hO).win 3).Covers := by
  refine ⟨(by decide : ∀ a : Fin 2, 0 < S512x512.size a), fun β => ?_⟩
  have h0 : (β (0 : Fin 2)).val < 40 := lt_of_lt_of_eq (β (0 : Fin 2)).isLt (show (20480 + 512 - 1) / 512 = 40 from rfl)
  have h1 : (β (1 : Fin 2)).val < 28 := lt_of_lt_of_eq (β (1 : Fin 2)).isLt (show (14336 + 512 - 1) / 512 = 28 from rfl)
  have hN : (cfgM m hO).grid.N = 1120 := rfl
  refine ⟨⟨(β (1 : Fin 2)).val * 40 + (β (0 : Fin 2)).val, by omega⟩, ?_, fun a => ⟨?_, .inl rfl⟩⟩
  · rw [Pipeline.Window.flush_out _ rfl]
    by_cases hl : (β (1 : Fin 2)).val * 40 + (β (0 : Fin 2)).val + 1 = (cfgM m hO).grid.N
    · exact .inl hl
    · refine .inr ⟨by show (β (1 : Fin 2)).val * 40 + (β (0 : Fin 2)).val + 1 < (cfgM m hO).grid.N; omega, fun he => ?_⟩
      rw [idx_out, idx_out] at he
      have e0 : ((β (1 : Fin 2)).val * 40 + (β (0 : Fin 2)).val + 1) % 40 = ((β (1 : Fin 2)).val * 40 + (β (0 : Fin 2)).val) % 40 := congrFun he (0 : Fin 2)
      omega
  · rw [idx_out]
    fin_cases a
    · show ((β (1 : Fin 2)).val * 40 + (β (0 : Fin 2)).val) % 40 = (β (0 : Fin 2)).val
      omega
    · show ((β (1 : Fin 2)).val * 40 + (β (0 : Fin 2)).val) / 40 = (β (1 : Fin 2)).val
      omega

/-- THE RESULT ARRAY after the run is the reference's result of the arguments. -/
theorem final (hE : Experts m) (c : Dev nD) : (dats m hO 0 c).arrAt 3 (cfgM m hO).N = wanted m c := by
  refine (dats m hO 0 c).arrAt_eq_of_covers 3 _ (covers m hO) fun t _ y => ?_
  · blk_simp
    rw [after_3]
    revert y
    show ∀ y : S512x512.Idx, _
    intro y
    idx_vars y
    refine (point m hO hE c t y0 y1).trans ?_
    blk_ext [idx_out m hO t, rowAt, colAt]

end Cert.UpIdeal.Run
end
-- ==== Proof.UpClaims.lean ====
/- The claims of the experts' up-projection, each from the program's run. -/
module
public import proofs.«01_k».proof.Defs
public import proofs.«01_k».proof.Proof.Gen.Up
public import proofs.«01_k».proof.Proof.Gen.Pre_experts_up
public import proofs.«01_k».proof.Proof.UpFrame
public import proofs.«01_k».proof.Proof.UpIdealValue
public import proofs.«01_k».proof.Proof.Gen.UpRefIdeal.Run
public import Idealize.ShloMosaic.Adequacy
@[expose] public section
noncomputable section
open Idealize.ShloMosaic Idealize.ShloMosaic.TcCoe Idealize.SL.Sem
namespace Cert.UpClaims

/-- The precondition read at a tile: its word names one of the eight experts. -/
theorem experts (m : (ℓ : Loc Cert.Up.nD Cert.Up.τ Cert.Up.sig) → Buf (Elt Bits) ℓ) (h : Cert.Pre_Up m) :
    Cert.Up.Run.Experts m := fun j => Cert.Experts.word_lt (congrFun (h 0) j)

/-- The same of the program over the extended reals. -/
theorem experts_ideal (m : (ℓ : Loc Cert.UpIdeal.nD Cert.UpIdeal.τ Cert.UpIdeal.sig) → Buf (Elt Ideal) ℓ) (h : Cert.Pre_UpIdeal m) :
    Cert.UpIdeal.Run.Experts m := fun j => Cert.Experts.word_lt (congrFun (h 0) j)

/-- The kernel terminates, leaves its arguments and ends with every counter at zero. -/
theorem frame_kernel : Cert.quiescent_Up := fun m ρ h =>
  Cert.Up.Run.frame m ρ (Cert.Up.Run.ok_of_experts m (experts m h))

/-- So does the kernel over the extended reals. -/
theorem frame_ideal : Cert.quiescent_UpIdeal := fun m ρ h =>
  Cert.UpIdeal.Run.frame m ρ (Cert.UpIdeal.Run.ok_of_experts m (experts_ideal m h))

/-- So does the reference over the extended reals: it runs host operations only and declares no semaphore. -/
theorem frame_reference : Cert.quiescent_UpRefIdeal := fun m ρ _ =>
  (θ_run Cert.UpRefIdeal.defs _ _).mono
    (fun r h => ⟨fun c => (h c).2, Idealize.ShloMosaic.sem_eq_zero_of_no_sems (by decide) r.2⟩)
    (Cert.UpRefIdeal.Value.run (F := Ideal) m ρ)

/-- The same under the kernel's precondition. -/
theorem frame_reference_pre : Cert.quiescent_UpRefIdeal_pre_experts_up := fun m ρ _ => frame_reference m ρ trivial

/-- The kernel's idealization rewrites nothing. -/
theorem preserves : Cert.preserves_Up_UpIdeal := trivial

/-- THE VALUE: from the same arguments kernel and reference end with equal results. -/
theorem algebraic : Cert.algebraic_UpIdeal_UpRefIdeal := fun m ρ m' ρ' hp hag =>
  ⟨fun c => Cert.UpIdeal.Run.wanted m c,
    (θ_run Cert.UpIdeal.defs _ _).mono
      (fun _ h c => ⟨(h c).1.trans (Cert.UpIdeal.Run.final m (Cert.UpIdeal.Run.ok_of_experts m (experts_ideal m hp)) (experts_ideal m hp) c), (h c).2⟩)
      (Cert.UpIdeal.Run.run_value (F := Ideal) m ρ (Cert.UpIdeal.Run.ok_of_experts m (experts_ideal m hp))),
    (θ_run Cert.UpRefIdeal.defs _ _).mono (fun _ h c => ⟨(h c).1.trans (by
        rw [Cert.UpRefIdeal.Read.val_main_v106_eq]
        show Cert.UpRefIdeal.Read.val_main_v106 (F := Ideal) (m' ((c.tc : Thread Cert.UpRefIdeal.nD Cert.UpRefIdeal.τ).loc Cert.UpRefIdeal.main_arg0)) (m' ((c.tc : Thread Cert.UpRefIdeal.nD Cert.UpRefIdeal.τ).loc Cert.UpRefIdeal.main_arg1))
          (m' ((c.tc : Thread Cert.UpRefIdeal.nD Cert.UpRefIdeal.τ).loc Cert.UpRefIdeal.main_arg2)) (m' ((c.tc : Thread Cert.UpRefIdeal.nD Cert.UpRefIdeal.τ).loc Cert.UpRefIdeal.main_arg3)) (m' ((c.tc : Thread Cert.UpRefIdeal.nD Cert.UpRefIdeal.τ).loc Cert.UpRefIdeal.main_arg4)) = _
        rw [(hag c).1, (hag c).2.1, (hag c).2.2.1, (hag c).2.2.2.1, (hag c).2.2.2.2]), (h c).2⟩)
      (Cert.UpRefIdeal.Value.run (F := Ideal) m' ρ')⟩

end Cert.UpClaims
end
-- ==== Proof.DownIdealRun.lean ====
module

public import proofs.«01_k».proof.Proof.Gen.DownIdeal.Launch
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.Exec
public import Idealize.ShloMosaic.Lib.WordCmp
public import Idealize.ShloMosaic.Lib.Claim
public import Idealize.ShloMosaic.Lib.Pipeline.ValueKit
public import Mathlib.Tactic.IntervalCases

/-! The runs of the expert down-projection's body, for every contents of its two tables. The second table says
whether a tile of rows is active. On an active tile the body sums seven products in a scratch buffer and stores the
sum at the seventh; on any other tile it stores zeros at the seventh point and nothing before. -/

@[expose] public section

set_option maxRecDepth 16384

noncomputable section

namespace Cert.DownIdeal.Run

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables -/

/-- The tables as the body is handed them: whole buffers in scalar memory. -/
abbrev tableE : Memref sig .tc .smem S40 .i32 := Memref.whole main_arg2
abbrev tableA : Memref sig .tc .smem S40 .i32 := Memref.whole main_arg3
theorem whole_tableE : tableE.IsWhole := Memref.isWhole_whole _
theorem whole_tableA : tableA.IsWhole := Memref.isWhole_whole _

/-- A table held for reading: half the full share, at the contents `f`. -/
abbrev TableBuf (c : Dev nD) {S : Shape} {e : EltTy} (M : Memref sig .tc .smem S e) : Type := Buf (Elt F) (M.view.loc (c : Thread nD τ))
abbrev held (c : Dev nD) {S : Shape} {e : EltTy} (M : Memref sig .tc .smem S e) (f : TableBuf (F := F) c M) : sProp 𝕄 :=
  M.view.loc (c : Thread nD τ) ↦{fullShare.right} f

/-- The word of the second table the body reads at the grid point `i`. -/
abbrev word (c : Dev nD) (i : grid0.Coords) (T : TableBuf (F := F) c tableA) : BitVec 32 :=
  View.readAt (Elt F) tableA.view (Rect.unit (s := S40) (k0_off1 i) S1.size (k0_off1_inb i)).toLoadRect T (Shape.Idx.first (numel1_S1.symm ▸ Nat.one_pos))

/-! ## The body's four conditions -/

/-- The first product of an active tile, -/
abbrev first (i : grid0.Coords) (w : BitVec 32) : Prop :=
  Scalar.cmpi .ne (Scalar.extui (Scalar.andi (Scalar.cmpi .ne w 0#32) (Scalar.cmpi .eq (BitVec.ofNat 32 (i 2).val) 0#32))) 0#32 = 1#1
/-- a further product of it, -/
abbrev further (i : grid0.Coords) (w : BitVec 32) : Prop :=
  Scalar.cmpi .ne (Scalar.extui (Scalar.andi (Scalar.cmpi .ne w 0#32) (Scalar.cmpi .sgt (BitVec.ofNat 32 (i 2).val) 0#32))) 0#32 = 1#1
/-- its last product, -/
abbrev last (i : grid0.Coords) (w : BitVec 32) : Prop := k0_cond3 i w = 1#1
/-- and the last point of a tile that is not active. -/
abbrev clear (i : grid0.Coords) (w : BitVec 32) : Prop := k0_cond4 i w = 1#1

theorem coord2_lt (i : grid0.Coords) : (i 2).val < 7 := (i 2).isLt

theorem first_iff (i : grid0.Coords) (w : BitVec 32) : first i w ↔ w ≠ 0#32 ∧ (i 2).val = 0 := by
  have hk := coord2_lt i
  unfold first
  generalize (i 2).val = k at hk ⊢
  by_cases h : w = 0#32
  · subst h; interval_cases k <;> decide
  · have hc : Scalar.cmpi .ne w 0#32 = 1#1 := by
      have hb : (w != 0#32) = true := by simpa [bne_iff_ne] using h
      simp [Scalar.cmpi, IntOp.cmpi, hb]
    rw [hc]
    interval_cases k <;> simp [h] <;> decide
theorem further_iff (i : grid0.Coords) (w : BitVec 32) : further i w ↔ w ≠ 0#32 ∧ (i 2).val ≠ 0 := by
  have hk := coord2_lt i
  unfold further
  generalize (i 2).val = k at hk ⊢
  by_cases h : w = 0#32
  · subst h; interval_cases k <;> decide
  · have hc : Scalar.cmpi .ne w 0#32 = 1#1 := by
      have hb : (w != 0#32) = true := by simpa [bne_iff_ne] using h
      simp [Scalar.cmpi, IntOp.cmpi, hb]
    rw [hc]
    interval_cases k <;> simp [h] <;> decide
theorem last_iff (i : grid0.Coords) (w : BitVec 32) : last i w ↔ w ≠ 0#32 ∧ (i 2).val = 6 := by
  have hk := coord2_lt i
  unfold last
  simp only [k0_cond3]
  generalize (i 2).val = k at hk ⊢
  by_cases h : w = 0#32
  · subst h; interval_cases k <;> decide
  · have hc : Scalar.cmpi .ne w 0#32 = 1#1 := by
      have hb : (w != 0#32) = true := by simpa [bne_iff_ne] using h
      simp [Scalar.cmpi, IntOp.cmpi, hb]
    rw [hc]
    interval_cases k <;> simp [h] <;> decide
theorem clear_iff (i : grid0.Coords) (w : BitVec 32) : clear i w ↔ w = 0#32 ∧ (i 2).val = 6 := by
  have hk := coord2_lt i
  unfold clear
  simp only [k0_cond4]
  generalize (i 2).val = k at hk ⊢
  by_cases h : w = 0#32
  · subst h; interval_cases k <;> decide
  · have hc : Scalar.cmpi .ne w 0#32 = 1#1 := by
      have hb : (w != 0#32) = true := by simpa [bne_iff_ne] using h
      simp [Scalar.cmpi, IntOp.cmpi, hb]
    rw [hc]
    interval_cases k <;> simp [h] <;> decide

/-- One staging buffer of the output and the scratch buffer, through which their contents are stated. -/
abbrev outView : View sig .tc .vmem S512x1024 .f32 := (Memref.whole cc0_stg2_0 : Memref sig .tc .vmem S512x1024 .f32).view
abbrev scratch : Memref sig .tc .vmem S512x1024 .f32 := Memref.whole cc0_scratch0
abbrev scratchView : View sig .tc .vmem S512x1024 .f32 := scratch.view

set_option maxHeartbeats 8000000 in
/-- At an active tile's first point the body writes the product over the scratch buffer. -/
noncomputable def runFirst (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA)
    (h1 : first i (word c i xt1)) (h2 : ¬ further i (word c i xt1)) (h3 : ¬ last i (word c i xt1)) (h4 : ¬ clear i (word c i xt1)) :
    { LS : List (View.Piece (Elt F) S512x1024 .f32) // ∀ (xi : Vec F S512x1024 .f32) (E : Set ℕ) (K : PUnit → sProp 𝕄),
        iprop(owns (c : Thread nD τ) arg5 fullShare x0 ∗ owns (c : Thread nD τ) arg6 fullShare x1 ∗ owns (c : Thread nD τ) arg7 fullShare xi ∗ (∃ d, owns (c : Thread nD τ) arg8 fullShare d) ∗ held c tableE xt0 ∗ held c tableA xt1
            ∗ (iprop(owns (c : Thread nD τ) arg5 fullShare x0 ∗ owns (c : Thread nD τ) arg6 fullShare x1 ∗ owns (c : Thread nD τ) arg7 fullShare xi ∗ (∃ f, arg8.view.loc (c : Thread nD τ) ↦[arg8.view.set]{fullShare} arg8.view.writes (Elt F) f LS) ∗ held c tableE xt0 ∗ held c tableA xt1) -∗ K ⟨⟩))
          ⊢ wp frame (wpE (defs₀ (F := F)) Variants.none c none) E (cc0_moe_down i tableE whole_tableE tableA whole_tableA arg5 harg5 arg6 harg6 arg7 harg7 arg8 harg8) K } := by
  refine ⟨?_, fun xi E K => ?run⟩
  case run =>
    simp only [cc0_moe_down_eq_skeleton]; unfold cc0_moe_down_skel
    unfold owns
    iintro ⟨⟨%f0, %hf0, H0⟩, ⟨%f1, %hf1, H1⟩, ⟨%f2, %hf2, H2⟩, ⟨%ds, %fs, -, HS⟩, HT0, HT1, Hk⟩
    obtain rfl := harg5.eq_unread hf0; obtain rfl := harg6.eq_unread hf1; obtain rfl := harg7.eq_unread hf2
    sl_exec! (disch := first | (guard_target = Scalar.cmpi .ne (Scalar.extui (Scalar.andi _ (Scalar.cmpi .eq _ _))) _ = _; exact h1) | (guard_target = ¬(Scalar.cmpi .ne (Scalar.extui (Scalar.andi _ (Scalar.cmpi .sgt _ _))) _ = _); exact h2) | (guard_target = ¬(k0_cond3 _ _ = _); exact h3) | (guard_target = ¬(k0_cond4 _ _ = _); exact h4))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [HS]; · iexists _; iexact HS
    isplitl [HT0]; · iexact HT0
    iexact HT1

/-- The pieces cover the scratch buffer. -/
theorem runFirst_cover (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA)
    (h1 : first i (word c i xt1)) (h2 : ¬ further i (word c i xt1)) (h3 : ¬ last i (word c i xt1)) (h4 : ¬ clear i (word c i xt1)) (y : S512x1024.Idx) :
    ∃ pc ∈ (runFirst c i arg5 harg5 arg6 harg6 arg7 harg7 arg8 harg8 x0 x1 xt0 xt1 h1 h2 h3 h4).1, y ∈ pc.1.set :=
  View.cover_of_tiledL (runFirst c i arg5 harg5 arg6 harg6 arg7 harg7 arg8 harg8 x0 x1 xt0 xt1 h1 h2 h3 h4).1 S512x1024.size (by sl_kernel_rfl) y

/-- What they leave in the scratch buffer. -/
theorem runFirst_scratch (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA)
    (h1 : first i (word c i xt1)) (h2 : ¬ further i (word c i xt1)) (h3 : ¬ last i (word c i xt1)) (h4 : ¬ clear i (word c i xt1)) :
    scratchView.read (Elt F) (scratchView.writes (Elt F) scratchView.junk (runFirst c i arg5 harg5 arg6 harg6 arg7 harg7 arg8 harg8 x0 x1 xt0 xt1 h1 h2 h3 h4).1) = k0_pay1 x0 x1 := by
  frame_out

set_option maxHeartbeats 8000000 in
/-- At a point between it adds the product to the scratch buffer. -/
noncomputable def runFurther (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : ¬ last i (word c i xt1)) (h4 : ¬ clear i (word c i xt1)) :
    { LS : List (View.Piece (Elt F) S512x1024 .f32) // ∀ (xi : Vec F S512x1024 .f32) (E : Set ℕ) (K : PUnit → sProp 𝕄),
        iprop(owns (c : Thread nD τ) arg5 fullShare x0 ∗ owns (c : Thread nD τ) arg6 fullShare x1 ∗ owns (c : Thread nD τ) arg7 fullShare xi ∗ owns (c : Thread nD τ) arg8 fullShare xs ∗ held c tableE xt0 ∗ held c tableA xt1
            ∗ (iprop(owns (c : Thread nD τ) arg5 fullShare x0 ∗ owns (c : Thread nD τ) arg6 fullShare x1 ∗ owns (c : Thread nD τ) arg7 fullShare xi ∗ (∃ f, arg8.view.loc (c : Thread nD τ) ↦[arg8.view.set]{fullShare} arg8.view.writes (Elt F) f LS) ∗ held c tableE xt0 ∗ held c tableA xt1) -∗ K ⟨⟩))
          ⊢ wp frame (wpE (defs₀ (F := F)) Variants.none c none) E (cc0_moe_down i tableE whole_tableE tableA whole_tableA arg5 harg5 arg6 harg6 arg7 harg7 arg8 harg8) K } := by
  refine ⟨?_, fun xi E K => ?run⟩
  case run =>
    simp only [cc0_moe_down_eq_skeleton]; unfold cc0_moe_down_skel
    unfold owns
    iintro ⟨⟨%f0, %hf0, H0⟩, ⟨%f1, %hf1, H1⟩, ⟨%f2, %hf2, H2⟩, ⟨%fs, %hfs, HS⟩, HT0, HT1, Hk⟩
    obtain rfl := harg5.eq_unread hf0; obtain rfl := harg6.eq_unread hf1; obtain rfl := harg7.eq_unread hf2; obtain rfl := harg8.eq_unread hfs
    sl_exec! (disch := first | (guard_target = ¬(Scalar.cmpi .ne (Scalar.extui (Scalar.andi _ (Scalar.cmpi .eq _ _))) _ = _); exact h1) | (guard_target = Scalar.cmpi .ne (Scalar.extui (Scalar.andi _ (Scalar.cmpi .sgt _ _))) _ = _; exact h2) | (guard_target = ¬(k0_cond3 _ _ = _); exact h3) | (guard_target = ¬(k0_cond4 _ _ = _); exact h4))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [HS]; · iexists _; iexact HS
    isplitl [HT0]; · iexact HT0
    iexact HT1

/-- The pieces cover the scratch buffer. -/
theorem runFurther_cover (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : ¬ last i (word c i xt1)) (h4 : ¬ clear i (word c i xt1)) (y : S512x1024.Idx) :
    ∃ pc ∈ (runFurther c i arg5 harg5 arg6 harg6 arg7 harg7 arg8 harg8 x0 x1 xt0 xt1 xs h1 h2 h3 h4).1, y ∈ pc.1.set :=
  View.cover_of_tiledL (runFurther c i arg5 harg5 arg6 harg6 arg7 harg7 arg8 harg8 x0 x1 xt0 xt1 xs h1 h2 h3 h4).1 S512x1024.size (by sl_kernel_rfl) y

/-- What they leave in the scratch buffer. -/
theorem runFurther_scratch (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : ¬ last i (word c i xt1)) (h4 : ¬ clear i (word c i xt1)) :
    scratchView.read (Elt F) (scratchView.writes (Elt F) scratchView.junk (runFurther c i arg5 harg5 arg6 harg6 arg7 harg7 arg8 harg8 x0 x1 xt0 xt1 xs h1 h2 h3 h4).1) = k0_pay2 xs x0 x1 := by
  frame_out

set_option maxHeartbeats 8000000 in
/-- At the last point it adds the product and copies the sum to the output's buffer. -/
noncomputable def runLast (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : last i (word c i xt1)) (h4 : ¬ clear i (word c i xt1)) :
    Σ' (LO : List (View.Piece (Elt F) S512x1024 .f32)), { LS : List (View.Piece (Elt F) S512x1024 .f32) // ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ owns (c : Thread nD τ) arg8 fullShare xs ∗ held c tableE xt0 ∗ held c tableA xt1
            ∗ (iprop(owns (c : Thread nD τ) arg5 fullShare x0 ∗ owns (c : Thread nD τ) arg6 fullShare x1 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS) ∗ held c tableE xt0 ∗ held c tableA xt1) -∗ K ⟨⟩))
          ⊢ wp frame (wpE (defs₀ (F := F)) Variants.none c none) E (cc0_moe_down i tableE whole_tableE tableA whole_tableA arg5 harg5 arg6 harg6 arg7 harg7 arg8 harg8) K } := by
  refine ⟨?_, ?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, ⟨%fs, %hfs, HS⟩, HT0, HT1, Hk⟩
    obtain rfl := harg5.eq_unread hf0; obtain rfl := harg6.eq_unread hf1; obtain rfl := harg8.eq_unread hfs
    sl_exec! (disch := first | (guard_target = ¬(Scalar.cmpi .ne (Scalar.extui (Scalar.andi _ (Scalar.cmpi .eq _ _))) _ = _); exact h1) | (guard_target = Scalar.cmpi .ne (Scalar.extui (Scalar.andi _ (Scalar.cmpi .sgt _ _))) _ = _; exact h2) | (guard_target = k0_cond3 _ _ = _; exact h3) | (guard_target = ¬(k0_cond4 _ _ = _); exact h4))
    sl_step
    iapply Hk
    isplitl [H0]
    · iexists _; isplitr; · ipureintro; exact harg5.read_unread _
      iexact H0
    isplitl [H1]
    · iexists _; isplitr; · ipureintro; exact harg6.read_unread _
      iexact H1
    isplitl [H2]; · iexists _; iexact H2
    isplitl [HS]; · iexists _; iexact HS
    isplitl [HT0]; · iexact HT0
    iexact HT1

/-- The pieces cover the output's block. -/
theorem runLast_cover_out (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : last i (word c i xt1)) (h4 : ¬ clear i (word c i xt1)) (y : S512x1024.Idx) :
    ∃ pc ∈ (runLast c i arg5 harg5 arg6 harg6 arg7 harg7 arg8 harg8 x0 x1 xt0 xt1 xs h1 h2 h3 h4).1, y ∈ pc.1.set :=
  View.cover_of_tiledL (runLast c i arg5 harg5 arg6 harg6 arg7 harg7 arg8 harg8 x0 x1 xt0 xt1 xs h1 h2 h3 h4).1 S512x1024.size (by sl_kernel_rfl) y

/-- What they leave in the output's buffer. -/
theorem runLast_out (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : last i (word c i xt1)) (h4 : ¬ clear i (word c i xt1)) :
    outView.read (Elt F) (outView.writes (Elt F) outView.junk (runLast c i arg5 harg5 arg6 harg6 arg7 harg7 arg8 harg8 x0 x1 xt0 xt1 xs h1 h2 h3 h4).1) = k0_pay2 xs x0 x1 := by
  frame_out

/-- The pieces cover the scratch buffer. -/
theorem runLast_cover (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : last i (word c i xt1)) (h4 : ¬ clear i (word c i xt1)) (y : S512x1024.Idx) :
    ∃ pc ∈ (runLast c i arg5 harg5 arg6 harg6 arg7 harg7 arg8 harg8 x0 x1 xt0 xt1 xs h1 h2 h3 h4).2.1, y ∈ pc.1.set :=
  View.cover_of_tiledL (runLast c i arg5 harg5 arg6 harg6 arg7 harg7 arg8 harg8 x0 x1 xt0 xt1 xs h1 h2 h3 h4).2.1 S512x1024.size (by sl_kernel_rfl) y

/-- What they leave in the scratch buffer. -/
theorem runLast_scratch (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : further i (word c i xt1)) (h3 : last i (word c i xt1)) (h4 : ¬ clear i (word c i xt1)) :
    scratchView.read (Elt F) (scratchView.writes (Elt F) scratchView.junk (runLast c i arg5 harg5 arg6 harg6 arg7 harg7 arg8 harg8 x0 x1 xt0 xt1 xs h1 h2 h3 h4).2.1) = k0_pay2 xs x0 x1 := by
  frame_out

set_option maxHeartbeats 8000000 in
/-- On a tile that is not active it touches nothing before the last point, -/
theorem runIdle (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : ¬ further i (word c i xt1)) (h3 : ¬ last i (word c i xt1)) (h4 : ¬ clear i (word c i xt1)) :
    ∀ (xi : Vec F S512x1024 .f32) (E : Set ℕ) (K : PUnit → sProp 𝕄),
        iprop(owns (c : Thread nD τ) arg5 fullShare x0 ∗ owns (c : Thread nD τ) arg6 fullShare x1 ∗ owns (c : Thread nD τ) arg7 fullShare xi ∗ owns (c : Thread nD τ) arg8 fullShare xs ∗ held c tableE xt0 ∗ held c tableA xt1
            ∗ (iprop(owns (c : Thread nD τ) arg5 fullShare x0 ∗ owns (c : Thread nD τ) arg6 fullShare x1 ∗ owns (c : Thread nD τ) arg7 fullShare xi ∗ owns (c : Thread nD τ) arg8 fullShare xs ∗ held c tableE xt0 ∗ held c tableA xt1) -∗ K ⟨⟩))
          ⊢ wp frame (wpE (defs₀ (F := F)) Variants.none c none) E (cc0_moe_down i tableE whole_tableE tableA whole_tableA arg5 harg5 arg6 harg6 arg7 harg7 arg8 harg8) K := by
  intro xi E K
  simp only [cc0_moe_down_eq_skeleton]; unfold cc0_moe_down_skel
  unfold owns
  iintro ⟨⟨%f0, %hf0, H0⟩, ⟨%f1, %hf1, H1⟩, ⟨%f2, %hf2, H2⟩, ⟨%fs, %hfs, HS⟩, HT0, HT1, Hk⟩
  obtain rfl := harg5.eq_unread hf0; obtain rfl := harg6.eq_unread hf1; obtain rfl := harg7.eq_unread hf2; obtain rfl := harg8.eq_unread hfs
  sl_exec! (disch := first | (guard_target = ¬(Scalar.cmpi .ne (Scalar.extui (Scalar.andi _ (Scalar.cmpi .eq _ _))) _ = _); exact h1) | (guard_target = ¬(Scalar.cmpi .ne (Scalar.extui (Scalar.andi _ (Scalar.cmpi .sgt _ _))) _ = _); exact h2) | (guard_target = ¬(k0_cond3 _ _ = _); exact h3) | (guard_target = ¬(k0_cond4 _ _ = _); exact h4))
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [HS]
  · iexists _; isplitr; · ipureintro; exact harg8.read_unread _
    iexact HS
  isplitl [HT0]; · iexact HT0
  iexact HT1

set_option maxHeartbeats 8000000 in
/-- and stores zeros there. -/
noncomputable def runClear (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : ¬ further i (word c i xt1)) (h3 : ¬ last i (word c i xt1)) (h4 : clear i (word c i xt1)) :
    { LO : List (View.Piece (Elt F) S512x1024 .f32) // ∀ (E : Set ℕ) (K : PUnit → sProp 𝕄),
        iprop(owns (c : Thread nD τ) arg5 fullShare x0 ∗ owns (c : Thread nD τ) arg6 fullShare x1 ∗ (∃ d, owns (c : Thread nD τ) arg7 fullShare d) ∗ owns (c : Thread nD τ) arg8 fullShare xs ∗ held c tableE xt0 ∗ held c tableA xt1
            ∗ (iprop(owns (c : Thread nD τ) arg5 fullShare x0 ∗ owns (c : Thread nD τ) arg6 fullShare x1 ∗ (∃ f, arg7.view.loc (c : Thread nD τ) ↦[arg7.view.set]{fullShare} arg7.view.writes (Elt F) f LO) ∗ owns (c : Thread nD τ) arg8 fullShare xs ∗ held c tableE xt0 ∗ held c tableA xt1) -∗ K ⟨⟩))
          ⊢ wp frame (wpE (defs₀ (F := F)) Variants.none c none) E (cc0_moe_down i tableE whole_tableE tableA whole_tableA arg5 harg5 arg6 harg6 arg7 harg7 arg8 harg8) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, ⟨%fs, %hfs, HS⟩, HT0, HT1, Hk⟩
    obtain rfl := harg5.eq_unread hf0; obtain rfl := harg6.eq_unread hf1; obtain rfl := harg8.eq_unread hfs
    sl_exec! (disch := first | (guard_target = ¬(Scalar.cmpi .ne (Scalar.extui (Scalar.andi _ (Scalar.cmpi .eq _ _))) _ = _); exact h1) | (guard_target = ¬(Scalar.cmpi .ne (Scalar.extui (Scalar.andi _ (Scalar.cmpi .sgt _ _))) _ = _); exact h2) | (guard_target = ¬(k0_cond3 _ _ = _); exact h3) | (guard_target = k0_cond4 _ _ = _; exact h4))
    sl_step
    iapply Hk
    isplitl [H0]
    · iexists _; isplitr; · ipureintro; exact harg5.read_unread _
      iexact H0
    isplitl [H1]
    · iexists _; isplitr; · ipureintro; exact harg6.read_unread _
      iexact H1
    isplitl [H2]; · iexists _; iexact H2
    isplitl [HS]
    · iexists _; isplitr; · ipureintro; exact harg8.read_unread _
      iexact HS
    isplitl [HT0]; · iexact HT0
    iexact HT1

/-- The pieces cover the output's block. -/
theorem runClear_cover_out (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : ¬ further i (word c i xt1)) (h3 : ¬ last i (word c i xt1)) (h4 : clear i (word c i xt1)) (y : S512x1024.Idx) :
    ∃ pc ∈ (runClear c i arg5 harg5 arg6 harg6 arg7 harg7 arg8 harg8 x0 x1 xt0 xt1 xs h1 h2 h3 h4).1, y ∈ pc.1.set :=
  View.cover_of_tiledL (runClear c i arg5 harg5 arg6 harg6 arg7 harg7 arg8 harg8 x0 x1 xt0 xt1 xs h1 h2 h3 h4).1 S512x1024.size (by sl_kernel_rfl) y

/-- What they leave in the output's buffer. -/
theorem runClear_out (c : Dev nD) (i : grid0.Coords) (arg5 : Memref sig .tc .vmem S512x2048 .bf16) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S512x1024 .f32) (harg8 : arg8.IsWhole)
    (x0 : Vec F S512x2048 .bf16) (x1 : Vec F S1x2048x1024 .f32) (xt0 : TableBuf (F := F) c tableE) (xt1 : TableBuf (F := F) c tableA) (xs : Vec F S512x1024 .f32)
    (h1 : ¬ first i (word c i xt1)) (h2 : ¬ further i (word c i xt1)) (h3 : ¬ last i (word c i xt1)) (h4 : clear i (word c i xt1)) :
    outView.read (Elt F) (outView.writes (Elt F) outView.junk (runClear c i arg5 harg5 arg6 harg6 arg7 harg7 arg8 harg8 x0 x1 xt0 xt1 xs h1 h2 h3 h4).1) = k0_pay3 (F := F) := by
  frame_out

end Cert.DownIdeal.Run

end
-- ==== Proof.DownIdealFrame.lean ====
module

public import proofs.«01_k».proof.Proof.DownIdealRun

/-! The pipeline of the expert down-projection for every contents of its tables whose blocks lie inside the arrays:
what each window's buffer holds point by point, the run of the whole call, and the frame. -/

@[expose] public section

set_option maxRecDepth 16384

noncomputable section

namespace Cert.DownIdeal.Run

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch memory and the tables -/

/-- A core's buffers when the pipeline is entered: as launched. -/
abbrev V (c : Dev nD) (b : Ref sig .tc) : Buf (Elt F) ((c : Thread nD τ).loc b) := m ((c : Thread nD τ).loc b)

set_option maxHeartbeats 800000 in
/-- The program is the pipeline alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents in the launch memory. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every block the tables select lies inside its array. -/
abbrev Ok : Prop := ok0 (F := F) (tbl m)
/-- The pipeline at those tables. -/
abbrev adm (hO : Ok m) : (pcfg0 (F := F)).Adm := ⟨tbl m, hO⟩
abbrev cfgM (hO : Ok m) : Pipeline.Cfg sig Λ₀ := cfg0 (adm m hO)

theorem tables_held (c : Dev nD) : (Pipeline.ΦT pre0 (tbl m) c : sProp 𝕄) = iprop(held c tableE (tbl m 0) ∗ held c tableA (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The grid -/

/-- The grid's point `t` is tile of rows `t / 28`, tile of columns `t / 7 % 4` and product `t % 7`. -/
theorem coords_eq (t : Fin grid0.N) : (grid0.coords t 0).val = t.val / 28 ∧ (grid0.coords t 1).val = t.val / 7 % 4 ∧ (grid0.coords t 2).val = t.val % 7 := by
  have ht : t.val < 1120 := Nat.lt_of_lt_of_eq t.isLt N_0
  have e0 : (grid0.coords t 0).val = t.val / 28 % 40 := Pipeline.Grid.coords_val t 0 (by decide) rfl
  have e1 : (grid0.coords t 1).val = t.val / 7 % 4 := Pipeline.Grid.coords_val t 1 (by decide) rfl
  have e2 : (grid0.coords t 2).val = t.val / 1 % 7 := Pipeline.Grid.coords_val t 2 (by decide) rfl
  rw [e0, e1, e2]
  refine ⟨?_, rfl, ?_⟩ <;> omega

theorem coord0_lt (i : grid0.Coords) : (i 0).val < 40 := (i 0).isLt
theorem coord1_lt (i : grid0.Coords) : (i 1).val < 4 := (i 1).isLt

/-- The position of a tile of rows in the tables. -/
def tile (i : grid0.Coords) : S40.Idx := fun | ⟨0, _⟩ => i 0

/-- The words of the two tables for the tile of a point. -/
def wordE (T : pre0.Contents (Elt F)) (i : grid0.Coords) : BitVec 32 := T 0 (tile i)
def wordA (T : pre0.Contents (Elt F)) (i : grid0.Coords) : BitVec 32 := T 1 (tile i)

/-- The offset at which the body and the index maps read the tables is the tile. -/
theorem off1_eq (i : grid0.Coords) : k0_off1 i 0 = (i 0).val := by
  have := coord0_lt i
  show (BitVec.setWidth _ (BitVec.ofNat 32 (i 0).val)).toNat = _
  simp only [BitVec.toNat_ofNat, BitVec.toNat_setWidth]
  omega

theorem unit_tile (i : grid0.Coords) (x : S1.Idx) :
    (Rect.unit (s := S40) (k0_off1 i) S1.size (k0_off1_inb i)).emb x = tile i := by
  funext a
  have ha : a = (0 : Fin 1) := Subsingleton.elim _ _
  subst ha
  apply Fin.ext
  show k0_off1 i 0 + 1 * (x 0).val = (i 0).val
  have hx : (x 0).val < 1 := (x 0).isLt
  rw [off1_eq]
  omega

/-- The body's word is the second table's at the tile. -/
theorem word_eq (c : Dev nD) (i : grid0.Coords) (T : TableBuf (F := F) c tableA) : word c i T = T (tile i) :=
  congrArg T (unit_tile i _)

theorem at_wordE (T : pre0.Contents (Elt F)) (i : grid0.Coords) :
    T.at 0 (Rect.unit (s := S40) (k0_off1 i) S1.size (k0_off1_inb i)) numel1_S1 = wordE T i := congrArg (T 0) (unit_tile i _)
theorem at_wordA (T : pre0.Contents (Elt F)) (i : grid0.Coords) :
    T.at 1 (Rect.unit (s := S40) (k0_off1 i) S1.size (k0_off1_inb i)) numel1_S1 = wordA T i := congrArg (T 1) (unit_tile i _)

/-- The points of one tile read the same word. -/
theorem word_same (c : Dev nD) (t u : Fin grid0.N) (h : t.val / 28 = u.val / 28) (T : TableBuf (F := F) c tableA) :
    word c (grid0.coords t) T = word c (grid0.coords u) T := by
  rw [word_eq, word_eq]
  refine congrArg T ?_
  funext a
  match a with
  | ⟨0, _⟩ =>
    apply Fin.ext
    show (grid0.coords t 0).val = (grid0.coords u 0).val
    rw [(coords_eq t).1, (coords_eq u).1, h]

/-- The output is stored at a tile's last point, on one path or the other, -/
theorem not_idle (pf : pre0.Contents (Elt F)) (i : grid0.Coords) (h : (i 2).val = 6) : idle0 pf 2 i = false := by
  show (!(k0_cond3 i (pf.atD 1 (k0_off1 i)) == 1#1) && !(k0_cond4 i (pf.atD 1 (k0_off1 i)) == 1#1)) = false
  generalize (pf.atD 1 (k0_off1 i) : BitVec 32) = w
  by_cases h' : w = 0#32
  · rw [(clear_iff i w).mpr ⟨h', h⟩]; simp
  · rw [(last_iff i w).mpr ⟨h', h⟩]; simp
/-- and at no other. -/
theorem idle (pf : pre0.Contents (Elt F)) (i : grid0.Coords) (h : (i 2).val ≠ 6) : idle0 pf 2 i = true := by
  show (!(k0_cond3 i (pf.atD 1 (k0_off1 i)) == 1#1) && !(k0_cond4 i (pf.atD 1 (k0_off1 i)) == 1#1)) = true
  generalize (pf.atD 1 (k0_off1 i) : BitVec 32) = w
  have a : (k0_cond3 i w == 1#1) = false := beq_eq_false_iff_ne.mpr fun h' => h ((last_iff i w).mp h').2
  have b : (k0_cond4 i w == 1#1) = false := beq_eq_false_iff_ne.mpr fun h' => h ((clear_iff i w).mp h').2
  rw [a, b]; rfl

theorem live_0 (hO : Ok m) (t : Fin (cfgM m hO).N) : (cfgM m hO).idle 0 (grid0.coords t) = false := rfl
theorem live_1 (hO : Ok m) (t : Fin (cfgM m hO).N) : (cfgM m hO).idle 1 (grid0.coords t) = false := rfl
theorem live_last (hO : Ok m) (t : Fin (cfgM m hO).N) (h : t.val % 7 = 6) : (cfgM m hO).idle 2 (grid0.coords t) = false :=
  not_idle (tbl m) _ ((coords_eq t).2.2.trans h)
theorem idle_before (hO : Ok m) (t : Fin (cfgM m hO).N) (h : t.val % 7 ≠ 6) : (cfgM m hO).idle 2 (grid0.coords t) = true :=
  idle (tbl m) _ (fun h' => h ((coords_eq t).2.2.symm.trans h'))
theorem flush_aux : ∀ t : Fin grid0.N, t.val % 7 ≠ 6 → Pipeline.Window.flushOf grid0 true cc0_transform_2 t = false := by
  decide +kernel
/-- Before a tile's last point its block is not written back. -/
theorem no_flush (hO : Ok m) (t : Fin (cfgM m hO).N) (h : t.val % 7 ≠ 6) : ((cfgM m hO).win 2).flush t = false := flush_aux t h

/-! ## The windows' buffers -/

/-- Each window's staging buffer at a point, and the body on them. -/
abbrev ms0 (hO : Ok m) (t : Fin (cfgM m hO).N) : Memref sig .tc .vmem S512x2048 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x2048x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S512x1024 .f32 := spec0_2.stage ((cfgM m hO).slots t 2)
abbrev hs2 (hO : Ok m) (t : Fin (cfgM m hO).N) : (ms2 m hO t).IsWhole := hstage0_2 (((cfgM m hO).slots t 2).cast nbuf0_2)
abbrev bodyAt (hO : Ok m) (t : Fin (cfgM m hO).N) : Prog (TpuEff nD τ sig (Elt F) Λ₀ .tc) PUnit :=
  cc0_moe_down (grid0.coords t) (Memref.whole main_arg2) (Memref.isWhole_whole _) (Memref.whole main_arg3) (Memref.isWhole_whole _) (ms0 m hO t) (hs0 m hO t) (ms1 m hO t) (hs1 m hO t) (ms2 m hO t) (hs2 m hO t) scratch (Memref.isWhole_whole _)

/-- Window `w`'s block at point `t`, read off its array at launch. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The sum in the scratch buffer after point `n` of an active tile: the product at its first point, and one more
    product at each further point. -/
def acc (hO : Ok m) (c : Dev nD) : (n : ℕ) → n < (cfgM m hO).N → Vec F S512x1024 .f32
  | 0, hn => k0_pay1 (iblk m hO c 0 ⟨0, hn⟩) (iblk m hO c 1 ⟨0, hn⟩)
  | n + 1, hn =>
    if (n + 1) % 7 = 0 then k0_pay1 (iblk m hO c 0 ⟨n + 1, hn⟩) (iblk m hO c 1 ⟨n + 1, hn⟩)
    else k0_pay2 (acc hO c n (Nat.lt_of_succ_lt hn)) (iblk m hO c 0 ⟨n + 1, hn⟩) (iblk m hO c 1 ⟨n + 1, hn⟩)

theorem acc_first (hO : Ok m) (c : Dev nD) (t : Fin (cfgM m hO).N) (h : t.val % 7 = 0) :
    acc m hO c t.val t.isLt = k0_pay1 (iblk m hO c 0 t) (iblk m hO c 1 t) := by
  obtain ⟨n, hn⟩ := t
  cases n with
  | zero => rfl
  | succ n => exact if_pos h
theorem acc_further (hO : Ok m) (c : Dev nD) (t : Fin (cfgM m hO).N) (h : t.val % 7 ≠ 0) :
    acc m hO c t.val t.isLt
      = k0_pay2 (acc m hO c (t.val - 1) (Nat.lt_of_le_of_lt (Nat.sub_le _ _) t.isLt)) (iblk m hO c 0 t) (iblk m hO c 1 t) := by
  obtain ⟨n, hn⟩ := t
  cases n with
  | zero => exact absurd (Nat.zero_mod _) h
  | succ n => exact if_neg h

/-- What the output's buffer holds after a tile's last point: the sum on an active tile, zeros elsewhere. -/
def outsAt (hO : Ok m) (c : Dev nD) (t : Fin (cfgM m hO).N) : Vec F S512x1024 .f32 :=
  if word c (grid0.coords t) (tbl m 1) = 0#32 then k0_pay3 (F := F) else acc m hO c t.val t.isLt

/-- What the scratch buffer is known to hold before point `n`: inside an active tile the sum so far, else anything. -/
def Holds (hO : Ok m) (c : Dev nD) (n : ℕ) (d : Vec F S512x1024 .f32) : Prop :=
  ∀ (h : n < (cfgM m hO).N), n % 7 ≠ 0 → word c (grid0.coords ⟨n, h⟩) (tbl m 1) ≠ 0#32 →
    d = acc m hO c (n - 1) (Nat.lt_of_le_of_lt (Nat.sub_le _ _) h)

/-- What a core keeps between points: the scratch buffer, the generator's register and the tables. -/
def Kept (hO : Ok m) (c : Dev nD) (n : ℕ) : sProp 𝕄 :=
  iprop(iprop((∃ d, iprop(⌜Holds m hO c n d⌝ ∗ owns (c : Thread nD τ) scratch fullShare d)) ∗ (∃ r, prngReg c r)) ∗ iprop(held c tableE (tbl m 0) ∗ held c tableA (tbl m 1)))

theorem scoped_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt m hO c t)
  Φ t := Kept m hO c t.val
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = (outsAt m hO c t) := by dsimp only [dats]; try rfl

/-- An input's buffer holds its block whenever the body runs, fetched at that point or before. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- What is kept before a point. -/
theorem kept_at (hO : Ok m) (c : Dev nD) (t : Fin ((cfgM m hO).N + 1)) : (dats m hO 0 c).Φ t = Kept m hO c t.val := by dsimp only [dats]
theorem kept_before (hO : Ok m) (c : Dev nD) (t : Fin (cfgM m hO).N) : (dats m hO 0 c).Φ t.castSucc = Kept m hO c t.val :=
  (kept_at m hO c t.castSucc).trans (congrArg (Kept m hO c) (Fin.val_castSucc t))
theorem kept_after (hO : Ok m) (c : Dev nD) (t : Fin (cfgM m hO).N) : (dats m hO 0 c).Φ t.succ = Kept m hO c (t.val + 1) :=
  (kept_at m hO c t.succ).trans (congrArg (Kept m hO c) (Fin.val_succ t))

/-! ## The body at a point -/

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t)

set_option maxHeartbeats 1000000 in
/-- The body at any point: on an active tile it adds a product, on any other it does nothing before the last point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  have hk : (grid0.coords t 2).val = t.val % 7 := (coords_eq t).2.2
  unfold bodyPre bodyPost bodyAt
  simp only [before_0, before_1]
  rw [show (dats m hO 0 c).owesAt () t.succ = (dats m hO 0 c).owesAt () t.castSucc from rfl]
  rw [kept_before m hO c t, kept_after m hO c t]
  rw [show (dats m hO 0 c).leavesExact 0 t = owns (c : Thread nD τ) (ms0 m hO t) fullShare ((dats m hO 0 c).after 0 t) from by
      unfold Dat.leavesExact; rw [live_0 m hO t]; try rfl, after_0]
  rw [show (dats m hO 0 c).leavesExact 1 t = owns (c : Thread nD τ) (ms1 m hO t) fullShare ((dats m hO 0 c).after 1 t) from by
      unfold Dat.leavesExact; rw [live_1 m hO t]; try rfl, after_1]
  unfold Kept
  by_cases hw : word c (grid0.coords t) (tbl m 1) = 0#32
  · have n1 : ¬ first (grid0.coords t) (word c (grid0.coords t) (tbl m 1)) := fun h => ((first_iff _ _).mp h).1 hw
    have n2 : ¬ further (grid0.coords t) (word c (grid0.coords t) (tbl m 1)) := fun h => ((further_iff _ _).mp h).1 hw
    have n3 : ¬ last (grid0.coords t) (word c (grid0.coords t) (tbl m 1)) := fun h => ((last_iff _ _).mp h).1 hw
    have HH (d) : Holds m hO c (t.val + 1) d := fun h h0 hn => absurd
      ((word_same c ⟨t.val + 1, h⟩ t (by show (t.val + 1) / 28 = t.val / 28; omega) (tbl m 1)).trans hw) hn
    by_cases h6 : t.val % 7 = 6
    · have p4 : clear (grid0.coords t) (word c (grid0.coords t) (tbl m 1)) := (clear_iff _ _).mpr ⟨hw, hk.trans h6⟩
      rw [show (dats m hO 0 c).leavesExact 2 t = owns (c : Thread nD τ) (ms2 m hO t) fullShare ((dats m hO 0 c).after 2 t) from by
          unfold Dat.leavesExact; rw [live_last m hO t h6]; try rfl, after_2]
      iintro ⟨⟨⟨⟨%ds, %hds, HS⟩, Hg⟩, ⟨HT0, HT1⟩⟩, Ho, ⟨%d0, H0⟩, ⟨%d1, H1⟩, ⟨%d2, H2⟩⟩
      iapply ((runClear c (grid0.coords t) _ _ _ _ _ _ _ _ (iblk m hO c 0 t) (iblk m hO c 1 t) (tbl m 0) (tbl m 1) ds n1 n2 n3 p4).2 Set.univ _)
      isplitl [H0]; · iexact H0
      isplitl [H1]; · iexact H1
      isplitl [H2]; · iexists _; iexact H2
      isplitl [HS]; · iexact HS
      isplitl [HT0]; · iexact HT0
      isplitl [HT1]; · iexact HT1
      iintro ⟨H0, H1, ⟨%e2, H2⟩, HS, HT0, HT1⟩
      isplitl [HS Hg HT0 HT1]
      · isplitl [HS Hg]
        · isplitl [HS]
          · iexists ds; isplitr
            · ipureintro; exact HH ds
            iexact HS
          iexact Hg
        isplitl [HT0]; · iexact HT0
        iexact HT1
      isplitl [Ho]; · iexact Ho
      isplitl [H0]; · iexact H0
      isplitl [H1]; · iexact H1
      unfold owns; iexists _; isplitr
      swap; · iexact H2
      ipureintro; exact (View.read_writes_of_cover _ _ outView _ _ (runClear_cover_out c (grid0.coords t) _ _ _ _ _ _ _ _ (iblk m hO c 0 t) (iblk m hO c 1 t) (tbl m 0) (tbl m 1) ds n1 n2 n3 p4)).trans ((runClear_out c (grid0.coords t) _ _ _ _ _ _ _ _ (iblk m hO c 0 t) (iblk m hO c 1 t) (tbl m 0) (tbl m 1) ds n1 n2 n3 p4).trans (if_pos hw).symm)
    · have n4 : ¬ clear (grid0.coords t) (word c (grid0.coords t) (tbl m 1)) := fun h => h6 (hk.symm.trans ((clear_iff _ _).mp h).2)
      rw [Dat.leavesExact_idle (dats m hO 0 c) 2 t (idle_before m hO t h6) (no_flush m hO t h6)]
      iintro ⟨⟨⟨⟨%ds, %hds, HS⟩, Hg⟩, ⟨HT0, HT1⟩⟩, Ho, ⟨%d0, H0⟩, ⟨%d1, H1⟩, ⟨%d2, H2⟩⟩
      iapply ((runIdle c (grid0.coords t) _ _ _ _ _ _ _ _ (iblk m hO c 0 t) (iblk m hO c 1 t) (tbl m 0) (tbl m 1) ds n1 n2 n3 n4) _ Set.univ _)
      isplitl [H0]; · iexact H0
      isplitl [H1]; · iexact H1
      isplitl [H2]; · iexact H2
      isplitl [HS]; · iexact HS
      isplitl [HT0]; · iexact HT0
      isplitl [HT1]; · iexact HT1
      iintro ⟨H0, H1, H2, HS, HT0, HT1⟩
      isplitl [HS Hg HT0 HT1]
      · isplitl [HS Hg]
        · isplitl [HS]
          · iexists ds; isplitr
            · ipureintro; exact HH ds
            iexact HS
          iexact Hg
        isplitl [HT0]; · iexact HT0
        iexact HT1
      isplitl [Ho]; · iexact Ho
      isplitl [H0]; · iexact H0
      isplitl [H1]; · iexact H1
      iexists _; iexact H2
  · have n4 : ¬ clear (grid0.coords t) (word c (grid0.coords t) (tbl m 1)) := fun h => hw ((clear_iff _ _).mp h).1
    have HH : Holds m hO c (t.val + 1) (acc m hO c t.val t.isLt) := fun h _ _ => rfl
    by_cases h0 : t.val % 7 = 0
    · have h6 : t.val % 7 ≠ 6 := by omega
      have p1 : first (grid0.coords t) (word c (grid0.coords t) (tbl m 1)) := (first_iff _ _).mpr ⟨hw, hk.trans h0⟩
      have n2 : ¬ further (grid0.coords t) (word c (grid0.coords t) (tbl m 1)) := fun h => ((further_iff _ _).mp h).2 (hk.trans h0)
      have n3 : ¬ last (grid0.coords t) (word c (grid0.coords t) (tbl m 1)) := fun h => h6 (hk.symm.trans ((last_iff _ _).mp h).2)
      rw [Dat.leavesExact_idle (dats m hO 0 c) 2 t (idle_before m hO t h6) (no_flush m hO t h6)]
      iintro ⟨⟨⟨⟨%ds, %hds, HS⟩, Hg⟩, ⟨HT0, HT1⟩⟩, Ho, ⟨%d0, H0⟩, ⟨%d1, H1⟩, ⟨%d2, H2⟩⟩
      iapply ((runFirst c (grid0.coords t) _ _ _ _ _ _ _ _ (iblk m hO c 0 t) (iblk m hO c 1 t) (tbl m 0) (tbl m 1) p1 n2 n3 n4).2 _ Set.univ _)
      isplitl [H0]; · iexact H0
      isplitl [H1]; · iexact H1
      isplitl [H2]; · iexact H2
      isplitl [HS]; · iexists _; iexact HS
      isplitl [HT0]; · iexact HT0
      isplitl [HT1]; · iexact HT1
      iintro ⟨H0, H1, H2, ⟨%es, HS⟩, HT0, HT1⟩
      isplitl [HS Hg HT0 HT1]
      · isplitl [HS Hg]
        · isplitl [HS]
          · iexists (acc m hO c t.val t.isLt); isplitr
            · ipureintro; exact HH
            unfold owns; iexists _; isplitr
            swap; · iexact HS
            ipureintro; exact (View.read_writes_of_cover _ _ scratchView _ _ (runFirst_cover c (grid0.coords t) _ _ _ _ _ _ _ _ (iblk m hO c 0 t) (iblk m hO c 1 t) (tbl m 0) (tbl m 1) p1 n2 n3 n4)).trans ((runFirst_scratch c (grid0.coords t) _ _ _ _ _ _ _ _ (iblk m hO c 0 t) (iblk m hO c 1 t) (tbl m 0) (tbl m 1) p1 n2 n3 n4).trans (acc_first m hO c t h0).symm)
          iexact Hg
        isplitl [HT0]; · iexact HT0
        iexact HT1
      isplitl [Ho]; · iexact Ho
      isplitl [H0]; · iexact H0
      isplitl [H1]; · iexact H1
      iexists _; iexact H2
    · have n1 : ¬ first (grid0.coords t) (word c (grid0.coords t) (tbl m 1)) := fun h => h0 (hk.symm.trans ((first_iff _ _).mp h).2)
      have p2 : further (grid0.coords t) (word c (grid0.coords t) (tbl m 1)) := (further_iff _ _).mpr ⟨hw, fun h => h0 (hk.symm.trans h)⟩
      by_cases h6 : t.val % 7 = 6
      · have p3 : last (grid0.coords t) (word c (grid0.coords t) (tbl m 1)) := (last_iff _ _).mpr ⟨hw, hk.trans h6⟩
        rw [show (dats m hO 0 c).leavesExact 2 t = owns (c : Thread nD τ) (ms2 m hO t) fullShare ((dats m hO 0 c).after 2 t) from by
            unfold Dat.leavesExact; rw [live_last m hO t h6]; try rfl, after_2]
        iintro ⟨⟨⟨⟨%ds, %hds, HS⟩, Hg⟩, ⟨HT0, HT1⟩⟩, Ho, ⟨%d0, H0⟩, ⟨%d1, H1⟩, ⟨%d2, H2⟩⟩
        obtain rfl := hds t.isLt h0 hw
        iapply ((runLast c (grid0.coords t) _ _ _ _ _ _ _ _ (iblk m hO c 0 t) (iblk m hO c 1 t) (tbl m 0) (tbl m 1) _ n1 p2 p3 n4).2.2 Set.univ _)
        isplitl [H0]; · iexact H0
        isplitl [H1]; · iexact H1
        isplitl [H2]; · iexists _; iexact H2
        isplitl [HS]; · iexact HS
        isplitl [HT0]; · iexact HT0
        isplitl [HT1]; · iexact HT1
        iintro ⟨H0, H1, ⟨%e2, H2⟩, ⟨%es, HS⟩, HT0, HT1⟩
        isplitl [HS Hg HT0 HT1]
        · isplitl [HS Hg]
          · isplitl [HS]
            · iexists (acc m hO c t.val t.isLt); isplitr
              · ipureintro; exact HH
              unfold owns; iexists _; isplitr
              swap; · iexact HS
              ipureintro; exact (View.read_writes_of_cover _ _ scratchView _ _ (runLast_cover c (grid0.coords t) _ _ _ _ _ _ _ _ (iblk m hO c 0 t) (iblk m hO c 1 t) (tbl m 0) (tbl m 1) _ n1 p2 p3 n4)).trans ((runLast_scratch c (grid0.coords t) _ _ _ _ _ _ _ _ (iblk m hO c 0 t) (iblk m hO c 1 t) (tbl m 0) (tbl m 1) _ n1 p2 p3 n4).trans (acc_further m hO c t h0).symm)
            iexact Hg
          isplitl [HT0]; · iexact HT0
          iexact HT1
        isplitl [Ho]; · iexact Ho
        isplitl [H0]; · iexact H0
        isplitl [H1]; · iexact H1
        unfold owns; iexists _; isplitr
        swap; · iexact H2
        ipureintro; exact (View.read_writes_of_cover _ _ outView _ _ (runLast_cover_out c (grid0.coords t) _ _ _ _ _ _ _ _ (iblk m hO c 0 t) (iblk m hO c 1 t) (tbl m 0) (tbl m 1) _ n1 p2 p3 n4)).trans ((runLast_out c (grid0.coords t) _ _ _ _ _ _ _ _ (iblk m hO c 0 t) (iblk m hO c 1 t) (tbl m 0) (tbl m 1) _ n1 p2 p3 n4).trans ((acc_further m hO c t h0).symm.trans (if_neg hw).symm))
      · have n3 : ¬ last (grid0.coords t) (word c (grid0.coords t) (tbl m 1)) := fun h => h6 (hk.symm.trans ((last_iff _ _).mp h).2)
        rw [Dat.leavesExact_idle (dats m hO 0 c) 2 t (idle_before m hO t h6) (no_flush m hO t h6)]
        iintro ⟨⟨⟨⟨%ds, %hds, HS⟩, Hg⟩, ⟨HT0, HT1⟩⟩, Ho, ⟨%d0, H0⟩, ⟨%d1, H1⟩, ⟨%d2, H2⟩⟩
        obtain rfl := hds t.isLt h0 hw
        iapply ((runFurther c (grid0.coords t) _ _ _ _ _ _ _ _ (iblk m hO c 0 t) (iblk m hO c 1 t) (tbl m 0) (tbl m 1) _ n1 p2 n3 n4).2 _ Set.univ _)
        isplitl [H0]; · iexact H0
        isplitl [H1]; · iexact H1
        isplitl [H2]; · iexact H2
        isplitl [HS]; · iexact HS
        isplitl [HT0]; · iexact HT0
        isplitl [HT1]; · iexact HT1
        iintro ⟨H0, H1, H2, ⟨%es, HS⟩, HT0, HT1⟩
        isplitl [HS Hg HT0 HT1]
        · isplitl [HS Hg]
          · isplitl [HS]
            · iexists (acc m hO c t.val t.isLt); isplitr
              · ipureintro; exact HH
              unfold owns; iexists _; isplitr
              swap; · iexact HS
              ipureintro; exact (View.read_writes_of_cover _ _ scratchView _ _ (runFurther_cover c (grid0.coords t) _ _ _ _ _ _ _ _ (iblk m hO c 0 t) (iblk m hO c 1 t) (tbl m 0) (tbl m 1) _ n1 p2 n3 n4)).trans ((runFurther_scratch c (grid0.coords t) _ _ _ _ _ _ _ _ (iblk m hO c 0 t) (iblk m hO c 1 t) (tbl m 0) (tbl m 1) _ n1 p2 n3 n4).trans (acc_further m hO c t h0).symm)
            iexact Hg
          isplitl [HT0]; · iexact HT0
          iexact HT1
        isplitl [Ho]; · iexact Ho
        isplitl [H0]; · iexact H0
        isplitl [H1]; · iexact H1
        iexists _; iexact H2

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ => .rfl

/-- Before the first point nothing is known of the scratch buffer. -/
theorem enter (hO : Ok m) (c : Dev nD) : iprop(Pipeline.ΦA spec0 c ∗ Pipeline.ΦT pre0 (tbl m) c) ⊢ (dats m hO 0 c).Φ 0 := by
  rw [kept_at m hO c 0, show (0 : Fin ((cfgM m hO).N + 1)).val = 0 from rfl, scoped_eq, tables_held]
  unfold Kept
  iintro ⟨⟨⟨%d, HS⟩, Hg⟩, HT⟩
  isplitl [HS Hg]
  · isplitl [HS]
    · iexists d; isplitr
      · ipureintro; exact fun _ h _ => absurd rfl h
      iexact HS
    iexact Hg
  iexact HT

/-- After the last its contents are forgotten. -/
theorem leave (hO : Ok m) (c : Dev nD) : (dats m hO 0 c).Φ (Fin.last (cfgM m hO).N) ⊢ Pipeline.ΦA spec0 c := by
  rw [kept_at m hO c (Fin.last (cfgM m hO).N), scoped_eq]
  unfold Kept
  iintro ⟨⟨⟨%d, -, HS⟩, Hg⟩, -⟩
  isplitl [HS]
  · iexists _; iexact HS
  iexact Hg

/-! ## The run of the call -/

set_option backward.isDefEq.respectTransparency.types false in
/-- The call terminates without fault; every array ends as the proof data says, and every semaphore counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

theorem run (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The result array ends at what the proof data computes, and the arguments end as they began. -/
theorem run_value (hO : Ok m) : θ_run defs (onTc (τ := τ) (main (F := F))) ⟨m, fun _ => 0, ρ⟩ (fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1 2,
      ((h c).1 0).trans (((dats m hO 0 c).arrAt_in 0 rfl _).trans (A_eq m hO c 0)),
      ((h c).1 1).trans (((dats m hO 0 c).arrAt_in 1 rfl _).trans (A_eq m hO c 1)),
      (h c).2 main_arg2 (by decide : main_arg2 ∈ Pipeline.restRefs sig spec0),
      (h c).2 main_arg3 (by decide : main_arg3 ∈ Pipeline.restRefs sig spec0)⟩) (run m ρ hO)

/-- The frame: the call terminates without fault, its arguments end unchanged and every semaphore counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_value m ρ hO)) ((θ_run defs _ _).mono (fun _ h => h.2) (run_quiescent m ρ hO))

/-! ## The blocks lie inside the arrays when the first table names experts -/

theorem select_active (w : BitVec 32) (n : ℕ) (hn : n < 4096) :
    (Scalar.select (Scalar.cmpi .ne w 0#32) (BitVec.ofNat 32 n) 0#32).toNat = if w = 0#32 then 0 else n := by
  by_cases h : w = 0#32
  · simp [h, Scalar.select, Scalar.cmpi, IntOp.cmpi]
  · have hb : (w != 0#32) = true := by simpa [bne_iff_ne] using h
    have hc : Scalar.cmpi .ne w 0#32 = 1#1 := by simp [Scalar.cmpi, IntOp.cmpi, hb]
    rw [hc]
    show (BitVec.ofNat 32 n).toNat = if w = 0#32 then 0 else n
    rw [if_neg h]
    simp only [BitVec.toNat_ofNat]
    omega

/-- The index map of the rows: the tile and the product where it is active, else the first block. -/
theorem rows_map (T : pre0.Contents (Elt F)) (i : grid0.Coords) :
    cc0_transform_0 k0_off1_inb numel1_S1 T i = ![if wordA T i = 0#32 then 0 else (i 0).val, if wordA T i = 0#32 then 0 else (i 2).val] := by
  have h0 := coord0_lt i
  have h2 := coord2_lt i
  have e := at_wordA T i
  funext a
  fin_cases a
  · show (Scalar.select (Scalar.cmpi .ne (T.at 1 (Rect.unit (s := S40) (k0_off1 i) S1.size (k0_off1_inb i)) numel1_S1) 0#32)
      (BitVec.ofNat 32 (i 0).val) 0#32).toNat = _
    rw [e]
    exact select_active _ _ (by omega)
  · show (Scalar.select (Scalar.cmpi .ne (T.at 1 (Rect.unit (s := S40) (k0_off1 i) S1.size (k0_off1_inb i)) numel1_S1) 0#32)
      (BitVec.ofNat 32 (i 2).val) 0#32).toNat = _
    rw [e]
    exact select_active _ _ (by omega)

/-- The index map of the weights: the tile's expert, the product where it is active, and the tile of columns. -/
theorem weights_map (T : pre0.Contents (Elt F)) (i : grid0.Coords) :
    cc0_transform_1 k0_off1_inb numel1_S1 T i = ![(wordE T i).toNat, if wordA T i = 0#32 then 0 else (i 2).val, (i 1).val] := by
  have h1 := coord1_lt i
  have h2 := coord2_lt i
  have e := at_wordE T i
  have e' := at_wordA T i
  funext a
  fin_cases a
  · exact congrArg BitVec.toNat e
  · show (Scalar.select (Scalar.cmpi .ne (T.at 1 (Rect.unit (s := S40) (k0_off1 i) S1.size (k0_off1_inb i)) numel1_S1) 0#32)
      (BitVec.ofNat 32 (i 2).val) 0#32).toNat = _
    rw [e']
    exact select_active _ _ (by omega)
  · show (BitVec.ofNat 32 (i 1).val).toNat = (i 1).val
    simp only [BitVec.toNat_ofNat]; omega

/-- The index map of the result: the tile of rows and the tile of columns. -/
theorem out_map (i : grid0.Coords) : cc0_transform_2 i = ![(i 0).val, (i 1).val] := by
  have h0 := coord0_lt i
  have h1 := coord1_lt i
  funext a
  fin_cases a
  · show (BitVec.ofNat 32 (i 0).val).toNat = (i 0).val
    simp only [BitVec.toNat_ofNat]; omega
  · show (BitVec.ofNat 32 (i 1).val).toNat = (i 1).val
    simp only [BitVec.toNat_ofNat]; omega

/-- The first table's words name one of the eight experts at every tile. -/
def Experts : Prop := ∀ j : S40.Idx, (tbl m 0 j : BitVec 32).toNat < 8

theorem ok_of_experts (h : Experts m) : Ok m := by
  refine ⟨fun i => ⟨fun a => ?_, .inr (Affine.block_words_dvd (of_decide_eq_true rfl) (by decide))⟩,
    fun i => ⟨fun a => ?_, .inl rfl⟩⟩
  all_goals
    have h0 := coord0_lt i
    have h1 := coord1_lt i
    have h2 := coord2_lt i
    have he : (wordE (tbl m) i).toNat < 8 := h (tile i)
  · rw [rows_map]
    fin_cases a
    · show ((if wordA (tbl m) i = 0#32 then 0 else (i 0).val) + 1) * 512 ≤ 20480
      split <;> omega
    · show ((if wordA (tbl m) i = 0#32 then 0 else (i 2).val) + 1) * 2048 ≤ 14336
      split <;> omega
  · rw [weights_map]
    fin_cases a
    · show ((wordE (tbl m) i).toNat + 1) * 1 ≤ 8
      omega
    · show ((if wordA (tbl m) i = 0#32 then 0 else (i 2).val) + 1) * 2048 ≤ 14336
      split <;> omega
    · show ((i 1).val + 1) * 1024 ≤ 4096
      omega

end Cert.DownIdeal.Run

end
-- ==== Proof.DownReference.lean ====
/- The reference's expert down-projection read at one element. -/
module
public import proofs.«01_k».proof.Proof.Gen.DownRefIdeal.Read
public import proofs.«01_k».proof.Proof.UpReference
public import Idealize.ShloMosaic.Lib.Pointwise
@[expose] public section
set_option maxRecDepth 16384
noncomputable section
open Idealize.ShloMosaic Idealize.ShloMosaic.TcCoe Idealize.SL.Sem

namespace Cert.DownRefIdeal.At
open Cert.DownRefIdeal Cert.DownRefIdeal.Gen Cert.DownRefIdeal.Read Cert.Experts

/-- The tile a row lies in. -/
def tileOf (q : Fin 20480) : Fin 40 := ⟨q.val / 512, by omega⟩

variable (x : FVec Ideal S20480x14336 .bf16) (w : FVec Ideal S8x14336x4096 .f32) (te ta : S40.Idx → BitVec 32)

/-- Row `q`, column `n` of the rows times an expert's weights. -/
def product (e : Fin 8) (q : Fin 20480) (n : Fin 4096) : EReal :=
  ∑ k : Fin 14336, x (ix2 q k) * w (ix3 e k n)

/-- The expert's number, repeated along the tile's rows. -/
theorem expert_at (q : Fin 20480) : val_main_v3 (F := Ideal) te (ix2 q 0) = te (ix1 (tileOf q)) := by
  pointwise [val_main_v3, val_main_v2, val_main_v1, tileOf]

/-- Whether the row's tile is active. -/
theorem active_at (q : Fin 20480) : val_main_v8 (F := Ideal) ta (ix2 q 0) = IntOp.cmpi .ne (ta (ix1 (tileOf q))) 0#32 := by
  pointwise [val_main_v8, val_main_v7, val_main_c, val_main_v6, val_main_v5, val_main_v4, tileOf]

/-- The array the choices start from. -/
theorem zero_at (q : Fin 20480) (n : Fin 4096) : val_main_v9 (F := Ideal) (ix2 q n) = 0 := by
  pointwise [val_main_v9, val_main_cst]

/-! Expert 0. -/
theorem prod0_at (q : Fin 20480) (n : Fin 4096) : val_main_v15 (F := Ideal) x w (ix2 q n) = product x w 0 q n := by
  pointwise [val_main_v15, val_main_v14, val_main_v13, val_main_v0, product]

theorem pick0_at (q : Fin 20480) (n : Fin 4096) :
    val_main_v16 (F := Ideal) x w te ta (ix2 q n)
      = if ta (ix1 (tileOf q)) ≠ 0#32 ∧ te (ix1 (tileOf q)) = 0#32 then product x w 0 q n
        else val_main_v9 (F := Ideal) (ix2 q n) := by
  rw [← prod0_at x w q n, ← choose_eq]
  unfold val_main_v16 val_main_call0_v0 val_main_v12 val_main_v11 val_main_v10 val_main_c_0
  generalize val_main_v15 (F := Ideal) x w = X
  generalize val_main_v9 (F := Ideal) = Y
  pointwise [expert_at, active_at]

/-! Expert 1. -/
theorem prod1_at (q : Fin 20480) (n : Fin 4096) : val_main_v22 (F := Ideal) x w (ix2 q n) = product x w 1 q n := by
  pointwise [val_main_v22, val_main_v21, val_main_v20, val_main_v0, product]

theorem pick1_at (q : Fin 20480) (n : Fin 4096) :
    val_main_v23 (F := Ideal) x w te ta (ix2 q n)
      = if ta (ix1 (tileOf q)) ≠ 0#32 ∧ te (ix1 (tileOf q)) = 1#32 then product x w 1 q n
        else val_main_v16 (F := Ideal) x w te ta (ix2 q n) := by
  rw [← prod1_at x w q n, ← choose_eq]
  unfold val_main_v23 val_main_call1_v0 val_main_v19 val_main_v18 val_main_v17 val_main_c_1
  generalize val_main_v22 (F := Ideal) x w = X
  generalize val_main_v16 (F := Ideal) x w te ta = Y
  pointwise [expert_at, active_at]

/-! Expert 2. -/
theorem prod2_at (q : Fin 20480) (n : Fin 4096) : val_main_v29 (F := Ideal) x w (ix2 q n) = product x w 2 q n := by
  pointwise [val_main_v29, val_main_v28, val_main_v27, val_main_v0, product]

theorem pick2_at (q : Fin 20480) (n : Fin 4096) :
    val_main_v30 (F := Ideal) x w te ta (ix2 q n)
      = if ta (ix1 (tileOf q)) ≠ 0#32 ∧ te (ix1 (tileOf q)) = 2#32 then product x w 2 q n
        else val_main_v23 (F := Ideal) x w te ta (ix2 q n) := by
  rw [← prod2_at x w q n, ← choose_eq]
  unfold val_main_v30 val_main_call2_v0 val_main_v26 val_main_v25 val_main_v24 val_main_c_2
  generalize val_main_v29 (F := Ideal) x w = X
  generalize val_main_v23 (F := Ideal) x w te ta = Y
  pointwise [expert_at, active_at]

/-! Expert 3. -/
theorem prod3_at (q : Fin 20480) (n : Fin 4096) : val_main_v36 (F := Ideal) x w (ix2 q n) = product x w 3 q n := by
  pointwise [val_main_v36, val_main_v35, val_main_v34, val_main_v0, product]

theorem pick3_at (q : Fin 20480) (n : Fin 4096) :
    val_main_v37 (F := Ideal) x w te ta (ix2 q n)
      = if ta (ix1 (tileOf q)) ≠ 0#32 ∧ te (ix1 (tileOf q)) = 3#32 then product x w 3 q n
        else val_main_v30 (F := Ideal) x w te ta (ix2 q n) := by
  rw [← prod3_at x w q n, ← choose_eq]
  unfold val_main_v37 val_main_call3_v0 val_main_v33 val_main_v32 val_main_v31 val_main_c_3
  generalize val_main_v36 (F := Ideal) x w = X
  generalize val_main_v30 (F := Ideal) x w te ta = Y
  pointwise [expert_at, active_at]

/-! Expert 4. -/
theorem prod4_at (q : Fin 20480) (n : Fin 4096) : val_main_v43 (F := Ideal) x w (ix2 q n) = product x w 4 q n := by
  pointwise [val_main_v43, val_main_v42, val_main_v41, val_main_v0, product]

theorem pick4_at (q : Fin 20480) (n : Fin 4096) :
    val_main_v44 (F := Ideal) x w te ta (ix2 q n)
      = if ta (ix1 (tileOf q)) ≠ 0#32 ∧ te (ix1 (tileOf q)) = 4#32 then product x w 4 q n
        else val_main_v37 (F := Ideal) x w te ta (ix2 q n) := by
  rw [← prod4_at x w q n, ← choose_eq]
  unfold val_main_v44 val_main_call4_v0 val_main_v40 val_main_v39 val_main_v38 val_main_c_4
  generalize val_main_v43 (F := Ideal) x w = X
  generalize val_main_v37 (F := Ideal) x w te ta = Y
  pointwise [expert_at, active_at]

/-! Expert 5. -/
theorem prod5_at (q : Fin 20480) (n : Fin 4096) : val_main_v50 (F := Ideal) x w (ix2 q n) = product x w 5 q n := by
  pointwise [val_main_v50, val_main_v49, val_main_v48, val_main_v0, product]

theorem pick5_at (q : Fin 20480) (n : Fin 4096) :
    val_main_v51 (F := Ideal) x w te ta (ix2 q n)
      = if ta (ix1 (tileOf q)) ≠ 0#32 ∧ te (ix1 (tileOf q)) = 5#32 then product x w 5 q n
        else val_main_v44 (F := Ideal) x w te ta (ix2 q n) := by
  rw [← prod5_at x w q n, ← choose_eq]
  unfold val_main_v51 val_main_call5_v0 val_main_v47 val_main_v46 val_main_v45 val_main_c_5
  generalize val_main_v50 (F := Ideal) x w = X
  generalize val_main_v44 (F := Ideal) x w te ta = Y
  pointwise [expert_at, active_at]

/-! Expert 6. -/
theorem prod6_at (q : Fin 20480) (n : Fin 4096) : val_main_v57 (F := Ideal) x w (ix2 q n) = product x w 6 q n := by
  pointwise [val_main_v57, val_main_v56, val_main_v55, val_main_v0, product]

theorem pick6_at (q : Fin 20480) (n : Fin 4096) :
    val_main_v58 (F := Ideal) x w te ta (ix2 q n)
      = if ta (ix1 (tileOf q)) ≠ 0#32 ∧ te (ix1 (tileOf q)) = 6#32 then product x w 6 q n
        else val_main_v51 (F := Ideal) x w te ta (ix2 q n) := by
  rw [← prod6_at x w q n, ← choose_eq]
  unfold val_main_v58 val_main_call6_v0 val_main_v54 val_main_v53 val_main_v52 val_main_c_6
  generalize val_main_v57 (F := Ideal) x w = X
  generalize val_main_v51 (F := Ideal) x w te ta = Y
  pointwise [expert_at, active_at]

/-! Expert 7. -/
theorem prod7_at (q : Fin 20480) (n : Fin 4096) : val_main_v64 (F := Ideal) x w (ix2 q n) = product x w 7 q n := by
  pointwise [val_main_v64, val_main_v63, val_main_v62, val_main_v0, product]

theorem pick7_at (q : Fin 20480) (n : Fin 4096) :
    val_main_v65 (F := Ideal) x w te ta (ix2 q n)
      = if ta (ix1 (tileOf q)) ≠ 0#32 ∧ te (ix1 (tileOf q)) = 7#32 then product x w 7 q n
        else val_main_v58 (F := Ideal) x w te ta (ix2 q n) := by
  rw [← prod7_at x w q n, ← choose_eq]
  unfold val_main_v65 val_main_call7_v0 val_main_v61 val_main_v60 val_main_v59 val_main_c_7
  generalize val_main_v64 (F := Ideal) x w = X
  generalize val_main_v58 (F := Ideal) x w te ta = Y
  pointwise [expert_at, active_at]

/-- THE REFERENCE at row `q`, column `n`: the row times its tile's expert's weights where the tile is active, zero
elsewhere. -/
theorem result_at (q : Fin 20480) (n : Fin 4096) (h : (te (ix1 (tileOf q))).toNat < 8) :
    val_main_v65 (F := Ideal) x w te ta (ix2 q n)
      = if ta (ix1 (tileOf q)) = 0#32 then 0 else product x w ⟨(te (ix1 (tileOf q))).toNat, h⟩ q n := by
  rw [pick7_at, pick6_at, pick5_at, pick4_at, pick3_at, pick2_at, pick1_at, pick0_at, zero_at]
  generalize te (ix1 (tileOf q)) = E at h ⊢
  obtain ⟨i, rfl⟩ : ∃ i : Fin 8, E = BitVec.ofNat 32 i.val := ⟨⟨E.toNat, h⟩, by simp⟩
  by_cases ha : ta (ix1 (tileOf q)) = 0#32
  · simp [ha]
  · fin_cases i <;> simp [ha]

end Cert.DownRefIdeal.At
end
-- ==== Proof.DownIdealValue.lean ====
/- The result array of the expert down-projection's kernel, element by element. -/
module
public import proofs.«01_k».proof.Proof.DownIdealFrame
public import proofs.«01_k».proof.Proof.DownReference
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.DownIdeal.Run
open Cert.DownIdeal Cert.DownIdeal.Gen Cert.Experts

/-- The product of a block of rows and a block of weights at an element. -/
def part (x : FVec Ideal S512x2048 .bf16) (w : FVec Ideal S1x2048x1024 .f32) (r : Fin 512) (n : Fin 1024) : EReal :=
  ∑ j : Fin 2048, x (ix2 r j) * w (ix3 0 j n)

/-- What the body stores in the scratch buffer at an active tile's first point, -/
theorem first_at (x : FVec Ideal S512x2048 .bf16) (w : FVec Ideal S1x2048x1024 .f32) (r : Fin 512) (n : Fin 1024) :
    k0_pay1 (F := Ideal) x w (ix2 r n) = part x w r n := by
  pointwise [k0_pay1, part]

/-- and at any further one. -/
theorem further_at (s : FVec Ideal S512x1024 .f32) (x : FVec Ideal S512x2048 .bf16) (w : FVec Ideal S1x2048x1024 .f32) (r : Fin 512) (n : Fin 1024) :
    k0_pay2 (F := Ideal) s x w (ix2 r n) = s (ix2 r n) + part x w r n := by
  pointwise [k0_pay2, part]

/-- What it stores on a tile that is not active. -/
theorem zero_at (r : Fin 512) (n : Fin 1024) : k0_pay3 (F := Ideal) (ix2 r n) = 0 := by
  pointwise [k0_pay3]

variable (m : (ℓ : Loc nD τ sig) → Buf (Elt Ideal) ℓ) (hO : Ok m)

abbrev argX (c : Dev nD) : FVec Ideal S20480x14336 .bf16 := m ((c : Thread nD τ).loc main_arg0)
abbrev argW (c : Dev nD) : FVec Ideal S8x14336x4096 .f32 := m ((c : Thread nD τ).loc main_arg1)
abbrev argE (c : Dev nD) : S40.Idx → BitVec 32 := m ((c : Thread nD τ).loc main_arg2)
abbrev argA (c : Dev nD) : S40.Idx → BitVec 32 := m ((c : Thread nD τ).loc main_arg3)

abbrev blockX (c : Dev nD) (t : Fin (cfgM m hO).N) : FVec Ideal S512x2048 .bf16 := iblk m hO c 0 t
abbrev blockW (c : Dev nD) (t : Fin (cfgM m hO).N) : FVec Ideal S1x2048x1024 .f32 := iblk m hO c 1 t

theorem points : (cfgM m hO).N = 1120 := rfl

/-- THE SUM in the scratch buffer at the `k`-th point of the tile's run of seven is the sum of its first `k + 1` products. -/
theorem acc_sum (c : Dev nD) (q : ℕ) (r : Fin 512) (n : Fin 1024) (p : ℕ → EReal)
    (hp : ∀ (s : ℕ) (h : 7 * q + s < (cfgM m hO).N), s < 7 →
      part (blockX m hO c ⟨7 * q + s, h⟩) (blockW m hO c ⟨7 * q + s, h⟩) r n = p s) :
    ∀ (k : ℕ) (h : 7 * q + k < (cfgM m hO).N), k < 7 →
      (show FVec Ideal S512x1024 .f32 from acc m hO c (7 * q + k) h) (ix2 r n) = ∑ s ∈ Finset.range (k + 1), p s := by
  intro k
  induction k with
  | zero =>
    intro h _
    rw [Finset.sum_range_one, ← hp 0 h (by omega)]
    exact (congrFun (acc_first m hO c ⟨7 * q + 0, h⟩ (by show (7 * q + 0) % 7 = 0; omega)) (ix2 r n)).trans (first_at _ _ r n)
  | succ k ih =>
    intro h hk
    rw [Finset.sum_range_succ, ← hp (k + 1) h hk, ← ih (by omega) (by omega)]
    exact (congrFun (acc_further m hO c ⟨7 * q + (k + 1), h⟩ (by show (7 * q + (k + 1)) % 7 ≠ 0; omega)) (ix2 r n)).trans (further_at _ _ _ r n)

def rowAt (t : Fin (cfgM m hO).N) (r : Fin 512) : Fin 20480 := ⟨t.val / 28 * 512 + r.val, by
  have := t.isLt; have := points m hO; omega⟩
def colAt (t : Fin (cfgM m hO).N) (n : Fin 1024) : Fin 4096 := ⟨t.val / 7 % 4 * 1024 + n.val, by omega⟩
def innerAt (t : Fin (cfgM m hO).N) (j : Fin 2048) : Fin 14336 := ⟨t.val % 7 * 2048 + j.val, by omega⟩

theorem idx_rows (t : Fin (cfgM m hO).N) (h : wordA (tbl m) (grid0.coords t) ≠ 0#32) :
    ((cfgM m hO).win 0).index t = ![t.val / 28, t.val % 7] := by
  have := rows_map (tbl m) (grid0.coords t)
  rw [if_neg h, if_neg h, (coords_eq t).1, (coords_eq t).2.2] at this
  exact this

theorem idx_weights (t : Fin (cfgM m hO).N) (h : wordA (tbl m) (grid0.coords t) ≠ 0#32) :
    ((cfgM m hO).win 1).index t = ![(wordE (tbl m) (grid0.coords t)).toNat, t.val % 7, t.val / 7 % 4] := by
  have := weights_map (tbl m) (grid0.coords t)
  rw [if_neg h, (coords_eq t).2.1, (coords_eq t).2.2] at this
  exact this

theorem idx_out (t : Fin (cfgM m hO).N) : ((cfgM m hO).win 2).index t = ![t.val / 28, t.val / 7 % 4] := by
  have := out_map (grid0.coords t)
  rw [(coords_eq t).1, (coords_eq t).2.1] at this
  exact this

/-- The expert of a grid point. -/
def expertAt (hE : Experts m) (t : Fin (cfgM m hO).N) : Fin 8 := ⟨(wordE (tbl m) (grid0.coords t)).toNat, hE _⟩

theorem read_rows (c : Dev nD) (t : Fin (cfgM m hO).N) (h : wordA (tbl m) (grid0.coords t) ≠ 0#32) (r : Fin 512) (j : Fin 2048) :
    blockX m hO c t (ix2 r j) = argX m c (ix2 (rowAt m hO t r) (innerAt m hO t j)) := by
  blk_ext [iblk, V, idx_rows m hO t h, rowAt, innerAt]

theorem read_weights (hE : Experts m) (c : Dev nD) (t : Fin (cfgM m hO).N) (h : wordA (tbl m) (grid0.coords t) ≠ 0#32) (j : Fin 2048) (n : Fin 1024) :
    blockW m hO c t (ix3 0 j n) = argW m c (ix3 (expertAt m hO hE t) (innerAt m hO t j) (colAt m hO t n)) := by
  blk_ext [iblk, V, idx_weights m hO t h, colAt, innerAt, expertAt]

/-- The points of one tile of rows share its position in the tables. -/
theorem tile_same (t u : Fin grid0.N) (h : t.val / 28 = u.val / 28) : tile (grid0.coords t) = tile (grid0.coords u) := by
  funext a
  match a with
  | ⟨0, _⟩ =>
    apply Fin.ext
    show (grid0.coords t 0).val = (grid0.coords u 0).val
    rw [(coords_eq t).1, (coords_eq u).1, h]

/-- The reference's tile of a row of a grid point is the point's own tile. -/
theorem tile_row (t : Fin (cfgM m hO).N) (r : Fin 512) :
    ix1 (Cert.DownRefIdeal.At.tileOf (rowAt m hO t r)) = tile (grid0.coords t) := by
  funext a
  match a with
  | ⟨0, _⟩ =>
    apply Fin.ext
    show (t.val / 28 * 512 + r.val) / 512 = (grid0.coords t 0).val
    rw [(coords_eq t).1]
    omega

/-- The tables the index maps read are the arguments. -/
theorem table_E (c : Dev nD) : (tbl m 0 : S40.Idx → BitVec 32) = argE m c := by
  obtain rfl : c = 0 := Subsingleton.elim _ _
  rfl
theorem table_A (c : Dev nD) : (tbl m 1 : S40.Idx → BitVec 32) = argA m c := by
  obtain rfl : c = 0 := Subsingleton.elim _ _
  rfl

/-- The reference's result of the arguments. -/
abbrev wanted (c : Dev nD) : FVec Ideal S20480x4096 .f32 :=
  Cert.DownRefIdeal.Read.val_main_v65 (F := Ideal) (argX m c) (argW m c) (argE m c) (argA m c)

/-- The reference at an element of a grid point's block. -/
theorem wanted_at (hE : Experts m) (c : Dev nD) (t : Fin (cfgM m hO).N) (r : Fin 512) (n : Fin 1024) :
    wanted m c (ix2 (rowAt m hO t r) (colAt m hO t n))
      = if wordA (tbl m) (grid0.coords t) = 0#32 then 0
        else Cert.DownRefIdeal.At.product (argX m c) (argW m c) (expertAt m hO hE t) (rowAt m hO t r) (colAt m hO t n) := by
  have eE : argE m c (ix1 (Cert.DownRefIdeal.At.tileOf (rowAt m hO t r))) = wordE (tbl m) (grid0.coords t) := by
    rw [tile_row, ← table_E]; rfl
  have eA : argA m c (ix1 (Cert.DownRefIdeal.At.tileOf (rowAt m hO t r))) = wordA (tbl m) (grid0.coords t) := by
    rw [tile_row, ← table_A]; rfl
  have hlt : (argE m c (ix1 (Cert.DownRefIdeal.At.tileOf (rowAt m hO t r)))).toNat < 8 := by rw [eE]; exact hE _
  have hi : (⟨(argE m c (ix1 (Cert.DownRefIdeal.At.tileOf (rowAt m hO t r)))).toNat, hlt⟩ : Fin 8) = expertAt m hO hE t :=
    Fin.ext (by
      show (argE m c (ix1 (Cert.DownRefIdeal.At.tileOf (rowAt m hO t r)))).toNat = (wordE (tbl m) (grid0.coords t)).toNat
      rw [eE])
  rw [wanted, Cert.DownRefIdeal.At.result_at _ _ _ _ _ _ hlt, hi, eA]

/-- The product at a point of an active tile's run, in the arrays' own coordinates. -/
theorem part_at (hE : Experts m) (c : Dev nD) (t u : Fin (cfgM m hO).N) (hu : t.val / 7 = u.val / 7)
    (h : wordA (tbl m) (grid0.coords t) ≠ 0#32) (r : Fin 512) (n : Fin 1024) :
    part (blockX m hO c u) (blockW m hO c u) r n
      = ∑ j : Fin 2048, argX m c (ix2 (rowAt m hO t r) (innerAt m hO u j)) * argW m c (ix3 (expertAt m hO hE t) (innerAt m hO u j) (colAt m hO t n)) := by
  have ht : tile (grid0.coords u) = tile (grid0.coords t) := tile_same u t (by omega)
  have ea : wordA (tbl m) (grid0.coords u) = wordA (tbl m) (grid0.coords t) := congrArg (tbl m 1) ht
  have ee : expertAt m hO hE u = expertAt m hO hE t := Fin.ext (by
    show (wordE (tbl m) (grid0.coords u)).toNat = (wordE (tbl m) (grid0.coords t)).toNat
    rw [show wordE (tbl m) (grid0.coords u) = wordE (tbl m) (grid0.coords t) from congrArg (tbl m 0) ht])
  have er : rowAt m hO u r = rowAt m hO t r := Fin.ext (by
    show u.val / 28 * 512 + r.val = t.val / 28 * 512 + r.val
    omega)
  have ec : colAt m hO u n = colAt m hO t n := Fin.ext (by
    show u.val / 7 % 4 * 1024 + n.val = t.val / 7 % 4 * 1024 + n.val
    omega)
  rw [← ea] at h
  rw [← ee, ← er, ← ec]
  exact Finset.sum_congr rfl fun j _ => Ideal.mul_congr (read_rows m hO c u h r j) (read_weights m hO hE c u h j n)

/-- What a tile's last point leaves in its block is the reference's result there. -/
theorem point (hE : Experts m) (c : Dev nD) (t : Fin (cfgM m hO).N) (h6 : t.val % 7 = 6) (r : Fin 512) (n : Fin 1024) :
    (show FVec Ideal S512x1024 .f32 from outsAt m hO c t) (ix2 r n) = wanted m c (ix2 (rowAt m hO t r) (colAt m hO t n)) := by
  rw [wanted_at m hO hE c t r n]
  have ew : word c (grid0.coords t) (tbl m 1) = wordA (tbl m) (grid0.coords t) := word_eq c _ _
  unfold outsAt
  by_cases h : wordA (tbl m) (grid0.coords t) = 0#32
  · rw [if_pos (ew.trans h), if_pos h]
    exact zero_at r n
  · rw [if_neg (fun h' => h (ew.symm.trans h')), if_neg h]
    have hN := points m hO
    have htl := t.isLt
    obtain ⟨q, hq⟩ : ∃ q, t.val = 7 * q + 6 := ⟨t.val / 7, by omega⟩
    have hl : 7 * q + 6 < (cfgM m hO).N := by omega
    let f : Fin 14336 → EReal := fun l => argX m c (ix2 (rowAt m hO t r) l) * argW m c (ix3 (expertAt m hO hE t) l (colAt m hO t n))
    have key := acc_sum m hO c q r n (fun s => if hs : s < 7 then ∑ j : Fin 2048, f ⟨s * 2048 + j.val, by omega⟩ else 0)
      (fun s hs h7 => by
        rw [part_at m hO hE c t ⟨7 * q + s, hs⟩ (by show t.val / 7 = (7 * q + s) / 7; omega) h r n]
        simp only [dif_pos h7]
        refine Finset.sum_congr rfl fun j _ => ?_
        have ei : innerAt m hO ⟨7 * q + s, hs⟩ j = ⟨s * 2048 + j.val, by omega⟩ := Fin.ext (by
          show (7 * q + s) % 7 * 2048 + j.val = s * 2048 + j.val
          omega)
        rw [ei]) 6 hl (by omega)
    have e : acc m hO c t.val t.isLt = acc m hO c (7 * q + 6) hl := by
      congr 1
    refine (congrFun e (ix2 r n)).trans (key.trans ?_)
    rw [Finset.sum_range]
    refine Eq.trans (Finset.sum_congr rfl fun s _ => dif_pos s.isLt) ?_
    exact Fin.sum_mul_add_fin 7 2048 f

/-- Only a tile's last point writes its block back. -/
theorem last_of_flush (t : Fin (cfgM m hO).N) (h : ((cfgM m hO).win 2).flush t = true) : t.val % 7 = 6 := by
  by_contra h6
  rw [no_flush m hO t h6] at h
  exact absurd h (by decide)

/-- The blocks written back cover the result. -/
theorem covers : ((cfgM m hO).win 2).Covers := by
  refine ⟨(by decide : ∀ a : Fin 2, 0 < S512x1024.size a), fun β => ?_⟩
  have h0 : (β (0 : Fin 2)).val < 40 := lt_of_lt_of_eq (β (0 : Fin 2)).isLt (show (20480 + 512 - 1) / 512 = 40 from rfl)
  have h1 : (β (1 : Fin 2)).val < 4 := lt_of_lt_of_eq (β (1 : Fin 2)).isLt (show (4096 + 1024 - 1) / 1024 = 4 from rfl)
  have hN : (cfgM m hO).grid.N = 1120 := rfl
  refine ⟨⟨(β (0 : Fin 2)).val * 28 + (β (1 : Fin 2)).val * 7 + 6, by omega⟩, ?_, fun a => ⟨?_, .inl rfl⟩⟩
  · rw [Pipeline.Window.flush_out _ rfl]
    by_cases hl : (β (0 : Fin 2)).val * 28 + (β (1 : Fin 2)).val * 7 + 6 + 1 = (cfgM m hO).grid.N
    · exact .inl hl
    · refine .inr ⟨by show (β (0 : Fin 2)).val * 28 + (β (1 : Fin 2)).val * 7 + 6 + 1 < (cfgM m hO).grid.N; omega, fun he => ?_⟩
      rw [idx_out, idx_out] at he
      have e1 : ((β (0 : Fin 2)).val * 28 + (β (1 : Fin 2)).val * 7 + 6 + 1) / 7 % 4 = ((β (0 : Fin 2)).val * 28 + (β (1 : Fin 2)).val * 7 + 6) / 7 % 4 := congrFun he (1 : Fin 2)
      omega
  · rw [idx_out]
    fin_cases a
    · show ((β (0 : Fin 2)).val * 28 + (β (1 : Fin 2)).val * 7 + 6) / 28 = (β (0 : Fin 2)).val
      omega
    · show ((β (0 : Fin 2)).val * 28 + (β (1 : Fin 2)).val * 7 + 6) / 7 % 4 = (β (1 : Fin 2)).val
      omega

/-- THE RESULT ARRAY after the run is the reference's result of the arguments. -/
theorem final (hE : Experts m) (c : Dev nD) : (dats m hO 0 c).arrAt 2 (cfgM m hO).N = wanted m c := by
  refine (dats m hO 0 c).arrAt_eq_of_covers 2 _ (covers m hO) fun t hf y => ?_
  have h6 := last_of_flush m hO t hf
  · blk_simp
    rw [after_2]
    revert y
    show ∀ y : S512x1024.Idx, _
    intro y
    idx_vars y
    refine (point m hO hE c t h6 y0 y1).trans ?_
    blk_ext [idx_out m hO t, rowAt, colAt]

end Cert.DownIdeal.Run
end
-- ==== Proof.DownClaims.lean ====
/- The claims of the experts' down projection, each from the program's run. -/
module
public import proofs.«01_k».proof.Defs
public import proofs.«01_k».proof.Proof.Gen.Down
public import proofs.«01_k».proof.Proof.Gen.Pre_experts_down
public import proofs.«01_k».proof.Proof.DownFrame
public import proofs.«01_k».proof.Proof.DownIdealValue
public import proofs.«01_k».proof.Proof.Gen.DownRefIdeal.Run
public import Idealize.ShloMosaic.Adequacy
@[expose] public section
noncomputable section
open Idealize.ShloMosaic Idealize.ShloMosaic.TcCoe Idealize.SL.Sem
namespace Cert.DownClaims

/-- The precondition read at a tile: its word names one of the eight experts. -/
theorem experts (m : (ℓ : Loc Cert.Down.nD Cert.Down.τ Cert.Down.sig) → Buf (Elt Bits) ℓ) (h : Cert.Pre_Down m) :
    Cert.Down.Run.Experts m := fun j => Cert.Experts.word_lt (congrFun (h 0) j)

/-- The same of the program over the extended reals. -/
theorem experts_ideal (m : (ℓ : Loc Cert.DownIdeal.nD Cert.DownIdeal.τ Cert.DownIdeal.sig) → Buf (Elt Ideal) ℓ) (h : Cert.Pre_DownIdeal m) :
    Cert.DownIdeal.Run.Experts m := fun j => Cert.Experts.word_lt (congrFun (h 0) j)

/-- The kernel terminates, leaves its arguments and ends with every counter at zero. -/
theorem frame_kernel : Cert.quiescent_Down := fun m ρ h =>
  Cert.Down.Run.frame m ρ (Cert.Down.Run.ok_of_experts m (experts m h))

/-- So does the kernel over the extended reals. -/
theorem frame_ideal : Cert.quiescent_DownIdeal := fun m ρ h =>
  Cert.DownIdeal.Run.frame m ρ (Cert.DownIdeal.Run.ok_of_experts m (experts_ideal m h))

/-- So does the reference over the extended reals: it runs host operations only and declares no semaphore. -/
theorem frame_reference : Cert.quiescent_DownRefIdeal := fun m ρ _ =>
  (θ_run Cert.DownRefIdeal.defs _ _).mono
    (fun r h => ⟨fun c => (h c).2, Idealize.ShloMosaic.sem_eq_zero_of_no_sems (by decide) r.2⟩)
    (Cert.DownRefIdeal.Value.run (F := Ideal) m ρ)

/-- The same under the kernel's precondition. -/
theorem frame_reference_pre : Cert.quiescent_DownRefIdeal_pre_experts_down := fun m ρ _ => frame_reference m ρ trivial

/-- The kernel's idealization rewrites nothing. -/
theorem preserves : Cert.preserves_Down_DownIdeal := trivial

/-- THE VALUE: from the same arguments kernel and reference end with equal results. -/
theorem algebraic : Cert.algebraic_DownIdeal_DownRefIdeal := fun m ρ m' ρ' hp hag =>
  ⟨fun c => Cert.DownIdeal.Run.wanted m c,
    (θ_run Cert.DownIdeal.defs _ _).mono
      (fun _ h c => ⟨(h c).1.trans (Cert.DownIdeal.Run.final m (Cert.DownIdeal.Run.ok_of_experts m (experts_ideal m hp)) (experts_ideal m hp) c), (h c).2⟩)
      (Cert.DownIdeal.Run.run_value (F := Ideal) m ρ (Cert.DownIdeal.Run.ok_of_experts m (experts_ideal m hp))),
    (θ_run Cert.DownRefIdeal.defs _ _).mono (fun _ h c => ⟨(h c).1.trans (by
        rw [Cert.DownRefIdeal.Read.val_main_v65_eq]
        show Cert.DownRefIdeal.Read.val_main_v65 (F := Ideal) (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1))
          (m' ((c.tc : Thread Cert.DownRefIdeal.nD Cert.DownRefIdeal.τ).loc Cert.DownRefIdeal.main_arg2)) (m' ((c.tc : Thread Cert.DownRefIdeal.nD Cert.DownRefIdeal.τ).loc Cert.DownRefIdeal.main_arg3)) = _
        rw [(hag c).1, (hag c).2.1, (hag c).2.2.1, (hag c).2.2.2]), (h c).2⟩)
      (Cert.DownRefIdeal.Value.run (F := Ideal) m' ρ')⟩

end Cert.DownClaims
end
-- ==== Proof.GatesValue.lean ====
/- The gates' projection: the result array after the run. -/
module
public import proofs.«01_k».proof.Proof.Gen.GatesIdeal.Value
public import proofs.«01_k».proof.Proof.Gen.GatesRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.GatesIdeal.At
open Cert.GatesIdeal Cert.GatesIdeal.Gen

/-- Where each window's block lies, in terms of the grid point's number. -/
theorem idx : ∀ t : Fin cfg0.N, win0_0.index t = ![t.val / 24, 0] ∧ win0_1.index t = ![0, t.val % 24] ∧ win0_2.index t = ![t.val / 24, t.val % 24] :=
  (by decide +kernel : ∀ t : Fin grid0.N, _)

variable (m : (ℓ : Loc nD τ sig) → Buf (Elt Ideal) ℓ)

/-- The argument arrays. -/
abbrev arg0 (c : Dev nD) : FVec Ideal S8192x4096 .bf16 := m ((c : Thread nD τ).loc main_arg0)
abbrev arg1 (c : Dev nD) : FVec Ideal S2x4096x17984 .f32 := m ((c : Thread nD τ).loc main_arg1)

/-- The reference's result of the arguments. -/
abbrev wanted (c : Dev nD) := Cert.GatesRefIdeal.Read.val_main_v10 (F := Ideal) (arg0 m c) (arg1 m c)

/-- What a grid point stores at an element of its block is the reference's result at the element's place in the array. -/
theorem point (c : Dev nD) (t : Fin cfg0.N) (y) :
    k0_pay1 (F := Ideal) (iblk m c 0 t) (iblk m c 1 t) y = wanted m c (((cfg0.win 2).blk t).view.emb y) := by
  pointwise [Ideal.logistic, k0_pay1, wanted, Cert.GatesRefIdeal.Read.val_main_v0, Cert.GatesRefIdeal.Read.val_main_v1, Cert.GatesRefIdeal.Read.val_main_v2, Cert.GatesRefIdeal.Read.val_main_v3, Cert.GatesRefIdeal.Read.val_main_v4, Cert.GatesRefIdeal.Read.val_main_v5, Cert.GatesRefIdeal.Read.val_main_v6, Cert.GatesRefIdeal.Read.val_main_cst, Cert.GatesRefIdeal.Read.val_main_v7, Cert.GatesRefIdeal.Read.val_main_v8, Cert.GatesRefIdeal.Read.val_main_cst_0, Cert.GatesRefIdeal.Read.val_main_v9, Cert.GatesRefIdeal.Read.val_main_v10]
  blk_point [iblk, V_main_arg0, idx t]

/-- THE RESULT ARRAY after the run is the reference's result of the arguments. -/
theorem final (c : Dev nD) : (dats m 0 c).arrAt 2 (cfgs 0).N = wanted m c := by
  refine (dats m 0 c).arrAt_eq_of_covers 2 _ (by decide +kernel) fun t _ y => ?_
  blk_simp
  rw [after0_2]; frame_out
  exact point m c t y

end Cert.GatesIdeal.At
end
-- ==== Proof.GatesClaims.lean ====
/- The claims of the gates' projection, each from the program's run. -/
module
public import proofs.«01_k».proof.Defs
public import proofs.«01_k».proof.Proof.Gen.Gates
public import proofs.«01_k».proof.Proof.Gen.Gates.Frame
public import proofs.«01_k».proof.Proof.GatesValue
public import proofs.«01_k».proof.Proof.Gen.GatesRefIdeal.Run
public import Idealize.ShloMosaic.Adequacy
@[expose] public section
noncomputable section
open Idealize.ShloMosaic Idealize.ShloMosaic.TcCoe Idealize.SL.Sem
namespace Cert.GatesClaims

/-- The kernel terminates, leaves its arguments and ends with every counter at zero. -/
theorem frame_kernel : Cert.quiescent_Gates := fun m ρ _ => Cert.Gates.Gen.frame m ρ

/-- So does the kernel over the extended reals. -/
theorem frame_ideal : Cert.quiescent_GatesIdeal := fun m ρ _ => Cert.GatesIdeal.Gen.frame m ρ

/-- So does the reference over the extended reals: it runs host operations only and declares no semaphore. -/
theorem frame_reference : Cert.quiescent_GatesRefIdeal := fun m ρ _ =>
  (θ_run Cert.GatesRefIdeal.defs _ _).mono
    (fun r h => ⟨fun c => (h c).2, Idealize.ShloMosaic.sem_eq_zero_of_no_sems (by decide) r.2⟩)
    (Cert.GatesRefIdeal.Value.run (F := Ideal) m ρ)

/-- The kernel's idealization rewrites nothing. -/
theorem preserves : Cert.preserves_Gates_GatesIdeal := trivial

/-- THE VALUE: from the same arguments kernel and reference end with equal results. -/
theorem algebraic : Cert.algebraic_GatesIdeal_GatesRefIdeal := fun m ρ m' ρ' _ hag =>
  ⟨fun c => Cert.GatesIdeal.At.wanted m c,
    (θ_run Cert.GatesIdeal.defs _ _).mono (fun _ h c => ⟨(h c).1.trans (Cert.GatesIdeal.At.final m c), (h c).2⟩)
      (Cert.GatesIdeal.Value.run_blocks (F := Ideal) m ρ),
    (θ_run Cert.GatesRefIdeal.defs _ _).mono (fun _ h c => ⟨(h c).1.trans (by
        rw [Cert.GatesRefIdeal.Read.val_main_v10_eq]
        show Cert.GatesRefIdeal.Read.val_main_v10 (F := Ideal) (m' ((c.tc : Thread Cert.GatesRefIdeal.nD Cert.GatesRefIdeal.τ).loc Cert.GatesRefIdeal.main_arg0)) (m' ((c.tc : Thread Cert.GatesRefIdeal.nD Cert.GatesRefIdeal.τ).loc Cert.GatesRefIdeal.main_arg1)) = _
        rw [(hag c).1, (hag c).2]), (h c).2⟩)
      (Cert.GatesRefIdeal.Value.run (F := Ideal) m' ρ')⟩

end Cert.GatesClaims
end
-- ==== Proof.ProjValue.lean ====
/- The input projection: the result array after the run. -/
module
public import proofs.«01_k».proof.Proof.Gen.ProjIdeal.Value
public import proofs.«01_k».proof.Proof.Gen.ProjRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ProjIdeal.At
open Cert.ProjIdeal Cert.ProjIdeal.Gen

/-- Where each window's block lies, in terms of the grid point's number. -/
theorem idx : ∀ t : Fin cfg0.N, win0_0.index t = ![t.val / 11, 0] ∧ win0_1.index t = ![0, 0, t.val % 11] ∧ win0_2.index t = ![t.val / 11, t.val % 11] :=
  (by decide +kernel : ∀ t : Fin grid0.N, _)

variable (m : (ℓ : Loc nD τ sig) → Buf (Elt Ideal) ℓ)

/-- The argument arrays. -/
abbrev arg0 (c : Dev nD) : FVec Ideal S8192x4096 .bf16 := m ((c : Thread nD τ).loc main_arg0)
abbrev arg1 (c : Dev nD) : FVec Ideal S2x4096x17984 .f32 := m ((c : Thread nD τ).loc main_arg1)

/-- The reference's result of the arguments. -/
abbrev wanted (c : Dev nD) := Cert.ProjRefIdeal.Read.val_main_v4 (F := Ideal) (arg0 m c) (arg1 m c)

/-- The second window's block is never cut: its buffer holds the weights' block element for element. -/
theorem read_weights (c : Dev nD) (t : Fin cfg0.N) (k : Fin 4096) (j : Fin 512) :
    X0_1 m c t (ix3 0 k j) = arg1 m c (ix3 0 k (⟨t.val % 11 * 512 + j.val, by omega⟩ : Fin 17984)) := by
  unfold X0_1 Pipeline.Window.fill
  rw [dif_pos (moved0_1 t _)]
  blk_ext [iblk, V, idx t]

/-- The tokens' block. -/
theorem read_tokens (c : Dev nD) (t : Fin cfg0.N) (r : Fin 1024) (k : Fin 4096) (h : t.val / 11 * 1024 + r.val < 8192) :
    iblk m c 0 t (ix2 r k) = arg0 m c (ix2 (⟨t.val / 11 * 1024 + r.val, h⟩ : Fin 8192) k) := by
  blk_ext [iblk, V, idx t]

/-- The stored block at an element: a product of a row and a column. -/
theorem pay_at (h : Vec Ideal S1024x4096 .bf16) (w : Vec Ideal S1x4096x512 .f32) (r : Fin 1024) (d : Fin 512) :
    k0_pay1 (F := Ideal) h w (ix2 r d) = ∑ k : Fin 4096, h (ix2 r k) * w (ix3 0 k d) := by
  pointwise [k0_pay1]

/-- The reference's result at an element. -/
theorem result_at (c : Dev nD) (r : Fin 8192) (d : Fin 5632) :
    wanted m c (ix2 r d) = ∑ k : Fin 4096, arg0 m c (ix2 r k) * arg1 m c (ix3 0 k (⟨d.val, by omega⟩ : Fin 17984)) := by
  pointwise [wanted, Cert.ProjRefIdeal.Read.val_main_v0, Cert.ProjRefIdeal.Read.val_main_v1, Cert.ProjRefIdeal.Read.val_main_v2, Cert.ProjRefIdeal.Read.val_main_v3, Cert.ProjRefIdeal.Read.val_main_v4]

/-- What a grid point stores at an element of its block is the reference's result at the element's place in the array. -/
theorem point (c : Dev nD) (t : Fin cfg0.N) (r : Fin 1024) (d : Fin 512) (hr : t.val / 11 * 1024 + r.val < 8192) :
    k0_pay1 (F := Ideal) (iblk m c 0 t) (X0_1 m c t) (ix2 r d)
      = wanted m c (ix2 (⟨t.val / 11 * 1024 + r.val, hr⟩ : Fin 8192) (⟨t.val % 11 * 512 + d.val, by omega⟩ : Fin 5632)) := by
  rw [pay_at, result_at]
  refine Finset.sum_congr rfl fun k _ => ?_
  exact Ideal.mul_congr (read_tokens m c t r k hr) (read_weights m c t k d)

/-- THE RESULT ARRAY after the run is the reference's result of the arguments. -/
theorem final (c : Dev nD) : (dats m 0 c).arrAt 2 (cfgs 0).N = wanted m c := by
  refine (dats m 0 c).arrAt_eq_of_covers 2 _ (by decide +kernel) fun t _ y => ?_
  blk_simp
  rw [after0_2]
  unfold outsAt0 out0_A_2
  frame_out
  idx_vars y
  have ht : t.val < 88 := lt_of_lt_of_eq t.isLt (show cfg0.N = 88 from N_0)
  refine (point m c t y0 y1 (by omega)).trans ?_
  blk_ext [idx t]

end Cert.ProjIdeal.At
end
-- ==== Proof.ProjClaims.lean ====
/- The claims of the input projection, each from the program's run. -/
module
public import proofs.«01_k».proof.Defs
public import proofs.«01_k».proof.Proof.Gen.Proj
public import proofs.«01_k».proof.Proof.Gen.Proj.Frame
public import proofs.«01_k».proof.Proof.ProjValue
public import proofs.«01_k».proof.Proof.Gen.ProjRefIdeal.Run
public import Idealize.ShloMosaic.Adequacy
@[expose] public section
noncomputable section
open Idealize.ShloMosaic Idealize.ShloMosaic.TcCoe Idealize.SL.Sem
namespace Cert.ProjClaims

/-- The kernel terminates, leaves its arguments and ends with every counter at zero. -/
theorem frame_kernel : Cert.quiescent_Proj := fun m ρ _ => Cert.Proj.Gen.frame m ρ

/-- So does the kernel over the extended reals. -/
theorem frame_ideal : Cert.quiescent_ProjIdeal := fun m ρ _ => Cert.ProjIdeal.Gen.frame m ρ

/-- So does the reference over the extended reals: it runs host operations only and declares no semaphore. -/
theorem frame_reference : Cert.quiescent_ProjRefIdeal := fun m ρ _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

/-- The kernel's idealization rewrites nothing. -/
theorem preserves : Cert.preserves_Proj_ProjIdeal := trivial

/-- THE VALUE: from the same arguments kernel and reference end with equal results. -/
theorem algebraic : Cert.algebraic_ProjIdeal_ProjRefIdeal := fun m ρ m' ρ' _ hag =>
  ⟨fun c => Cert.ProjIdeal.At.wanted m c,
    (θ_run Cert.ProjIdeal.defs _ _).mono (fun _ h c => ⟨(h c).1.trans (Cert.ProjIdeal.At.final m c), (h c).2⟩)
      (Cert.ProjIdeal.Value.run_blocks (F := Ideal) m ρ),
    (θ_run Cert.ProjRefIdeal.defs _ _).mono (fun _ h c => ⟨(h c).1.trans (by
        rw [Cert.ProjRefIdeal.Read.val_main_v4_eq]
        show Cert.ProjRefIdeal.Read.val_main_v4 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) = _
        rw [(hag c).1, (hag c).2]), (h c).2⟩)
      (Cert.ProjRefIdeal.Value.run (F := Ideal) m' ρ')⟩

end Cert.ProjClaims
end
-- ==== Proof.KpeValue.lean ====
/- The rotary key's projection: the result array after the run. -/
module
public import proofs.«01_k».proof.Proof.Gen.KpeIdeal.Frame
public import proofs.«01_k».proof.Proof.Gen.KpeRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.KpeIdeal.At
open Cert.KpeIdeal Cert.KpeIdeal.Gen

/-- Where each window's block lies, in terms of the grid point's number. -/
theorem idx : ∀ t : Fin cfg0.N, win0_0.index t = ![t.val, 0] ∧ win0_1.index t = ![0, 0, 44] ∧ win0_2.index t = ![t.val, 0] :=
  (by decide +kernel : ∀ t : Fin grid0.N, _)

variable (m : (ℓ : Loc nD τ sig) → Buf (Elt Ideal) ℓ)

/-- The argument arrays. -/
abbrev arg0 (c : Dev nD) : FVec Ideal S8192x4096 .bf16 := m ((c : Thread nD τ).loc main_arg0)
abbrev arg1 (c : Dev nD) : FVec Ideal S2x4096x17984 .f32 := m ((c : Thread nD τ).loc main_arg1)

/-- The reference's result of the arguments. -/
abbrev wanted (c : Dev nD) := Cert.KpeRefIdeal.Read.val_main_v6 (F := Ideal) (arg0 m c) (arg1 m c)

/-- The second window's block is never cut: its buffer holds the weights' block element for element. -/
theorem read_weights (c : Dev nD) (t : Fin cfg0.N) (k : Fin 4096) (j : Fin 128) :
    X0_1 m c t (ix3 0 k j) = arg1 m c (ix3 0 k (⟨5632 + j.val, by omega⟩ : Fin 17984)) := by
  unfold X0_1 Pipeline.Window.fill
  rw [dif_pos (moved0_1 t _)]
  blk_ext [iblk, V, idx t]

/-- The tokens' block. -/
theorem read_tokens (c : Dev nD) (t : Fin cfg0.N) (r : Fin 1024) (k : Fin 4096) (h : t.val * 1024 + r.val < 8192) :
    iblk m c 0 t (ix2 r k) = arg0 m c (ix2 (⟨t.val * 1024 + r.val, h⟩ : Fin 8192) k) := by
  blk_ext [iblk, V, idx t]

/-- The stored block at an element: a product of a row and a column. -/
theorem pay_at (h : Vec Ideal S1024x4096 .bf16) (w : Vec Ideal S1x4096x128 .f32) (r : Fin 1024) (d : Fin 128) :
    k0_pay1 (F := Ideal) h w (ix2 r d) = ∑ k : Fin 4096, h (ix2 r k) * w (ix3 0 k d) := by
  pointwise [k0_pay1]

/-- The region's result: every token's row times the 128 columns from the rotary key's first on. -/
def projected (c : Dev nD) : FVec Ideal S8192x128 .f32 := fun i =>
  ∑ k : Fin 4096, arg0 m c (ix2 (i 0) k) * arg1 m c (ix3 0 k (⟨5632 + (i 1).val, by have h : (i 1).val < 128 := (i 1).isLt; omega⟩ : Fin 17984))

/-- What a grid point stores at an element of its block. -/
theorem point (c : Dev nD) (t : Fin cfg0.N) (r : Fin 1024) (d : Fin 128) (hr : t.val * 1024 + r.val < 8192) :
    k0_pay1 (F := Ideal) (iblk m c 0 t) (X0_1 m c t) (ix2 r d) = projected m c (ix2 (⟨t.val * 1024 + r.val, hr⟩ : Fin 8192) d) := by
  rw [pay_at]
  refine Finset.sum_congr rfl fun k _ => ?_
  exact Ideal.mul_congr (read_tokens m c t r k hr) (read_weights m c t k d)

/-- THE REGION'S RESULT ARRAY after the run. -/
theorem final (c : Dev nD) : (dats m 0 c).arrAt 2 (cfgs 0).N = projected m c := by
  refine (dats m 0 c).arrAt_eq_of_covers 2 _ (by decide +kernel) fun t _ y => ?_
  blk_simp
  rw [after0_2]
  unfold outsAt0 out0_A_2
  frame_out
  idx_vars y
  have ht : t.val < 8 := lt_of_lt_of_eq t.isLt (show cfg0.N = 8 from N_0)
  refine (point m c t y0 y1 (by omega)).trans ?_
  blk_ext [idx t]

/-- The host line after the region: the context's rows and the 64 rotary lanes, as sequences. -/
def shaped (A : FVec Ideal S8192x128 .f32) : FVec Ideal S16x256x64 .f32 :=
  shapeCast S16x256x64 (extractStridedSlice S4096x64 ![0, 0] A slices_S8192x128_S4096x64_0_0) shapeCasts_S4096x64_S16x256x64

/-- What the host line after the region leaves in `main_v2`: computed from the region's result array. -/
theorem tail_main_v2 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v2) = shaped ((dats m 0 c).arrAt 2 cfg0.N) := by
  refine ((h c).2 main_v2 (Pipeline.mem_restRefs_of _ rfl (by decide))).trans ?_
  unfold Pipeline.afterTail₀ shaped
  after_results_simp
  exact congrArg (fun A => shapeCast S16x256x64 (extractStridedSlice S4096x64 ![0, 0] (A : FVec Ideal S8192x128 .f32) slices_S8192x128_S4096x64_0_0) shapeCasts_S4096x64_S16x256x64) (Pipeline.withArrays_arr spec0 launch0.win.arr_inj c (V0 m c) (fun w => (dats m 0 c).arrAt w cfg0.N) 2)

/-- The shaped result is the reference's result of the arguments. -/
theorem shaped_eq (c : Dev nD) : shaped (projected m c) = wanted m c := by
  funext i
  idx_vars i
  pointwise [shaped, projected, wanted, Cert.KpeRefIdeal.Read.val_main_v0, Cert.KpeRefIdeal.Read.val_main_v1, Cert.KpeRefIdeal.Read.val_main_v2, Cert.KpeRefIdeal.Read.val_main_v3, Cert.KpeRefIdeal.Read.val_main_v4, Cert.KpeRefIdeal.Read.val_main_v5, Cert.KpeRefIdeal.Read.val_main_v6]

/-- THE RUN: it ends with the reference's result of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = wanted m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(tail_main_v2 m r h.2 c).trans ((congrArg shaped (final m c)).trans (shaped_eq m c)), h.1 c⟩)
    (θ_run_and (unchanged m ρ) (run_main m ρ))

end Cert.KpeIdeal.At
end
-- ==== Proof.KpeClaims.lean ====
/- The claims of the rotary key's projection, each from the program's run. -/
module
public import proofs.«01_k».proof.Defs
public import proofs.«01_k».proof.Proof.Gen.Kpe
public import proofs.«01_k».proof.Proof.Gen.Kpe.Frame
public import proofs.«01_k».proof.Proof.KpeValue
public import proofs.«01_k».proof.Proof.Gen.KpeRefIdeal.Run
public import Idealize.ShloMosaic.Adequacy
@[expose] public section
noncomputable section
open Idealize.ShloMosaic Idealize.ShloMosaic.TcCoe Idealize.SL.Sem
namespace Cert.KpeClaims

/-- The kernel terminates, leaves its arguments and ends with every counter at zero. -/
theorem frame_kernel : Cert.quiescent_Kpe := fun m ρ _ => Cert.Kpe.Gen.frame m ρ

/-- So does the kernel over the extended reals. -/
theorem frame_ideal : Cert.quiescent_KpeIdeal := fun m ρ _ => Cert.KpeIdeal.Gen.frame m ρ

/-- So does the reference over the extended reals: it runs host operations only and declares no semaphore. -/
theorem frame_reference : Cert.quiescent_KpeRefIdeal := fun m ρ _ =>
  (θ_run Cert.KpeRefIdeal.defs _ _).mono
    (fun r h => ⟨fun c => (h c).2, Idealize.ShloMosaic.sem_eq_zero_of_no_sems (by decide) r.2⟩)
    (Cert.KpeRefIdeal.Value.run (F := Ideal) m ρ)

/-- The kernel's idealization rewrites nothing. -/
theorem preserves : Cert.preserves_Kpe_KpeIdeal := trivial

/-- THE VALUE: from the same arguments kernel and reference end with equal results. -/
theorem algebraic : Cert.algebraic_KpeIdeal_KpeRefIdeal := fun m ρ m' ρ' _ hag =>
  ⟨fun c => Cert.KpeIdeal.At.wanted m c,
    Cert.KpeIdeal.At.run m ρ,
    (θ_run Cert.KpeRefIdeal.defs _ _).mono (fun _ h c => ⟨(h c).1.trans (by
        rw [Cert.KpeRefIdeal.Read.val_main_v6_eq]
        show Cert.KpeRefIdeal.Read.val_main_v6 (F := Ideal) (m' ((c.tc : Thread Cert.KpeRefIdeal.nD Cert.KpeRefIdeal.τ).loc Cert.KpeRefIdeal.main_arg0)) (m' ((c.tc : Thread Cert.KpeRefIdeal.nD Cert.KpeRefIdeal.τ).loc Cert.KpeRefIdeal.main_arg1)) = _
        rw [(hag c).1, (hag c).2]), (h c).2⟩)
      (Cert.KpeRefIdeal.Value.run (F := Ideal) m' ρ')⟩

end Cert.KpeClaims
end
-- ==== Proof.CkvValue.lean ====
/- The latent's normalization: the result array after the run. -/
module
public import proofs.«01_k».proof.Proof.Gen.CkvIdeal.Frame
public import proofs.«01_k».proof.Proof.Gen.CkvRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.CkvIdeal.At
open Cert.CkvIdeal Cert.CkvIdeal.Gen

/-- Where each window's block lies, in terms of the grid point's number. -/
theorem idx : ∀ t : Fin cfg0.N, win0_0.index t = ![t.val, 10] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ)

/-- The argument arrays. -/
abbrev arg0 (c : Dev nD) : FVec Ideal S8192x5632 .f32 := m ((c : Thread nD τ).loc main_arg0)
abbrev arg1 (c : Dev nD) : FVec Ideal S2x512 .f32 := m ((c : Thread nD τ).loc main_arg1)

/-- The reference's two results of the arguments. -/
abbrev wanted (c : Dev nD) := Cert.CkvRefIdeal.Read.val_main_v17 (F := Ideal) (arg0 m c) (arg1 m c)
abbrev wanted2 (c : Dev nD) := Cert.CkvRefIdeal.Read.val_main_v18 (F := Ideal) (arg0 m c) (arg1 m c)

/-- The number of a latent column in the projection's row: the latent columns begin at 5120. -/
abbrev col (k : Fin 512) : Fin 5632 := ⟨5120 + k.val, by omega⟩

/-- The region's results: each row's 512 latent columns over the root of their mean square, times the gain. -/
def normed (x : FVec Ideal S8192x5632 .f32) (g : FVec Ideal S2x512 .f32) : FVec Ideal S8192x512 .f32 := fun i =>
  x (ix2 (i 0) (col (i 1))) * Ideal.rsqrt (Ideal.div (∑ k : Fin 512, x (ix2 (i 0) (col k)) * x (ix2 (i 0) (col k))) (Ideal.ofBits .f32 0x44000000#32)
    + Ideal.ofBits .f32 0x358637BD#32) * g (ix2 0 (i 1))

/-- The same rounded to the narrower format: over the extended reals the same numbers. -/
def normedB (x : FVec Ideal S8192x5632 .f32) (g : FVec Ideal S2x512 .f32) : FVec Ideal S8192x512 .bf16 := fun i => normed x g i

/-- The rows' block. -/
theorem read_rows (c : Dev nD) (t : Fin cfg0.N) (r : Fin 1024) (k : Fin 512) (h : t.val * 1024 + r.val < 8192) :
    iblk m c 0 t (ix2 r k) = arg0 m c (ix2 (⟨t.val * 1024 + r.val, h⟩ : Fin 8192) (col k)) := by
  blk_ext [iblk, V_main_arg0, idx t]

/-- The gain's row as the host line leaves it. -/
theorem gain_row (c : Dev nD) : V m c main_v2 = shapeCast S1x512 (shapeCast S512 (extractStridedSlice S1x512 ![0, 0] (arg1 m c : FVec Ideal S2x512 .f32) slices_S2x512_S1x512_0_0) shapeCasts_S1x512_S512) shapeCasts_S512_S1x512 := by
  show StableHlo.after ([hostOps0].flatten) _ _ = _
  simp only [hostOps0, List.flatten_cons, List.flatten_nil, List.append_nil]
  after_results_simp
  rfl

/-- The gain, which the host line before the region cuts out of its array and shapes as a row. -/
theorem read_gain (c : Dev nD) (t : Fin cfg0.N) (k : Fin 512) :
    iblk m c 1 t (ix2 0 k) = arg1 m c (ix2 0 k) := by
  refine (congrFun (gain_row m c) ((win0_1.blk t).view.emb (ix2 0 k))).trans ?_
  have e : (win0_1.blk t).view.emb (ix2 0 k) = ix2 0 k := by
    blk_ext [idx t]
  rw [e]
  pointwise

/-- The stored blocks at an element. -/
theorem pay_at (x : Vec Ideal S1024x512 .f32) (g : Vec Ideal S1x512 .f32) (r : Fin 1024) (d : Fin 512) :
    k0_pay1 (F := Ideal) x g (ix2 r d) = x (ix2 r d) * Ideal.rsqrt (Ideal.div (∑ k : Fin 512, x (ix2 r k) * x (ix2 r k)) (Ideal.ofBits .f32 0x44000000#32)
    + Ideal.ofBits .f32 0x358637BD#32) * g (ix2 0 d) := by
  pointwise [k0_pay1]

theorem pay_rounded_at (x : Vec Ideal S1024x512 .f32) (g : Vec Ideal S1x512 .f32) (r : Fin 1024) (d : Fin 512) :
    k0_pay2 (F := Ideal) x g (ix2 r d) = k0_pay1 (F := Ideal) x g (ix2 r d) := by
  pointwise [k0_pay2]

/-- What a grid point stores at an element of its block. -/
theorem point (c : Dev nD) (t : Fin cfg0.N) (r : Fin 1024) (d : Fin 512) (hr : t.val * 1024 + r.val < 8192) :
    k0_pay1 (F := Ideal) (iblk m c 0 t) (iblk m c 1 t) (ix2 r d) = normed (arg0 m c) (arg1 m c) (ix2 (⟨t.val * 1024 + r.val, hr⟩ : Fin 8192) d) := by
  rw [pay_at]
  have e : (fun k : Fin 512 => iblk m c 0 t (ix2 r k)) = fun k => arg0 m c (ix2 (⟨t.val * 1024 + r.val, hr⟩ : Fin 8192) (col k)) := funext fun k => read_rows m c t r k hr
  exact congrArg₂ (fun (f : Fin 512 → EReal) (g : EReal) => f d * Ideal.rsqrt (Ideal.div (∑ k : Fin 512, f k * f k) (Ideal.ofBits .f32 0x44000000#32)
    + Ideal.ofBits .f32 0x358637BD#32) * g) e (read_gain m c t d)

/-- THE REGION'S FIRST RESULT ARRAY after the run. -/
theorem final (c : Dev nD) : (dats m 0 c).arrAt 2 (cfgs 0).N = normed (arg0 m c) (arg1 m c) := by
  refine (dats m 0 c).arrAt_eq_of_covers 2 _ (by decide +kernel) fun t _ y => ?_
  blk_simp
  rw [after0_2]
  frame_out
  idx_vars y
  have ht : t.val < 8 := lt_of_lt_of_eq t.isLt (show cfg0.N = 8 from N_0)
  refine (point m c t y0 y1 (by omega)).trans ?_
  blk_ext [idx t]

/-- THE REGION'S SECOND RESULT ARRAY after the run. -/
theorem final_rounded (c : Dev nD) : (dats m 0 c).arrAt 3 (cfgs 0).N = normedB (arg0 m c) (arg1 m c) := by
  refine (dats m 0 c).arrAt_eq_of_covers 3 _ (by decide +kernel) fun t _ y => ?_
  blk_simp
  rw [after0_3]
  frame_out
  idx_vars y
  have ht : t.val < 8 := lt_of_lt_of_eq t.isLt (show cfg0.N = 8 from N_0)
  refine (pay_rounded_at _ _ y0 y1).trans ((point m c t y0 y1 (by omega)).trans ?_)
  unfold normedB
  blk_ext [idx t]

/-- The host line after the region: the context's rows, as sequences. -/
def shaped (A : FVec Ideal S8192x512 .f32) : FVec Ideal S16x256x512 .f32 :=
  shapeCast S16x256x512 (extractStridedSlice S4096x512 ![0, 0] (A : FVec Ideal S8192x512 .f32) slices_S8192x512_S4096x512_0_0) shapeCasts_S4096x512_S16x256x512

/-- What the host line after the region leaves in `main_v5`: computed from the region's result array. -/
theorem tail_main_v5 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v5) = shaped ((dats m 0 c).arrAt 2 cfg0.N) := by
  refine ((h c).2 main_v5 (Pipeline.mem_restRefs_of _ rfl (by decide))).trans ?_
  unfold Pipeline.afterTail₀ shaped
  after_results_simp
  exact congrArg (fun A => shapeCast S16x256x512 (extractStridedSlice S4096x512 ![0, 0] (A : FVec Ideal S8192x512 .f32) slices_S8192x512_S4096x512_0_0) shapeCasts_S4096x512_S16x256x512) (Pipeline.withArrays_arr spec0 launch0.win.arr_inj c (V0 m c) (fun w => (dats m 0 c).arrAt w cfg0.N) 2)

/-- The shaped result is the reference's first result. -/
theorem shaped_eq (x : FVec Ideal S8192x5632 .f32) (g : FVec Ideal S2x512 .f32) :
    shaped (normed x g) = Cert.CkvRefIdeal.Read.val_main_v17 (F := Ideal) x g := by
  funext i
  idx_vars i
  pointwise [shaped, normed, Cert.CkvRefIdeal.Read.val_main_v0, Cert.CkvRefIdeal.Read.val_main_v1, Cert.CkvRefIdeal.Read.val_main_cst, Cert.CkvRefIdeal.Read.val_main_v2, Cert.CkvRefIdeal.Read.val_main_v3, Cert.CkvRefIdeal.Read.val_main_cst_0, Cert.CkvRefIdeal.Read.val_main_v4, Cert.CkvRefIdeal.Read.val_main_v5, Cert.CkvRefIdeal.Read.val_main_cst_1, Cert.CkvRefIdeal.Read.val_main_v6, Cert.CkvRefIdeal.Read.val_main_v7, Cert.CkvRefIdeal.Read.val_main_v8, Cert.CkvRefIdeal.Read.val_main_v9, Cert.CkvRefIdeal.Read.val_main_v10, Cert.CkvRefIdeal.Read.val_main_v11, Cert.CkvRefIdeal.Read.val_main_v12, Cert.CkvRefIdeal.Read.val_main_v13, Cert.CkvRefIdeal.Read.val_main_v14, Cert.CkvRefIdeal.Read.val_main_v15, Cert.CkvRefIdeal.Read.val_main_v16, Cert.CkvRefIdeal.Read.val_main_v17, Cert.CkvRefIdeal.Read.val_main_v18]

/-- The rounded result is the reference's second result. -/
theorem rounded_eq (x : FVec Ideal S8192x5632 .f32) (g : FVec Ideal S2x512 .f32) :
    normedB x g = Cert.CkvRefIdeal.Read.val_main_v18 (F := Ideal) x g := by
  funext i
  idx_vars i
  pointwise [normedB, normed, Cert.CkvRefIdeal.Read.val_main_v0, Cert.CkvRefIdeal.Read.val_main_v1, Cert.CkvRefIdeal.Read.val_main_cst, Cert.CkvRefIdeal.Read.val_main_v2, Cert.CkvRefIdeal.Read.val_main_v3, Cert.CkvRefIdeal.Read.val_main_cst_0, Cert.CkvRefIdeal.Read.val_main_v4, Cert.CkvRefIdeal.Read.val_main_v5, Cert.CkvRefIdeal.Read.val_main_cst_1, Cert.CkvRefIdeal.Read.val_main_v6, Cert.CkvRefIdeal.Read.val_main_v7, Cert.CkvRefIdeal.Read.val_main_v8, Cert.CkvRefIdeal.Read.val_main_v9, Cert.CkvRefIdeal.Read.val_main_v10, Cert.CkvRefIdeal.Read.val_main_v11, Cert.CkvRefIdeal.Read.val_main_v12, Cert.CkvRefIdeal.Read.val_main_v13, Cert.CkvRefIdeal.Read.val_main_v14, Cert.CkvRefIdeal.Read.val_main_v15, Cert.CkvRefIdeal.Read.val_main_v16, Cert.CkvRefIdeal.Read.val_main_v17, Cert.CkvRefIdeal.Read.val_main_v18]

/-- THE RUN: it ends with the reference's results of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = wanted m c
      ∧ r.2.mem ((c : Thread nD τ).loc main_v3_1) = wanted2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(tail_main_v5 m r h.2 c).trans ((congrArg shaped (final m c)).trans (shaped_eq _ _)),
      ((h.2 c).1 3).trans ((final_rounded m c).trans (rounded_eq _ _)), h.1 c⟩)
    (θ_run_and (unchanged m ρ) (run_main m ρ))

end Cert.CkvIdeal.At
end
-- ==== Proof.CkvClaims.lean ====
/- The claims of the latent's normalization, each from the program's run. -/
module
public import proofs.«01_k».proof.Defs
public import proofs.«01_k».proof.Proof.Gen.Ckv
public import proofs.«01_k».proof.Proof.Gen.Ckv.Frame
public import proofs.«01_k».proof.Proof.CkvValue
public import proofs.«01_k».proof.Proof.Gen.CkvRefIdeal.Run
public import Idealize.ShloMosaic.Adequacy
@[expose] public section
noncomputable section
open Idealize.ShloMosaic Idealize.ShloMosaic.TcCoe Idealize.SL.Sem
namespace Cert.CkvClaims

/-- The kernel terminates, leaves its arguments and ends with every counter at zero. -/
theorem frame_kernel : Cert.quiescent_Ckv := fun m ρ _ => Cert.Ckv.Gen.frame m ρ

/-- So does the kernel over the extended reals. -/
theorem frame_ideal : Cert.quiescent_CkvIdeal := fun m ρ _ => Cert.CkvIdeal.Gen.frame m ρ

/-- So does the reference over the extended reals: it runs host operations only and declares no semaphore. -/
theorem frame_reference : Cert.quiescent_CkvRefIdeal := fun m ρ _ =>
  (θ_run Cert.CkvRefIdeal.defs _ _).mono
    (fun r h => ⟨fun c => (h c).2.2, Idealize.ShloMosaic.sem_eq_zero_of_no_sems (by decide) r.2⟩)
    (Cert.CkvRefIdeal.Value.run (F := Ideal) m ρ)

/-- The kernel's idealization rewrites nothing. -/
theorem preserves : Cert.preserves_Ckv_CkvIdeal := trivial

/-- THE VALUE: from the same arguments kernel and reference end with equal results. -/
theorem algebraic : Cert.algebraic_CkvIdeal_CkvRefIdeal := fun m ρ m' ρ' _ hag =>
  ⟨fun c => Cert.CkvIdeal.At.wanted m c, fun c => Cert.CkvIdeal.At.wanted2 m c,
    Cert.CkvIdeal.At.run m ρ,
    (θ_run Cert.CkvRefIdeal.defs _ _).mono (fun _ h c => ⟨(h c).1.trans (by
        rw [Cert.CkvRefIdeal.Read.val_main_v17_eq]
        show Cert.CkvRefIdeal.Read.val_main_v17 (F := Ideal) (m' ((c.tc : Thread Cert.CkvRefIdeal.nD Cert.CkvRefIdeal.τ).loc Cert.CkvRefIdeal.main_arg0)) (m' ((c.tc : Thread Cert.CkvRefIdeal.nD Cert.CkvRefIdeal.τ).loc Cert.CkvRefIdeal.main_arg1)) = _
        rw [(hag c).1, (hag c).2]),
        (h c).2.1.trans (by
        rw [Cert.CkvRefIdeal.Read.val_main_v18_eq]
        show Cert.CkvRefIdeal.Read.val_main_v18 (F := Ideal) (m' ((c.tc : Thread Cert.CkvRefIdeal.nD Cert.CkvRefIdeal.τ).loc Cert.CkvRefIdeal.main_arg0)) (m' ((c.tc : Thread Cert.CkvRefIdeal.nD Cert.CkvRefIdeal.τ).loc Cert.CkvRefIdeal.main_arg1)) = _
        rw [(hag c).1, (hag c).2]), (h c).2.2⟩)
      (Cert.CkvRefIdeal.Value.run (F := Ideal) m' ρ')⟩

end Cert.CkvClaims
end
-- ==== Proof.KvValue.lean ====
/- The keys' and values' projection: the result array after the run. -/
module
public import proofs.«01_k».proof.Proof.Gen.KvIdeal.Value
public import proofs.«01_k».proof.Proof.Gen.KvRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.KvIdeal.At
open Cert.KvIdeal Cert.KvIdeal.Gen

/-- Where each window's block lies, in terms of the grid point's number. -/
theorem idx : ∀ t : Fin cfg0.N, win0_0.index t = ![t.val / 8, 0] ∧ win0_1.index t = ![0, 0, t.val % 8] ∧ win0_2.index t = ![t.val / 8, t.val % 8] :=
  (by decide +kernel : ∀ t : Fin grid0.N, _)

variable (m : (ℓ : Loc nD τ sig) → Buf (Elt Ideal) ℓ)

/-- The argument arrays. -/
abbrev arg0 (c : Dev nD) : FVec Ideal S8704x512 .bf16 := m ((c : Thread nD τ).loc main_arg0)
abbrev arg1 (c : Dev nD) : FVec Ideal S2x512x4096 .f32 := m ((c : Thread nD τ).loc main_arg1)

/-- The reference's result of the arguments. -/
abbrev wanted (c : Dev nD) := Cert.KvRefIdeal.Read.val_main_v4 (F := Ideal) (arg0 m c) (arg1 m c)

/-- What a grid point stores at an element of its block is the reference's result at the element's place in the array. -/
theorem point (c : Dev nD) (t : Fin cfg0.N) (y) :
    k0_pay1 (F := Ideal) (iblk m c 0 t) (iblk m c 1 t) y = wanted m c (((cfg0.win 2).blk t).view.emb y) := by
  pointwise [k0_pay1, wanted, Cert.KvRefIdeal.Read.val_main_v0, Cert.KvRefIdeal.Read.val_main_v1, Cert.KvRefIdeal.Read.val_main_v2, Cert.KvRefIdeal.Read.val_main_v3, Cert.KvRefIdeal.Read.val_main_v4]
  blk_point [iblk, V, idx t]

/-- THE RESULT ARRAY after the run is the reference's result of the arguments. -/
theorem final (c : Dev nD) : (dats m 0 c).arrAt 2 (cfgs 0).N = wanted m c := by
  refine (dats m 0 c).arrAt_eq_of_covers 2 _ (by decide +kernel) fun t _ y => ?_
  blk_simp
  rw [after0_2]; frame_out
  exact point m c t y

end Cert.KvIdeal.At
end
-- ==== Proof.KvClaims.lean ====
/- The claims of the keys' and values' projection, each from the program's run. -/
module
public import proofs.«01_k».proof.Defs
public import proofs.«01_k».proof.Proof.Gen.Kv
public import proofs.«01_k».proof.Proof.Gen.Kv.Frame
public import proofs.«01_k».proof.Proof.KvValue
public import proofs.«01_k».proof.Proof.Gen.KvRefIdeal.Run
public import Idealize.ShloMosaic.Adequacy
@[expose] public section
noncomputable section
open Idealize.ShloMosaic Idealize.ShloMosaic.TcCoe Idealize.SL.Sem
namespace Cert.KvClaims

/-- The kernel terminates, leaves its arguments and ends with every counter at zero. -/
theorem frame_kernel : Cert.quiescent_Kv := fun m ρ _ => Cert.Kv.Gen.frame m ρ

/-- So does the kernel over the extended reals. -/
theorem frame_ideal : Cert.quiescent_KvIdeal := fun m ρ _ => Cert.KvIdeal.Gen.frame m ρ

/-- So does the reference over the extended reals: it runs host operations only and declares no semaphore. -/
theorem frame_reference : Cert.quiescent_KvRefIdeal := fun m ρ _ =>
  (θ_run Cert.KvRefIdeal.defs _ _).mono
    (fun r h => ⟨fun c => (h c).2, Idealize.ShloMosaic.sem_eq_zero_of_no_sems (by decide) r.2⟩)
    (Cert.KvRefIdeal.Value.run (F := Ideal) m ρ)

/-- The kernel's idealization rewrites nothing. -/
theorem preserves : Cert.preserves_Kv_KvIdeal := trivial

/-- THE VALUE: from the same arguments kernel and reference end with equal results. -/
theorem algebraic : Cert.algebraic_KvIdeal_KvRefIdeal := fun m ρ m' ρ' _ hag =>
  ⟨fun c => Cert.KvIdeal.At.wanted m c,
    (θ_run Cert.KvIdeal.defs _ _).mono (fun _ h c => ⟨(h c).1.trans (Cert.KvIdeal.At.final m c), (h c).2⟩)
      (Cert.KvIdeal.Value.run_blocks (F := Ideal) m ρ),
    (θ_run Cert.KvRefIdeal.defs _ _).mono (fun _ h c => ⟨(h c).1.trans (by
        rw [Cert.KvRefIdeal.Read.val_main_v4_eq]
        show Cert.KvRefIdeal.Read.val_main_v4 (F := Ideal) (m' ((c.tc : Thread Cert.KvRefIdeal.nD Cert.KvRefIdeal.τ).loc Cert.KvRefIdeal.main_arg0)) (m' ((c.tc : Thread Cert.KvRefIdeal.nD Cert.KvRefIdeal.τ).loc Cert.KvRefIdeal.main_arg1)) = _
        rw [(hag c).1, (hag c).2]), (h c).2⟩)
      (Cert.KvRefIdeal.Value.run (F := Ideal) m' ρ')⟩

end Cert.KvClaims
end
-- ==== Proof.MergeValue.lean ====
/- The gated merge of the three branches: the result array after the run. -/
module
public import proofs.«01_k».proof.Proof.Gen.MergeIdeal.Value
public import proofs.«01_k».proof.Proof.Gen.MergeRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.MergeIdeal.At
open Cert.MergeIdeal Cert.MergeIdeal.Gen

/-- Where each window's block lies, in terms of the grid point's number. -/
theorem idx : ∀ t : Fin cfg0.N, win0_0.index t = ![t.val / 16, 0] ∧ win0_1.index t = ![t.val / 16, 0] ∧ win0_2.index t = ![t.val / 16, 0] ∧ win0_3.index t = ![0, 0, t.val % 16] ∧ win0_4.index t = ![0, 0, t.val % 16] ∧ win0_5.index t = ![0, 0, t.val % 16] ∧ win0_6.index t = ![t.val / 16, t.val % 16] ∧ win0_7.index t = ![t.val / 16, 16 + t.val % 16] ∧ win0_8.index t = ![t.val / 16, 32 + t.val % 16] ∧ win0_9.index t = ![t.val / 16, t.val % 16] :=
  (by decide +kernel : ∀ t : Fin grid0.N, _)

variable (m : (ℓ : Loc nD τ sig) → Buf (Elt Ideal) ℓ)

/-- The argument arrays. -/
abbrev arg0 (c : Dev nD) : FVec Ideal S8192x1024 .bf16 := m ((c : Thread nD τ).loc main_arg0)
abbrev arg1 (c : Dev nD) : FVec Ideal S8192x1024 .bf16 := m ((c : Thread nD τ).loc main_arg1)
abbrev arg2 (c : Dev nD) : FVec Ideal S8192x2048 .bf16 := m ((c : Thread nD τ).loc main_arg2)
abbrev arg3 (c : Dev nD) : FVec Ideal S8192x12288 .f32 := m ((c : Thread nD τ).loc main_arg3)
abbrev arg4 (c : Dev nD) : FVec Ideal S2x1024x4096 .f32 := m ((c : Thread nD τ).loc main_arg4)
abbrev arg5 (c : Dev nD) : FVec Ideal S2x1024x4096 .f32 := m ((c : Thread nD τ).loc main_arg5)
abbrev arg6 (c : Dev nD) : FVec Ideal S2x2048x4096 .f32 := m ((c : Thread nD τ).loc main_arg6)

/-- The reference's result of the arguments. -/
abbrev wanted (c : Dev nD) := Cert.MergeRefIdeal.Read.val_main_v20 (F := Ideal) (arg0 m c) (arg1 m c) (arg2 m c) (arg3 m c) (arg4 m c) (arg5 m c) (arg6 m c)

/-- What a grid point stores at an element of its block is the reference's result at the element's place in the array. -/
theorem point (c : Dev nD) (t : Fin cfg0.N) (y) :
    k0_pay1 (F := Ideal) (iblk m c 0 t) (iblk m c 3 t) (iblk m c 1 t) (iblk m c 4 t) (iblk m c 2 t) (iblk m c 5 t) (iblk m c 6 t) (iblk m c 7 t) (iblk m c 8 t) y = wanted m c (((cfg0.win 9).blk t).view.emb y) := by
  pointwise [k0_pay1, wanted, Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20]
  blk_point [iblk, V, idx t]

/-- THE RESULT ARRAY after the run is the reference's result of the arguments. -/
theorem final (c : Dev nD) : (dats m 0 c).arrAt 9 (cfgs 0).N = wanted m c := by
  refine (dats m 0 c).arrAt_eq_of_covers 9 _ (by decide +kernel) fun t _ y => ?_
  blk_simp
  rw [after0_9]; frame_out
  exact point m c t y

end Cert.MergeIdeal.At
end
-- ==== Proof.MergeClaims.lean ====
/- The claims of the gated merge of the three branches, each from the program's run. -/
module
public import proofs.«01_k».proof.Defs
public import proofs.«01_k».proof.Proof.Gen.Merge
public import proofs.«01_k».proof.Proof.Gen.Merge.Frame
public import proofs.«01_k».proof.Proof.MergeValue
public import proofs.«01_k».proof.Proof.Gen.MergeRefIdeal.Run
public import Idealize.ShloMosaic.Adequacy
@[expose] public section
noncomputable section
open Idealize.ShloMosaic Idealize.ShloMosaic.TcCoe Idealize.SL.Sem
namespace Cert.MergeClaims

/-- The kernel terminates, leaves its arguments and ends with every counter at zero. -/
theorem frame_kernel : Cert.quiescent_Merge := fun m ρ _ => Cert.Merge.Gen.frame m ρ

/-- So does the kernel over the extended reals. -/
theorem frame_ideal : Cert.quiescent_MergeIdeal := fun m ρ _ => Cert.MergeIdeal.Gen.frame m ρ

/-- So does the reference over the extended reals: it runs host operations only and declares no semaphore. -/
theorem frame_reference : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

/-- The kernel's idealization rewrites nothing. -/
theorem preserves : Cert.preserves_Merge_MergeIdeal := trivial

/-- THE VALUE: from the same arguments kernel and reference end with equal results. -/
theorem algebraic : Cert.algebraic_MergeIdeal_MergeRefIdeal := fun m ρ m' ρ' _ hag =>
  ⟨fun c => Cert.MergeIdeal.At.wanted m c,
    (θ_run Cert.MergeIdeal.defs _ _).mono (fun _ h c => ⟨(h c).1.trans (Cert.MergeIdeal.At.final m c), (h c).2⟩)
      (Cert.MergeIdeal.Value.run_blocks (F := Ideal) m ρ),
    (θ_run Cert.MergeRefIdeal.defs _ _).mono (fun _ h c => ⟨(h c).1.trans (by
        rw [Cert.MergeRefIdeal.Read.val_main_v20_eq]
        show Cert.MergeRefIdeal.Read.val_main_v20 (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) = _
        rw [(hag c).1, (hag c).2.1, (hag c).2.2.1, (hag c).2.2.2.1, (hag c).2.2.2.2.1, (hag c).2.2.2.2.2.1, (hag c).2.2.2.2.2.2]), (h c).2⟩)
      (Cert.MergeRefIdeal.Value.run (F := Ideal) m' ρ')⟩

end Cert.MergeClaims
end
-- ==== Proof.OutValue.lean ====
/- The output projection with its gated residual: the result array after the run. -/
module
public import proofs.«01_k».proof.Proof.Gen.OutIdeal.Value
public import proofs.«01_k».proof.Proof.Gen.OutRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.OutIdeal.At
open Cert.OutIdeal Cert.OutIdeal.Gen

/-- Where each window's block lies, in terms of the grid point's number. -/
theorem idx : ∀ t : Fin cfg0.N, win0_0.index t = ![t.val / 8, 0] ∧ win0_1.index t = ![0, 0, t.val % 8] ∧ win0_2.index t = ![t.val / 8, t.val % 8] ∧ win0_3.index t = ![(if t.val < 32 then 0 else 1 + (t.val - 32) / 16), 2, 0, t.val % 8] ∧ win0_4.index t = ![t.val / 8, t.val % 8] :=
  (by decide +kernel : ∀ t : Fin grid0.N, _)

variable (m : (ℓ : Loc nD τ sig) → Buf (Elt Ideal) ℓ)

/-- The argument arrays. -/
abbrev arg0 (c : Dev nD) : FVec Ideal S8192x4096 .bf16 := m ((c : Thread nD τ).loc main_arg0)
abbrev arg1 (c : Dev nD) : FVec Ideal S2x4096x4096 .f32 := m ((c : Thread nD τ).loc main_arg1)
abbrev arg2 (c : Dev nD) : FVec Ideal S8192x4096 .f32 := m ((c : Thread nD τ).loc main_arg2)
abbrev arg3 (c : Dev nD) : FVec Ideal S8x6x1x4096 .f32 := m ((c : Thread nD τ).loc main_arg3)

/-- The reference's result of the arguments. -/
abbrev wanted (c : Dev nD) := Cert.OutRefIdeal.Read.val_main_v14 (F := Ideal) (arg0 m c) (arg1 m c) (arg2 m c) (arg3 m c)

/-- The row of the array an element of the stored block has. -/
theorem row (t : Fin cfg0.N) (y : S1024x512.Idx) :
    (((View.whole main_v0).slice ((win0 4).rect t)).emb y 0).val = t.val / 8 * 1024 + (y 0).val := by
  blk_simp [idx t]

/-- What a grid point stores at an element of its block is the reference's result at the element's place in the array. -/
theorem point (c : Dev nD) (t : Fin cfg0.N) (y) :
    k0_pay1 (F := Ideal) (iblk m c 0 t) (iblk m c 1 t) (iblk m c 2 t) (iblk m c 3 t) y = wanted m c (((cfg0.win 4).blk t).view.emb y) := by
  have hr := row t y
  pointwise [k0_pay1, wanted, Cert.OutRefIdeal.Read.val_main_v0, Cert.OutRefIdeal.Read.val_main_v1, Cert.OutRefIdeal.Read.val_main_v2, Cert.OutRefIdeal.Read.val_main_v3, Cert.OutRefIdeal.Read.val_main_v4, Cert.OutRefIdeal.Read.val_main_v5, Cert.OutRefIdeal.Read.val_main_v6, Cert.OutRefIdeal.Read.val_main_v7, Cert.OutRefIdeal.Read.val_main_v8, Cert.OutRefIdeal.Read.val_main_v9, Cert.OutRefIdeal.Read.val_main_v10, Cert.OutRefIdeal.Read.val_main_v11, Cert.OutRefIdeal.Read.val_main_v12, Cert.OutRefIdeal.Read.val_main_v13, Cert.OutRefIdeal.Read.val_main_v14]
  blk_point [iblk, V, idx t]
  · show 0 = (if t.val < 32 then 0 else 1 + (t.val - 32) / 16) + 0
    split <;> omega
  · show 1 = (if t.val < 32 then 0 else 1 + (t.val - 32) / 16) + 0
    split <;> omega
  · show 2 = (if t.val < 32 then 0 else 1 + (t.val - 32) / 16) + 0
    split <;> omega

/-- THE RESULT ARRAY after the run is the reference's result of the arguments. -/
theorem final (c : Dev nD) : (dats m 0 c).arrAt 4 (cfgs 0).N = wanted m c := by
  refine (dats m 0 c).arrAt_eq_of_covers 4 _ (by decide +kernel) fun t _ y => ?_
  blk_simp
  rw [after0_4]; frame_out
  exact point m c t y

end Cert.OutIdeal.At
end
-- ==== Proof.OutClaims.lean ====
/- The claims of the output projection with its gated residual, each from the program's run. -/
module
public import proofs.«01_k».proof.Defs
public import proofs.«01_k».proof.Proof.Gen.Out
public import proofs.«01_k».proof.Proof.Gen.Out.Frame
public import proofs.«01_k».proof.Proof.OutValue
public import proofs.«01_k».proof.Proof.Gen.OutRefIdeal.Run
public import Idealize.ShloMosaic.Adequacy
@[expose] public section
noncomputable section
open Idealize.ShloMosaic Idealize.ShloMosaic.TcCoe Idealize.SL.Sem
namespace Cert.OutClaims

/-- The kernel terminates, leaves its arguments and ends with every counter at zero. -/
theorem frame_kernel : Cert.quiescent_Out := fun m ρ _ => Cert.Out.Gen.frame m ρ

/-- So does the kernel over the extended reals. -/
theorem frame_ideal : Cert.quiescent_OutIdeal := fun m ρ _ => Cert.OutIdeal.Gen.frame m ρ

/-- So does the reference over the extended reals: it runs host operations only and declares no semaphore. -/
theorem frame_reference : Cert.quiescent_OutRefIdeal := fun m ρ _ =>
  (θ_run Cert.OutRefIdeal.defs _ _).mono
    (fun r h => ⟨fun c => (h c).2, Idealize.ShloMosaic.sem_eq_zero_of_no_sems (by decide) r.2⟩)
    (Cert.OutRefIdeal.Value.run (F := Ideal) m ρ)

/-- The kernel's idealization rewrites nothing. -/
theorem preserves : Cert.preserves_Out_OutIdeal := trivial

/-- THE VALUE: from the same arguments kernel and reference end with equal results. -/
theorem algebraic : Cert.algebraic_OutIdeal_OutRefIdeal := fun m ρ m' ρ' _ hag =>
  ⟨fun c => Cert.OutIdeal.At.wanted m c,
    (θ_run Cert.OutIdeal.defs _ _).mono (fun _ h c => ⟨(h c).1.trans (Cert.OutIdeal.At.final m c), (h c).2⟩)
      (Cert.OutIdeal.Value.run_blocks (F := Ideal) m ρ),
    (θ_run Cert.OutRefIdeal.defs _ _).mono (fun _ h c => ⟨(h c).1.trans (by
        rw [Cert.OutRefIdeal.Read.val_main_v14_eq]
        show Cert.OutRefIdeal.Read.val_main_v14 (F := Ideal) (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3)) = _
        rw [(hag c).1, (hag c).2.1, (hag c).2.2.1, (hag c).2.2.2]), (h c).2⟩)
      (Cert.OutRefIdeal.Value.run (F := Ideal) m' ρ')⟩

end Cert.OutClaims
end
-- ==== Proof.FfnUpValue.lean ====
/- The dense channel mixer's up projection: the result array after the run. -/
module
public import proofs.«01_k».proof.Proof.Gen.FfnUpIdeal.Value
public import proofs.«01_k».proof.Proof.Gen.FfnUpRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.FfnUpIdeal.At
open Cert.FfnUpIdeal Cert.FfnUpIdeal.Gen

/-- Where each window's block lies, in terms of the grid point's number. -/
theorem idx : ∀ t : Fin cfg0.N, win0_0.index t = ![t.val / 43, 0] ∧ win0_1.index t = ![0, 0, t.val % 43] ∧ win0_2.index t = ![0, 0, t.val % 43] ∧ win0_3.index t = ![t.val / 43, t.val % 43] :=
  (by decide +kernel : ∀ t : Fin grid0.N, _)

variable (m : (ℓ : Loc nD τ sig) → Buf (Elt Ideal) ℓ)

/-- The argument arrays. -/
abbrev arg0 (c : Dev nD) : FVec Ideal S8192x4096 .bf16 := m ((c : Thread nD τ).loc main_arg0)
abbrev arg1 (c : Dev nD) : FVec Ideal S1x4096x11008 .f32 := m ((c : Thread nD τ).loc main_arg1)
abbrev arg2 (c : Dev nD) : FVec Ideal S1x4096x11008 .f32 := m ((c : Thread nD τ).loc main_arg2)

/-- The reference's result of the arguments. -/
abbrev wanted (c : Dev nD) := Cert.FfnUpRefIdeal.Read.val_main_v7 (F := Ideal) (arg0 m c) (arg1 m c) (arg2 m c)

/-- What a grid point stores at an element of its block is the reference's result at the element's place in the array. -/
theorem point (c : Dev nD) (t : Fin cfg0.N) (y) :
    k0_pay1 (F := Ideal) (iblk m c 0 t) (iblk m c 1 t) (iblk m c 0 t) (iblk m c 2 t) y = wanted m c (((cfg0.win 3).blk t).view.emb y) := by
  pointwise [Ideal.logistic, k0_pay1, wanted, Cert.FfnUpRefIdeal.Read.val_main_v0, Cert.FfnUpRefIdeal.Read.val_main_v1, Cert.FfnUpRefIdeal.Read.val_main_v2, Cert.FfnUpRefIdeal.Read.val_main_call0_v0, Cert.FfnUpRefIdeal.Read.val_main_call0_v1, Cert.FfnUpRefIdeal.Read.val_main_call0_cst, Cert.FfnUpRefIdeal.Read.val_main_call0_v2, Cert.FfnUpRefIdeal.Read.val_main_call0_v3, Cert.FfnUpRefIdeal.Read.val_main_call0_cst_0, Cert.FfnUpRefIdeal.Read.val_main_call0_v4, Cert.FfnUpRefIdeal.Read.val_main_call0_v5, Cert.FfnUpRefIdeal.Read.val_main_v3, Cert.FfnUpRefIdeal.Read.val_main_v4, Cert.FfnUpRefIdeal.Read.val_main_v5, Cert.FfnUpRefIdeal.Read.val_main_v6, Cert.FfnUpRefIdeal.Read.val_main_v7]
  blk_point [iblk, V, idx t]

/-- THE RESULT ARRAY after the run is the reference's result of the arguments. -/
theorem final (c : Dev nD) : (dats m 0 c).arrAt 3 (cfgs 0).N = wanted m c := by
  refine (dats m 0 c).arrAt_eq_of_covers 3 _ (by decide +kernel) fun t _ y => ?_
  blk_simp
  rw [after0_3]; frame_out
  exact point m c t y

end Cert.FfnUpIdeal.At
end
-- ==== Proof.FfnUpClaims.lean ====
/- The claims of the dense channel mixer's up projection, each from the program's run. -/
module
public import proofs.«01_k».proof.Defs
public import proofs.«01_k».proof.Proof.Gen.FfnUp
public import proofs.«01_k».proof.Proof.Gen.FfnUp.Frame
public import proofs.«01_k».proof.Proof.FfnUpValue
public import proofs.«01_k».proof.Proof.Gen.FfnUpRefIdeal.Run
public import Idealize.ShloMosaic.Adequacy
@[expose] public section
noncomputable section
open Idealize.ShloMosaic Idealize.ShloMosaic.TcCoe Idealize.SL.Sem
namespace Cert.FfnUpClaims

/-- The kernel terminates, leaves its arguments and ends with every counter at zero. -/
theorem frame_kernel : Cert.quiescent_FfnUp := fun m ρ _ => Cert.FfnUp.Gen.frame m ρ

/-- So does the kernel over the extended reals. -/
theorem frame_ideal : Cert.quiescent_FfnUpIdeal := fun m ρ _ => Cert.FfnUpIdeal.Gen.frame m ρ

/-- So does the reference over the extended reals: it runs host operations only and declares no semaphore. -/
theorem frame_reference : Cert.quiescent_FfnUpRefIdeal := fun m ρ _ =>
  (θ_run Cert.FfnUpRefIdeal.defs _ _).mono
    (fun r h => ⟨fun c => (h c).2, Idealize.ShloMosaic.sem_eq_zero_of_no_sems (by decide) r.2⟩)
    (Cert.FfnUpRefIdeal.Value.run (F := Ideal) m ρ)

/-- The kernel's idealization rewrites nothing. -/
theorem preserves : Cert.preserves_FfnUp_FfnUpIdeal := trivial

/-- THE VALUE: from the same arguments kernel and reference end with equal results. -/
theorem algebraic : Cert.algebraic_FfnUpIdeal_FfnUpRefIdeal := fun m ρ m' ρ' _ hag =>
  ⟨fun c => Cert.FfnUpIdeal.At.wanted m c,
    (θ_run Cert.FfnUpIdeal.defs _ _).mono (fun _ h c => ⟨(h c).1.trans (Cert.FfnUpIdeal.At.final m c), (h c).2⟩)
      (Cert.FfnUpIdeal.Value.run_blocks (F := Ideal) m ρ),
    (θ_run Cert.FfnUpRefIdeal.defs _ _).mono (fun _ h c => ⟨(h c).1.trans (by
        rw [Cert.FfnUpRefIdeal.Read.val_main_v7_eq]
        show Cert.FfnUpRefIdeal.Read.val_main_v7 (F := Ideal) (m' ((c.tc : Thread Cert.FfnUpRefIdeal.nD Cert.FfnUpRefIdeal.τ).loc Cert.FfnUpRefIdeal.main_arg0)) (m' ((c.tc : Thread Cert.FfnUpRefIdeal.nD Cert.FfnUpRefIdeal.τ).loc Cert.FfnUpRefIdeal.main_arg1)) (m' ((c.tc : Thread Cert.FfnUpRefIdeal.nD Cert.FfnUpRefIdeal.τ).loc Cert.FfnUpRefIdeal.main_arg2)) = _
        rw [(hag c).1, (hag c).2.1, (hag c).2.2]), (h c).2⟩)
      (Cert.FfnUpRefIdeal.Value.run (F := Ideal) m' ρ')⟩

end Cert.FfnUpClaims
end
-- ==== Proof.FfnDownValue.lean ====
/- The dense channel mixer's down projection with its gated residual: the result array after the run. -/
module
public import proofs.«01_k».proof.Proof.Gen.FfnDownIdeal.Value
public import proofs.«01_k».proof.Proof.Gen.FfnDownRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.FfnDownIdeal.At
open Cert.FfnDownIdeal Cert.FfnDownIdeal.Gen

/-- Where each window's block lies, in terms of the grid point's number. -/
theorem idx : ∀ t : Fin cfg0.N, win0_0.index t = ![t.val / 32, t.val % 2] ∧ win0_1.index t = ![0, t.val % 2, t.val / 2 % 16] ∧ win0_2.index t = ![t.val / 32, t.val / 2 % 16] ∧ win0_3.index t = ![(if t.val < 128 then 0 else 1 + (t.val - 128) / 64), 5, 0, t.val / 2 % 16] ∧ win0_4.index t = ![t.val / 32, t.val / 2 % 16] :=
  (by decide +kernel : ∀ t : Fin grid0.N, _)

variable (m : (ℓ : Loc nD τ sig) → Buf (Elt Ideal) ℓ)

/-- The argument arrays. -/
abbrev arg0 (c : Dev nD) : FVec Ideal S8192x11008 .bf16 := m ((c : Thread nD τ).loc main_arg0)
abbrev arg1 (c : Dev nD) : FVec Ideal S1x11008x4096 .f32 := m ((c : Thread nD τ).loc main_arg1)
abbrev arg2 (c : Dev nD) : FVec Ideal S8192x4096 .f32 := m ((c : Thread nD τ).loc main_arg2)
abbrev arg3 (c : Dev nD) : FVec Ideal S8x6x1x4096 .f32 := m ((c : Thread nD τ).loc main_arg3)

/-- The reference's result of the arguments. -/
abbrev wanted (c : Dev nD) := Cert.FfnDownRefIdeal.Read.val_main_v13 (F := Ideal) (arg0 m c) (arg1 m c) (arg2 m c) (arg3 m c)

/-- The result is written back at the second of a tile's two points. -/
theorem flush_odd : ∀ t : Fin cfg0.N, (cfg0.win 4).flush t = true → t.val % 2 = 1 :=
  (by decide +kernel : ∀ t : Fin grid0.N, win0_4.flush t = true → t.val % 2 = 1)

/-- The point before: the first of the tile's two. -/
abbrev prev (t : Fin cfg0.N) : Fin cfg0.N := ⟨t.val - 1, Nat.lt_of_le_of_lt (Nat.sub_le _ _) t.isLt⟩

/-- What the second point stores: both halves' products, then the gated residual. -/
theorem stored (c : Dev nD) (t : Fin cfg0.N) (h : t.val % 2 = 1) :
    (outsAt0 m c t.val t.isLt).1 = k0_pay3 (F := Ideal)
      (k0_pay2 (F := Ideal) (k0_pay1 (F := Ideal) (iblk m c 0 (prev t)) (iblk m c 1 (prev t))) (iblk m c 0 t) (iblk m c 1 t)) (iblk m c 2 t) (iblk m c 3 t) := by
  have e : outsAt0 m c (t.val - 1) (Nat.lt_of_le_of_lt (Nat.sub_le _ _) t.isLt) = outsAt0 m c (prev t).val (prev t).isLt := rfl
  rw [outsAt0_B m c t (by omega) h h, e, outsAt0_A m c (prev t) (by show (t.val - 1) % 2 = 0; omega) (by show ¬(t.val - 1) % 2 = 1; omega) (by show ¬(t.val - 1) % 2 = 1; omega)]
  unfold out0_B_4 sout0_A_0
  frame_out
  exact congrArg (fun z => k0_pay3 (F := Ideal) (k0_pay2 (F := Ideal) z (iblk m c 0 t) (iblk m c 1 t)) (iblk m c 2 t) (iblk m c 3 t)) (Memref.IsWhole.read_unread _ _)

/-- The three payloads at an element. -/
theorem first_at (h : Vec Ideal S1024x5504 .bf16) (w : Vec Ideal S1x5504x256 .f32) (r : Fin 1024) (d : Fin 256) :
    k0_pay1 (F := Ideal) h w (ix2 r d) = ∑ k : Fin 5504, h (ix2 r k) * w (ix3 0 k d) := by
  pointwise [k0_pay1]

theorem second_at (a : Vec Ideal S1024x256 .f32) (h : Vec Ideal S1024x5504 .bf16) (w : Vec Ideal S1x5504x256 .f32) (r : Fin 1024) (d : Fin 256) :
    k0_pay2 (F := Ideal) a h w (ix2 r d) = a (ix2 r d) + ∑ k : Fin 5504, h (ix2 r k) * w (ix3 0 k d) := by
  pointwise [k0_pay2]

theorem residual_at (a x : Vec Ideal S1024x256 .f32) (g : Vec Ideal S1x1x1x256 .f32) (r : Fin 1024) (d : Fin 256) :
    k0_pay3 (F := Ideal) a x g (ix2 r d) = x (ix2 r d) + g (ix4 0 0 0 d) * a (ix2 r d) := by
  pointwise [k0_pay3]

/-- The activations' block. -/
theorem read_tokens (c : Dev nD) (t : Fin cfg0.N) (r : Fin 1024) (k : Fin 5504) (h : t.val / 32 * 1024 + r.val < 8192) :
    iblk m c 0 t (ix2 r k) = arg0 m c (ix2 (⟨t.val / 32 * 1024 + r.val, h⟩ : Fin 8192) (⟨t.val % 2 * 5504 + k.val, by omega⟩ : Fin 11008)) := by
  blk_ext [iblk, V, idx t]

/-- The weights' block. -/
theorem read_weights (c : Dev nD) (t : Fin cfg0.N) (k : Fin 5504) (d : Fin 256) :
    iblk m c 1 t (ix3 0 k d) = arg1 m c (ix3 0 (⟨t.val % 2 * 5504 + k.val, by omega⟩ : Fin 11008) (⟨t.val / 2 % 16 * 256 + d.val, by omega⟩ : Fin 4096)) := by
  blk_ext [iblk, V, idx t]

/-- The residual's block. -/
theorem read_residual (c : Dev nD) (t : Fin cfg0.N) (r : Fin 1024) (d : Fin 256) (h : t.val / 32 * 1024 + r.val < 8192) :
    iblk m c 2 t (ix2 r d) = arg2 m c (ix2 (⟨t.val / 32 * 1024 + r.val, h⟩ : Fin 8192) (⟨t.val / 2 % 16 * 256 + d.val, by omega⟩ : Fin 4096)) := by
  blk_ext [iblk, V, idx t]

/-- The group a row belongs to: the context, then each latent sequence. -/
def group (r : Fin 8192) : Fin 8 := if r.val < 4096 then 0 else if r.val < 6144 then 1 else 2

/-- The gate's block: the row of the group all the block's rows belong to. -/
theorem read_gate (c : Dev nD) (t : Fin cfg0.N) (r : Fin 1024) (d : Fin 256) (h : t.val / 32 * 1024 + r.val < 8192) :
    iblk m c 3 t (ix4 0 0 0 d) = arg3 m c (ix4 (group (⟨t.val / 32 * 1024 + r.val, h⟩ : Fin 8192)) 5 0 (⟨t.val / 2 % 16 * 256 + d.val, by omega⟩ : Fin 4096)) := by
  have e : (group (⟨t.val / 32 * 1024 + r.val, h⟩ : Fin 8192)).val = if t.val < 128 then 0 else 1 + (t.val - 128) / 64 := by
    unfold group
    have ht : t.val < 256 := lt_of_lt_of_eq t.isLt (show cfg0.N = 256 from N_0)
    dsimp only
    split_ifs <;> first | (show (0 : ℕ) = _; omega) | (show (1 : ℕ) = _; omega) | (show (2 : ℕ) = _; omega)
  blk_ext [iblk, V, idx t]
  all_goals (rw [e]; omega)

/-- The reference's gate at an element. -/
theorem gate_at (g : FVec Ideal S8x6x1x4096 .f32) (r : Fin 8192) (d : Fin 4096) :
    Cert.FfnDownRefIdeal.Read.val_main_v8 (F := Ideal) g (ix2 r d) = g (ix4 (group r) 5 0 d) := by
  unfold group
  pointwise [Cert.FfnDownRefIdeal.Read.val_main_v0, Cert.FfnDownRefIdeal.Read.val_main_v1, Cert.FfnDownRefIdeal.Read.val_main_v2, Cert.FfnDownRefIdeal.Read.val_main_v3, Cert.FfnDownRefIdeal.Read.val_main_v4, Cert.FfnDownRefIdeal.Read.val_main_v5, Cert.FfnDownRefIdeal.Read.val_main_v6, Cert.FfnDownRefIdeal.Read.val_main_v7, Cert.FfnDownRefIdeal.Read.val_main_v8]
  blk_point []
  all_goals (split_ifs <;> first | rfl | omega)

/-- The reference's result at an element. -/
theorem result_at (c : Dev nD) (r : Fin 8192) (d : Fin 4096) :
    wanted m c (ix2 r d) = arg2 m c (ix2 r d) + arg3 m c (ix4 (group r) 5 0 d) * ∑ k : Fin 11008, arg0 m c (ix2 r k) * arg1 m c (ix3 0 k d) := by
  rw [← gate_at (arg3 m c) r d]
  pointwise [wanted, Cert.FfnDownRefIdeal.Read.val_main_v9, Cert.FfnDownRefIdeal.Read.val_main_v10, Cert.FfnDownRefIdeal.Read.val_main_v11, Cert.FfnDownRefIdeal.Read.val_main_v12, Cert.FfnDownRefIdeal.Read.val_main_v13]

/-- A sum over the 11008 channels is the sum over the first half plus the sum over the second. -/
theorem sum_halves (f : Fin 11008 → EReal) :
    ∑ k : Fin 11008, f k = ∑ k : Fin 5504, f ⟨k.val, by omega⟩ + ∑ k : Fin 5504, f ⟨5504 + k.val, by omega⟩ :=
  Fin.sum_univ_add (a := 5504) (b := 5504) f

/-- What the second point of a tile stores at an element is the reference's result at the element's place in the array. -/
theorem point (c : Dev nD) (t : Fin cfg0.N) (ho : t.val % 2 = 1) (r : Fin 1024) (d : Fin 256) (hr : t.val / 32 * 1024 + r.val < 8192) :
    (outsAt0 m c t.val t.isLt).1 (ix2 r d)
      = wanted m c (ix2 (⟨t.val / 32 * 1024 + r.val, hr⟩ : Fin 8192) (⟨t.val / 2 % 16 * 256 + d.val, by omega⟩ : Fin 4096)) := by
  have hp : (prev t).val / 32 = t.val / 32 := by show (t.val - 1) / 32 = _; omega
  have hq : (prev t).val / 2 % 16 = t.val / 2 % 16 := by show (t.val - 1) / 2 % 16 = _; omega
  have hz : (prev t).val % 2 = 0 := by show (t.val - 1) % 2 = 0; omega
  rw [stored m c t ho, residual_at, second_at, first_at, result_at, sum_halves, read_residual m c t r d hr, read_gate m c t r d hr]
  congr 2
  congr 1
  · refine Finset.sum_congr rfl fun k _ => ?_
    refine (Ideal.mul_congr (read_tokens m c (prev t) r k (by omega)) (read_weights m c (prev t) k d)).trans ?_
    simp only [hp, hq, hz, Nat.zero_mul, Nat.zero_add]
  · refine Finset.sum_congr rfl fun k _ => ?_
    refine (Ideal.mul_congr (read_tokens m c t r k hr) (read_weights m c t k d)).trans ?_
    simp only [ho, Nat.one_mul]

/-- THE RESULT ARRAY after the run is the reference's result of the arguments. -/
theorem final (c : Dev nD) : (dats m 0 c).arrAt 4 (cfgs 0).N = wanted m c := by
  refine (dats m 0 c).arrAt_eq_of_covers 4 _ (by decide +kernel) fun t hf y => ?_
  have ho := flush_odd t hf
  blk_simp
  rw [after0_4]
  idx_vars y
  have ht : t.val < 256 := lt_of_lt_of_eq t.isLt (show cfg0.N = 256 from N_0)
  refine (point m c t ho y0 y1 (by omega)).trans ?_
  blk_ext [idx t]

end Cert.FfnDownIdeal.At
end
-- ==== Proof.FfnDownClaims.lean ====
/- The claims of the dense channel mixer's down projection with its gated residual, each from the program's run. -/
module
public import proofs.«01_k».proof.Defs
public import proofs.«01_k».proof.Proof.Gen.FfnDown
public import proofs.«01_k».proof.Proof.Gen.FfnDown.Frame
public import proofs.«01_k».proof.Proof.FfnDownValue
public import proofs.«01_k».proof.Proof.Gen.FfnDownRefIdeal.Run
public import Idealize.ShloMosaic.Adequacy
@[expose] public section
noncomputable section
open Idealize.ShloMosaic Idealize.ShloMosaic.TcCoe Idealize.SL.Sem
namespace Cert.FfnDownClaims

/-- The kernel terminates, leaves its arguments and ends with every counter at zero. -/
theorem frame_kernel : Cert.quiescent_FfnDown := fun m ρ _ => Cert.FfnDown.Gen.frame m ρ

/-- So does the kernel over the extended reals. -/
theorem frame_ideal : Cert.quiescent_FfnDownIdeal := fun m ρ _ => Cert.FfnDownIdeal.Gen.frame m ρ

/-- So does the reference over the extended reals: it runs host operations only and declares no semaphore. -/
theorem frame_reference : Cert.quiescent_FfnDownRefIdeal := fun m ρ _ =>
  (θ_run Cert.FfnDownRefIdeal.defs _ _).mono
    (fun r h => ⟨fun c => (h c).2, Idealize.ShloMosaic.sem_eq_zero_of_no_sems (by decide) r.2⟩)
    (Cert.FfnDownRefIdeal.Value.run (F := Ideal) m ρ)

/-- The kernel's idealization rewrites nothing. -/
theorem preserves : Cert.preserves_FfnDown_FfnDownIdeal := trivial

/-- THE VALUE: from the same arguments kernel and reference end with equal results. -/
theorem algebraic : Cert.algebraic_FfnDownIdeal_FfnDownRefIdeal := fun m ρ m' ρ' _ hag =>
  ⟨fun c => Cert.FfnDownIdeal.At.wanted m c,
    (θ_run Cert.FfnDownIdeal.defs _ _).mono (fun _ h c => ⟨(h c).1.trans (Cert.FfnDownIdeal.At.final m c), (h c).2⟩)
      (Cert.FfnDownIdeal.Value.run_blocks (F := Ideal) m ρ),
    (θ_run Cert.FfnDownRefIdeal.defs _ _).mono (fun _ h c => ⟨(h c).1.trans (by
        rw [Cert.FfnDownRefIdeal.Read.val_main_v13_eq]
        show Cert.FfnDownRefIdeal.Read.val_main_v13 (F := Ideal) (m' ((c.tc : Thread Cert.FfnDownRefIdeal.nD Cert.FfnDownRefIdeal.τ).loc Cert.FfnDownRefIdeal.main_arg0)) (m' ((c.tc : Thread Cert.FfnDownRefIdeal.nD Cert.FfnDownRefIdeal.τ).loc Cert.FfnDownRefIdeal.main_arg1)) (m' ((c.tc : Thread Cert.FfnDownRefIdeal.nD Cert.FfnDownRefIdeal.τ).loc Cert.FfnDownRefIdeal.main_arg2)) (m' ((c.tc : Thread Cert.FfnDownRefIdeal.nD Cert.FfnDownRefIdeal.τ).loc Cert.FfnDownRefIdeal.main_arg3)) = _
        rw [(hag c).1, (hag c).2.1, (hag c).2.2.1, (hag c).2.2.2]), (h c).2⟩)
      (Cert.FfnDownRefIdeal.Value.run (F := Ideal) m' ρ')⟩

end Cert.FfnDownClaims
end
-- ==== Proof.FinalValue.lean ====
/- The final normalization: the result array after the run. -/
module
public import proofs.«01_k».proof.Proof.Gen.FinalIdeal.Frame
public import proofs.«01_k».proof.Proof.Gen.FinalRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.FinalIdeal.At
open Cert.FinalIdeal Cert.FinalIdeal.Gen

/-- Where each window's block lies, in terms of the grid point's number. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The argument arrays. -/
abbrev arg0 (c : Dev nD) : FVec Ideal S8192x4096 .f32 := m ((c : Thread nD τ).loc main_arg0)
abbrev arg1 (c : Dev nD) : FVec Ideal S4096 .f32 := m ((c : Thread nD τ).loc main_arg1)

/-- The reference's two results of the arguments. -/
abbrev wanted (c : Dev nD) := Cert.FinalRefIdeal.Read.val_main_v16 (F := Ideal) (arg0 m c) (arg1 m c)
abbrev wanted2 (c : Dev nD) := Cert.FinalRefIdeal.Read.val_main_v29 (F := Ideal) (arg0 m c) (arg1 m c)

/-- The region's result: each row over the root of its mean square, times the gain. -/
def normed (x : FVec Ideal S8192x4096 .f32) (g : FVec Ideal S4096 .f32) : FVec Ideal S8192x4096 .f32 := fun i =>
  x (ix2 (i 0) (i 1)) * Ideal.rsqrt (Ideal.div (∑ k : Fin 4096, x (ix2 (i 0) k) * x (ix2 (i 0) k)) (Ideal.ofBits .f32 0x45800000#32)
    + Ideal.ofBits .f32 0x358637BD#32) * g (ix1 (i 1))

/-- The rows' block. -/
theorem read_rows (c : Dev nD) (t : Fin cfg0.N) (r : Fin 256) (k : Fin 4096) (h : t.val * 256 + r.val < 8192) :
    iblk m c 0 t (ix2 r k) = arg0 m c (ix2 (⟨t.val * 256 + r.val, h⟩ : Fin 8192) k) := by
  blk_ext [iblk, V_main_arg0, idx t]

/-- The gain's row as the host line leaves it. -/
theorem gain_row (c : Dev nD) : V m c main_v0 = shapeCast S1x4096 (arg1 m c : FVec Ideal S4096 .f32) shapeCasts_S4096_S1x4096 := by
  show StableHlo.after ([hostOps0].flatten) _ _ = _
  simp only [hostOps0, List.flatten_cons, List.flatten_nil, List.append_nil]
  after_results_simp
  rfl

/-- The gain, which the host line before the region shapes as a row. -/
theorem read_gain (c : Dev nD) (t : Fin cfg0.N) (k : Fin 4096) :
    iblk m c 1 t (ix2 0 k) = arg1 m c (ix1 k) := by
  refine (congrFun (gain_row m c) ((win0_1.blk t).view.emb (ix2 0 k))).trans ?_
  have e : (win0_1.blk t).view.emb (ix2 0 k) = ix2 0 k := by
    blk_ext [idx t]
  rw [e]
  pointwise

/-- The stored block at an element. -/
theorem pay_at (x : Vec Ideal S256x4096 .f32) (g : Vec Ideal S1x4096 .f32) (r : Fin 256) (d : Fin 4096) :
    k0_pay1 (F := Ideal) x g (ix2 r d) = x (ix2 r d) * Ideal.rsqrt (Ideal.div (∑ k : Fin 4096, x (ix2 r k) * x (ix2 r k)) (Ideal.ofBits .f32 0x45800000#32)
      + Ideal.ofBits .f32 0x358637BD#32) * g (ix2 0 d) := by
  pointwise [k0_pay1]

/-- What a grid point stores at an element of its block. -/
theorem point (c : Dev nD) (t : Fin cfg0.N) (r : Fin 256) (d : Fin 4096) (hr : t.val * 256 + r.val < 8192) :
    k0_pay1 (F := Ideal) (iblk m c 0 t) (iblk m c 1 t) (ix2 r d) = normed (arg0 m c) (arg1 m c) (ix2 (⟨t.val * 256 + r.val, hr⟩ : Fin 8192) d) := by
  rw [pay_at]
  have e : (fun k : Fin 4096 => iblk m c 0 t (ix2 r k)) = fun k => arg0 m c (ix2 (⟨t.val * 256 + r.val, hr⟩ : Fin 8192) k) := funext fun k => read_rows m c t r k hr
  exact congrArg₂ (fun (f : Fin 4096 → EReal) (g : EReal) => f d * Ideal.rsqrt (Ideal.div (∑ k, f k * f k) (Ideal.ofBits .f32 0x45800000#32)
    + Ideal.ofBits .f32 0x358637BD#32) * g) e (read_gain m c t d)

/-- THE REGION'S RESULT ARRAY after the run. -/
theorem final (c : Dev nD) : (dats m 0 c).arrAt 2 (cfgs 0).N = normed (arg0 m c) (arg1 m c) := by
  refine (dats m 0 c).arrAt_eq_of_covers 2 _ (by decide +kernel) fun t _ y => ?_
  blk_simp
  rw [after0_2]
  frame_out
  idx_vars y
  have ht : t.val < 32 := lt_of_lt_of_eq t.isLt (show cfg0.N = 32 from N_0)
  refine (point m c t y0 y1 (by omega)).trans ?_
  blk_ext [idx t]

/-- The host line after the region: the prompts' rows and the samples' rows, as sequences. -/
def prompts (A : FVec Ideal S8192x4096 .f32) : FVec Ideal S16x256x4096 .f32 :=
  shapeCast S16x256x4096 (extractStridedSlice S4096x4096 ![0, 0] (A : FVec Ideal S8192x4096 .f32) slices_S8192x4096_S4096x4096_0_0) shapeCasts_S4096x4096_S16x256x4096
def samples (A : FVec Ideal S8192x4096 .f32) : FVec Ideal S2x2048x4096 .f32 :=
  shapeCast S2x2048x4096 (extractStridedSlice S4096x4096 ![4096, 0] (A : FVec Ideal S8192x4096 .f32) slices_S8192x4096_S4096x4096_4096_0) shapeCasts_S4096x4096_S2x2048x4096

/-- What the host line after the region leaves in `main_v3`: computed from the region's result array. -/
theorem tail_main_v3 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v3) = prompts ((dats m 0 c).arrAt 2 cfg0.N) := by
  refine ((h c).2 main_v3 (Pipeline.mem_restRefs_of _ rfl (by decide))).trans ?_
  unfold Pipeline.afterTail₀ prompts
  after_results_simp
  exact congrArg (fun A => shapeCast S16x256x4096 (extractStridedSlice S4096x4096 ![0, 0] (A : FVec Ideal S8192x4096 .f32) slices_S8192x4096_S4096x4096_0_0) shapeCasts_S4096x4096_S16x256x4096) (Pipeline.withArrays_arr spec0 launch0.win.arr_inj c (V0 m c) (fun w => (dats m 0 c).arrAt w cfg0.N) 2)

/-- What the host line after the region leaves in `main_v5`: computed from the region's result array. -/
theorem tail_main_v5 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v5) = samples ((dats m 0 c).arrAt 2 cfg0.N) := by
  refine ((h c).2 main_v5 (Pipeline.mem_restRefs_of _ rfl (by decide))).trans ?_
  unfold Pipeline.afterTail₀ samples
  after_results_simp
  exact congrArg (fun A => shapeCast S2x2048x4096 (extractStridedSlice S4096x4096 ![4096, 0] (A : FVec Ideal S8192x4096 .f32) slices_S8192x4096_S4096x4096_4096_0) shapeCasts_S4096x4096_S2x2048x4096) (Pipeline.withArrays_arr spec0 launch0.win.arr_inj c (V0 m c) (fun w => (dats m 0 c).arrAt w cfg0.N) 2)

/-- The prompts' part is the reference's first result. -/
theorem prompts_eq (x : FVec Ideal S8192x4096 .f32) (g : FVec Ideal S4096 .f32) :
    prompts (normed x g) = Cert.FinalRefIdeal.Read.val_main_v16 (F := Ideal) x g := by
  funext i
  idx_vars i
  pointwise [prompts, normed, Cert.FinalRefIdeal.Read.val_main_v0, Cert.FinalRefIdeal.Read.val_main_v1, Cert.FinalRefIdeal.Read.val_main_v2, Cert.FinalRefIdeal.Read.val_main_v3, Cert.FinalRefIdeal.Read.val_main_v4, Cert.FinalRefIdeal.Read.val_main_cst, Cert.FinalRefIdeal.Read.val_main_v5, Cert.FinalRefIdeal.Read.val_main_v6, Cert.FinalRefIdeal.Read.val_main_cst_0, Cert.FinalRefIdeal.Read.val_main_v7, Cert.FinalRefIdeal.Read.val_main_v8, Cert.FinalRefIdeal.Read.val_main_cst_1, Cert.FinalRefIdeal.Read.val_main_v9, Cert.FinalRefIdeal.Read.val_main_v10, Cert.FinalRefIdeal.Read.val_main_v11, Cert.FinalRefIdeal.Read.val_main_v12, Cert.FinalRefIdeal.Read.val_main_v13, Cert.FinalRefIdeal.Read.val_main_v14, Cert.FinalRefIdeal.Read.val_main_v15, Cert.FinalRefIdeal.Read.val_main_v16, Cert.FinalRefIdeal.Read.val_main_v17, Cert.FinalRefIdeal.Read.val_main_cst_2, Cert.FinalRefIdeal.Read.val_main_v18, Cert.FinalRefIdeal.Read.val_main_v19, Cert.FinalRefIdeal.Read.val_main_cst_3, Cert.FinalRefIdeal.Read.val_main_v20, Cert.FinalRefIdeal.Read.val_main_v21, Cert.FinalRefIdeal.Read.val_main_cst_4, Cert.FinalRefIdeal.Read.val_main_v22, Cert.FinalRefIdeal.Read.val_main_v23, Cert.FinalRefIdeal.Read.val_main_v24, Cert.FinalRefIdeal.Read.val_main_v25, Cert.FinalRefIdeal.Read.val_main_v26, Cert.FinalRefIdeal.Read.val_main_v27, Cert.FinalRefIdeal.Read.val_main_v28, Cert.FinalRefIdeal.Read.val_main_v29]

/-- The samples' part is the reference's second result. -/
theorem samples_eq (x : FVec Ideal S8192x4096 .f32) (g : FVec Ideal S4096 .f32) :
    samples (normed x g) = Cert.FinalRefIdeal.Read.val_main_v29 (F := Ideal) x g := by
  funext i
  idx_vars i
  pointwise [samples, normed, Cert.FinalRefIdeal.Read.val_main_v0, Cert.FinalRefIdeal.Read.val_main_v1, Cert.FinalRefIdeal.Read.val_main_v2, Cert.FinalRefIdeal.Read.val_main_v3, Cert.FinalRefIdeal.Read.val_main_v4, Cert.FinalRefIdeal.Read.val_main_cst, Cert.FinalRefIdeal.Read.val_main_v5, Cert.FinalRefIdeal.Read.val_main_v6, Cert.FinalRefIdeal.Read.val_main_cst_0, Cert.FinalRefIdeal.Read.val_main_v7, Cert.FinalRefIdeal.Read.val_main_v8, Cert.FinalRefIdeal.Read.val_main_cst_1, Cert.FinalRefIdeal.Read.val_main_v9, Cert.FinalRefIdeal.Read.val_main_v10, Cert.FinalRefIdeal.Read.val_main_v11, Cert.FinalRefIdeal.Read.val_main_v12, Cert.FinalRefIdeal.Read.val_main_v13, Cert.FinalRefIdeal.Read.val_main_v14, Cert.FinalRefIdeal.Read.val_main_v15, Cert.FinalRefIdeal.Read.val_main_v16, Cert.FinalRefIdeal.Read.val_main_v17, Cert.FinalRefIdeal.Read.val_main_cst_2, Cert.FinalRefIdeal.Read.val_main_v18, Cert.FinalRefIdeal.Read.val_main_v19, Cert.FinalRefIdeal.Read.val_main_cst_3, Cert.FinalRefIdeal.Read.val_main_v20, Cert.FinalRefIdeal.Read.val_main_v21, Cert.FinalRefIdeal.Read.val_main_cst_4, Cert.FinalRefIdeal.Read.val_main_v22, Cert.FinalRefIdeal.Read.val_main_v23, Cert.FinalRefIdeal.Read.val_main_v24, Cert.FinalRefIdeal.Read.val_main_v25, Cert.FinalRefIdeal.Read.val_main_v26, Cert.FinalRefIdeal.Read.val_main_v27, Cert.FinalRefIdeal.Read.val_main_v28, Cert.FinalRefIdeal.Read.val_main_v29]

/-- THE RUN: it ends with the reference's results of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = wanted m c
      ∧ r.2.mem ((c : Thread nD τ).loc main_v5) = wanted2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(tail_main_v3 m r h.2 c).trans ((congrArg prompts (final m c)).trans (prompts_eq _ _)),
      (tail_main_v5 m r h.2 c).trans ((congrArg samples (final m c)).trans (samples_eq _ _)), h.1 c⟩)
    (θ_run_and (unchanged m ρ) (run_main m ρ))

end Cert.FinalIdeal.At
end
-- ==== Proof.FinalClaims.lean ====
/- The claims of the final normalization, each from the program's run. -/
module
public import proofs.«01_k».proof.Defs
public import proofs.«01_k».proof.Proof.Gen.Final
public import proofs.«01_k».proof.Proof.Gen.Final.Frame
public import proofs.«01_k».proof.Proof.FinalValue
public import proofs.«01_k».proof.Proof.Gen.FinalRefIdeal.Run
public import Idealize.ShloMosaic.Adequacy
@[expose] public section
noncomputable section
open Idealize.ShloMosaic Idealize.ShloMosaic.TcCoe Idealize.SL.Sem
namespace Cert.FinalClaims

/-- The kernel terminates, leaves its arguments and ends with every counter at zero. -/
theorem frame_kernel : Cert.quiescent_Final := fun m ρ _ => Cert.Final.Gen.frame m ρ

/-- So does the kernel over the extended reals. -/
theorem frame_ideal : Cert.quiescent_FinalIdeal := fun m ρ _ => Cert.FinalIdeal.Gen.frame m ρ

/-- So does the reference over the extended reals: it runs host operations only and declares no semaphore. -/
theorem frame_reference : Cert.quiescent_FinalRefIdeal := fun m ρ _ =>
  (θ_run Cert.FinalRefIdeal.defs _ _).mono
    (fun r h => ⟨fun c => (h c).2.2, Idealize.ShloMosaic.sem_eq_zero_of_no_sems (by decide) r.2⟩)
    (Cert.FinalRefIdeal.Value.run (F := Ideal) m ρ)

/-- The kernel's idealization rewrites nothing. -/
theorem preserves : Cert.preserves_Final_FinalIdeal := trivial

/-- THE VALUE: from the same arguments kernel and reference end with equal results. -/
theorem algebraic : Cert.algebraic_FinalIdeal_FinalRefIdeal := fun m ρ m' ρ' _ hag =>
  ⟨fun c => Cert.FinalIdeal.At.wanted m c, fun c => Cert.FinalIdeal.At.wanted2 m c,
    Cert.FinalIdeal.At.run m ρ,
    (θ_run Cert.FinalRefIdeal.defs _ _).mono (fun _ h c => ⟨(h c).1.trans (by
        rw [Cert.FinalRefIdeal.Read.val_main_v16_eq]
        show Cert.FinalRefIdeal.Read.val_main_v16 (F := Ideal) (m' ((c.tc : Thread Cert.FinalRefIdeal.nD Cert.FinalRefIdeal.τ).loc Cert.FinalRefIdeal.main_arg0)) (m' ((c.tc : Thread Cert.FinalRefIdeal.nD Cert.FinalRefIdeal.τ).loc Cert.FinalRefIdeal.main_arg1)) = _
        rw [(hag c).1, (hag c).2]),
        (h c).2.1.trans (by
        rw [Cert.FinalRefIdeal.Read.val_main_v29_eq]
        show Cert.FinalRefIdeal.Read.val_main_v29 (F := Ideal) (m' ((c.tc : Thread Cert.FinalRefIdeal.nD Cert.FinalRefIdeal.τ).loc Cert.FinalRefIdeal.main_arg0)) (m' ((c.tc : Thread Cert.FinalRefIdeal.nD Cert.FinalRefIdeal.τ).loc Cert.FinalRefIdeal.main_arg1)) = _
        rw [(hag c).1, (hag c).2]), (h c).2.2⟩)
      (Cert.FinalRefIdeal.Value.run (F := Ideal) m' ρ')⟩

end Cert.FinalClaims
end
-- ==== Proof.AdaValue.lean ====
/- The modulation: the result array after the run. -/
module
public import proofs.«01_k».proof.Proof.Gen.AdaIdeal.Value
public import proofs.«01_k».proof.Proof.Gen.AdaRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.AdaIdeal.At
open Cert.AdaIdeal Cert.AdaIdeal.Gen

/-- Where each window's block lies, in terms of the grid point's number. -/
theorem idx : ∀ t : Fin cfg0.N, win0_0.index t = ![0, 0] ∧ win0_1.index t = ![t.val / 24, 0, t.val % 24] ∧ win0_2.index t = ![t.val / 24, 0, t.val % 24] ∧ win0_3.index t = ![t.val / 24, 0, t.val % 24] :=
  (by decide +kernel : ∀ t : Fin grid0.N, _)

variable (m : (ℓ : Loc nD τ sig) → Buf (Elt Ideal) ℓ)

/-- The argument arrays. -/
abbrev arg0 (c : Dev nD) : FVec Ideal S2x4096 .f32 := m ((c : Thread nD τ).loc main_arg0)
abbrev arg1 (c : Dev nD) : FVec Ideal S4096 .f32 := m ((c : Thread nD τ).loc main_arg1)
abbrev arg2 (c : Dev nD) : FVec Ideal S2x4096x24576 .f32 := m ((c : Thread nD τ).loc main_arg2)
abbrev arg3 (c : Dev nD) : FVec Ideal S2x24576 .f32 := m ((c : Thread nD τ).loc main_arg3)

/-- The reference's result of the arguments. -/
abbrev wanted (c : Dev nD) := Cert.AdaRefIdeal.Read.val_main_v23 (F := Ideal) (arg0 m c) (arg1 m c) (arg2 m c) (arg3 m c)

/-- The eight conditioning rows: the context's, the two requests' and five of zeros. -/
abbrev cond (a0 : FVec Ideal S2x4096 .f32) (a1 : FVec Ideal S4096 .f32) : FVec Ideal S8x4096 .f32 := Cert.AdaRefIdeal.Read.val_main_v2 (F := Ideal) a0 a1

/-- The result, element by element. -/
def modulated (a0 : FVec Ideal S2x4096 .f32) (a1 : FVec Ideal S4096 .f32) (a2 : FVec Ideal S2x4096x24576 .f32) (a3 : FVec Ideal S2x24576 .f32) : FVec Ideal S2x8x24576 .f32 := fun i =>
  ∑ k : Fin 4096, cond a0 a1 (ix2 (i 1) k) * Ideal.div 1 (1 + Ideal.exp (-cond a0 a1 (ix2 (i 1) k))) * a2 (ix3 (i 0) k (i 2)) + a3 (ix2 (i 0) (i 2))

/-- It is the reference's result. -/
theorem wanted_eq (a0 : FVec Ideal S2x4096 .f32) (a1 : FVec Ideal S4096 .f32) (a2 : FVec Ideal S2x4096x24576 .f32) (a3 : FVec Ideal S2x24576 .f32) : modulated a0 a1 a2 a3 = Cert.AdaRefIdeal.Read.val_main_v23 (F := Ideal) a0 a1 a2 a3 := by
  funext i
  idx_vars i
  pointwise [Ideal.logistic, modulated, Cert.AdaRefIdeal.Read.val_main_v0, Cert.AdaRefIdeal.Read.val_main_cst, Cert.AdaRefIdeal.Read.val_main_v1, Cert.AdaRefIdeal.Read.val_main_call0_v0, Cert.AdaRefIdeal.Read.val_main_call0_v1, Cert.AdaRefIdeal.Read.val_main_call0_cst, Cert.AdaRefIdeal.Read.val_main_call0_v2, Cert.AdaRefIdeal.Read.val_main_call0_v3, Cert.AdaRefIdeal.Read.val_main_call0_cst_0, Cert.AdaRefIdeal.Read.val_main_call0_v4, Cert.AdaRefIdeal.Read.val_main_call0_v5, Cert.AdaRefIdeal.Read.val_main_v3, Cert.AdaRefIdeal.Read.val_main_v4, Cert.AdaRefIdeal.Read.val_main_v5, Cert.AdaRefIdeal.Read.val_main_v6, Cert.AdaRefIdeal.Read.val_main_v7, Cert.AdaRefIdeal.Read.val_main_v8, Cert.AdaRefIdeal.Read.val_main_v9, Cert.AdaRefIdeal.Read.val_main_v10, Cert.AdaRefIdeal.Read.val_main_v11, Cert.AdaRefIdeal.Read.val_main_call1_v0, Cert.AdaRefIdeal.Read.val_main_call1_v1, Cert.AdaRefIdeal.Read.val_main_call1_cst, Cert.AdaRefIdeal.Read.val_main_call1_v2, Cert.AdaRefIdeal.Read.val_main_call1_v3, Cert.AdaRefIdeal.Read.val_main_call1_cst_0, Cert.AdaRefIdeal.Read.val_main_call1_v4, Cert.AdaRefIdeal.Read.val_main_call1_v5, Cert.AdaRefIdeal.Read.val_main_v12, Cert.AdaRefIdeal.Read.val_main_v13, Cert.AdaRefIdeal.Read.val_main_v14, Cert.AdaRefIdeal.Read.val_main_v15, Cert.AdaRefIdeal.Read.val_main_v16, Cert.AdaRefIdeal.Read.val_main_v17, Cert.AdaRefIdeal.Read.val_main_v18, Cert.AdaRefIdeal.Read.val_main_v19, Cert.AdaRefIdeal.Read.val_main_v20, Cert.AdaRefIdeal.Read.val_main_v21, Cert.AdaRefIdeal.Read.val_main_v22, Cert.AdaRefIdeal.Read.val_main_v23]
  split_ifs with h
  · have e : i0 = 0 := Fin.ext (by show i0.val = 0; omega)
    subst e; rfl
  · have e : i0 = 1 := Fin.ext (by show i0.val = 1; omega)
    subst e; rfl

/-- The conditioning rows as the host line leaves them. -/
theorem cond_rows (c : Dev nD) : V m c main_v2 = cond (arg0 m c) (arg1 m c) := by
  show StableHlo.after ([hostOps0].flatten) _ _ = _
  simp only [hostOps0, List.flatten_cons, List.flatten_nil, List.append_nil]
  after_results_simp
  rfl

/-- The bias as the host line leaves it. -/
theorem bias_rows (c : Dev nD) : V m c main_v3 = shapeCast S2x1x24576 (arg3 m c : FVec Ideal S2x24576 .f32) shapeCasts_S2x24576_S2x1x24576 := by
  show StableHlo.after ([hostOps0].flatten) _ _ = _
  simp only [hostOps0, List.flatten_cons, List.flatten_nil, List.append_nil]
  after_results_simp
  rfl

/-- The blocks' elements in the arrays. -/
theorem read_cond (c : Dev nD) (t : Fin cfg0.N) (r : Fin 8) (k : Fin 4096) :
    iblk m c 0 t (ix2 r k) = cond (arg0 m c) (arg1 m c) (ix2 r k) := by
  refine (congrFun (cond_rows m c) ((win0_0.blk t).view.emb (ix2 r k))).trans ?_
  have e : (win0_0.blk t).view.emb (ix2 r k) = ix2 r k := by
    blk_ext [idx t]
  rw [e]
theorem read_w (c : Dev nD) (t : Fin cfg0.N) (k : Fin 4096) (d : Fin 1024) (h0 : t.val / 24 < 2) (h : t.val % 24 * 1024 + d.val < 24576) :
    iblk m c 1 t (ix3 0 k d) = arg2 m c (ix3 (⟨t.val / 24, h0⟩ : Fin 2) k (⟨t.val % 24 * 1024 + d.val, h⟩ : Fin 24576)) := by
  blk_ext [iblk, V_main_arg2, idx t]
theorem read_bias (c : Dev nD) (t : Fin cfg0.N) (d : Fin 1024) (h0 : t.val / 24 < 2) (h : t.val % 24 * 1024 + d.val < 24576) :
    iblk m c 2 t (ix3 0 0 d) = arg3 m c (ix2 (⟨t.val / 24, h0⟩ : Fin 2) (⟨t.val % 24 * 1024 + d.val, h⟩ : Fin 24576)) := by
  refine (congrFun (bias_rows m c) ((win0_2.blk t).view.emb (ix3 0 0 d))).trans ?_
  have e : (win0_2.blk t).view.emb (ix3 0 0 d) = ix3 (⟨t.val / 24, h0⟩ : Fin 2) 0 (⟨t.val % 24 * 1024 + d.val, h⟩ : Fin 24576) := by
    blk_ext [idx t]
  rw [e]
  pointwise

/-- The stored block at an element. -/
theorem pay_at (x : Vec Ideal S8x4096 .f32) (w : Vec Ideal S1x4096x1024 .f32) (b : Vec Ideal S1x1x1024 .f32) (r : Fin 8) (d : Fin 1024) :
    k0_pay1 (F := Ideal) x w b (ix3 0 r d) = ∑ k : Fin 4096, x (ix2 r k) * Ideal.div 1 (1 + Ideal.exp (-x (ix2 r k))) * w (ix3 0 k d) + b (ix3 0 0 d) := by
  pointwise [Ideal.logistic, k0_pay1]

/-- What a grid point stores at an element of its block. -/
theorem point (c : Dev nD) (t : Fin cfg0.N) (r : Fin 8) (d : Fin 1024) (h0 : t.val / 24 < 2) (h : t.val % 24 * 1024 + d.val < 24576) :
    k0_pay1 (F := Ideal) (iblk m c 0 t) (iblk m c 1 t) (iblk m c 2 t) (ix3 0 r d)
      = modulated (arg0 m c) (arg1 m c) (arg2 m c) (arg3 m c) (ix3 (⟨t.val / 24, h0⟩ : Fin 2) r (⟨t.val % 24 * 1024 + d.val, h⟩ : Fin 24576)) := by
  rw [pay_at, read_bias m c t d h0 h]
  refine congrArg (· + _) (Finset.sum_congr rfl fun k _ => ?_)
  rw [read_cond m c t r k, read_w m c t k d h0 h]
  rfl

/-- THE RESULT ARRAY after the run is the reference's result of the arguments. -/
theorem final (c : Dev nD) : (dats m 0 c).arrAt 3 (cfgs 0).N = wanted m c := by
  refine Eq.trans ((dats m 0 c).arrAt_eq_of_covers 3 (modulated (arg0 m c) (arg1 m c) (arg2 m c) (arg3 m c)) (by decide +kernel) fun t _ y => ?_) (wanted_eq (arg0 m c) (arg1 m c) (arg2 m c) (arg3 m c))
  blk_simp
  rw [after0_3]
  frame_out
  idx_vars y
  have ht : t.val < 48 := lt_of_lt_of_eq t.isLt (show cfg0.N = 48 from N_0)
  obtain rfl : y0 = 0 := Subsingleton.elim _ _
  refine (point m c t y1 y2 (by omega) (by omega)).trans ?_
  blk_ext [idx t]

end Cert.AdaIdeal.At
end
-- ==== Proof.AdaClaims.lean ====
/- The claims of the modulation, each from the program's run. -/
module
public import proofs.«01_k».proof.Defs
public import proofs.«01_k».proof.Proof.Gen.Ada
public import proofs.«01_k».proof.Proof.Gen.Ada.Frame
public import proofs.«01_k».proof.Proof.AdaValue
public import proofs.«01_k».proof.Proof.Gen.AdaRefIdeal.Run
public import Idealize.ShloMosaic.Adequacy
@[expose] public section
noncomputable section
open Idealize.ShloMosaic Idealize.ShloMosaic.TcCoe Idealize.SL.Sem
namespace Cert.AdaClaims

/-- The kernel terminates, leaves its arguments and ends with every counter at zero. -/
theorem frame_kernel : Cert.quiescent_Ada := fun m ρ _ => Cert.Ada.Gen.frame m ρ

/-- So does the kernel over the extended reals. -/
theorem frame_ideal : Cert.quiescent_AdaIdeal := fun m ρ _ => Cert.AdaIdeal.Gen.frame m ρ

/-- So does the reference over the extended reals: it runs host operations only and declares no semaphore. -/
theorem frame_reference : Cert.quiescent_AdaRefIdeal := fun m ρ _ =>
  (θ_run Cert.AdaRefIdeal.defs _ _).mono
    (fun r h => ⟨fun c => (h c).2, Idealize.ShloMosaic.sem_eq_zero_of_no_sems (by decide) r.2⟩)
    (Cert.AdaRefIdeal.Value.run (F := Ideal) m ρ)

/-- The kernel's idealization rewrites nothing. -/
theorem preserves : Cert.preserves_Ada_AdaIdeal := trivial

/-- THE VALUE: from the same arguments kernel and reference end with equal results. -/
theorem algebraic : Cert.algebraic_AdaIdeal_AdaRefIdeal := fun m ρ m' ρ' _ hag =>
  ⟨fun c => Cert.AdaIdeal.At.wanted m c,
    (θ_run Cert.AdaIdeal.defs _ _).mono (fun _ h c => ⟨(h c).1.trans (Cert.AdaIdeal.At.final m c), (h c).2⟩)
      (Cert.AdaIdeal.Value.run_blocks (F := Ideal) m ρ),
    (θ_run Cert.AdaRefIdeal.defs _ _).mono (fun _ h c => ⟨(h c).1.trans (by
        rw [Cert.AdaRefIdeal.Read.val_main_v23_eq]
        show Cert.AdaRefIdeal.Read.val_main_v23 (F := Ideal) (m' ((c.tc : Thread Cert.AdaRefIdeal.nD Cert.AdaRefIdeal.τ).loc Cert.AdaRefIdeal.main_arg0)) (m' ((c.tc : Thread Cert.AdaRefIdeal.nD Cert.AdaRefIdeal.τ).loc Cert.AdaRefIdeal.main_arg1)) (m' ((c.tc : Thread Cert.AdaRefIdeal.nD Cert.AdaRefIdeal.τ).loc Cert.AdaRefIdeal.main_arg2)) (m' ((c.tc : Thread Cert.AdaRefIdeal.nD Cert.AdaRefIdeal.τ).loc Cert.AdaRefIdeal.main_arg3)) = _
        rw [(hag c).1, (hag c).2.1, (hag c).2.2.1, (hag c).2.2.2]), (h c).2⟩)
      (Cert.AdaRefIdeal.Value.run (F := Ideal) m' ρ')⟩

end Cert.AdaClaims
end
-- ==== Proof.NormValue.lean ====
/- The modulated norm: the result array after the run. -/
module
public import proofs.«01_k».proof.Proof.Gen.NormIdeal.Value
public import proofs.«01_k».proof.Proof.Gen.NormRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.NormIdeal.At
open Cert.NormIdeal Cert.NormIdeal.Gen

/-- Where each window's block lies, in terms of the grid point's number. -/
theorem idx : ∀ t : Fin cfg0.N, win0_0.index t = ![t.val, 0] ∧ win0_1.index t = ![0, 0] ∧ win0_2.index t = ![(if t.val < 16 then 0 else 1 + (t.val - 16) / 8), 1, 0, 0] ∧ win0_3.index t = ![(if t.val < 16 then 0 else 1 + (t.val - 16) / 8), 0, 0, 0] ∧ win0_4.index t = ![t.val, 0] :=
  (by decide +kernel : ∀ t : Fin grid0.N, _)

variable (m : (ℓ : Loc nD τ sig) → Buf (Elt Ideal) ℓ)

/-- The argument arrays. -/
abbrev arg0 (c : Dev nD) : FVec Ideal S8192x4096 .f32 := m ((c : Thread nD τ).loc main_arg0)
abbrev arg1 (c : Dev nD) : FVec Ideal S2x4096 .f32 := m ((c : Thread nD τ).loc main_arg1)
abbrev arg2 (c : Dev nD) : FVec Ideal S8x6x1x4096 .f32 := m ((c : Thread nD τ).loc main_arg2)

/-- The reference's result of the arguments. -/
abbrev wanted (c : Dev nD) := Cert.NormRefIdeal.Read.val_main_v37 (F := Ideal) (arg0 m c) (arg1 m c) (arg2 m c)

/-- The conditioning row of a token: the context's, then one for each latent sequence. -/
def grp (r : Fin 8192) : Fin 8 := if r.val < 4096 then 0 else if r.val - 4096 < 2048 then 1 else 2

/-- A block of 256 rows lies in one group. -/
theorem grp_block (n : Nat) (r : Fin 256) (h : n * 256 + r.val < 8192) :
    (grp ⟨n * 256 + r.val, h⟩).val = if n < 16 then 0 else 1 + (n - 16) / 8 := by
  have e (x : Fin 8192) : (grp x).val = if x.val < 4096 then 0 else if x.val - 4096 < 2048 then 1 else 2 := by
    unfold grp
    split_ifs <;> rfl
  rw [e]
  show (if n * 256 + r.val < 4096 then 0 else if n * 256 + r.val - 4096 < 2048 then 1 else 2) = _
  split_ifs <;> omega

/-- The result, element by element. -/
def normed (a0 : FVec Ideal S8192x4096 .f32) (a1 : FVec Ideal S2x4096 .f32) (a2 : FVec Ideal S8x6x1x4096 .f32) : FVec Ideal S8192x4096 .bf16 := fun i =>
  a0 (ix2 (i 0) (i 1)) * Ideal.rsqrt (Ideal.div (∑ k : Fin 4096, a0 (ix2 (i 0) k) * a0 (ix2 (i 0) k)) (Ideal.ofBits .f32 0x45800000#32)
    + Ideal.ofBits .f32 0x358637BD#32) * a1 (ix2 0 (i 1)) * (1 + a2 (ix4 (grp (i 0)) 1 0 (i 1))) + a2 (ix4 (grp (i 0)) 0 0 (i 1))

/-- It is the reference's result. -/
theorem wanted_eq (a0 : FVec Ideal S8192x4096 .f32) (a1 : FVec Ideal S2x4096 .f32) (a2 : FVec Ideal S8x6x1x4096 .f32) : normed a0 a1 a2 = Cert.NormRefIdeal.Read.val_main_v37 (F := Ideal) a0 a1 a2 := by
  funext i
  idx_vars i
  pointwise [normed, Cert.NormRefIdeal.Read.val_main_v0, Cert.NormRefIdeal.Read.val_main_v1, Cert.NormRefIdeal.Read.val_main_v2, Cert.NormRefIdeal.Read.val_main_v3, Cert.NormRefIdeal.Read.val_main_v4, Cert.NormRefIdeal.Read.val_main_v5, Cert.NormRefIdeal.Read.val_main_v6, Cert.NormRefIdeal.Read.val_main_v7, Cert.NormRefIdeal.Read.val_main_v8, Cert.NormRefIdeal.Read.val_main_v9, Cert.NormRefIdeal.Read.val_main_v10, Cert.NormRefIdeal.Read.val_main_v11, Cert.NormRefIdeal.Read.val_main_v12, Cert.NormRefIdeal.Read.val_main_v13, Cert.NormRefIdeal.Read.val_main_v14, Cert.NormRefIdeal.Read.val_main_v15, Cert.NormRefIdeal.Read.val_main_v16, Cert.NormRefIdeal.Read.val_main_v17, Cert.NormRefIdeal.Read.val_main_v18, Cert.NormRefIdeal.Read.val_main_cst, Cert.NormRefIdeal.Read.val_main_v19, Cert.NormRefIdeal.Read.val_main_v20, Cert.NormRefIdeal.Read.val_main_cst_0, Cert.NormRefIdeal.Read.val_main_v21, Cert.NormRefIdeal.Read.val_main_v22, Cert.NormRefIdeal.Read.val_main_cst_1, Cert.NormRefIdeal.Read.val_main_v23, Cert.NormRefIdeal.Read.val_main_v24, Cert.NormRefIdeal.Read.val_main_v25, Cert.NormRefIdeal.Read.val_main_v26, Cert.NormRefIdeal.Read.val_main_v27, Cert.NormRefIdeal.Read.val_main_v28, Cert.NormRefIdeal.Read.val_main_v29, Cert.NormRefIdeal.Read.val_main_v30, Cert.NormRefIdeal.Read.val_main_v31, Cert.NormRefIdeal.Read.val_main_v32, Cert.NormRefIdeal.Read.val_main_cst_2, Cert.NormRefIdeal.Read.val_main_v33, Cert.NormRefIdeal.Read.val_main_v34, Cert.NormRefIdeal.Read.val_main_v35, Cert.NormRefIdeal.Read.val_main_v36, Cert.NormRefIdeal.Read.val_main_v37]
  unfold grp
  split_ifs <;> rfl

/-- The rows' block. -/
theorem read_rows (c : Dev nD) (t : Fin cfg0.N) (r : Fin 256) (k : Fin 4096) (h : t.val * 256 + r.val < 8192) :
    iblk m c 0 t (ix2 r k) = arg0 m c (ix2 (⟨t.val * 256 + r.val, h⟩ : Fin 8192) k) := by
  blk_ext [iblk, V_main_arg0, idx t]

/-- The gain's row as the host line leaves it. -/
theorem gain_row (c : Dev nD) : V m c main_v2 = shapeCast S1x4096 (shapeCast S4096 (extractStridedSlice S1x4096 ![0, 0] (arg1 m c : FVec Ideal S2x4096 .f32) slices_S2x4096_S1x4096_0_0) shapeCasts_S1x4096_S4096) shapeCasts_S4096_S1x4096 := by
  show StableHlo.after ([hostOps0].flatten) _ _ = _
  simp only [hostOps0, List.flatten_cons, List.flatten_nil, List.append_nil]
  after_results_simp
  rfl

/-- The gain, which the host line before the region cuts out of its array and shapes as a row. -/
theorem read_gain (c : Dev nD) (t : Fin cfg0.N) (k : Fin 4096) :
    iblk m c 1 t (ix2 0 k) = arg1 m c (ix2 0 k) := by
  refine (congrFun (gain_row m c) ((win0_1.blk t).view.emb (ix2 0 k))).trans ?_
  have e : (win0_1.blk t).view.emb (ix2 0 k) = ix2 0 k := by
    blk_ext [idx t]
  rw [e]
  pointwise

/-- The scale's and the shift's rows. -/
theorem read_scale (c : Dev nD) (t : Fin cfg0.N) (r : Fin 256) (k : Fin 4096) (h : t.val * 256 + r.val < 8192) :
    iblk m c 2 t (ix4 0 0 0 k) = arg2 m c (ix4 (grp ⟨t.val * 256 + r.val, h⟩) 1 0 k) := by
  have hg := grp_block t.val r h
  blk_ext [iblk, V_main_arg2, idx t, hg]
theorem read_shift (c : Dev nD) (t : Fin cfg0.N) (r : Fin 256) (k : Fin 4096) (h : t.val * 256 + r.val < 8192) :
    iblk m c 3 t (ix4 0 0 0 k) = arg2 m c (ix4 (grp ⟨t.val * 256 + r.val, h⟩) 0 0 k) := by
  have hg := grp_block t.val r h
  blk_ext [iblk, V_main_arg2, idx t, hg]

/-- The stored block at an element. -/
theorem pay_at (x : Vec Ideal S256x4096 .f32) (g : Vec Ideal S1x4096 .f32) (sc sh : Vec Ideal S1x1x1x4096 .f32) (r : Fin 256) (d : Fin 4096) :
    k0_pay1 (F := Ideal) x g sc sh (ix2 r d) = x (ix2 r d) * Ideal.rsqrt (Ideal.div (∑ k : Fin 4096, x (ix2 r k) * x (ix2 r k)) (Ideal.ofBits .f32 0x45800000#32)
      + Ideal.ofBits .f32 0x358637BD#32) * g (ix2 0 d) * (1 + sc (ix4 0 0 0 d)) + sh (ix4 0 0 0 d) := by
  pointwise [k0_pay1]

/-- The same with the row's elements known. -/
theorem pay_of (x : Vec Ideal S256x4096 .f32) (g : Vec Ideal S1x4096 .f32) (sc sh : Vec Ideal S1x1x1x4096 .f32) (r : Fin 256) (d : Fin 4096)
    (f : Fin 4096 → EReal) (hf : ∀ k, x (ix2 r k) = f k) :
    k0_pay1 (F := Ideal) x g sc sh (ix2 r d) = f d * Ideal.rsqrt (Ideal.div (∑ k : Fin 4096, f k * f k) (Ideal.ofBits .f32 0x45800000#32)
      + Ideal.ofBits .f32 0x358637BD#32) * g (ix2 0 d) * (1 + sc (ix4 0 0 0 d)) + sh (ix4 0 0 0 d) := by
  rw [pay_at]
  simp only [hf]

/-- What a grid point stores at an element of its block. -/
theorem point (c : Dev nD) (t : Fin cfg0.N) (r : Fin 256) (d : Fin 4096) (h : t.val * 256 + r.val < 8192) :
    k0_pay1 (F := Ideal) (iblk m c 0 t) (iblk m c 1 t) (iblk m c 2 t) (iblk m c 3 t) (ix2 r d) = normed (arg0 m c) (arg1 m c) (arg2 m c) (ix2 (⟨t.val * 256 + r.val, h⟩ : Fin 8192) d) := by
  refine (pay_of _ _ _ _ r d _ (fun k => read_rows m c t r k h)).trans ?_
  rw [read_gain m c t d, read_scale m c t r d h, read_shift m c t r d h]
  rfl

/-- THE RESULT ARRAY after the run is the reference's result of the arguments. -/
theorem final (c : Dev nD) : (dats m 0 c).arrAt 4 (cfgs 0).N = wanted m c := by
  refine Eq.trans ((dats m 0 c).arrAt_eq_of_covers 4 (normed (arg0 m c) (arg1 m c) (arg2 m c)) (by decide +kernel) fun t _ y => ?_) (wanted_eq (arg0 m c) (arg1 m c) (arg2 m c))
  blk_simp
  rw [after0_4]
  frame_out
  idx_vars y
  have ht : t.val < 32 := lt_of_lt_of_eq t.isLt (show cfg0.N = 32 from N_0)
  refine (point m c t y0 y1 (by omega)).trans ?_
  blk_ext [idx t]

end Cert.NormIdeal.At
end
-- ==== Proof.NormClaims.lean ====
/- The claims of the modulated norm, each from the program's run. -/
module
public import proofs.«01_k».proof.Defs
public import proofs.«01_k».proof.Proof.Gen.Norm
public import proofs.«01_k».proof.Proof.Gen.Norm.Frame
public import proofs.«01_k».proof.Proof.NormValue
public import proofs.«01_k».proof.Proof.Gen.NormRefIdeal.Run
public import Idealize.ShloMosaic.Adequacy
@[expose] public section
noncomputable section
open Idealize.ShloMosaic Idealize.ShloMosaic.TcCoe Idealize.SL.Sem
namespace Cert.NormClaims

/-- The kernel terminates, leaves its arguments and ends with every counter at zero. -/
theorem frame_kernel : Cert.quiescent_Norm := fun m ρ _ => Cert.Norm.Gen.frame m ρ

/-- So does the kernel over the extended reals. -/
theorem frame_ideal : Cert.quiescent_NormIdeal := fun m ρ _ => Cert.NormIdeal.Gen.frame m ρ

/-- So does the reference over the extended reals: it runs host operations only and declares no semaphore. -/
theorem frame_reference : Cert.quiescent_NormRefIdeal := fun m ρ _ =>
  (θ_run Cert.NormRefIdeal.defs _ _).mono
    (fun r h => ⟨fun c => (h c).2, Idealize.ShloMosaic.sem_eq_zero_of_no_sems (by decide) r.2⟩)
    (Cert.NormRefIdeal.Value.run (F := Ideal) m ρ)

/-- The kernel's idealization rewrites nothing. -/
theorem preserves : Cert.preserves_Norm_NormIdeal := trivial

/-- THE VALUE: from the same arguments kernel and reference end with equal results. -/
theorem algebraic : Cert.algebraic_NormIdeal_NormRefIdeal := fun m ρ m' ρ' _ hag =>
  ⟨fun c => Cert.NormIdeal.At.wanted m c,
    (θ_run Cert.NormIdeal.defs _ _).mono (fun _ h c => ⟨(h c).1.trans (Cert.NormIdeal.At.final m c), (h c).2⟩)
      (Cert.NormIdeal.Value.run_blocks (F := Ideal) m ρ),
    (θ_run Cert.NormRefIdeal.defs _ _).mono (fun _ h c => ⟨(h c).1.trans (by
        rw [Cert.NormRefIdeal.Read.val_main_v37_eq]
        show Cert.NormRefIdeal.Read.val_main_v37 (F := Ideal) (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) (m' ((c.tc : Thread Cert.NormRefIdeal.nD Cert.NormRefIdeal.τ).loc Cert.NormRefIdeal.main_arg2)) = _
        rw [(hag c).1, (hag c).2.1, (hag c).2.2]), (h c).2⟩)
      (Cert.NormRefIdeal.Value.run (F := Ideal) m' ρ')⟩

end Cert.NormClaims
end
-- ==== Proof.CombValue.lean ====
/- The two experts' rows, weighted and added to the residual: the result array after the run. -/
module
public import proofs.«01_k».proof.Proof.Gen.CombIdeal.Value
public import proofs.«01_k».proof.Proof.Gen.CombRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.CombIdeal.At
open Cert.CombIdeal Cert.CombIdeal.Gen

/-- Where each window's block lies, in terms of the grid point's number. -/
theorem idx : ∀ t : Fin cfg0.N, win0_0.index t = ![t.val, 0] ∧ win0_1.index t = ![t.val, 0] ∧ win0_2.index t = ![t.val, 0] ∧ win0_3.index t = ![t.val, 0] ∧ win0_4.index t = ![(if t.val < 16 then 0 else 1 + (t.val - 16) / 8), 5, 0, 0] ∧ win0_5.index t = ![t.val, 0] :=
  (by decide +kernel : ∀ t : Fin grid0.N, _)

variable (m : (ℓ : Loc nD τ sig) → Buf (Elt Ideal) ℓ)

/-- The argument arrays. -/
abbrev arg0 (c : Dev nD) : FVec Ideal S8192x4096 .f32 := m ((c : Thread nD τ).loc main_arg0)
abbrev arg1 (c : Dev nD) : FVec Ideal S8192x4096 .f32 := m ((c : Thread nD τ).loc main_arg1)
abbrev arg2 (c : Dev nD) : FVec Ideal S8192x4096 .f32 := m ((c : Thread nD τ).loc main_arg2)
abbrev arg3 (c : Dev nD) : FVec Ideal S8192x128 .f32 := m ((c : Thread nD τ).loc main_arg3)
abbrev arg4 (c : Dev nD) : FVec Ideal S8x6x1x4096 .f32 := m ((c : Thread nD τ).loc main_arg4)

/-- The reference's result of the arguments. -/
abbrev wanted (c : Dev nD) := Cert.CombRefIdeal.Read.val_main_v17 (F := Ideal) (arg0 m c) (arg1 m c) (arg2 m c) (arg3 m c) (arg4 m c)

/-- The conditioning row of a token: the context's, then one for each latent sequence. -/
def grp (r : Fin 8192) : Fin 8 := if r.val < 4096 then 0 else if r.val - 4096 < 2048 then 1 else 2

/-- A block of 256 rows lies in one group. -/
theorem grp_block (n : Nat) (r : Fin 256) (h : n * 256 + r.val < 8192) :
    (grp ⟨n * 256 + r.val, h⟩).val = if n < 16 then 0 else 1 + (n - 16) / 8 := by
  have e (x : Fin 8192) : (grp x).val = if x.val < 4096 then 0 else if x.val - 4096 < 2048 then 1 else 2 := by
    unfold grp
    split_ifs <;> rfl
  rw [e]
  show (if n * 256 + r.val < 4096 then 0 else if n * 256 + r.val - 4096 < 2048 then 1 else 2) = _
  split_ifs <;> omega

/-- The result, element by element. -/
def joined (a0 : FVec Ideal S8192x4096 .f32) (a1 : FVec Ideal S8192x4096 .f32) (a2 : FVec Ideal S8192x4096 .f32) (a3 : FVec Ideal S8192x128 .f32) (a4 : FVec Ideal S8x6x1x4096 .f32) : FVec Ideal S8192x4096 .f32 := fun i =>
  a0 (ix2 (i 0) (i 1)) + a4 (ix4 (grp (i 0)) 5 0 (i 1)) * (a3 (ix2 (i 0) 0) * a1 (ix2 (i 0) (i 1)) + a3 (ix2 (i 0) 1) * a2 (ix2 (i 0) (i 1)))

/-- It is the reference's result. -/
theorem wanted_eq (a0 : FVec Ideal S8192x4096 .f32) (a1 : FVec Ideal S8192x4096 .f32) (a2 : FVec Ideal S8192x4096 .f32) (a3 : FVec Ideal S8192x128 .f32) (a4 : FVec Ideal S8x6x1x4096 .f32) : joined a0 a1 a2 a3 a4 = Cert.CombRefIdeal.Read.val_main_v17 (F := Ideal) a0 a1 a2 a3 a4 := by
  funext i
  idx_vars i
  pointwise [joined, Cert.CombRefIdeal.Read.val_main_v0, Cert.CombRefIdeal.Read.val_main_v1, Cert.CombRefIdeal.Read.val_main_v2, Cert.CombRefIdeal.Read.val_main_v3, Cert.CombRefIdeal.Read.val_main_v4, Cert.CombRefIdeal.Read.val_main_v5, Cert.CombRefIdeal.Read.val_main_v6, Cert.CombRefIdeal.Read.val_main_v7, Cert.CombRefIdeal.Read.val_main_v8, Cert.CombRefIdeal.Read.val_main_v9, Cert.CombRefIdeal.Read.val_main_v10, Cert.CombRefIdeal.Read.val_main_v11, Cert.CombRefIdeal.Read.val_main_v12, Cert.CombRefIdeal.Read.val_main_v13, Cert.CombRefIdeal.Read.val_main_v14, Cert.CombRefIdeal.Read.val_main_v15, Cert.CombRefIdeal.Read.val_main_v16, Cert.CombRefIdeal.Read.val_main_v17]
  unfold grp
  split_ifs <;> rfl

/-! The blocks' elements in the arrays. -/

theorem read0 (c : Dev nD) (t : Fin cfg0.N) (r : Fin 256) (k : Fin 4096) (h : t.val * 256 + r.val < 8192) :
    iblk m c 0 t (ix2 r k) = arg0 m c (ix2 (⟨t.val * 256 + r.val, h⟩ : Fin 8192) k) := by
  blk_ext [iblk, V_main_arg0, idx t]

theorem read1 (c : Dev nD) (t : Fin cfg0.N) (r : Fin 256) (k : Fin 4096) (h : t.val * 256 + r.val < 8192) :
    iblk m c 1 t (ix2 r k) = arg1 m c (ix2 (⟨t.val * 256 + r.val, h⟩ : Fin 8192) k) := by
  blk_ext [iblk, V_main_arg1, idx t]

theorem read2 (c : Dev nD) (t : Fin cfg0.N) (r : Fin 256) (k : Fin 4096) (h : t.val * 256 + r.val < 8192) :
    iblk m c 2 t (ix2 r k) = arg2 m c (ix2 (⟨t.val * 256 + r.val, h⟩ : Fin 8192) k) := by
  blk_ext [iblk, V_main_arg2, idx t]

theorem read3 (c : Dev nD) (t : Fin cfg0.N) (r : Fin 256) (k : Fin 128) (h : t.val * 256 + r.val < 8192) :
    iblk m c 3 t (ix2 r k) = arg3 m c (ix2 (⟨t.val * 256 + r.val, h⟩ : Fin 8192) k) := by
  blk_ext [iblk, V_main_arg3, idx t]

theorem read_mod (c : Dev nD) (t : Fin cfg0.N) (r : Fin 256) (k : Fin 4096) (h : t.val * 256 + r.val < 8192) :
    iblk m c 4 t (ix4 0 0 0 k) = arg4 m c (ix4 (grp ⟨t.val * 256 + r.val, h⟩) 5 0 k) := by
  have hg := grp_block t.val r h
  blk_ext [iblk, V_main_arg4, idx t, hg]

/-- What a grid point stores at an element of its block. -/
theorem point (c : Dev nD) (t : Fin cfg0.N) (r : Fin 256) (d : Fin 4096) (h : t.val * 256 + r.val < 8192) :
    k0_pay1 (F := Ideal) (iblk m c 3 t) (iblk m c 1 t) (iblk m c 2 t) (iblk m c 0 t) (iblk m c 4 t) (ix2 r d)
      = joined (arg0 m c) (arg1 m c) (arg2 m c) (arg3 m c) (arg4 m c) (ix2 (⟨t.val * 256 + r.val, h⟩ : Fin 8192) d) := by
  pointwise [k0_pay1, joined]
  rw [read0 m c t r d h, read1 m c t r d h, read2 m c t r d h, read3 m c t r 0 h, read3 m c t r 1 h, read_mod m c t r d h]

/-- THE RESULT ARRAY after the run is the reference's result of the arguments. -/
theorem final (c : Dev nD) : (dats m 0 c).arrAt 5 (cfgs 0).N = wanted m c := by
  refine Eq.trans ((dats m 0 c).arrAt_eq_of_covers 5 (joined (arg0 m c) (arg1 m c) (arg2 m c) (arg3 m c) (arg4 m c)) (by decide +kernel) fun t _ y => ?_) (wanted_eq (arg0 m c) (arg1 m c) (arg2 m c) (arg3 m c) (arg4 m c))
  blk_simp
  rw [after0_5]
  frame_out
  idx_vars y
  have ht : t.val < 32 := lt_of_lt_of_eq t.isLt (show cfg0.N = 32 from N_0)
  refine (point m c t y0 y1 (by omega)).trans ?_
  blk_ext [idx t]

end Cert.CombIdeal.At
end
-- ==== Proof.CombClaims.lean ====
/- The claims of the two experts' rows, weighted and added to the residual, each from the program's run. -/
module
public import proofs.«01_k».proof.Defs
public import proofs.«01_k».proof.Proof.Gen.Comb
public import proofs.«01_k».proof.Proof.Gen.Comb.Frame
public import proofs.«01_k».proof.Proof.CombValue
public import proofs.«01_k».proof.Proof.Gen.CombRefIdeal.Run
public import Idealize.ShloMosaic.Adequacy
@[expose] public section
noncomputable section
open Idealize.ShloMosaic Idealize.ShloMosaic.TcCoe Idealize.SL.Sem
namespace Cert.CombClaims

/-- The kernel terminates, leaves its arguments and ends with every counter at zero. -/
theorem frame_kernel : Cert.quiescent_Comb := fun m ρ _ => Cert.Comb.Gen.frame m ρ

/-- So does the kernel over the extended reals. -/
theorem frame_ideal : Cert.quiescent_CombIdeal := fun m ρ _ => Cert.CombIdeal.Gen.frame m ρ

/-- So does the reference over the extended reals: it runs host operations only and declares no semaphore. -/
theorem frame_reference : Cert.quiescent_CombRefIdeal := fun m ρ _ =>
  (θ_run Cert.CombRefIdeal.defs _ _).mono
    (fun r h => ⟨fun c => (h c).2, Idealize.ShloMosaic.sem_eq_zero_of_no_sems (by decide) r.2⟩)
    (Cert.CombRefIdeal.Value.run (F := Ideal) m ρ)

/-- The kernel's idealization rewrites nothing. -/
theorem preserves : Cert.preserves_Comb_CombIdeal := trivial

/-- THE VALUE: from the same arguments kernel and reference end with equal results. -/
theorem algebraic : Cert.algebraic_CombIdeal_CombRefIdeal := fun m ρ m' ρ' _ hag =>
  ⟨fun c => Cert.CombIdeal.At.wanted m c,
    (θ_run Cert.CombIdeal.defs _ _).mono (fun _ h c => ⟨(h c).1.trans (Cert.CombIdeal.At.final m c), (h c).2⟩)
      (Cert.CombIdeal.Value.run_blocks (F := Ideal) m ρ),
    (θ_run Cert.CombRefIdeal.defs _ _).mono (fun _ h c => ⟨(h c).1.trans (by
        rw [Cert.CombRefIdeal.Read.val_main_v17_eq]
        show Cert.CombRefIdeal.Read.val_main_v17 (F := Ideal) (m' ((c.tc : Thread Cert.CombRefIdeal.nD Cert.CombRefIdeal.τ).loc Cert.CombRefIdeal.main_arg0)) (m' ((c.tc : Thread Cert.CombRefIdeal.nD Cert.CombRefIdeal.τ).loc Cert.CombRefIdeal.main_arg1)) (m' ((c.tc : Thread Cert.CombRefIdeal.nD Cert.CombRefIdeal.τ).loc Cert.CombRefIdeal.main_arg2)) (m' ((c.tc : Thread Cert.CombRefIdeal.nD Cert.CombRefIdeal.τ).loc Cert.CombRefIdeal.main_arg3)) (m' ((c.tc : Thread Cert.CombRefIdeal.nD Cert.CombRefIdeal.τ).loc Cert.CombRefIdeal.main_arg4)) = _
        rw [(hag c).1, (hag c).2.1, (hag c).2.2.1, (hag c).2.2.2.1, (hag c).2.2.2.2]), (h c).2⟩)
      (Cert.CombRefIdeal.Value.run (F := Ideal) m' ρ')⟩

end Cert.CombClaims
end
-- ==== Proof.ConvValue.lean ====
/- The short convolution: the result array after the run. -/
module
public import proofs.«01_k».proof.Proof.Gen.ConvIdeal.Value
public import proofs.«01_k».proof.Proof.Gen.ConvRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.ConvIdeal.At
open Cert.ConvIdeal Cert.ConvIdeal.Gen

/-- Where each window's block lies, in terms of the grid point's number. -/
theorem idx : ∀ t : Fin cfg0.N, win0_0.index t = ![2 + t.val / 4, 4 + t.val % 4] ∧ win0_1.index t = ![2 + t.val / 4, 8 + t.val % 4] ∧ win0_2.index t = ![2 + t.val / 4, 12 + t.val % 4] ∧ win0_3.index t = ![0, t.val % 4] ∧ win0_4.index t = ![t.val / 4, t.val % 4] :=
  (by decide +kernel : ∀ t : Fin grid0.N, _)

variable (m : (ℓ : Loc nD τ sig) → Buf (Elt Ideal) ℓ)

/-- The argument arrays. -/
abbrev arg0 (c : Dev nD) : FVec Ideal S8192x5632 .f32 := m ((c : Thread nD τ).loc main_arg0)
abbrev arg1 (c : Dev nD) : FVec Ideal S2x3x1024 .f32 := m ((c : Thread nD τ).loc main_arg1)

/-- The reference's result of the arguments. -/
abbrev wanted (c : Dev nD) := Cert.ConvRefIdeal.Read.val_main_v33 (F := Ideal) (arg0 m c) (arg1 m c)

/-- The row before and the row after, inside the sequence's 2048 rows; the first and the last have none and take themselves, to be replaced by zero. -/
def rowBefore (i : Fin 4096) : Fin 8192 := ⟨4096 + (i.val - 1), by omega⟩
def rowAfter (i : Fin 4096) : Fin 8192 := ⟨4096 + min (i.val + 1) 4095, by omega⟩
def rowSelf (i : Fin 4096) : Fin 8192 := ⟨4096 + i.val, by omega⟩
/-- The columns of the three parts. -/
def colB (d : Fin 1024) : Fin 5632 := ⟨1024 + d.val, by omega⟩
def colC (d : Fin 1024) : Fin 5632 := ⟨2048 + d.val, by omega⟩
def colH (d : Fin 1024) : Fin 5632 := ⟨3072 + d.val, by omega⟩

/-- The result, element by element. -/
def mixed (a0 : FVec Ideal S8192x5632 .f32) (a1 : FVec Ideal S2x3x1024 .f32) : FVec Ideal S4096x1024 .bf16 := fun i =>
  a0 (ix2 (rowSelf (i 0)) (colB (i 1))) *
    ((a1 (ix3 0 0 (i 1)) * (if (i 0).val % 2048 < 1 then 0 else a0 (ix2 (rowBefore (i 0)) (colC (i 1))) * a0 (ix2 (rowBefore (i 0)) (colH (i 1)))))
      + a1 (ix3 0 1 (i 1)) * (a0 (ix2 (rowSelf (i 0)) (colC (i 1))) * a0 (ix2 (rowSelf (i 0)) (colH (i 1))))
      + a1 (ix3 0 2 (i 1)) * (if (i 0).val % 2048 < 2047 then a0 (ix2 (rowAfter (i 0)) (colC (i 1))) * a0 (ix2 (rowAfter (i 0)) (colH (i 1))) else 0))

/-- It is the reference's result. -/
theorem wanted_eq (a0 : FVec Ideal S8192x5632 .f32) (a1 : FVec Ideal S2x3x1024 .f32) : mixed a0 a1 = Cert.ConvRefIdeal.Read.val_main_v33 (F := Ideal) a0 a1 := by
  funext i
  idx_vars i
  pointwise [mixed, Cert.ConvRefIdeal.Read.val_main_v0, Cert.ConvRefIdeal.Read.val_main_v1, Cert.ConvRefIdeal.Read.val_main_v2, Cert.ConvRefIdeal.Read.val_main_v3, Cert.ConvRefIdeal.Read.val_main_v4, Cert.ConvRefIdeal.Read.val_main_v5, Cert.ConvRefIdeal.Read.val_main_v6, Cert.ConvRefIdeal.Read.val_main_v7, Cert.ConvRefIdeal.Read.val_main_v8, Cert.ConvRefIdeal.Read.val_main_cst, Cert.ConvRefIdeal.Read.val_main_v9, Cert.ConvRefIdeal.Read.val_main_v10, Cert.ConvRefIdeal.Read.val_main_v11, Cert.ConvRefIdeal.Read.val_main_v12, Cert.ConvRefIdeal.Read.val_main_v13, Cert.ConvRefIdeal.Read.val_main_v14, Cert.ConvRefIdeal.Read.val_main_v15, Cert.ConvRefIdeal.Read.val_main_v16, Cert.ConvRefIdeal.Read.val_main_v17, Cert.ConvRefIdeal.Read.val_main_v18, Cert.ConvRefIdeal.Read.val_main_v19, Cert.ConvRefIdeal.Read.val_main_v20, Cert.ConvRefIdeal.Read.val_main_v21, Cert.ConvRefIdeal.Read.val_main_v22, Cert.ConvRefIdeal.Read.val_main_v23, Cert.ConvRefIdeal.Read.val_main_v24, Cert.ConvRefIdeal.Read.val_main_v25, Cert.ConvRefIdeal.Read.val_main_v26, Cert.ConvRefIdeal.Read.val_main_v27, Cert.ConvRefIdeal.Read.val_main_v28, Cert.ConvRefIdeal.Read.val_main_v29, Cert.ConvRefIdeal.Read.val_main_v30, Cert.ConvRefIdeal.Read.val_main_v31, Cert.ConvRefIdeal.Read.val_main_v32, Cert.ConvRefIdeal.Read.val_main_v33]
  have e1 : ¬i0.val % 2048 < 1 → 4096 + (i0.val / 2048 * 2048 + (i0.val % 2048 - 1)) = 4096 + (i0.val - 1) := by omega
  have e2 : i0.val % 2048 < 2047 → 4096 + (i0.val / 2048 * 2048 + (1 + i0.val % 2048)) = 4096 + min (i0.val + 1) 4095 := by omega
  refine congrArg₂ (· * ·) rfl (congrArg₂ (· + ·) (congrArg₂ (· + ·) (congrArg (a1 (ix3 0 0 i1) * ·) ?_) rfl) (congrArg (a1 (ix3 0 2 i1) * ·) ?_))
  · by_cases h : i0.val % 2048 < 1
    · refine (if_pos h).trans ?_
      rw [dif_pos h]
    · refine (if_neg h).trans (Eq.trans ?_ (dif_neg h).symm)
      simp only [rowBefore, colC, colH, e1 h]
  · by_cases h : i0.val % 2048 < 2047
    · refine (if_pos h).trans (Eq.trans ?_ (dif_pos h).symm)
      simp only [rowAfter, colC, colH, e2 h]
    · refine (if_neg h).trans ?_
      rw [dif_neg h]

/-- The filter as the host line leaves it. -/
theorem filter_rows (c : Dev nD) : V m c main_v1 = shapeCast S3x1024 (extractStridedSlice S1x3x1024 ![0, 0, 0] (arg1 m c : FVec Ideal S2x3x1024 .f32) slices_S2x3x1024_S1x3x1024_0_0_0) shapeCasts_S1x3x1024_S3x1024 := by
  show StableHlo.after ([hostOps0].flatten) _ _ = _
  simp only [hostOps0, List.flatten_cons, List.flatten_nil, List.append_nil]
  after_results_simp
  rfl

/-! The blocks' elements in the arrays. -/

theorem read_b (c : Dev nD) (t : Fin cfg0.N) (r : Fin 2048) (d : Fin 256) (R : Fin 8192) (D : Fin 5632) (hR : R.val = 4096 + (t.val / 4 * 2048 + r.val)) (hD : D.val = 1024 + (t.val % 4 * 256 + d.val)) :
    iblk m c 0 t (ix2 r d) = arg0 m c (ix2 R D) := by
  blk_ext [iblk, V_main_arg0, idx t]

theorem read_c (c : Dev nD) (t : Fin cfg0.N) (r : Fin 2048) (d : Fin 256) (R : Fin 8192) (D : Fin 5632) (hR : R.val = 4096 + (t.val / 4 * 2048 + r.val)) (hD : D.val = 2048 + (t.val % 4 * 256 + d.val)) :
    iblk m c 1 t (ix2 r d) = arg0 m c (ix2 R D) := by
  blk_ext [iblk, V_main_arg0, idx t]

theorem read_h (c : Dev nD) (t : Fin cfg0.N) (r : Fin 2048) (d : Fin 256) (R : Fin 8192) (D : Fin 5632) (hR : R.val = 4096 + (t.val / 4 * 2048 + r.val)) (hD : D.val = 3072 + (t.val % 4 * 256 + d.val)) :
    iblk m c 2 t (ix2 r d) = arg0 m c (ix2 R D) := by
  blk_ext [iblk, V_main_arg0, idx t]

theorem read_filter (c : Dev nD) (t : Fin cfg0.N) (j : Fin 3) (d : Fin 256) (h : t.val % 4 * 256 + d.val < 1024) :
    iblk m c 3 t (ix2 j d) = arg1 m c (ix3 0 j (⟨t.val % 4 * 256 + d.val, h⟩ : Fin 1024)) := by
  refine (congrFun (filter_rows m c) ((win0_3.blk t).view.emb (ix2 j d))).trans ?_
  have e : (win0_3.blk t).view.emb (ix2 j d) = ix2 j (⟨t.val % 4 * 256 + d.val, h⟩ : Fin 1024) := by
    blk_ext [idx t]
  rw [e]
  pointwise

/-- A word below its range is a given one exactly when the numbers agree. -/
theorem sel_eq (r n : Nat) (hr : r < 2048) (hn : n < 2048) (x y : EReal) :
    Scalar.select (IntOp.cmpi .eq (BitVec.ofNat 32 r) (BitVec.ofNat 32 n)) x y = if r = n then x else y := by
  by_cases h : r = n
  · subst h
    simp [Scalar.select, IntOp.cmpi]
  · have hb : (BitVec.ofNat 32 r == BitVec.ofNat 32 n) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    rw [if_neg h]
    simp [Scalar.select, IntOp.cmpi, hb]

/-- The rows the two rotations bring. -/
def prv (r : Fin 2048) : Fin 2048 := ⟨(r.val + 2048 - 1) % 2048, Nat.mod_lt _ (by decide)⟩
def nxt (r : Fin 2048) : Fin 2048 := ⟨(r.val + 2048 - 2047) % 2048, Nat.mod_lt _ (by decide)⟩

/-- The stored block at an element. -/
theorem pay_at (x y : Vec Ideal S2048x256 .f32) (w : Vec Ideal S3x256 .f32) (b : Vec Ideal S2048x256 .f32) (r : Fin 2048) (d : Fin 256) :
    k0_pay1 (F := Ideal) x y w b (ix2 r d) = b (ix2 r d) * ((if r.val = 0 then 0 else w (ix2 0 d) * (x (ix2 (prv r) d) * y (ix2 (prv r) d)))
      + w (ix2 1 d) * (x (ix2 r d) * y (ix2 r d)) + (if r.val = 2047 then 0 else w (ix2 2 d) * (x (ix2 (nxt r) d) * y (ix2 (nxt r) d)))) := by
  pointwise [k0_pay1]
  rw [sel_eq r.val 0 r.isLt (by decide), sel_eq r.val 2047 r.isLt (by decide)]
  rfl

/-- The same with the elements known. -/
theorem pay_of (x y : Vec Ideal S2048x256 .f32) (w : Vec Ideal S3x256 .f32) (b : Vec Ideal S2048x256 .f32) (r : Fin 2048) (d : Fin 256)
    (w0 w1 w2 B C H Cp Hp Cn Hn : EReal) (h0 : w (ix2 0 d) = w0) (h1 : w (ix2 1 d) = w1) (h2 : w (ix2 2 d) = w2) (hB : b (ix2 r d) = B)
    (hC : x (ix2 r d) = C) (hH : y (ix2 r d) = H) (hCp : r.val ≠ 0 → x (ix2 (prv r) d) = Cp) (hHp : r.val ≠ 0 → y (ix2 (prv r) d) = Hp)
    (hCn : r.val ≠ 2047 → x (ix2 (nxt r) d) = Cn) (hHn : r.val ≠ 2047 → y (ix2 (nxt r) d) = Hn) :
    k0_pay1 (F := Ideal) x y w b (ix2 r d) = B * ((if r.val = 0 then 0 else w0 * (Cp * Hp))
      + w1 * (C * H) + (if r.val = 2047 then 0 else w2 * (Cn * Hn))) := by
  rw [pay_at, h0, h1, h2, hB, hC, hH]
  refine congrArg (B * ·) (congrArg₂ (· + ·) (congrArg (· + w1 * (C * H)) ?_) ?_)
  · split_ifs with h
    · rfl
    · rw [hCp h, hHp h]
  · split_ifs with h
    · rfl
    · rw [hCn h, hHn h]

/-- What a grid point stores at an element of its block. -/
theorem point (c : Dev nD) (t : Fin cfg0.N) (r : Fin 2048) (d : Fin 256) (hr : t.val / 4 * 2048 + r.val < 4096) (hd : t.val % 4 * 256 + d.val < 1024) :
    k0_pay1 (F := Ideal) (iblk m c 1 t) (iblk m c 2 t) (iblk m c 3 t) (iblk m c 0 t) (ix2 r d)
      = mixed (arg0 m c) (arg1 m c) (ix2 (⟨t.val / 4 * 2048 + r.val, hr⟩ : Fin 4096) (⟨t.val % 4 * 256 + d.val, hd⟩ : Fin 1024)) := by
  have hp (h : r.val ≠ 0) : (prv r).val = r.val - 1 := by
    show (r.val + 2048 - 1) % 2048 = _
    omega
  have hn (h : r.val ≠ 2047) : (nxt r).val = r.val + 1 := by
    show (r.val + 2048 - 2047) % 2048 = _
    omega
  have es : ∀ i : Fin 4096, (rowSelf i).val = 4096 + i.val := fun _ => rfl
  have eb : ∀ i : Fin 4096, (rowBefore i).val = 4096 + (i.val - 1) := fun _ => rfl
  have ea : ∀ i : Fin 4096, (rowAfter i).val = 4096 + min (i.val + 1) 4095 := fun _ => rfl
  refine (pay_of _ _ _ _ r d _ _ _ (arg0 m c (ix2 (rowSelf ⟨t.val / 4 * 2048 + r.val, hr⟩) (colB ⟨t.val % 4 * 256 + d.val, hd⟩)))
    (arg0 m c (ix2 (rowSelf ⟨t.val / 4 * 2048 + r.val, hr⟩) (colC ⟨t.val % 4 * 256 + d.val, hd⟩)))
    (arg0 m c (ix2 (rowSelf ⟨t.val / 4 * 2048 + r.val, hr⟩) (colH ⟨t.val % 4 * 256 + d.val, hd⟩)))
    (arg0 m c (ix2 (rowBefore ⟨t.val / 4 * 2048 + r.val, hr⟩) (colC ⟨t.val % 4 * 256 + d.val, hd⟩)))
    (arg0 m c (ix2 (rowBefore ⟨t.val / 4 * 2048 + r.val, hr⟩) (colH ⟨t.val % 4 * 256 + d.val, hd⟩)))
    (arg0 m c (ix2 (rowAfter ⟨t.val / 4 * 2048 + r.val, hr⟩) (colC ⟨t.val % 4 * 256 + d.val, hd⟩)))
    (arg0 m c (ix2 (rowAfter ⟨t.val / 4 * 2048 + r.val, hr⟩) (colH ⟨t.val % 4 * 256 + d.val, hd⟩)))
    (read_filter m c t 0 d hd) (read_filter m c t 1 d hd) (read_filter m c t 2 d hd)
    (read_b m c t r d _ _ rfl rfl) (read_c m c t r d _ _ rfl rfl) (read_h m c t r d _ _ rfl rfl)
    (fun h => read_c m c t (prv r) d _ _ (by rw [eb, hp h]; show 4096 + (t.val / 4 * 2048 + r.val - 1) = _; omega) rfl)
    (fun h => read_h m c t (prv r) d _ _ (by rw [eb, hp h]; show 4096 + (t.val / 4 * 2048 + r.val - 1) = _; omega) rfl)
    (fun h => read_c m c t (nxt r) d _ _ (by rw [ea, hn h]; show 4096 + min (t.val / 4 * 2048 + r.val + 1) 4095 = _; omega) rfl)
    (fun h => read_h m c t (nxt r) d _ _ (by rw [ea, hn h]; show 4096 + min (t.val / 4 * 2048 + r.val + 1) 4095 = _; omega) rfl)).trans ?_
  pointwise [mixed]
  refine congrArg (_ * ·) (congrArg₂ (· + ·) (congrArg (· + _) ?_) ?_)
  · by_cases h : r.val = 0
    · rw [if_pos h, if_pos (by omega), mul_zero]
    · rw [if_neg h, if_neg (by omega)]
  · by_cases h : r.val = 2047
    · rw [if_pos h, if_neg (by omega), mul_zero]
    · rw [if_neg h, if_pos (by omega)]

/-- THE RESULT ARRAY after the run is the reference's result of the arguments. -/
theorem final (c : Dev nD) : (dats m 0 c).arrAt 4 (cfgs 0).N = wanted m c := by
  refine Eq.trans ((dats m 0 c).arrAt_eq_of_covers 4 (mixed (arg0 m c) (arg1 m c)) (by decide +kernel) fun t _ y => ?_) (wanted_eq (arg0 m c) (arg1 m c))
  blk_simp
  rw [after0_4]
  frame_out
  idx_vars y
  have ht : t.val < 8 := lt_of_lt_of_eq t.isLt (show cfg0.N = 8 from N_0)
  refine (point m c t y0 y1 (by omega) (by omega)).trans ?_
  blk_ext [idx t]

end Cert.ConvIdeal.At
end
-- ==== Proof.ConvClaims.lean ====
/- The claims of the short convolution, each from the program's run. -/
module
public import proofs.«01_k».proof.Defs
public import proofs.«01_k».proof.Proof.Gen.Conv
public import proofs.«01_k».proof.Proof.Gen.Conv.Frame
public import proofs.«01_k».proof.Proof.ConvValue
public import proofs.«01_k».proof.Proof.Gen.ConvRefIdeal.Run
public import Idealize.ShloMosaic.Adequacy
@[expose] public section
noncomputable section
open Idealize.ShloMosaic Idealize.ShloMosaic.TcCoe Idealize.SL.Sem
namespace Cert.ConvClaims

/-- The kernel terminates, leaves its arguments and ends with every counter at zero. -/
theorem frame_kernel : Cert.quiescent_Conv := fun m ρ _ => Cert.Conv.Gen.frame m ρ

/-- So does the kernel over the extended reals. -/
theorem frame_ideal : Cert.quiescent_ConvIdeal := fun m ρ _ => Cert.ConvIdeal.Gen.frame m ρ

/-- So does the reference over the extended reals: it runs host operations only and declares no semaphore. -/
theorem frame_reference : Cert.quiescent_ConvRefIdeal := fun m ρ _ =>
  (θ_run Cert.ConvRefIdeal.defs _ _).mono
    (fun r h => ⟨fun c => (h c).2, Idealize.ShloMosaic.sem_eq_zero_of_no_sems (by decide) r.2⟩)
    (Cert.ConvRefIdeal.Value.run (F := Ideal) m ρ)

/-- The kernel's idealization rewrites nothing. -/
theorem preserves : Cert.preserves_Conv_ConvIdeal := trivial

/-- THE VALUE: from the same arguments kernel and reference end with equal results. -/
theorem algebraic : Cert.algebraic_ConvIdeal_ConvRefIdeal := fun m ρ m' ρ' _ hag =>
  ⟨fun c => Cert.ConvIdeal.At.wanted m c,
    (θ_run Cert.ConvIdeal.defs _ _).mono (fun _ h c => ⟨(h c).1.trans (Cert.ConvIdeal.At.final m c), (h c).2⟩)
      (Cert.ConvIdeal.Value.run_blocks (F := Ideal) m ρ),
    (θ_run Cert.ConvRefIdeal.defs _ _).mono (fun _ h c => ⟨(h c).1.trans (by
        rw [Cert.ConvRefIdeal.Read.val_main_v33_eq]
        show Cert.ConvRefIdeal.Read.val_main_v33 (F := Ideal) (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) = _
        rw [(hag c).1, (hag c).2]), (h c).2⟩)
      (Cert.ConvRefIdeal.Value.run (F := Ideal) m' ρ')⟩

end Cert.ConvClaims
end
-- ==== Proof.Turn.lean ====
/- Writing a block of columns into a matrix, as the host line of the rotary tables does it. -/
module
public import Idealize.ShloMosaic.Lib.Routing.OpsOne
public import Idealize.ShloMosaic.Lib.Routing.OpsPair
@[expose] public section
namespace Cert.Turn
open Idealize.ShloMosaic Idealize.ShloMosaic.ValueIdx Idealize.ShloMosaic.Routing

/-- Update `(r', u)` of `x.at[:, k : k + U].set(v)` lands at `(r, c)` exactly when `r` is `r'` and `c` is `k + u`. -/
theorem lands_block {R C U : Nat} (d : ScatterDims (shape2 R C) (shape1 1) (shape2 R U)) (huw : d.updateWindowDims = [0, 1]) (hiw : d.insertedWindowDims = [])
    (hsd : d.scatterDimsToOperandDims = [1]) (idx : IVec (shape1 1) 32) (k : Nat) (hidx : (idx (ix1 0)).toInt = (k : Int))
    (r' r : Fin R) (u : Fin U) (c : Fin C) : d.resultIdx? (ix2 r' u) idx = some (ix2 r c) ↔ r' = r ∧ c.val = k + u.val := by
  obtain ⟨uw, iw, sd, iv, wf⟩ := d
  dsimp only at huw hiw hsd
  subst huw hiw hsd
  have hm : (1 : Fin 2) ∈ [(1 : Fin 2)] := List.mem_singleton.2 rfl
  have hwin1 : ScatterDims.window ⟨[0, 1], [], [1], iv, wf⟩ (ix2 r' u) 1 = u.val := rfl
  have hwin0 : ScatterDims.window ⟨[0, 1], [], [1], iv, wf⟩ (ix2 r' u) 0 = r'.val := rfl
  have hstart0 : ScatterDims.start ⟨[0, 1], [], [1], iv, wf⟩ (ix2 r' u) idx 0 = 0 := by
    unfold ScatterDims.start
    rw [dif_neg fun h => absurd (List.mem_singleton.1 h) (by decide : (0 : Fin 2) ≠ 1)]
  have hstart1 : ScatterDims.start ⟨[0, 1], [], [1], iv, wf⟩ (ix2 r' u) idx 1 = (k : Int) := by
    unfold ScatterDims.start
    rw [dif_pos hm]
    have hsi : ∀ q, ScatterDims.siIdx ⟨[0, 1], [], [1], iv, wf⟩ (ix2 r' u) q = ix1 (0 : Fin 1) := by
      intro q
      funext b'
      match b' with
      | ⟨0, _⟩ => exact Subsingleton.elim (α := Fin 1) _ _
    rw [hsi, hidx]
  rw [Fin.ext_iff, resultIdx?_ix2, hstart0, hwin0, hstart1, hwin1]
  omega

/-- `x.at[:, k : k + U].set(v)`, element by element: `v` in those columns, the operand elsewhere. -/
theorem scatter_block {α : Type} {R C U : Nat} (d : ScatterDims (shape2 R C) (shape1 1) (shape2 R U)) (huw : d.updateWindowDims = [0, 1]) (hiw : d.insertedWindowDims = [])
    (hsd : d.scatterDimsToOperandDims = [1]) (x0 : (shape2 R C).Idx → α) (idx : IVec (shape1 1) 32) (upd : (shape2 R U).Idx → α) (k : Nat) (hidx : (idx (ix1 0)).toInt = (k : Int))
    (r : Fin R) (c : Fin C) :
    Host.scatter d (fun _ b => b) x0 idx upd (ix2 r c) = if h : k ≤ c.val ∧ c.val - k < U then upd (ix2 r ⟨c.val - k, h.2⟩) else x0 (ix2 r c) := by
  have lands : ∀ j : (shape2 R U).Idx, d.resultIdx? j idx = some (ix2 r c) → j 0 = r ∧ c.val = k + (j 1).val := fun j hj =>
    (lands_block d huw hiw hsd idx k hidx (j 0) r (j 1) c).1 ((congrArg (fun t => d.resultIdx? t idx) (eq_ix2 j).symm).trans hj)
  by_cases h : k ≤ c.val ∧ c.val - k < U
  · rw [dif_pos h]
    refine scatter_set_hit d x0 idx upd _ _ (fun j hj => ?_) (ix2 r ⟨c.val - k, h.2⟩)
      ((lands_block d huw hiw hsd idx k hidx r r ⟨c.val - k, h.2⟩ c).2 ⟨rfl, by show c.val = k + (c.val - k); omega⟩)
    obtain ⟨e0, e1⟩ := lands j hj
    have e1' : j 1 = (⟨c.val - k, h.2⟩ : Fin U) := Fin.ext (by show (j 1).val = c.val - k; omega)
    exact (congrArg upd (eq_ix2 j)).trans (congrArg₂ (fun a b => upd (ix2 a b)) e0 e1')
  · rw [dif_neg h]
    exact scatter_set_miss d x0 idx upd _ fun j hj => h (by
      have e := (lands j hj).2
      have := (j 1).isLt
      exact ⟨by omega, by have q : (j 1).val < U := this; omega⟩)

end Cert.Turn
-- ==== Proof.RotkTable.lean ====
/- The rotary tables that the host line prepares, element by element. -/
module
public import proofs.«01_k».proof.Proof.Gen.RotkIdeal.Value
public import proofs.«01_k».proof.Proof.Gen.RotkRefIdeal.Read
public import proofs.«01_k».proof.Proof.Turn
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.RotkIdeal.At
open Cert.RotkIdeal Cert.RotkIdeal.Gen

/-- A table as the host line lays it out: 1024 leading rows with `fl` in the turned lanes, then the 2048 rows of `T`; `fo` in all other lanes. -/
def table (fo fl : BitVec 32) (T : FVec Ideal S2048x64 .f32) : FVec Ideal S3072x128 .f32 :=
  concatenate S3072x128 0 [⟨S1024x128, Host.scatter scatter_S1024x128_S1_S1024x64_01_n_1_0 (fun _ b => b) (broadcastInDim S1024x128 ![] bcast_S_S1024x128 (constant (F := Ideal) S_ .f32 fo)) (broadcastInDim S1 ![] bcast_S_S1 (constantI S_ 32 0#32)) (broadcastInDim S1024x64 ![] bcast_S_S1024x64 (constant (F := Ideal) S_ .f32 fl))⟩,
    ⟨S2048x128, Host.scatter scatter_S2048x128_S1_S2048x64_01_n_1_0 (fun _ b => b) (broadcastInDim S2048x128 ![] bcast_S_S2048x128 (constant (F := Ideal) S_ .f32 fo)) (broadcastInDim S1 ![] bcast_S_S1 (constantI S_ 32 0#32)) T⟩] concatenates_S1024x128_S2048x128_S3072x128_d0

/-! A table's elements. -/

/-- In the turned lanes of a leading row. -/
theorem table_lead (fo fl : BitVec 32) (T : FVec Ideal S2048x64 .f32) (r : Fin 3072) (l : Fin 128) (u : Fin 64) (hr : r.val < 1024) (hl : l.val = 0 + u.val) :
    table fo fl T (ix2 r l) = Ideal.ofBits .f32 fl := by
  pointwise [table]
  refine (dif_pos hr).trans ((Cert.Turn.scatter_block scatter_S1024x128_S1_S1024x64_01_n_1_0 rfl rfl rfl _ _ _ 0 rfl ⟨r.val, hr⟩ l).trans ?_)
  have h : 0 ≤ l.val ∧ l.val - 0 < 64 := by omega
  rw [dif_pos h]
  rfl

/-- In the turned lanes of a row after them. -/
theorem table_in (fo fl : BitVec 32) (T : FVec Ideal S2048x64 .f32) (r : Fin 3072) (l : Fin 128) (q : Fin 2048) (u : Fin 64) (hr : r.val = 1024 + q.val) (hl : l.val = 0 + u.val) :
    table fo fl T (ix2 r l) = T (ix2 q u) := by
  pointwise [table]
  refine (dif_neg (by omega)).trans ((Cert.Turn.scatter_block scatter_S2048x128_S1_S2048x64_01_n_1_0 rfl rfl rfl _ _ _ 0 rfl ⟨r.val - 1024, by omega⟩ l).trans ?_)
  have h : 0 ≤ l.val ∧ l.val - 0 < 64 := by omega
  rw [dif_pos h]
  exact congrArg₂ (fun a b => T (ix2 a b)) (Fin.ext (by show r.val - 1024 = q.val; omega)) (Fin.ext (by show l.val - 0 = u.val; omega))

/-- In the other lanes. -/
theorem table_out (fo fl : BitVec 32) (T : FVec Ideal S2048x64 .f32) (r : Fin 3072) (l : Fin 128) (hl : l.val < 0 ∨ 0 + 64 ≤ l.val) :
    table fo fl T (ix2 r l) = Ideal.ofBits .f32 fo := by
  pointwise [table]
  have h : ¬(0 ≤ l.val ∧ l.val - 0 < 64) := by omega
  by_cases g : r.val < 1024
  · refine (dif_pos g).trans ((Cert.Turn.scatter_block scatter_S1024x128_S1_S1024x64_01_n_1_0 rfl rfl rfl _ _ _ 0 rfl ⟨r.val, g⟩ l).trans ?_)
    rw [dif_neg h]
    rfl
  · refine (dif_neg g).trans ((Cert.Turn.scatter_block scatter_S2048x128_S1_S2048x64_01_n_1_0 rfl rfl rfl _ _ _ 0 rfl ⟨r.val - 1024, by omega⟩ l).trans ?_)
    rw [dif_neg h]
    rfl

/-! The lanes whose partner lies above: the lower half of each 32. -/

def modulus : IVec S_ 32 := select (cmpi .eq (constantI S_ 32 32#32) (constantI S_ 32 0#32)) (constantI S_ 32 1#32) (constantI S_ 32 32#32)
def rest0 : IVec S64 32 := Host.remsi (iotaInDim S64 32 0) (broadcastInDim S64 ![] bcast_S_S64 modulus)
def rest : IVec S64 32 := select (andi (cmpi .ne (cmpi .slt rest0 (broadcastInDim S64 ![] bcast_S_S64 (constantI S_ 32 0#32))) (broadcastInDim S64 ![] bcast_S_S64 (cmpi .slt modulus (constantI S_ 32 0#32)))) (cmpi .ne rest0 (broadcastInDim S64 ![] bcast_S_S64 (constantI S_ 32 0#32)))) (addi rest0 (broadcastInDim S64 ![] bcast_S_S64 modulus)) rest0
def lower : IVec S64 1 := cmpi .slt rest (broadcastInDim S64 ![] bcast_S_S64 (constantI S_ 32 16#32))

theorem lower_at : ∀ l : Fin 64, lower (ix1 l) = if l.val % 32 < 16 then 1#1 else 0#1 := by decide +kernel

/-- The sine of the lower lanes, negated, and of the upper lanes. -/
def sinLower (s : FVec Ideal S2048x64 .f32) : FVec Ideal S2048x64 .f32 := select (broadcastInDim S2048x64 ![1] bcast_S64_S2048x64_1 lower) (Host.negf s) (broadcastInDim S2048x64 ![] bcast_S_S2048x64 (constant (F := Ideal) S_ .f32 0x00000000#32))
def sinUpper (s : FVec Ideal S2048x64 .f32) : FVec Ideal S2048x64 .f32 := select (broadcastInDim S2048x64 ![1] bcast_S64_S2048x64_1 lower) (broadcastInDim S2048x64 ![] bcast_S_S2048x64 (constant (F := Ideal) S_ .f32 0x00000000#32)) s

theorem sinLower_at (s : FVec Ideal S2048x64 .f32) (r : Fin 2048) (l : Fin 64) : sinLower s (ix2 r l) = if l.val % 32 < 16 then -s (ix2 r l) else 0 := by
  pointwise [sinLower]
  rw [lower_at]
  by_cases h : l.val % 32 < 16
  · rw [if_pos h, if_pos h]; rfl
  · rw [if_neg h, if_neg h]; rfl

theorem sinUpper_at (s : FVec Ideal S2048x64 .f32) (r : Fin 2048) (l : Fin 64) : sinUpper s (ix2 r l) = if l.val % 32 < 16 then 0 else s (ix2 r l) := by
  pointwise [sinUpper]
  rw [lower_at]
  by_cases h : l.val % 32 < 16
  · rw [if_pos h, if_pos h]; rfl
  · rw [if_neg h, if_neg h]; rfl

/-! The host line, in three parts. -/

theorem last_cos (S : Valuation τ sig (Elt Ideal)) : StableHlo.after (hostOps0_6) S (Proc.devRef .tc main_v44) = table 0x00000000#32 0x3F800000#32 (S (Proc.devRef .tc main_v28)) := by
  simp only [hostOps0, hostOps0_1, hostOps0_2, hostOps0_3, hostOps0_4, hostOps0_5, hostOps0_6, List.flatten_cons, List.flatten_nil, List.append_nil, List.cons_append, List.nil_append]
  after_results_simp
  unfold table
  refine congrArg₂ (fun (a : FVec Ideal S1024x128 .f32) (b : FVec Ideal S2048x128 .f32) => concatenate S3072x128 0 [⟨S1024x128, a⟩, ⟨S2048x128, b⟩] concatenates_S1024x128_S2048x128_S3072x128_d0) ?_ ?_
  · after_results_simp
  · after_results_simp

theorem last_lower (S : Valuation τ sig (Elt Ideal)) : StableHlo.after (hostOps0_6) S (Proc.devRef .tc main_v52) = table 0x00000000#32 0x00000000#32 (S (Proc.devRef .tc main_v35)) := by
  simp only [hostOps0, hostOps0_1, hostOps0_2, hostOps0_3, hostOps0_4, hostOps0_5, hostOps0_6, List.flatten_cons, List.flatten_nil, List.append_nil, List.cons_append, List.nil_append]
  after_results_simp
  unfold table
  refine congrArg₂ (fun (a : FVec Ideal S1024x128 .f32) (b : FVec Ideal S2048x128 .f32) => concatenate S3072x128 0 [⟨S1024x128, a⟩, ⟨S2048x128, b⟩] concatenates_S1024x128_S2048x128_S3072x128_d0) ?_ ?_
  · after_results_simp
  · after_results_simp

theorem last_upper (S : Valuation τ sig (Elt Ideal)) : StableHlo.after (hostOps0_6) S (Proc.devRef .tc main_v60) = table 0x00000000#32 0x00000000#32 (S (Proc.devRef .tc main_v36)) := by
  simp only [hostOps0, hostOps0_1, hostOps0_2, hostOps0_3, hostOps0_4, hostOps0_5, hostOps0_6, List.flatten_cons, List.flatten_nil, List.append_nil, List.cons_append, List.nil_append]
  after_results_simp
  unfold table
  refine congrArg₂ (fun (a : FVec Ideal S1024x128 .f32) (b : FVec Ideal S2048x128 .f32) => concatenate S3072x128 0 [⟨S1024x128, a⟩, ⟨S2048x128, b⟩] concatenates_S1024x128_S2048x128_S3072x128_d0) ?_ ?_
  · after_results_simp
  · after_results_simp

theorem mid_cos (S : Valuation τ sig (Elt Ideal)) : StableHlo.after ([hostOps0_1, hostOps0_2, hostOps0_3, hostOps0_4, hostOps0_5].flatten) S (Proc.devRef .tc main_v28) = S (Proc.devRef .tc main_v28) := by
  simp only [hostOps0, hostOps0_1, hostOps0_2, hostOps0_3, hostOps0_4, hostOps0_5, hostOps0_6, List.flatten_cons, List.flatten_nil, List.append_nil, List.cons_append, List.nil_append]
  after_results_simp

theorem mid_lower (S : Valuation τ sig (Elt Ideal)) (h30 : S (Proc.devRef .tc main_v30) = iotaInDim S64 32 0) (hc : S (Proc.devRef .tc main_c) = constantI S_ 32 32#32) : StableHlo.after ([hostOps0_1, hostOps0_2, hostOps0_3, hostOps0_4, hostOps0_5].flatten) S (Proc.devRef .tc main_v35) = sinLower (S (Proc.devRef .tc main_v29)) := by
  simp only [hostOps0, hostOps0_1, hostOps0_2, hostOps0_3, hostOps0_4, hostOps0_5, hostOps0_6, List.flatten_cons, List.flatten_nil, List.append_nil, List.cons_append, List.nil_append]
  after_results_simp
  rw [h30, hc]
  rfl

theorem mid_upper (S : Valuation τ sig (Elt Ideal)) (h30 : S (Proc.devRef .tc main_v30) = iotaInDim S64 32 0) (hc : S (Proc.devRef .tc main_c) = constantI S_ 32 32#32) : StableHlo.after ([hostOps0_1, hostOps0_2, hostOps0_3, hostOps0_4, hostOps0_5].flatten) S (Proc.devRef .tc main_v36) = sinUpper (S (Proc.devRef .tc main_v29)) := by
  simp only [hostOps0, hostOps0_1, hostOps0_2, hostOps0_3, hostOps0_4, hostOps0_5, hostOps0_6, List.flatten_cons, List.flatten_nil, List.append_nil, List.cons_append, List.nil_append]
  after_results_simp
  rw [h30, hc]
  rfl

theorem first_cos (S : Valuation τ sig (Elt Ideal)) : StableHlo.after (hostOps0) S (Proc.devRef .tc main_v28) = Cert.RotkRefIdeal.Read.val_main_v29 (F := Ideal) := by
  simp only [hostOps0, hostOps0_1, hostOps0_2, hostOps0_3, hostOps0_4, hostOps0_5, hostOps0_6, List.flatten_cons, List.flatten_nil, List.append_nil, List.cons_append, List.nil_append]
  after_results_simp
  rfl

theorem first_sin (S : Valuation τ sig (Elt Ideal)) : StableHlo.after (hostOps0) S (Proc.devRef .tc main_v29) = Cert.RotkRefIdeal.Read.val_main_v30 (F := Ideal) := by
  simp only [hostOps0, hostOps0_1, hostOps0_2, hostOps0_3, hostOps0_4, hostOps0_5, hostOps0_6, List.flatten_cons, List.flatten_nil, List.append_nil, List.cons_append, List.nil_append]
  after_results_simp
  rfl

theorem first_iota (S : Valuation τ sig (Elt Ideal)) : StableHlo.after (hostOps0) S (Proc.devRef .tc main_v30) = iotaInDim S64 32 0 := by
  simp only [hostOps0, hostOps0_1, hostOps0_2, hostOps0_3, hostOps0_4, hostOps0_5, hostOps0_6, List.flatten_cons, List.flatten_nil, List.append_nil, List.cons_append, List.nil_append]
  after_results_simp

theorem first_c (S : Valuation τ sig (Elt Ideal)) : StableHlo.after (hostOps0) S (Proc.devRef .tc main_c) = constantI S_ 32 32#32 := by
  simp only [hostOps0, hostOps0_1, hostOps0_2, hostOps0_3, hostOps0_4, hostOps0_5, hostOps0_6, List.flatten_cons, List.flatten_nil, List.append_nil, List.cons_append, List.nil_append]
  after_results_simp

variable (m : (ℓ : Loc nD τ sig) → Buf (Elt Ideal) ℓ)

theorem split (V : Valuation τ sig (Elt Ideal)) : StableHlo.after ([hostOps0, hostOps0_1, hostOps0_2, hostOps0_3, hostOps0_4, hostOps0_5, hostOps0_6].flatten) V
    = StableHlo.after hostOps0_6 (StableHlo.after ([hostOps0_1, hostOps0_2, hostOps0_3, hostOps0_4, hostOps0_5].flatten) (StableHlo.after hostOps0 V)) := by
  rw [← StableHlo.after_append, ← StableHlo.after_append]
  rfl

/-- The table of window 1. -/
theorem tbl_cos (c : Dev nD) : V m c main_v44 = table 0x00000000#32 0x3F800000#32 (Cert.RotkRefIdeal.Read.val_main_v29 (F := Ideal)) := by
  show StableHlo.after ([hostOps0, hostOps0_1, hostOps0_2, hostOps0_3, hostOps0_4, hostOps0_5, hostOps0_6].flatten) _ _ = _
  rw [split, last_cos, mid_cos, first_cos]

/-- The table of window 2. -/
theorem tbl_lower (c : Dev nD) : V m c main_v52 = table 0x00000000#32 0x00000000#32 (sinLower (Cert.RotkRefIdeal.Read.val_main_v30 (F := Ideal))) := by
  show StableHlo.after ([hostOps0, hostOps0_1, hostOps0_2, hostOps0_3, hostOps0_4, hostOps0_5, hostOps0_6].flatten) _ _ = _
  rw [split, last_lower, mid_lower _ (first_iota _) (first_c _), first_sin]

/-- The table of window 3. -/
theorem tbl_upper (c : Dev nD) : V m c main_v60 = table 0x00000000#32 0x00000000#32 (sinUpper (Cert.RotkRefIdeal.Read.val_main_v30 (F := Ideal))) := by
  show StableHlo.after ([hostOps0, hostOps0_1, hostOps0_2, hostOps0_3, hostOps0_4, hostOps0_5, hostOps0_6].flatten) _ _ = _
  rw [split, last_upper, mid_upper _ (first_iota _) (first_c _), first_sin]

end Cert.RotkIdeal.At
end
-- ==== Proof.RotkValue.lean ====
/- The rotary turn of the keys: the result array after the run. -/
module
public import proofs.«01_k».proof.Proof.RotkTable
@[expose] public section
set_option maxRecDepth 16384
noncomputable section
open Idealize.ShloMosaic Idealize.ShloMosaic.TcCoe Idealize.SL.Sem
open Idealize.ShloMosaic.Pipeline (Dat)
namespace Cert.RotkIdeal.At
open Cert.RotkIdeal Cert.RotkIdeal.Gen

/-- Where each window's block lies, in terms of the grid point's number. -/
theorem idx : ∀ t : Fin cfg0.N, win0_0.index t = ![t.val, 0] ∧ win0_1.index t = ![if t.val < 4 then 0 else 1 + (t.val - 4) % 2, 0] ∧ win0_2.index t = ![if t.val < 4 then 0 else 1 + (t.val - 4) % 2, 0] ∧ win0_3.index t = ![if t.val < 4 then 0 else 1 + (t.val - 4) % 2, 0] ∧ win0_4.index t = ![t.val, 0] :=
  (by decide +kernel : ∀ t : Fin grid0.N, _)

variable (m : (ℓ : Loc nD τ sig) → Buf (Elt Ideal) ℓ)

/-- The argument array. -/
abbrev arg0 (c : Dev nD) : FVec Ideal S8192x128 .f32 := m ((c : Thread nD τ).loc main_arg0)

/-- The reference's result of the argument. -/
abbrev wanted (c : Dev nD) := Cert.RotkRefIdeal.Read.val_main_v51 (F := Ideal) (arg0 m c)

/-! The reference's result, element by element: `cos` and `sin` are its tables of 2048 tokens by 64 lanes. -/

abbrev cosT : FVec Ideal S2048x64 .f32 := Cert.RotkRefIdeal.Read.val_main_v29 (F := Ideal)
abbrev sinT : FVec Ideal S2048x64 .f32 := Cert.RotkRefIdeal.Read.val_main_v30 (F := Ideal)

/-- An image token's element. -/
theorem image_at (a0 : FVec Ideal S8192x128 .f32) (b : Fin 2) (q : Fin 2048) (u : Fin 64) (r : Fin 8192) (l : Fin 128) (hr : r.val = 4096 + (b.val * 2048 + q.val)) (hl : l.val = u.val) :
    Cert.RotkRefIdeal.Read.val_main_v32 (F := Ideal) a0 (ix3 b q u) = a0 (ix2 r l) := by
  pointwise [Cert.RotkRefIdeal.Read.val_main_v0, Cert.RotkRefIdeal.Read.val_main_v31, Cert.RotkRefIdeal.Read.val_main_v32]
  exact congrArg₂ (fun x y => a0 (ix2 x y)) (Fin.ext hr.symm) (Fin.ext hl.symm)

/-- Its partner, in a lower lane and in an upper one. -/
theorem partner_lower (a0 : FVec Ideal S8192x128 .f32) (b : Fin 2) (q : Fin 2048) (u v : Fin 64) (h : u.val % 32 < 16) (hv : v.val = u.val + 16) :
    Cert.RotkRefIdeal.Read.val_main_v41 (F := Ideal) a0 (ix3 b q u) = -Cert.RotkRefIdeal.Read.val_main_v32 (F := Ideal) a0 (ix3 b q v) := by
  pointwise [Cert.RotkRefIdeal.Read.val_main_v35, Cert.RotkRefIdeal.Read.val_main_v36, Cert.RotkRefIdeal.Read.val_main_v37, Cert.RotkRefIdeal.Read.val_main_v38, Cert.RotkRefIdeal.Read.val_main_v39, Cert.RotkRefIdeal.Read.val_main_v40, Cert.RotkRefIdeal.Read.val_main_v41]
  by_cases h1 : u.val < 16
  · refine (dif_pos h1).trans ?_
    exact congrArg (fun z => -Cert.RotkRefIdeal.Read.val_main_v32 (F := Ideal) a0 (ix3 b q z)) (Fin.ext (by show 16 + u.val = v.val; omega))
  · refine (dif_neg h1).trans ((dif_neg (by omega)).trans ((dif_pos (by omega)).trans ?_))
    exact congrArg (fun z => -Cert.RotkRefIdeal.Read.val_main_v32 (F := Ideal) a0 (ix3 b q z)) (Fin.ext (by show 48 + (u.val - 16 - 16) = v.val; omega))

theorem partner_upper (a0 : FVec Ideal S8192x128 .f32) (b : Fin 2) (q : Fin 2048) (u v : Fin 64) (h : ¬u.val % 32 < 16) (hv : u.val = v.val + 16) :
    Cert.RotkRefIdeal.Read.val_main_v41 (F := Ideal) a0 (ix3 b q u) = Cert.RotkRefIdeal.Read.val_main_v32 (F := Ideal) a0 (ix3 b q v) := by
  pointwise [Cert.RotkRefIdeal.Read.val_main_v35, Cert.RotkRefIdeal.Read.val_main_v36, Cert.RotkRefIdeal.Read.val_main_v37, Cert.RotkRefIdeal.Read.val_main_v38, Cert.RotkRefIdeal.Read.val_main_v39, Cert.RotkRefIdeal.Read.val_main_v40, Cert.RotkRefIdeal.Read.val_main_v41]
  by_cases h1 : u.val < 32
  · refine (dif_neg (by omega)).trans ((dif_pos (by omega)).trans ?_)
    exact congrArg (fun z => Cert.RotkRefIdeal.Read.val_main_v32 (F := Ideal) a0 (ix3 b q z)) (Fin.ext (by show u.val - 16 = v.val; omega))
  · refine (dif_neg (by omega)).trans ((dif_neg (by omega)).trans ((dif_neg (by omega)).trans ?_))
    exact congrArg (fun z => Cert.RotkRefIdeal.Read.val_main_v32 (F := Ideal) a0 (ix3 b q z)) (Fin.ext (by show 32 + (u.val - 16 - 16 - 16) = v.val; omega))

/-- The turned element. -/
theorem turned_at (a0 : FVec Ideal S8192x128 .f32) (b : Fin 2) (q : Fin 2048) (u : Fin 64) :
    Cert.RotkRefIdeal.Read.val_main_v46 (F := Ideal) a0 (ix3 b q u) = Cert.RotkRefIdeal.Read.val_main_v32 (F := Ideal) a0 (ix3 b q u) * cosT (ix2 q u) + Cert.RotkRefIdeal.Read.val_main_v41 (F := Ideal) a0 (ix3 b q u) * sinT (ix2 q u) := by
  pointwise [Cert.RotkRefIdeal.Read.val_main_v33, Cert.RotkRefIdeal.Read.val_main_v34, Cert.RotkRefIdeal.Read.val_main_v42, Cert.RotkRefIdeal.Read.val_main_v43, Cert.RotkRefIdeal.Read.val_main_v44, Cert.RotkRefIdeal.Read.val_main_v45, Cert.RotkRefIdeal.Read.val_main_v46]

/-- The lanes from 64 on hold zero. -/
theorem wanted_out (a0 : FVec Ideal S8192x128 .f32) (r : Fin 8192) (l : Fin 128) (h : ¬l.val < 64) : Cert.RotkRefIdeal.Read.val_main_v51 (F := Ideal) a0 (ix2 r l) = 0 := by
  pointwise [Cert.RotkRefIdeal.Read.val_main_v0, Cert.RotkRefIdeal.Read.val_main_v47, Cert.RotkRefIdeal.Read.val_main_v48, Cert.RotkRefIdeal.Read.val_main_v49, Cert.RotkRefIdeal.Read.val_main_v50, Cert.RotkRefIdeal.Read.val_main_v51, Cert.RotkRefIdeal.Read.val_main_c, Cert.RotkRefIdeal.Read.val_main_call0_v0]
  exact (dif_neg h).trans ((show (FloatOps.sitofp .f32 (0#32) : Ideal .f32) = (((0#32 : BitVec 32).toInt : ℝ) : EReal) from rfl).trans (by simp))

/-- The first 4096 rows are left as they are. -/
theorem wanted_lead (a0 : FVec Ideal S8192x128 .f32) (r : Fin 8192) (l : Fin 128) (h : l.val < 64) (hr : r.val < 4096) : Cert.RotkRefIdeal.Read.val_main_v51 (F := Ideal) a0 (ix2 r l) = a0 (ix2 r l) := by
  pointwise [Cert.RotkRefIdeal.Read.val_main_v0, Cert.RotkRefIdeal.Read.val_main_v47, Cert.RotkRefIdeal.Read.val_main_v48, Cert.RotkRefIdeal.Read.val_main_v49, Cert.RotkRefIdeal.Read.val_main_v50, Cert.RotkRefIdeal.Read.val_main_v51, Cert.RotkRefIdeal.Read.val_main_c, Cert.RotkRefIdeal.Read.val_main_call0_v0]
  exact (dif_pos h).trans (dif_pos hr)

/-- The others are turned. -/
theorem wanted_in (a0 : FVec Ideal S8192x128 .f32) (r : Fin 8192) (l : Fin 128) (b : Fin 2) (q : Fin 2048) (u : Fin 64) (hr : r.val = 4096 + (b.val * 2048 + q.val)) (hl : l.val = u.val) :
    Cert.RotkRefIdeal.Read.val_main_v51 (F := Ideal) a0 (ix2 r l) = Cert.RotkRefIdeal.Read.val_main_v46 (F := Ideal) a0 (ix3 b q u) := by
  pointwise [Cert.RotkRefIdeal.Read.val_main_v0, Cert.RotkRefIdeal.Read.val_main_v47, Cert.RotkRefIdeal.Read.val_main_v48, Cert.RotkRefIdeal.Read.val_main_v49, Cert.RotkRefIdeal.Read.val_main_v50, Cert.RotkRefIdeal.Read.val_main_v51, Cert.RotkRefIdeal.Read.val_main_c, Cert.RotkRefIdeal.Read.val_main_call0_v0]
  refine (dif_pos (by omega)).trans ((dif_neg (by omega)).trans ?_)
  have e : ∀ (x x' : Fin 2) (y y' : Fin 2048) (z z' : Fin 64), x = x' → y = y' → z = z' → Cert.RotkRefIdeal.Read.val_main_v46 (F := Ideal) a0 (ix3 x y z) = Cert.RotkRefIdeal.Read.val_main_v46 (F := Ideal) a0 (ix3 x' y' z') := by
    rintro x _ y _ z _ rfl rfl rfl
    rfl
  exact e _ _ _ _ _ _ (Fin.ext (by show (r.val - 4096) / 2048 = b.val; omega)) (Fin.ext (by show (r.val - 4096) % 2048 = q.val; omega)) (Fin.ext hl)

/-- The result in a lower lane and in an upper one. -/
theorem wanted_lower (a0 : FVec Ideal S8192x128 .f32) (r : Fin 8192) (l n : Fin 128) (b : Fin 2) (q : Fin 2048) (u : Fin 64) (hr : r.val = 4096 + (b.val * 2048 + q.val)) (hl : l.val = u.val) (g : u.val % 32 < 16) (hn : n.val = l.val + 16) :
    Cert.RotkRefIdeal.Read.val_main_v51 (F := Ideal) a0 (ix2 r l) = a0 (ix2 r l) * cosT (ix2 q u) + -a0 (ix2 r n) * sinT (ix2 q u) := by
  have hu : u.val + 16 < 64 := by omega
  rw [wanted_in a0 r l b q u hr hl, turned_at, image_at a0 b q u r l hr hl, partner_lower a0 b q u (⟨u.val + 16, hu⟩ : Fin 64) g rfl,
    image_at a0 b q (⟨u.val + 16, hu⟩ : Fin 64) r n hr (by show n.val = u.val + 16; omega)]

theorem wanted_upper (a0 : FVec Ideal S8192x128 .f32) (r : Fin 8192) (l n : Fin 128) (b : Fin 2) (q : Fin 2048) (u : Fin 64) (hr : r.val = 4096 + (b.val * 2048 + q.val)) (hl : l.val = u.val) (g : ¬u.val % 32 < 16) (hn : l.val = n.val + 16) :
    Cert.RotkRefIdeal.Read.val_main_v51 (F := Ideal) a0 (ix2 r l) = a0 (ix2 r l) * cosT (ix2 q u) + a0 (ix2 r n) * sinT (ix2 q u) := by
  have hu : u.val - 16 < 64 := by omega
  rw [wanted_in a0 r l b q u hr hl, turned_at, image_at a0 b q u r l hr hl, partner_upper a0 b q u (⟨u.val - 16, hu⟩ : Fin 64) g (by show u.val = u.val - 16 + 16; omega),
    image_at a0 b q (⟨u.val - 16, hu⟩ : Fin 64) r n hr (by show n.val = u.val - 16; omega)]

/-! The kernel's side. -/

/-- The lanes 16 above and 16 below. -/
def above (l : Fin 128) : Fin 128 := ⟨(l.val + 128 - 112) % 128, by omega⟩
def below (l : Fin 128) : Fin 128 := ⟨(l.val + 128 - 16) % 128, by omega⟩

/-- The stored block at an element, the elements of the operands known. -/
theorem pay_of (x co lo hi : Vec Ideal S1024x128 .f32) (r : Fin 1024) (l : Fin 128) (A U B C L H : EReal) (hA : x (ix2 r l) = A) (hU : x (ix2 r (above l)) = U) (hB : x (ix2 r (below l)) = B)
    (hC : co (ix2 r l) = C) (hL : lo (ix2 r l) = L) (hH : hi (ix2 r l) = H) :
    k0_pay1 (F := Ideal) x co lo hi (ix2 r l) = A * C + U * L + B * H := by
  subst hA hU hB hC hL hH
  pointwise [k0_pay1]
  rfl

/-- The keys' block. -/
theorem read_keys (c : Dev nD) (t : Fin cfg0.N) (r : Fin 1024) (l : Fin 128) (h : t.val * 1024 + r.val < 8192) :
    iblk m c 0 t (ix2 r l) = arg0 m c (ix2 (⟨t.val * 1024 + r.val, h⟩ : Fin 8192) l) := by
  blk_ext [iblk, V_main_arg0, idx t]

/-- The row of a table that a block's row reads. -/
def row (t : Nat) (r : Fin 1024) : Fin 3072 := ⟨(if t < 4 then 0 else 1 + (t - 4) % 2) * 1024 + r.val, by split_ifs <;> omega⟩

theorem row_lead (t : Nat) (r : Fin 1024) (h : t < 4) : (row t r).val < 1024 := by
  show (if t < 4 then 0 else 1 + (t - 4) % 2) * 1024 + r.val < 1024
  rw [if_pos h]
  omega

theorem row_in (t : Nat) (r : Fin 1024) (h : ¬t < 4) : (row t r).val = 1024 + ((t - 4) % 2 * 1024 + r.val) := by
  show (if t < 4 then 0 else 1 + (t - 4) % 2) * 1024 + r.val = _
  rw [if_neg h]
  omega

theorem read_cos (c : Dev nD) (t : Fin cfg0.N) (r : Fin 1024) (l : Fin 128) : iblk m c 1 t (ix2 r l) = table 0x00000000#32 0x3F800000#32 cosT (ix2 (row t.val r) l) := by
  refine (congrFun (tbl_cos m c) ((win0_1.blk t).view.emb (ix2 r l))).trans ?_
  have e : (win0_1.blk t).view.emb (ix2 r l) = ix2 (row t.val r) l := by
    blk_ext [idx t, row]
  rw [e]

theorem read_lower (c : Dev nD) (t : Fin cfg0.N) (r : Fin 1024) (l : Fin 128) : iblk m c 2 t (ix2 r l) = table 0x00000000#32 0x00000000#32 (sinLower sinT) (ix2 (row t.val r) l) := by
  refine (congrFun (tbl_lower m c) ((win0_2.blk t).view.emb (ix2 r l))).trans ?_
  have e : (win0_2.blk t).view.emb (ix2 r l) = ix2 (row t.val r) l := by
    blk_ext [idx t, row]
  rw [e]

theorem read_upper (c : Dev nD) (t : Fin cfg0.N) (r : Fin 1024) (l : Fin 128) : iblk m c 3 t (ix2 r l) = table 0x00000000#32 0x00000000#32 (sinUpper sinT) (ix2 (row t.val r) l) := by
  refine (congrFun (tbl_upper m c) ((win0_3.blk t).view.emb (ix2 r l))).trans ?_
  have e : (win0_3.blk t).view.emb (ix2 r l) = ix2 (row t.val r) l := by
    blk_ext [idx t, row]
  rw [e]

/-- What a grid point stores at an element of its block. -/
theorem point (c : Dev nD) (t : Fin cfg0.N) (r : Fin 1024) (l : Fin 128) (hr : t.val * 1024 + r.val < 8192) :
    k0_pay1 (F := Ideal) (iblk m c 0 t) (iblk m c 1 t) (iblk m c 2 t) (iblk m c 3 t) (ix2 r l) = wanted m c (ix2 (⟨t.val * 1024 + r.val, hr⟩ : Fin 8192) l) := by
  by_cases h : l.val < 64
  · by_cases ht : t.val < 4
    · refine (pay_of _ _ _ _ r l _ _ _ 1 0 0 (read_keys m c t r l hr) rfl rfl
        ((read_cos m c t r l).trans ((table_lead _ _ _ _ l (⟨l.val, h⟩ : Fin 64) (row_lead _ r ht) (by show l.val = 0 + l.val; omega)).trans Ideal.ofBits_one_f32))
        ((read_lower m c t r l).trans ((table_lead _ _ _ _ l (⟨l.val, h⟩ : Fin 64) (row_lead _ r ht) (by show l.val = 0 + l.val; omega)).trans Ideal.ofBits_zero_f32))
        ((read_upper m c t r l).trans ((table_lead _ _ _ _ l (⟨l.val, h⟩ : Fin 64) (row_lead _ r ht) (by show l.val = 0 + l.val; omega)).trans Ideal.ofBits_zero_f32))).trans ?_
      rw [mul_one, mul_zero, mul_zero, add_zero, add_zero]
      exact (wanted_lead _ _ l h (by show t.val * 1024 + r.val < 4096; omega)).symm
    · have hq : (t.val - 4) % 2 * 1024 + r.val < 2048 := by omega
      have hb : (t.val - 4) / 2 < 2 := by omega
      have hrow : t.val * 1024 + r.val = 4096 + ((t.val - 4) / 2 * 2048 + ((t.val - 4) % 2 * 1024 + r.val)) := by omega
      have hR := row_in t.val r ht
      have C := (read_cos m c t r l).trans (table_in _ _ _ _ l (⟨(t.val - 4) % 2 * 1024 + r.val, hq⟩ : Fin 2048) (⟨l.val, h⟩ : Fin 64) hR (by show l.val = 0 + l.val; omega))
      have L := ((read_lower m c t r l).trans (table_in _ _ _ _ l (⟨(t.val - 4) % 2 * 1024 + r.val, hq⟩ : Fin 2048) (⟨l.val, h⟩ : Fin 64) hR (by show l.val = 0 + l.val; omega))).trans (sinLower_at _ _ _)
      have H := ((read_upper m c t r l).trans (table_in _ _ _ _ l (⟨(t.val - 4) % 2 * 1024 + r.val, hq⟩ : Fin 2048) (⟨l.val, h⟩ : Fin 64) hR (by show l.val = 0 + l.val; omega))).trans (sinUpper_at _ _ _)
      by_cases g : l.val % 32 < 16
      · refine (pay_of _ _ _ _ r l _ _ _ _ _ _ (read_keys m c t r l hr) (read_keys m c t r (above l) hr) rfl C (L.trans (if_pos g)) (H.trans (if_pos g))).trans ?_
        rw [mul_zero, add_zero, mul_neg, ← neg_mul]
        exact (wanted_lower (arg0 m c) (⟨t.val * 1024 + r.val, hr⟩ : Fin 8192) l (above l) (⟨(t.val - 4) / 2, hb⟩ : Fin 2) (⟨(t.val - 4) % 2 * 1024 + r.val, hq⟩ : Fin 2048) (⟨l.val, h⟩ : Fin 64) hrow rfl g (by show (l.val + 128 - 112) % 128 = l.val + 16; omega)).symm
      · refine (pay_of _ _ _ _ r l _ _ _ _ _ _ (read_keys m c t r l hr) rfl (read_keys m c t r (below l) hr) C (L.trans (if_neg g)) (H.trans (if_neg g))).trans ?_
        rw [mul_zero, add_zero]
        exact (wanted_upper (arg0 m c) (⟨t.val * 1024 + r.val, hr⟩ : Fin 8192) l (below l) (⟨(t.val - 4) / 2, hb⟩ : Fin 2) (⟨(t.val - 4) % 2 * 1024 + r.val, hq⟩ : Fin 2048) (⟨l.val, h⟩ : Fin 64) hrow rfl g (by show l.val = (l.val + 128 - 16) % 128 + 16; omega)).symm
  · refine (pay_of _ _ _ _ r l _ _ _ 0 0 0 rfl rfl rfl
      ((read_cos m c t r l).trans ((table_out _ _ _ _ l (by omega)).trans Ideal.ofBits_zero_f32))
      ((read_lower m c t r l).trans ((table_out _ _ _ _ l (by omega)).trans Ideal.ofBits_zero_f32))
      ((read_upper m c t r l).trans ((table_out _ _ _ _ l (by omega)).trans Ideal.ofBits_zero_f32))).trans ?_
    rw [mul_zero, mul_zero, mul_zero, add_zero, add_zero]
    exact (wanted_out _ _ l h).symm

/-- THE RESULT ARRAY after the run is the reference's result of the argument. -/
theorem final (c : Dev nD) : (dats m 0 c).arrAt 4 (cfgs 0).N = wanted m c := by
  refine (dats m 0 c).arrAt_eq_of_covers 4 _ (by decide +kernel) fun t _ y => ?_
  blk_simp
  rw [after0_4]
  frame_out
  idx_vars y
  have ht : t.val < 8 := lt_of_lt_of_eq t.isLt (show cfg0.N = 8 from N_0)
  refine (point m c t y0 y1 (by omega)).trans ?_
  blk_ext [idx t]

end Cert.RotkIdeal.At
end
-- ==== Proof.RotkClaims.lean ====
/- The claims of the rotary turn of the keys, each from the program's run. -/
module
public import proofs.«01_k».proof.Defs
public import proofs.«01_k».proof.Proof.Gen.Rotk
public import proofs.«01_k».proof.Proof.Gen.Rotk.Frame
public import proofs.«01_k».proof.Proof.RotkValue
public import proofs.«01_k».proof.Proof.Gen.RotkRefIdeal.Run
public import Idealize.ShloMosaic.Adequacy
@[expose] public section
noncomputable section
open Idealize.ShloMosaic Idealize.ShloMosaic.TcCoe Idealize.SL.Sem
namespace Cert.RotkClaims

/-- The kernel terminates, leaves its arguments and ends with every counter at zero. -/
theorem frame_kernel : Cert.quiescent_Rotk := fun m ρ _ => Cert.Rotk.Gen.frame m ρ

/-- So does the kernel over the extended reals. -/
theorem frame_ideal : Cert.quiescent_RotkIdeal := fun m ρ _ => Cert.RotkIdeal.Gen.frame m ρ

/-- So does the reference over the extended reals: it runs host operations only and declares no semaphore. -/
theorem frame_reference : Cert.quiescent_RotkRefIdeal := fun m ρ _ =>
  (θ_run Cert.RotkRefIdeal.defs _ _).mono
    (fun r h => ⟨fun c => (h c).2, Idealize.ShloMosaic.sem_eq_zero_of_no_sems (by decide) r.2⟩)
    (Cert.RotkRefIdeal.Value.run (F := Ideal) m ρ)

/-- The kernel's idealization rewrites nothing. -/
theorem preserves : Cert.preserves_Rotk_RotkIdeal := trivial

/-- THE VALUE: from the same arguments kernel and reference end with equal results. -/
theorem algebraic : Cert.algebraic_RotkIdeal_RotkRefIdeal := fun m ρ m' ρ' _ hag =>
  ⟨fun c => Cert.RotkIdeal.At.wanted m c,
    (θ_run Cert.RotkIdeal.defs _ _).mono (fun _ h c => ⟨(h c).1.trans (Cert.RotkIdeal.At.final m c), (h c).2⟩)
      (Cert.RotkIdeal.Value.run_blocks (F := Ideal) m ρ),
    (θ_run Cert.RotkRefIdeal.defs _ _).mono (fun _ h c => ⟨(h c).1.trans (by
        rw [Cert.RotkRefIdeal.Read.val_main_v51_eq]
        show Cert.RotkRefIdeal.Read.val_main_v51 (F := Ideal) (m' ((c.tc : Thread Cert.RotkRefIdeal.nD Cert.RotkRefIdeal.τ).loc Cert.RotkRefIdeal.main_arg0)) = _
        rw [(hag c)]), (h c).2⟩)
      (Cert.RotkRefIdeal.Value.run (F := Ideal) m' ρ')⟩

end Cert.RotkClaims
end
-- ==== Proof.RotqTable.lean ====
/- The rotary tables that the host line prepares, element by element. -/
module
public import proofs.«01_k».proof.Proof.Gen.RotqIdeal.Value
public import proofs.«01_k».proof.Proof.Gen.RotqRefIdeal.Read
public import proofs.«01_k».proof.Proof.Turn
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.RotqIdeal.At
open Cert.RotqIdeal Cert.RotqIdeal.Gen

/-- A table as the host line lays it out: 1024 leading rows with `fl` in the turned lanes, then the 2048 rows of `T`; `fo` in all other lanes. -/
def table (fo fl : BitVec 32) (T : FVec Ideal S2048x64 .f32) : FVec Ideal S3072x256 .f32 :=
  concatenate S3072x256 0 [⟨S1024x256, Host.scatter scatter_S1024x256_S1_S1024x64_01_n_1_0 (fun _ b => b) (broadcastInDim S1024x256 ![] bcast_S_S1024x256 (constant (F := Ideal) S_ .f32 fo)) (broadcastInDim S1 ![] bcast_S_S1 (constantI S_ 32 128#32)) (broadcastInDim S1024x64 ![] bcast_S_S1024x64 (constant (F := Ideal) S_ .f32 fl))⟩,
    ⟨S2048x256, Host.scatter scatter_S2048x256_S1_S2048x64_01_n_1_0 (fun _ b => b) (broadcastInDim S2048x256 ![] bcast_S_S2048x256 (constant (F := Ideal) S_ .f32 fo)) (broadcastInDim S1 ![] bcast_S_S1 (constantI S_ 32 128#32)) T⟩] concatenates_S1024x256_S2048x256_S3072x256_d0

/-! A table's elements. -/

/-- In the turned lanes of a leading row. -/
theorem table_lead (fo fl : BitVec 32) (T : FVec Ideal S2048x64 .f32) (r : Fin 3072) (l : Fin 256) (u : Fin 64) (hr : r.val < 1024) (hl : l.val = 128 + u.val) :
    table fo fl T (ix2 r l) = Ideal.ofBits .f32 fl := by
  pointwise [table]
  refine (dif_pos hr).trans ((Cert.Turn.scatter_block scatter_S1024x256_S1_S1024x64_01_n_1_0 rfl rfl rfl _ _ _ 128 rfl ⟨r.val, hr⟩ l).trans ?_)
  have h : 128 ≤ l.val ∧ l.val - 128 < 64 := by omega
  rw [dif_pos h]
  rfl

/-- In the turned lanes of a row after them. -/
theorem table_in (fo fl : BitVec 32) (T : FVec Ideal S2048x64 .f32) (r : Fin 3072) (l : Fin 256) (q : Fin 2048) (u : Fin 64) (hr : r.val = 1024 + q.val) (hl : l.val = 128 + u.val) :
    table fo fl T (ix2 r l) = T (ix2 q u) := by
  pointwise [table]
  refine (dif_neg (by omega)).trans ((Cert.Turn.scatter_block scatter_S2048x256_S1_S2048x64_01_n_1_0 rfl rfl rfl _ _ _ 128 rfl ⟨r.val - 1024, by omega⟩ l).trans ?_)
  have h : 128 ≤ l.val ∧ l.val - 128 < 64 := by omega
  rw [dif_pos h]
  exact congrArg₂ (fun a b => T (ix2 a b)) (Fin.ext (by show r.val - 1024 = q.val; omega)) (Fin.ext (by show l.val - 128 = u.val; omega))

/-- In the other lanes. -/
theorem table_out (fo fl : BitVec 32) (T : FVec Ideal S2048x64 .f32) (r : Fin 3072) (l : Fin 256) (hl : l.val < 128 ∨ 128 + 64 ≤ l.val) :
    table fo fl T (ix2 r l) = Ideal.ofBits .f32 fo := by
  pointwise [table]
  have h : ¬(128 ≤ l.val ∧ l.val - 128 < 64) := by omega
  by_cases g : r.val < 1024
  · refine (dif_pos g).trans ((Cert.Turn.scatter_block scatter_S1024x256_S1_S1024x64_01_n_1_0 rfl rfl rfl _ _ _ 128 rfl ⟨r.val, g⟩ l).trans ?_)
    rw [dif_neg h]
    rfl
  · refine (dif_neg g).trans ((Cert.Turn.scatter_block scatter_S2048x256_S1_S2048x64_01_n_1_0 rfl rfl rfl _ _ _ 128 rfl ⟨r.val - 1024, by omega⟩ l).trans ?_)
    rw [dif_neg h]
    rfl

/-! The lanes whose partner lies above: the lower half of each 32. -/

def modulus : IVec S_ 32 := select (cmpi .eq (constantI S_ 32 32#32) (constantI S_ 32 0#32)) (constantI S_ 32 1#32) (constantI S_ 32 32#32)
def rest0 : IVec S64 32 := Host.remsi (iotaInDim S64 32 0) (broadcastInDim S64 ![] bcast_S_S64 modulus)
def rest : IVec S64 32 := select (andi (cmpi .ne (cmpi .slt rest0 (broadcastInDim S64 ![] bcast_S_S64 (constantI S_ 32 0#32))) (broadcastInDim S64 ![] bcast_S_S64 (cmpi .slt modulus (constantI S_ 32 0#32)))) (cmpi .ne rest0 (broadcastInDim S64 ![] bcast_S_S64 (constantI S_ 32 0#32)))) (addi rest0 (broadcastInDim S64 ![] bcast_S_S64 modulus)) rest0
def lower : IVec S64 1 := cmpi .slt rest (broadcastInDim S64 ![] bcast_S_S64 (constantI S_ 32 16#32))

theorem lower_at : ∀ l : Fin 64, lower (ix1 l) = if l.val % 32 < 16 then 1#1 else 0#1 := by decide +kernel

/-- The sine of the lower lanes, negated, and of the upper lanes. -/
def sinLower (s : FVec Ideal S2048x64 .f32) : FVec Ideal S2048x64 .f32 := select (broadcastInDim S2048x64 ![1] bcast_S64_S2048x64_1 lower) (Host.negf s) (broadcastInDim S2048x64 ![] bcast_S_S2048x64 (constant (F := Ideal) S_ .f32 0x00000000#32))
def sinUpper (s : FVec Ideal S2048x64 .f32) : FVec Ideal S2048x64 .f32 := select (broadcastInDim S2048x64 ![1] bcast_S64_S2048x64_1 lower) (broadcastInDim S2048x64 ![] bcast_S_S2048x64 (constant (F := Ideal) S_ .f32 0x00000000#32)) s

theorem sinLower_at (s : FVec Ideal S2048x64 .f32) (r : Fin 2048) (l : Fin 64) : sinLower s (ix2 r l) = if l.val % 32 < 16 then -s (ix2 r l) else 0 := by
  pointwise [sinLower]
  rw [lower_at]
  by_cases h : l.val % 32 < 16
  · rw [if_pos h, if_pos h]; rfl
  · rw [if_neg h, if_neg h]; rfl

theorem sinUpper_at (s : FVec Ideal S2048x64 .f32) (r : Fin 2048) (l : Fin 64) : sinUpper s (ix2 r l) = if l.val % 32 < 16 then 0 else s (ix2 r l) := by
  pointwise [sinUpper]
  rw [lower_at]
  by_cases h : l.val % 32 < 16
  · rw [if_pos h, if_pos h]; rfl
  · rw [if_neg h, if_neg h]; rfl

/-! The host line, in three parts. -/

theorem last_cos (S : Valuation τ sig (Elt Ideal)) : StableHlo.after (hostOps0_6) S (Proc.devRef .tc main_v44) = table 0x3F800000#32 0x3F800000#32 (S (Proc.devRef .tc main_v28)) := by
  simp only [hostOps0, hostOps0_1, hostOps0_2, hostOps0_3, hostOps0_4, hostOps0_5, hostOps0_6, List.flatten_cons, List.flatten_nil, List.append_nil, List.cons_append, List.nil_append]
  after_results_simp
  unfold table
  refine congrArg₂ (fun (a : FVec Ideal S1024x256 .f32) (b : FVec Ideal S2048x256 .f32) => concatenate S3072x256 0 [⟨S1024x256, a⟩, ⟨S2048x256, b⟩] concatenates_S1024x256_S2048x256_S3072x256_d0) ?_ ?_
  · after_results_simp
  · after_results_simp

theorem last_lower (S : Valuation τ sig (Elt Ideal)) : StableHlo.after (hostOps0_6) S (Proc.devRef .tc main_v52) = table 0x00000000#32 0x00000000#32 (S (Proc.devRef .tc main_v35)) := by
  simp only [hostOps0, hostOps0_1, hostOps0_2, hostOps0_3, hostOps0_4, hostOps0_5, hostOps0_6, List.flatten_cons, List.flatten_nil, List.append_nil, List.cons_append, List.nil_append]
  after_results_simp
  unfold table
  refine congrArg₂ (fun (a : FVec Ideal S1024x256 .f32) (b : FVec Ideal S2048x256 .f32) => concatenate S3072x256 0 [⟨S1024x256, a⟩, ⟨S2048x256, b⟩] concatenates_S1024x256_S2048x256_S3072x256_d0) ?_ ?_
  · after_results_simp
  · after_results_simp

theorem last_upper (S : Valuation τ sig (Elt Ideal)) : StableHlo.after (hostOps0_6) S (Proc.devRef .tc main_v60) = table 0x00000000#32 0x00000000#32 (S (Proc.devRef .tc main_v36)) := by
  simp only [hostOps0, hostOps0_1, hostOps0_2, hostOps0_3, hostOps0_4, hostOps0_5, hostOps0_6, List.flatten_cons, List.flatten_nil, List.append_nil, List.cons_append, List.nil_append]
  after_results_simp
  unfold table
  refine congrArg₂ (fun (a : FVec Ideal S1024x256 .f32) (b : FVec Ideal S2048x256 .f32) => concatenate S3072x256 0 [⟨S1024x256, a⟩, ⟨S2048x256, b⟩] concatenates_S1024x256_S2048x256_S3072x256_d0) ?_ ?_
  · after_results_simp
  · after_results_simp

theorem mid_cos (S : Valuation τ sig (Elt Ideal)) : StableHlo.after ([hostOps0_1, hostOps0_2, hostOps0_3, hostOps0_4, hostOps0_5].flatten) S (Proc.devRef .tc main_v28) = S (Proc.devRef .tc main_v28) := by
  simp only [hostOps0, hostOps0_1, hostOps0_2, hostOps0_3, hostOps0_4, hostOps0_5, hostOps0_6, List.flatten_cons, List.flatten_nil, List.append_nil, List.cons_append, List.nil_append]
  after_results_simp

theorem mid_lower (S : Valuation τ sig (Elt Ideal)) (h30 : S (Proc.devRef .tc main_v30) = iotaInDim S64 32 0) (hc : S (Proc.devRef .tc main_c) = constantI S_ 32 32#32) : StableHlo.after ([hostOps0_1, hostOps0_2, hostOps0_3, hostOps0_4, hostOps0_5].flatten) S (Proc.devRef .tc main_v35) = sinLower (S (Proc.devRef .tc main_v29)) := by
  simp only [hostOps0, hostOps0_1, hostOps0_2, hostOps0_3, hostOps0_4, hostOps0_5, hostOps0_6, List.flatten_cons, List.flatten_nil, List.append_nil, List.cons_append, List.nil_append]
  after_results_simp
  rw [h30, hc]
  rfl

theorem mid_upper (S : Valuation τ sig (Elt Ideal)) (h30 : S (Proc.devRef .tc main_v30) = iotaInDim S64 32 0) (hc : S (Proc.devRef .tc main_c) = constantI S_ 32 32#32) : StableHlo.after ([hostOps0_1, hostOps0_2, hostOps0_3, hostOps0_4, hostOps0_5].flatten) S (Proc.devRef .tc main_v36) = sinUpper (S (Proc.devRef .tc main_v29)) := by
  simp only [hostOps0, hostOps0_1, hostOps0_2, hostOps0_3, hostOps0_4, hostOps0_5, hostOps0_6, List.flatten_cons, List.flatten_nil, List.append_nil, List.cons_append, List.nil_append]
  after_results_simp
  rw [h30, hc]
  rfl

theorem first_cos (S : Valuation τ sig (Elt Ideal)) : StableHlo.after (hostOps0) S (Proc.devRef .tc main_v28) = Cert.RotqRefIdeal.Read.val_main_v35 (F := Ideal) := by
  simp only [hostOps0, hostOps0_1, hostOps0_2, hostOps0_3, hostOps0_4, hostOps0_5, hostOps0_6, List.flatten_cons, List.flatten_nil, List.append_nil, List.cons_append, List.nil_append]
  after_results_simp
  rfl

theorem first_sin (S : Valuation τ sig (Elt Ideal)) : StableHlo.after (hostOps0) S (Proc.devRef .tc main_v29) = Cert.RotqRefIdeal.Read.val_main_v36 (F := Ideal) := by
  simp only [hostOps0, hostOps0_1, hostOps0_2, hostOps0_3, hostOps0_4, hostOps0_5, hostOps0_6, List.flatten_cons, List.flatten_nil, List.append_nil, List.cons_append, List.nil_append]
  after_results_simp
  rfl

theorem first_iota (S : Valuation τ sig (Elt Ideal)) : StableHlo.after (hostOps0) S (Proc.devRef .tc main_v30) = iotaInDim S64 32 0 := by
  simp only [hostOps0, hostOps0_1, hostOps0_2, hostOps0_3, hostOps0_4, hostOps0_5, hostOps0_6, List.flatten_cons, List.flatten_nil, List.append_nil, List.cons_append, List.nil_append]
  after_results_simp

theorem first_c (S : Valuation τ sig (Elt Ideal)) : StableHlo.after (hostOps0) S (Proc.devRef .tc main_c) = constantI S_ 32 32#32 := by
  simp only [hostOps0, hostOps0_1, hostOps0_2, hostOps0_3, hostOps0_4, hostOps0_5, hostOps0_6, List.flatten_cons, List.flatten_nil, List.append_nil, List.cons_append, List.nil_append]
  after_results_simp

variable (m : (ℓ : Loc nD τ sig) → Buf (Elt Ideal) ℓ)

theorem split (V : Valuation τ sig (Elt Ideal)) : StableHlo.after ([hostOps0, hostOps0_1, hostOps0_2, hostOps0_3, hostOps0_4, hostOps0_5, hostOps0_6, hostOps0_7, hostOps0_8].flatten) V
    = StableHlo.after hostOps0_8 (StableHlo.after hostOps0_7 (StableHlo.after hostOps0_6 (StableHlo.after ([hostOps0_1, hostOps0_2, hostOps0_3, hostOps0_4, hostOps0_5].flatten) (StableHlo.after hostOps0 V)))) := by
  rw [← StableHlo.after_append, ← StableHlo.after_append, ← StableHlo.after_append, ← StableHlo.after_append]
  rfl

theorem end_main_v44 (S : Valuation τ sig (Elt Ideal)) : StableHlo.after hostOps0_8 (StableHlo.after hostOps0_7 S) (Proc.devRef .tc main_v44) = S (Proc.devRef .tc main_v44) := by
  rw [← StableHlo.after_append]
  simp only [hostOps0_7, hostOps0_8, List.flatten_cons, List.flatten_nil, List.append_nil, List.cons_append, List.nil_append]
  after_results_simp

theorem end_main_v52 (S : Valuation τ sig (Elt Ideal)) : StableHlo.after hostOps0_8 (StableHlo.after hostOps0_7 S) (Proc.devRef .tc main_v52) = S (Proc.devRef .tc main_v52) := by
  rw [← StableHlo.after_append]
  simp only [hostOps0_7, hostOps0_8, List.flatten_cons, List.flatten_nil, List.append_nil, List.cons_append, List.nil_append]
  after_results_simp

theorem end_main_v60 (S : Valuation τ sig (Elt Ideal)) : StableHlo.after hostOps0_8 (StableHlo.after hostOps0_7 S) (Proc.devRef .tc main_v60) = S (Proc.devRef .tc main_v60) := by
  rw [← StableHlo.after_append]
  simp only [hostOps0_7, hostOps0_8, List.flatten_cons, List.flatten_nil, List.append_nil, List.cons_append, List.nil_append]
  after_results_simp

/-- The table of window 2. -/
theorem tbl_cos (c : Dev nD) : V m c main_v44 = table 0x3F800000#32 0x3F800000#32 (Cert.RotqRefIdeal.Read.val_main_v35 (F := Ideal)) := by
  show StableHlo.after ([hostOps0, hostOps0_1, hostOps0_2, hostOps0_3, hostOps0_4, hostOps0_5, hostOps0_6, hostOps0_7, hostOps0_8].flatten) _ _ = _
  rw [split, end_main_v44, last_cos, mid_cos, first_cos]

/-- The table of window 3. -/
theorem tbl_lower (c : Dev nD) : V m c main_v52 = table 0x00000000#32 0x00000000#32 (sinLower (Cert.RotqRefIdeal.Read.val_main_v36 (F := Ideal))) := by
  show StableHlo.after ([hostOps0, hostOps0_1, hostOps0_2, hostOps0_3, hostOps0_4, hostOps0_5, hostOps0_6, hostOps0_7, hostOps0_8].flatten) _ _ = _
  rw [split, end_main_v52, last_lower, mid_lower _ (first_iota _) (first_c _), first_sin]

/-- The table of window 4. -/
theorem tbl_upper (c : Dev nD) : V m c main_v60 = table 0x00000000#32 0x00000000#32 (sinUpper (Cert.RotqRefIdeal.Read.val_main_v36 (F := Ideal))) := by
  show StableHlo.after ([hostOps0, hostOps0_1, hostOps0_2, hostOps0_3, hostOps0_4, hostOps0_5, hostOps0_6, hostOps0_7, hostOps0_8].flatten) _ _ = _
  rw [split, end_main_v60, last_upper, mid_upper _ (first_iota _) (first_c _), first_sin]

/-- The weights as the host line lays them out: 256 lanes for each head, of which the last 64 are zero. -/
def padded (w : FVec Ideal S2x1024x3072 .f32) : FVec Ideal S1024x4096 .f32 :=
  shapeCast S1024x4096 (pad S1024x16x256 ![0, 0, 0] ![0, 0, 64] ![0, 0, 0] (shapeCast S1024x16x192 (shapeCast S1024x3072 (extractStridedSlice S1x1024x3072 ![0, 0, 0] w slices_S2x1024x3072_S1x1024x3072_0_0_0) shapeCasts_S1x1024x3072_S1024x3072) shapeCasts_S1024x3072_S1024x16x192) (sitofp (F := Ideal) .f32 (constantI S_ 32 0#32)) pads_S1024x16x192_S1024x16x256_000_000_0640 h_S_) shapeCasts_S1024x16x256_S1024x4096

theorem padded_in (w : FVec Ideal S2x1024x3072 .f32) (k : Fin 1024) (l : Fin 4096) (h : Fin 16) (d : Fin 192) (j : Fin 3072) (hl : l.val = h.val * 256 + d.val) (hj : j.val = h.val * 192 + d.val) :
    padded w (ix2 k l) = w (ix3 0 k j) := by
  pointwise [padded]
  refine (dif_pos (by omega)).trans ?_
  exact congrArg (fun z => w (ix3 0 k z)) (Fin.ext (by show l.val / 256 * 192 + l.val % 256 = j.val; omega))

theorem padded_out (w : FVec Ideal S2x1024x3072 .f32) (k : Fin 1024) (l : Fin 4096) (hl : 192 ≤ l.val % 256) : padded w (ix2 k l) = 0 := by
  pointwise [padded]
  exact (dif_neg (by omega)).trans ((show (FloatOps.sitofp .f32 (0#32) : Ideal .f32) = (((0#32 : BitVec 32).toInt : ℝ) : EReal) from rfl).trans (by simp))

theorem last_weights (S : Valuation τ sig (Elt Ideal)) : StableHlo.after hostOps0_8 (StableHlo.after hostOps0_7 (StableHlo.after hostOps0_6 S)) (Proc.devRef .tc main_v65) = padded (S (Proc.devRef .tc main_arg1)) := by
  rw [← StableHlo.after_append, ← StableHlo.after_append]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem mid_arg (S : Valuation τ sig (Elt Ideal)) : StableHlo.after ([hostOps0_1, hostOps0_2, hostOps0_3, hostOps0_4, hostOps0_5].flatten) S (Proc.devRef .tc main_arg1) = S (Proc.devRef .tc main_arg1) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp

theorem first_arg (S : Valuation τ sig (Elt Ideal)) : StableHlo.after hostOps0 S (Proc.devRef .tc main_arg1) = S (Proc.devRef .tc main_arg1) := by
  simp only [hostOps0, hostOps0_1, hostOps0_2, hostOps0_3, hostOps0_4, hostOps0_5, hostOps0_6, hostOps0_7, hostOps0_8, List.flatten_cons, List.flatten_nil, List.append_nil, List.cons_append, List.nil_append]
  after_results_simp

/-- The weights of window 1. -/
theorem weights (c : Dev nD) : V m c main_v65 = padded (m ((c : Thread nD τ).loc main_arg1)) := by
  show StableHlo.after ([hostOps0, hostOps0_1, hostOps0_2, hostOps0_3, hostOps0_4, hostOps0_5, hostOps0_6, hostOps0_7, hostOps0_8].flatten) _ _ = _
  rw [split, last_weights, mid_arg, first_arg]

end Cert.RotqIdeal.At
end
-- ==== Proof.RotqValue.lean ====
/- The query projection with its rotary turn: the result array after the run. -/
module
public import proofs.«01_k».proof.Proof.RotqTable
@[expose] public section
set_option maxRecDepth 16384
noncomputable section
open Idealize.ShloMosaic Idealize.ShloMosaic.TcCoe Idealize.SL.Sem
open Idealize.ShloMosaic.Pipeline (Dat)
namespace Cert.RotqIdeal.At
open Cert.RotqIdeal Cert.RotqIdeal.Gen

/-- Where each window's block lies, in terms of the grid point's number. -/
theorem idx : ∀ t : Fin cfg0.N, win0_0.index t = ![t.val / 16, 0] ∧ win0_1.index t = ![0, t.val % 16] ∧ win0_2.index t = ![if t.val / 16 < 4 then 0 else 1 + (t.val / 16 - 4) % 2, 0] ∧ win0_3.index t = ![if t.val / 16 < 4 then 0 else 1 + (t.val / 16 - 4) % 2, 0] ∧ win0_4.index t = ![if t.val / 16 < 4 then 0 else 1 + (t.val / 16 - 4) % 2, 0] ∧ win0_5.index t = ![t.val / 16, t.val % 16] :=
  (by decide +kernel : ∀ t : Fin grid0.N, _)

variable (m : (ℓ : Loc nD τ sig) → Buf (Elt Ideal) ℓ)

/-- The argument arrays. -/
abbrev arg0 (c : Dev nD) : FVec Ideal S8192x1024 .bf16 := m ((c : Thread nD τ).loc main_arg0)
abbrev arg1 (c : Dev nD) : FVec Ideal S2x1024x3072 .f32 := m ((c : Thread nD τ).loc main_arg1)

/-- The reference's result of the arguments. -/
abbrev wanted (c : Dev nD) := Cert.RotqRefIdeal.Read.val_main_v59 (F := Ideal) (arg0 m c) (arg1 m c)

/-! The reference's result, element by element: `cosT` and `sinT` are its tables of 2048 tokens by 64 lanes. -/

abbrev cosT : FVec Ideal S2048x64 .f32 := Cert.RotqRefIdeal.Read.val_main_v35 (F := Ideal)
abbrev sinT : FVec Ideal S2048x64 .f32 := Cert.RotqRefIdeal.Read.val_main_v36 (F := Ideal)

/-- The projection, 192 lanes for each head. -/
theorem heads_at (a0 : FVec Ideal S8192x1024 .bf16) (a1 : FVec Ideal S2x1024x3072 .f32) (r : Fin 8192) (h : Fin 16) (d : Fin 192) (j : Fin 3072) (hj : j.val = h.val * 192 + d.val) :
    Cert.RotqRefIdeal.Read.val_main_v4 (F := Ideal) a0 a1 (ix3 r h d) = ∑ k : Fin 1024, a0 (ix2 r k) * a1 (ix3 0 k j) := by
  pointwise [Cert.RotqRefIdeal.Read.val_main_v0, Cert.RotqRefIdeal.Read.val_main_v1, Cert.RotqRefIdeal.Read.val_main_v2, Cert.RotqRefIdeal.Read.val_main_v3, Cert.RotqRefIdeal.Read.val_main_v4]
  exact Finset.sum_congr rfl fun k _ => congrArg (fun z => a0 (ix2 r k) * a1 (ix3 0 k z)) (Fin.ext hj.symm)

/-- An image token's element in a turned lane. -/
theorem image_at (a0 : FVec Ideal S8192x1024 .bf16) (a1 : FVec Ideal S2x1024x3072 .f32) (b : Fin 2) (q : Fin 2048) (h : Fin 16) (u : Fin 64) (r : Fin 8192) (d : Fin 192) (hr : r.val = 4096 + (b.val * 2048 + q.val)) (hd : d.val = 128 + u.val) :
    Cert.RotqRefIdeal.Read.val_main_v38 (F := Ideal) a0 a1 (ix4 b q h u) = Cert.RotqRefIdeal.Read.val_main_v4 (F := Ideal) a0 a1 (ix3 r h d) := by
  pointwise [Cert.RotqRefIdeal.Read.val_main_v6, Cert.RotqRefIdeal.Read.val_main_v37, Cert.RotqRefIdeal.Read.val_main_v38]
  exact congrArg₂ (fun x y => Cert.RotqRefIdeal.Read.val_main_v4 (F := Ideal) a0 a1 (ix3 x h y)) (Fin.ext hr.symm) (Fin.ext hd.symm)

/-- Its partner, in a lower lane and in an upper one. -/
theorem partner_lower (a0 : FVec Ideal S8192x1024 .bf16) (a1 : FVec Ideal S2x1024x3072 .f32) (b : Fin 2) (q : Fin 2048) (h : Fin 16) (u v : Fin 64) (g : u.val % 32 < 16) (hv : v.val = u.val + 16) :
    Cert.RotqRefIdeal.Read.val_main_v47 (F := Ideal) a0 a1 (ix4 b q h u) = -Cert.RotqRefIdeal.Read.val_main_v38 (F := Ideal) a0 a1 (ix4 b q h v) := by
  pointwise [Cert.RotqRefIdeal.Read.val_main_v41, Cert.RotqRefIdeal.Read.val_main_v42, Cert.RotqRefIdeal.Read.val_main_v43, Cert.RotqRefIdeal.Read.val_main_v44, Cert.RotqRefIdeal.Read.val_main_v45, Cert.RotqRefIdeal.Read.val_main_v46, Cert.RotqRefIdeal.Read.val_main_v47]
  by_cases h1 : u.val < 16
  · refine (dif_pos h1).trans ?_
    exact congrArg (fun z => -Cert.RotqRefIdeal.Read.val_main_v38 (F := Ideal) a0 a1 (ix4 b q h z)) (Fin.ext (by show 16 + u.val = v.val; omega))
  · refine (dif_neg h1).trans ((dif_neg (by omega)).trans ((dif_pos (by omega)).trans ?_))
    exact congrArg (fun z => -Cert.RotqRefIdeal.Read.val_main_v38 (F := Ideal) a0 a1 (ix4 b q h z)) (Fin.ext (by show 48 + (u.val - 16 - 16) = v.val; omega))

theorem partner_upper (a0 : FVec Ideal S8192x1024 .bf16) (a1 : FVec Ideal S2x1024x3072 .f32) (b : Fin 2) (q : Fin 2048) (h : Fin 16) (u v : Fin 64) (g : ¬u.val % 32 < 16) (hv : u.val = v.val + 16) :
    Cert.RotqRefIdeal.Read.val_main_v47 (F := Ideal) a0 a1 (ix4 b q h u) = Cert.RotqRefIdeal.Read.val_main_v38 (F := Ideal) a0 a1 (ix4 b q h v) := by
  pointwise [Cert.RotqRefIdeal.Read.val_main_v41, Cert.RotqRefIdeal.Read.val_main_v42, Cert.RotqRefIdeal.Read.val_main_v43, Cert.RotqRefIdeal.Read.val_main_v44, Cert.RotqRefIdeal.Read.val_main_v45, Cert.RotqRefIdeal.Read.val_main_v46, Cert.RotqRefIdeal.Read.val_main_v47]
  by_cases h1 : u.val < 32
  · refine (dif_neg (by omega)).trans ((dif_pos (by omega)).trans ?_)
    exact congrArg (fun z => Cert.RotqRefIdeal.Read.val_main_v38 (F := Ideal) a0 a1 (ix4 b q h z)) (Fin.ext (by show u.val - 16 = v.val; omega))
  · refine (dif_neg (by omega)).trans ((dif_neg (by omega)).trans ((dif_neg (by omega)).trans ?_))
    exact congrArg (fun z => Cert.RotqRefIdeal.Read.val_main_v38 (F := Ideal) a0 a1 (ix4 b q h z)) (Fin.ext (by show 32 + (u.val - 16 - 16 - 16) = v.val; omega))

/-- The turned element. -/
theorem turned_at (a0 : FVec Ideal S8192x1024 .bf16) (a1 : FVec Ideal S2x1024x3072 .f32) (b : Fin 2) (q : Fin 2048) (h : Fin 16) (u : Fin 64) :
    Cert.RotqRefIdeal.Read.val_main_v52 (F := Ideal) a0 a1 (ix4 b q h u) = Cert.RotqRefIdeal.Read.val_main_v38 (F := Ideal) a0 a1 (ix4 b q h u) * cosT (ix2 q u) + Cert.RotqRefIdeal.Read.val_main_v47 (F := Ideal) a0 a1 (ix4 b q h u) * sinT (ix2 q u) := by
  pointwise [Cert.RotqRefIdeal.Read.val_main_v39, Cert.RotqRefIdeal.Read.val_main_v40, Cert.RotqRefIdeal.Read.val_main_v48, Cert.RotqRefIdeal.Read.val_main_v49, Cert.RotqRefIdeal.Read.val_main_v50, Cert.RotqRefIdeal.Read.val_main_v51, Cert.RotqRefIdeal.Read.val_main_v52]

/-- The last 64 lanes of each head hold zero. -/
theorem wanted_out (a0 : FVec Ideal S8192x1024 .bf16) (a1 : FVec Ideal S2x1024x3072 .f32) (r : Fin 8192) (l : Fin 4096) (hl : 192 ≤ l.val % 256) : Cert.RotqRefIdeal.Read.val_main_v59 (F := Ideal) a0 a1 (ix2 r l) = 0 := by
  pointwise [Cert.RotqRefIdeal.Read.val_main_v5, Cert.RotqRefIdeal.Read.val_main_v6, Cert.RotqRefIdeal.Read.val_main_v53, Cert.RotqRefIdeal.Read.val_main_v54, Cert.RotqRefIdeal.Read.val_main_v55, Cert.RotqRefIdeal.Read.val_main_v56, Cert.RotqRefIdeal.Read.val_main_v57, Cert.RotqRefIdeal.Read.val_main_v58, Cert.RotqRefIdeal.Read.val_main_v59, Cert.RotqRefIdeal.Read.val_main_c, Cert.RotqRefIdeal.Read.val_main_call0_v0]
  exact (dif_neg (by omega)).trans ((show (FloatOps.sitofp .f32 (0#32) : Ideal .f32) = (((0#32 : BitVec 32).toInt : ℝ) : EReal) from rfl).trans (by simp))

/-- The lanes that are not turned, and the first 4096 rows, hold the projection. -/
theorem wanted_plain (a0 : FVec Ideal S8192x1024 .bf16) (a1 : FVec Ideal S2x1024x3072 .f32) (r : Fin 8192) (l : Fin 4096) (h : Fin 16) (d : Fin 192) (hl : l.val = h.val * 256 + d.val) (hp : d.val < 128 ∨ r.val < 4096) :
    Cert.RotqRefIdeal.Read.val_main_v59 (F := Ideal) a0 a1 (ix2 r l) = Cert.RotqRefIdeal.Read.val_main_v4 (F := Ideal) a0 a1 (ix3 r h d) := by
  pointwise [Cert.RotqRefIdeal.Read.val_main_v5, Cert.RotqRefIdeal.Read.val_main_v6, Cert.RotqRefIdeal.Read.val_main_v53, Cert.RotqRefIdeal.Read.val_main_v54, Cert.RotqRefIdeal.Read.val_main_v55, Cert.RotqRefIdeal.Read.val_main_v56, Cert.RotqRefIdeal.Read.val_main_v57, Cert.RotqRefIdeal.Read.val_main_v58, Cert.RotqRefIdeal.Read.val_main_v59, Cert.RotqRefIdeal.Read.val_main_c, Cert.RotqRefIdeal.Read.val_main_call0_v0]
  refine (dif_pos (by omega)).trans ?_
  by_cases hd : d.val < 128
  · refine (dif_pos (by omega)).trans ?_
    exact congrArg₂ (fun x y => Cert.RotqRefIdeal.Read.val_main_v4 (F := Ideal) a0 a1 (ix3 r x y)) (Fin.ext (by show l.val / 256 = h.val; omega)) (Fin.ext (by show l.val % 256 = d.val; omega))
  · refine (dif_neg (by omega)).trans ((dif_pos (by omega)).trans ?_)
    exact congrArg₂ (fun x y => Cert.RotqRefIdeal.Read.val_main_v4 (F := Ideal) a0 a1 (ix3 r x y)) (Fin.ext (by show l.val / 256 = h.val; omega)) (Fin.ext (by show 128 + (l.val % 256 - 128) = d.val; omega))

/-- The others are turned. -/
theorem wanted_in (a0 : FVec Ideal S8192x1024 .bf16) (a1 : FVec Ideal S2x1024x3072 .f32) (r : Fin 8192) (l : Fin 4096) (h : Fin 16) (b : Fin 2) (q : Fin 2048) (u : Fin 64) (hr : r.val = 4096 + (b.val * 2048 + q.val)) (hl : l.val = h.val * 256 + (128 + u.val)) :
    Cert.RotqRefIdeal.Read.val_main_v59 (F := Ideal) a0 a1 (ix2 r l) = Cert.RotqRefIdeal.Read.val_main_v52 (F := Ideal) a0 a1 (ix4 b q h u) := by
  pointwise [Cert.RotqRefIdeal.Read.val_main_v5, Cert.RotqRefIdeal.Read.val_main_v6, Cert.RotqRefIdeal.Read.val_main_v53, Cert.RotqRefIdeal.Read.val_main_v54, Cert.RotqRefIdeal.Read.val_main_v55, Cert.RotqRefIdeal.Read.val_main_v56, Cert.RotqRefIdeal.Read.val_main_v57, Cert.RotqRefIdeal.Read.val_main_v58, Cert.RotqRefIdeal.Read.val_main_v59, Cert.RotqRefIdeal.Read.val_main_c, Cert.RotqRefIdeal.Read.val_main_call0_v0]
  refine (dif_pos (by omega)).trans ((dif_neg (by omega)).trans ((dif_neg (by omega)).trans ?_))
  have e : ∀ (x x' : Fin 2) (y y' : Fin 2048) (w w' : Fin 16) (z z' : Fin 64), x = x' → y = y' → w = w' → z = z' → Cert.RotqRefIdeal.Read.val_main_v52 (F := Ideal) a0 a1 (ix4 x y w z) = Cert.RotqRefIdeal.Read.val_main_v52 (F := Ideal) a0 a1 (ix4 x' y' w' z') := by
    rintro x _ y _ w _ z _ rfl rfl rfl rfl
    rfl
  exact e _ _ _ _ _ _ _ _ (Fin.ext (by show (r.val - 4096) / 2048 = b.val; omega)) (Fin.ext (by show (r.val - 4096) % 2048 = q.val; omega)) (Fin.ext (by show l.val / 256 = h.val; omega)) (Fin.ext (by show l.val % 256 - 128 = u.val; omega))

/-- The result in a lower lane and in an upper one. -/
theorem wanted_lower (a0 : FVec Ideal S8192x1024 .bf16) (a1 : FVec Ideal S2x1024x3072 .f32) (r : Fin 8192) (l : Fin 4096) (h : Fin 16) (b : Fin 2) (q : Fin 2048) (u : Fin 64) (d n : Fin 192) (hr : r.val = 4096 + (b.val * 2048 + q.val)) (hl : l.val = h.val * 256 + (128 + u.val)) (hd : d.val = 128 + u.val) (g : u.val % 32 < 16) (hn : n.val = d.val + 16) :
    Cert.RotqRefIdeal.Read.val_main_v59 (F := Ideal) a0 a1 (ix2 r l) = Cert.RotqRefIdeal.Read.val_main_v4 (F := Ideal) a0 a1 (ix3 r h d) * cosT (ix2 q u) + -Cert.RotqRefIdeal.Read.val_main_v4 (F := Ideal) a0 a1 (ix3 r h n) * sinT (ix2 q u) := by
  have hu : u.val + 16 < 64 := by omega
  rw [wanted_in a0 a1 r l h b q u hr hl, turned_at, image_at a0 a1 b q h u r d hr hd, partner_lower a0 a1 b q h u (⟨u.val + 16, hu⟩ : Fin 64) g rfl,
    image_at a0 a1 b q h (⟨u.val + 16, hu⟩ : Fin 64) r n hr (by show n.val = 128 + (u.val + 16); omega)]

theorem wanted_upper (a0 : FVec Ideal S8192x1024 .bf16) (a1 : FVec Ideal S2x1024x3072 .f32) (r : Fin 8192) (l : Fin 4096) (h : Fin 16) (b : Fin 2) (q : Fin 2048) (u : Fin 64) (d n : Fin 192) (hr : r.val = 4096 + (b.val * 2048 + q.val)) (hl : l.val = h.val * 256 + (128 + u.val)) (hd : d.val = 128 + u.val) (g : ¬u.val % 32 < 16) (hn : d.val = n.val + 16) :
    Cert.RotqRefIdeal.Read.val_main_v59 (F := Ideal) a0 a1 (ix2 r l) = Cert.RotqRefIdeal.Read.val_main_v4 (F := Ideal) a0 a1 (ix3 r h d) * cosT (ix2 q u) + Cert.RotqRefIdeal.Read.val_main_v4 (F := Ideal) a0 a1 (ix3 r h n) * sinT (ix2 q u) := by
  have hu : u.val - 16 < 64 := by omega
  rw [wanted_in a0 a1 r l h b q u hr hl, turned_at, image_at a0 a1 b q h u r d hr hd, partner_upper a0 a1 b q h u (⟨u.val - 16, hu⟩ : Fin 64) g (by show u.val = u.val - 16 + 16; omega),
    image_at a0 a1 b q h (⟨u.val - 16, hu⟩ : Fin 64) r n hr (by show n.val = 128 + (u.val - 16); omega)]

/-! The kernel's side. -/

/-- The lanes 16 above and 16 below. -/
def above (l : Fin 256) : Fin 256 := ⟨(l.val + 256 - 240) % 256, by omega⟩
def below (l : Fin 256) : Fin 256 := ⟨(l.val + 256 - 16) % 256, by omega⟩

/-- An element of the block product. -/
def cell (x : Vec Ideal S1024x1024 .bf16) (w : Vec Ideal S1024x256 .f32) (r : Fin 1024) (l : Fin 256) : EReal := ∑ k : Fin 1024, x (ix2 r k) * w (ix2 k l)

theorem cell_of (x : Vec Ideal S1024x1024 .bf16) (w : Vec Ideal S1024x256 .f32) (r : Fin 1024) (l : Fin 256) (f g : Fin 1024 → EReal) (hf : ∀ k, x (ix2 r k) = f k) (hg : ∀ k, w (ix2 k l) = g k) :
    cell x w r l = ∑ k : Fin 1024, f k * g k :=
  Finset.sum_congr rfl fun k _ => by rw [hf, hg]

/-- The stored block at an element, the elements of the operands known. -/
theorem pay_of (x : Vec Ideal S1024x1024 .bf16) (w co lo hi : Vec Ideal S1024x256 .f32) (r : Fin 1024) (l : Fin 256) (A U B C L H : EReal) (hA : cell x w r l = A) (hU : cell x w r (above l) = U) (hB : cell x w r (below l) = B)
    (hC : co (ix2 r l) = C) (hL : lo (ix2 r l) = L) (hH : hi (ix2 r l) = H) :
    k0_pay1 (F := Ideal) x w co lo hi (ix2 r l) = A * C + U * L + B * H := by
  subst hA hU hB hC hL hH
  pointwise [k0_pay1, cell]
  rfl

/-- The tokens' block. -/
theorem read_tokens (c : Dev nD) (t : Fin cfg0.N) (r k : Fin 1024) (h : t.val / 16 * 1024 + r.val < 8192) :
    iblk m c 0 t (ix2 r k) = arg0 m c (ix2 (⟨t.val / 16 * 1024 + r.val, h⟩ : Fin 8192) k) := by
  blk_ext [iblk, V_main_arg0, idx t]

/-- The weights' block. -/
theorem read_padded (c : Dev nD) (t : Fin cfg0.N) (k : Fin 1024) (l : Fin 256) : iblk m c 1 t (ix2 k l) = padded (arg1 m c) (ix2 k (⟨t.val % 16 * 256 + l.val, by omega⟩ : Fin 4096)) := by
  refine (congrFun (weights m c) ((win0_1.blk t).view.emb (ix2 k l))).trans ?_
  have e : (win0_1.blk t).view.emb (ix2 k l) = ix2 k (⟨t.val % 16 * 256 + l.val, by omega⟩ : Fin 4096) := by
    blk_ext [idx t]
  rw [e]

/-- The head of a grid point. -/
def head (t : Nat) : Fin 16 := ⟨t % 16, by omega⟩

/-- The block product at a lane below 192 is the projection. -/
theorem cell_in (c : Dev nD) (t : Fin cfg0.N) (r : Fin 1024) (l : Fin 256) (d : Fin 192) (h : t.val / 16 * 1024 + r.val < 8192) (hd : l.val = d.val) :
    cell (iblk m c 0 t) (iblk m c 1 t) r l = Cert.RotqRefIdeal.Read.val_main_v4 (F := Ideal) (arg0 m c) (arg1 m c) (ix3 (⟨t.val / 16 * 1024 + r.val, h⟩ : Fin 8192) (head t.val) d) := by
  have hj : t.val % 16 * 192 + d.val < 3072 := by omega
  refine (cell_of _ _ r l _ _ (fun k => read_tokens m c t r k h) (fun k => (read_padded m c t k l).trans
    (padded_in (arg1 m c) k _ (head t.val) d (⟨t.val % 16 * 192 + d.val, hj⟩ : Fin 3072) (by show t.val % 16 * 256 + l.val = t.val % 16 * 256 + d.val; omega) rfl))).trans ?_
  exact (heads_at (arg0 m c) (arg1 m c) _ (head t.val) d (⟨t.val % 16 * 192 + d.val, hj⟩ : Fin 3072) rfl).symm

/-- At the other lanes it is zero. -/
theorem cell_out (c : Dev nD) (t : Fin cfg0.N) (r : Fin 1024) (l : Fin 256) (hl : 192 ≤ l.val) (h : t.val / 16 * 1024 + r.val < 8192) : cell (iblk m c 0 t) (iblk m c 1 t) r l = 0 := by
  refine (cell_of _ _ r l _ _ (fun k => read_tokens m c t r k h) (fun k => (read_padded m c t k l).trans
    (padded_out (arg1 m c) k _ (by show 192 ≤ (t.val % 16 * 256 + l.val) % 256; omega)))).trans ?_
  exact Finset.sum_eq_zero fun k _ => mul_zero _

/-- The row of a table that a block's row reads. -/
def row (t : Nat) (r : Fin 1024) : Fin 3072 := ⟨(if t < 4 then 0 else 1 + (t - 4) % 2) * 1024 + r.val, by split_ifs <;> omega⟩

theorem row_lead (t : Nat) (r : Fin 1024) (h : t < 4) : (row t r).val < 1024 := by
  show (if t < 4 then 0 else 1 + (t - 4) % 2) * 1024 + r.val < 1024
  rw [if_pos h]
  omega

theorem row_in (t : Nat) (r : Fin 1024) (h : ¬t < 4) : (row t r).val = 1024 + ((t - 4) % 2 * 1024 + r.val) := by
  show (if t < 4 then 0 else 1 + (t - 4) % 2) * 1024 + r.val = _
  rw [if_neg h]
  omega

theorem read_cos (c : Dev nD) (t : Fin cfg0.N) (r : Fin 1024) (l : Fin 256) : iblk m c 2 t (ix2 r l) = table 0x3F800000#32 0x3F800000#32 cosT (ix2 (row (t.val / 16) r) l) := by
  refine (congrFun (tbl_cos m c) ((win0_2.blk t).view.emb (ix2 r l))).trans ?_
  have e : (win0_2.blk t).view.emb (ix2 r l) = ix2 (row (t.val / 16) r) l := by
    blk_ext [idx t, row]
  rw [e]

theorem read_lower (c : Dev nD) (t : Fin cfg0.N) (r : Fin 1024) (l : Fin 256) : iblk m c 3 t (ix2 r l) = table 0x00000000#32 0x00000000#32 (sinLower sinT) (ix2 (row (t.val / 16) r) l) := by
  refine (congrFun (tbl_lower m c) ((win0_3.blk t).view.emb (ix2 r l))).trans ?_
  have e : (win0_3.blk t).view.emb (ix2 r l) = ix2 (row (t.val / 16) r) l := by
    blk_ext [idx t, row]
  rw [e]

theorem read_upper (c : Dev nD) (t : Fin cfg0.N) (r : Fin 1024) (l : Fin 256) : iblk m c 4 t (ix2 r l) = table 0x00000000#32 0x00000000#32 (sinUpper sinT) (ix2 (row (t.val / 16) r) l) := by
  refine (congrFun (tbl_upper m c) ((win0_4.blk t).view.emb (ix2 r l))).trans ?_
  have e : (win0_4.blk t).view.emb (ix2 r l) = ix2 (row (t.val / 16) r) l := by
    blk_ext [idx t, row]
  rw [e]

/-- What a grid point stores at an element of its block. -/
theorem point (c : Dev nD) (t : Fin cfg0.N) (r : Fin 1024) (l : Fin 256) (hr : t.val / 16 * 1024 + r.val < 8192) (hl : t.val % 16 * 256 + l.val < 4096) :
    k0_pay1 (F := Ideal) (iblk m c 0 t) (iblk m c 1 t) (iblk m c 2 t) (iblk m c 3 t) (iblk m c 4 t) (ix2 r l) = wanted m c (ix2 (⟨t.val / 16 * 1024 + r.val, hr⟩ : Fin 8192) (⟨t.val % 16 * 256 + l.val, hl⟩ : Fin 4096)) := by
  by_cases h : l.val < 192
  · by_cases h1 : l.val < 128
    · refine (pay_of _ _ _ _ _ r l _ _ _ 1 0 0 (cell_in m c t r l (⟨l.val, h⟩ : Fin 192) hr rfl) rfl rfl
        ((read_cos m c t r l).trans ((table_out _ _ _ _ l (by omega)).trans Ideal.ofBits_one_f32)) ((read_lower m c t r l).trans ((table_out _ _ _ _ l (by omega)).trans Ideal.ofBits_zero_f32)) ((read_upper m c t r l).trans ((table_out _ _ _ _ l (by omega)).trans Ideal.ofBits_zero_f32))).trans ?_
      rw [mul_one, mul_zero, mul_zero, add_zero, add_zero]
      exact (wanted_plain (arg0 m c) (arg1 m c) (⟨t.val / 16 * 1024 + r.val, hr⟩ : Fin 8192) (⟨t.val % 16 * 256 + l.val, hl⟩ : Fin 4096) (head t.val) (⟨l.val, h⟩ : Fin 192) rfl (Or.inl h1)).symm
    · have hu : l.val - 128 < 64 := by omega
      by_cases ht : t.val / 16 < 4
      · refine (pay_of _ _ _ _ _ r l _ _ _ 1 0 0 (cell_in m c t r l (⟨l.val, h⟩ : Fin 192) hr rfl) rfl rfl
          ((read_cos m c t r l).trans ((table_lead _ _ _ _ l (⟨l.val - 128, hu⟩ : Fin 64) (row_lead _ r ht) (by show l.val = 128 + (l.val - 128); omega)).trans Ideal.ofBits_one_f32)) ((read_lower m c t r l).trans ((table_lead _ _ _ _ l (⟨l.val - 128, hu⟩ : Fin 64) (row_lead _ r ht) (by show l.val = 128 + (l.val - 128); omega)).trans Ideal.ofBits_zero_f32)) ((read_upper m c t r l).trans ((table_lead _ _ _ _ l (⟨l.val - 128, hu⟩ : Fin 64) (row_lead _ r ht) (by show l.val = 128 + (l.val - 128); omega)).trans Ideal.ofBits_zero_f32))).trans ?_
        rw [mul_one, mul_zero, mul_zero, add_zero, add_zero]
        exact (wanted_plain (arg0 m c) (arg1 m c) (⟨t.val / 16 * 1024 + r.val, hr⟩ : Fin 8192) (⟨t.val % 16 * 256 + l.val, hl⟩ : Fin 4096) (head t.val) (⟨l.val, h⟩ : Fin 192) rfl (Or.inr (by show t.val / 16 * 1024 + r.val < 4096; omega))).symm
      · have hq : (t.val / 16 - 4) % 2 * 1024 + r.val < 2048 := by omega
        have hb : (t.val / 16 - 4) / 2 < 2 := by omega
        have hrow : t.val / 16 * 1024 + r.val = 4096 + ((t.val / 16 - 4) / 2 * 2048 + ((t.val / 16 - 4) % 2 * 1024 + r.val)) := by omega
        have hR := row_in (t.val / 16) r ht
        have hlane : l.val = 128 + (l.val - 128) := by omega
        have hcol : t.val % 16 * 256 + l.val = t.val % 16 * 256 + (128 + (l.val - 128)) := by omega
        have C := (read_cos m c t r l).trans (table_in _ _ _ _ l (⟨(t.val / 16 - 4) % 2 * 1024 + r.val, hq⟩ : Fin 2048) (⟨l.val - 128, hu⟩ : Fin 64) hR hlane)
        have L := ((read_lower m c t r l).trans (table_in _ _ _ _ l (⟨(t.val / 16 - 4) % 2 * 1024 + r.val, hq⟩ : Fin 2048) (⟨l.val - 128, hu⟩ : Fin 64) hR hlane)).trans (sinLower_at _ _ _)
        have H := ((read_upper m c t r l).trans (table_in _ _ _ _ l (⟨(t.val / 16 - 4) % 2 * 1024 + r.val, hq⟩ : Fin 2048) (⟨l.val - 128, hu⟩ : Fin 64) hR hlane)).trans (sinUpper_at _ _ _)
        by_cases g : (l.val - 128) % 32 < 16
        · have hn : l.val + 16 < 192 := by omega
          refine (pay_of _ _ _ _ _ r l _ _ _ _ _ _ (cell_in m c t r l (⟨l.val, h⟩ : Fin 192) hr rfl) (cell_in m c t r (above l) (⟨l.val + 16, hn⟩ : Fin 192) hr (by show (l.val + 256 - 240) % 256 = l.val + 16; omega)) rfl C (L.trans (if_pos g)) (H.trans (if_pos g))).trans ?_
          rw [mul_zero, add_zero, mul_neg, ← neg_mul]
          exact (wanted_lower (arg0 m c) (arg1 m c) (⟨t.val / 16 * 1024 + r.val, hr⟩ : Fin 8192) (⟨t.val % 16 * 256 + l.val, hl⟩ : Fin 4096) (head t.val) (⟨(t.val / 16 - 4) / 2, hb⟩ : Fin 2) (⟨(t.val / 16 - 4) % 2 * 1024 + r.val, hq⟩ : Fin 2048) (⟨l.val - 128, hu⟩ : Fin 64) (⟨l.val, h⟩ : Fin 192) (⟨l.val + 16, hn⟩ : Fin 192) hrow hcol hlane g rfl).symm
        · have hn : l.val - 16 < 192 := by omega
          refine (pay_of _ _ _ _ _ r l _ _ _ _ _ _ (cell_in m c t r l (⟨l.val, h⟩ : Fin 192) hr rfl) rfl (cell_in m c t r (below l) (⟨l.val - 16, hn⟩ : Fin 192) hr (by show (l.val + 256 - 16) % 256 = l.val - 16; omega)) C (L.trans (if_neg g)) (H.trans (if_neg g))).trans ?_
          rw [mul_zero, add_zero]
          exact (wanted_upper (arg0 m c) (arg1 m c) (⟨t.val / 16 * 1024 + r.val, hr⟩ : Fin 8192) (⟨t.val % 16 * 256 + l.val, hl⟩ : Fin 4096) (head t.val) (⟨(t.val / 16 - 4) / 2, hb⟩ : Fin 2) (⟨(t.val / 16 - 4) % 2 * 1024 + r.val, hq⟩ : Fin 2048) (⟨l.val - 128, hu⟩ : Fin 64) (⟨l.val, h⟩ : Fin 192) (⟨l.val - 16, hn⟩ : Fin 192) hrow hcol hlane g (by show l.val = l.val - 16 + 16; omega)).symm
  · refine (pay_of _ _ _ _ _ r l 0 _ _ 1 0 0 (cell_out m c t r l (by omega) hr) rfl rfl
      ((read_cos m c t r l).trans ((table_out _ _ _ _ l (by omega)).trans Ideal.ofBits_one_f32)) ((read_lower m c t r l).trans ((table_out _ _ _ _ l (by omega)).trans Ideal.ofBits_zero_f32)) ((read_upper m c t r l).trans ((table_out _ _ _ _ l (by omega)).trans Ideal.ofBits_zero_f32))).trans ?_
    rw [zero_mul, mul_zero, mul_zero, add_zero, add_zero]
    exact (wanted_out (arg0 m c) (arg1 m c) (⟨t.val / 16 * 1024 + r.val, hr⟩ : Fin 8192) (⟨t.val % 16 * 256 + l.val, hl⟩ : Fin 4096) (by show 192 ≤ (t.val % 16 * 256 + l.val) % 256; omega)).symm

/-- THE RESULT ARRAY after the run is the reference's result of the arguments. -/
theorem final (c : Dev nD) : (dats m 0 c).arrAt 5 (cfgs 0).N = wanted m c := by
  refine (dats m 0 c).arrAt_eq_of_covers 5 _ (by decide +kernel) fun t _ y => ?_
  blk_simp
  rw [after0_5]
  frame_out
  idx_vars y
  have ht : t.val < 128 := lt_of_lt_of_eq t.isLt (show cfg0.N = 128 from N_0)
  refine (point m c t y0 y1 (by omega) (by omega)).trans ?_
  blk_ext [idx t]

end Cert.RotqIdeal.At
end
-- ==== Proof.RotqClaims.lean ====
/- The claims of the query projection with its rotary turn, each from the program's run. -/
module
public import proofs.«01_k».proof.Defs
public import proofs.«01_k».proof.Proof.Gen.Rotq
public import proofs.«01_k».proof.Proof.Gen.Rotq.Frame
public import proofs.«01_k».proof.Proof.RotqValue
public import proofs.«01_k».proof.Proof.Gen.RotqRefIdeal.Run
public import Idealize.ShloMosaic.Adequacy
@[expose] public section
noncomputable section
open Idealize.ShloMosaic Idealize.ShloMosaic.TcCoe Idealize.SL.Sem
namespace Cert.RotqClaims

/-- The kernel terminates, leaves its arguments and ends with every counter at zero. -/
theorem frame_kernel : Cert.quiescent_Rotq := fun m ρ _ => Cert.Rotq.Gen.frame m ρ

/-- So does the kernel over the extended reals. -/
theorem frame_ideal : Cert.quiescent_RotqIdeal := fun m ρ _ => Cert.RotqIdeal.Gen.frame m ρ

/-- So does the reference over the extended reals: it runs host operations only and declares no semaphore. -/
theorem frame_reference : Cert.quiescent_RotqRefIdeal := fun m ρ _ =>
  (θ_run Cert.RotqRefIdeal.defs _ _).mono
    (fun r h => ⟨fun c => (h c).2, Idealize.ShloMosaic.sem_eq_zero_of_no_sems (by decide) r.2⟩)
    (Cert.RotqRefIdeal.Value.run (F := Ideal) m ρ)

/-- The kernel's idealization rewrites nothing. -/
theorem preserves : Cert.preserves_Rotq_RotqIdeal := trivial

/-- THE VALUE: from the same arguments kernel and reference end with equal results. -/
theorem algebraic : Cert.algebraic_RotqIdeal_RotqRefIdeal := fun m ρ m' ρ' _ hag =>
  ⟨fun c => Cert.RotqIdeal.At.wanted m c,
    (θ_run Cert.RotqIdeal.defs _ _).mono (fun _ h c => ⟨(h c).1.trans (Cert.RotqIdeal.At.final m c), (h c).2⟩)
      (Cert.RotqIdeal.Value.run_blocks (F := Ideal) m ρ),
    (θ_run Cert.RotqRefIdeal.defs _ _).mono (fun _ h c => ⟨(h c).1.trans (by
        rw [Cert.RotqRefIdeal.Read.val_main_v59_eq]
        show Cert.RotqRefIdeal.Read.val_main_v59 (F := Ideal) (m' ((c.tc : Thread Cert.RotqRefIdeal.nD Cert.RotqRefIdeal.τ).loc Cert.RotqRefIdeal.main_arg0)) (m' ((c.tc : Thread Cert.RotqRefIdeal.nD Cert.RotqRefIdeal.τ).loc Cert.RotqRefIdeal.main_arg1)) = _
        rw [(hag c).1, (hag c).2]), (h c).2⟩)
      (Cert.RotqRefIdeal.Value.run (F := Ideal) m' ρ')⟩

end Cert.RotqClaims
end
-- ==== Proof.DftTable.lean ====
/- The tables of the Fourier transform that the host line prepares. -/
module
public import proofs.«01_k».proof.Proof.Gen.DftIdeal.Value
public import proofs.«01_k».proof.Proof.Gen.DftRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.DftIdeal.At
open Cert.DftIdeal Cert.DftIdeal.Gen

/-- The cosines and, beside them, the sines. -/
def both : FVec Ideal S256x512 .bf16 :=
  truncf .bf16 (concatenate S256x512 1 [⟨S256x256, Cert.DftRefIdeal.Read.val_main_v14 (F := Ideal)⟩, ⟨S256x256, Cert.DftRefIdeal.Read.val_main_v17 (F := Ideal)⟩] concatenates_S256x256_S256x256_S256x512_d1) bitsLt_bf16_f32

theorem both_cos (k : Fin 256) (l : Fin 512) (e : Fin 256) (h : l.val = e.val) : both (ix2 k l) = Cert.DftRefIdeal.Read.val_main_v14 (F := Ideal) (ix2 k e) := by
  pointwise [both]
  refine (dif_pos (by omega)).trans ?_
  exact congrArg (fun z => Cert.DftRefIdeal.Read.val_main_v14 (F := Ideal) (ix2 k z)) (Fin.ext h)

theorem both_sin (k : Fin 256) (l : Fin 512) (e : Fin 256) (h : l.val = 256 + e.val) : both (ix2 k l) = Cert.DftRefIdeal.Read.val_main_v17 (F := Ideal) (ix2 k e) := by
  pointwise [both]
  refine (dif_neg (by omega)).trans ?_
  exact congrArg (fun z => Cert.DftRefIdeal.Read.val_main_v17 (F := Ideal) (ix2 k z)) (Fin.ext (by show l.val - 256 = e.val; omega))

/-! The host line, in three parts: the products of the indices, their remainders, the cosines and sines. -/

theorem first_products (S : Valuation τ sig (Elt Ideal)) : StableHlo.after hostOps0 S (Proc.devRef .tc main_v5) = Cert.DftRefIdeal.Read.val_main_v7 (F := Ideal) := by
  simp only [hostOps0, hostOps0_1, hostOps0_2, List.flatten_cons, List.flatten_nil, List.append_nil, List.cons_append, List.nil_append]
  after_results_simp
  rfl

theorem first_modulus (S : Valuation τ sig (Elt Ideal)) : StableHlo.after hostOps0 S (Proc.devRef .tc main_c) = Cert.DftRefIdeal.Read.val_main_c (F := Ideal) := by
  simp only [hostOps0, hostOps0_1, hostOps0_2, List.flatten_cons, List.flatten_nil, List.append_nil, List.cons_append, List.nil_append]
  after_results_simp
  rfl

theorem mid_rest (S : Valuation τ sig (Elt Ideal)) (h5 : S (Proc.devRef .tc main_v5) = Cert.DftRefIdeal.Read.val_main_v7 (F := Ideal)) (hc : S (Proc.devRef .tc main_c) = Cert.DftRefIdeal.Read.val_main_c (F := Ideal)) : StableHlo.after hostOps0_1 S (Proc.devRef .tc main_v6) = Cert.DftRefIdeal.Read.val_main_v8 (F := Ideal) := by
  simp only [hostOps0, hostOps0_1, hostOps0_2, List.flatten_cons, List.flatten_nil, List.append_nil, List.cons_append, List.nil_append]
  after_results_simp
  rw [h5, hc]
  rfl

theorem last_both (S : Valuation τ sig (Elt Ideal)) (h6 : S (Proc.devRef .tc main_v6) = Cert.DftRefIdeal.Read.val_main_v8 (F := Ideal)) : StableHlo.after hostOps0_2 S (Proc.devRef .tc main_v17) = both := by
  simp only [hostOps0, hostOps0_1, hostOps0_2, List.flatten_cons, List.flatten_nil, List.append_nil, List.cons_append, List.nil_append]
  after_results_simp
  unfold both
  refine congrArg (fun x : FVec Ideal S256x512 .f32 => truncf .bf16 x bitsLt_bf16_f32) ?_
  refine congrArg₂ (fun a b : FVec Ideal S256x256 .f32 => concatenate S256x512 1 [⟨S256x256, a⟩, ⟨S256x256, b⟩] concatenates_S256x256_S256x256_S256x512_d1) ?_ ?_
  · after_results_simp
    rw [h6]
    rfl
  · after_results_simp
    rw [h6]
    rfl

theorem split (V : Valuation τ sig (Elt Ideal)) : StableHlo.after ([hostOps0, hostOps0_1, hostOps0_2].flatten) V = StableHlo.after hostOps0_2 (StableHlo.after hostOps0_1 (StableHlo.after hostOps0 V)) := by
  rw [← StableHlo.after_append, ← StableHlo.after_append]
  rfl

variable (m : (ℓ : Loc nD τ sig) → Buf (Elt Ideal) ℓ)

/-- The table of the window that reads `main_v17`. -/
theorem tbl_both (c : Dev nD) : V m c main_v17 = both := by
  show StableHlo.after ([hostOps0, hostOps0_1, hostOps0_2].flatten) _ _ = _
  rw [split, last_both _ (mid_rest _ (first_products _) (first_modulus _))]

end Cert.DftIdeal.At
end
-- ==== Proof.DftValue.lean ====
/- The Fourier transform over the channels: the result array after the run. -/
module
public import proofs.«01_k».proof.Proof.DftTable
@[expose] public section
set_option maxRecDepth 16384
noncomputable section
open Idealize.ShloMosaic Idealize.ShloMosaic.TcCoe Idealize.SL.Sem
open Idealize.ShloMosaic.Pipeline (Dat)
namespace Cert.DftIdeal.At
open Cert.DftIdeal Cert.DftIdeal.Gen

/-- Where each window's block lies, in terms of the grid point's number. -/
theorem idx : ∀ t : Fin cfg0.N, win0_0.index t = ![t.val / 4, t.val % 4] ∧ win0_1.index t = ![0, 0] ∧ win0_2.index t = ![t.val / 4, t.val % 4] :=
  (by decide +kernel : ∀ t : Fin grid0.N, _)

variable (m : (ℓ : Loc nD τ sig) → Buf (Elt Ideal) ℓ)

/-- The argument array. -/
abbrev arg0 (c : Dev nD) : FVec Ideal S8192x5632 .f32 := m ((c : Thread nD τ).loc main_arg0)

/-- The reference's result of the argument. -/
abbrev wanted (c : Dev nD) := Cert.DftRefIdeal.Read.val_main_v22 (F := Ideal) (arg0 m c)

/-- The reference's result at an element of a group's first half: the sum with the cosines. -/
theorem wanted_cos (a0 : FVec Ideal S8192x5632 .f32) (r : Fin 8192) (l : Fin 2048) (g : Fin 4) (e : Fin 256) (hl : l.val = g.val * 512 + e.val) :
    Cert.DftRefIdeal.Read.val_main_v22 (F := Ideal) a0 (ix2 r l) = ∑ k : Fin 256, a0 (ix2 r (⟨g.val * 256 + k.val, by omega⟩ : Fin 5632)) * Cert.DftRefIdeal.Read.val_main_v14 (F := Ideal) (ix2 k e) := by
  pointwise [Cert.DftRefIdeal.Read.val_main_v0, Cert.DftRefIdeal.Read.val_main_v1, Cert.DftRefIdeal.Read.val_main_v18, Cert.DftRefIdeal.Read.val_main_v19, Cert.DftRefIdeal.Read.val_main_v20, Cert.DftRefIdeal.Read.val_main_v21, Cert.DftRefIdeal.Read.val_main_v22]
  refine (dif_pos (by omega)).trans ?_
  exact Finset.sum_congr rfl fun k _ => congrArg₂ (fun x y => a0 (ix2 r x) * Cert.DftRefIdeal.Read.val_main_v14 (F := Ideal) (ix2 k y)) (Fin.ext (by show l.val / 512 * 256 + k.val = g.val * 256 + k.val; omega)) (Fin.ext (by show l.val % 512 = e.val; omega))

/-- At an element of its second half: the sum with the sines. -/
theorem wanted_sin (a0 : FVec Ideal S8192x5632 .f32) (r : Fin 8192) (l : Fin 2048) (g : Fin 4) (e : Fin 256) (hl : l.val = g.val * 512 + (256 + e.val)) :
    Cert.DftRefIdeal.Read.val_main_v22 (F := Ideal) a0 (ix2 r l) = ∑ k : Fin 256, a0 (ix2 r (⟨g.val * 256 + k.val, by omega⟩ : Fin 5632)) * Cert.DftRefIdeal.Read.val_main_v17 (F := Ideal) (ix2 k e) := by
  pointwise [Cert.DftRefIdeal.Read.val_main_v0, Cert.DftRefIdeal.Read.val_main_v1, Cert.DftRefIdeal.Read.val_main_v18, Cert.DftRefIdeal.Read.val_main_v19, Cert.DftRefIdeal.Read.val_main_v20, Cert.DftRefIdeal.Read.val_main_v21, Cert.DftRefIdeal.Read.val_main_v22]
  refine (dif_neg (by omega)).trans ?_
  exact Finset.sum_congr rfl fun k _ => congrArg₂ (fun x y => a0 (ix2 r x) * Cert.DftRefIdeal.Read.val_main_v17 (F := Ideal) (ix2 k y)) (Fin.ext (by show l.val / 512 * 256 + k.val = g.val * 256 + k.val; omega)) (Fin.ext (by show l.val % 512 - 256 = e.val; omega))

/-- The stored block at an element, a row and a column of the operands known. -/
theorem pay_of (x : Vec Ideal S1024x256 .f32) (w : Vec Ideal S256x512 .bf16) (r : Fin 1024) (l : Fin 512) (f g : Fin 256 → EReal) (hf : ∀ k, x (ix2 r k) = f k) (hg : ∀ k, w (ix2 k l) = g k) :
    k0_pay1 (F := Ideal) x w (ix2 r l) = ∑ k : Fin 256, f k * g k := by
  pointwise [k0_pay1]
  exact Finset.sum_congr rfl fun k _ => Ideal.mul_congr (hf k) (hg k)

/-- The tokens' block. -/
theorem read_tokens (c : Dev nD) (t : Fin cfg0.N) (r : Fin 1024) (k : Fin 256) (h : t.val / 4 * 1024 + r.val < 8192) :
    iblk m c 0 t (ix2 r k) = arg0 m c (ix2 (⟨t.val / 4 * 1024 + r.val, h⟩ : Fin 8192) (⟨t.val % 4 * 256 + k.val, by omega⟩ : Fin 5632)) := by
  blk_ext [iblk, V_main_arg0, idx t]

/-- The table's block is the whole table. -/
theorem read_both (c : Dev nD) (t : Fin cfg0.N) (k : Fin 256) (l : Fin 512) : iblk m c 1 t (ix2 k l) = both (ix2 k l) := by
  refine (congrFun (tbl_both m c) ((win0_1.blk t).view.emb (ix2 k l))).trans ?_
  have e : (win0_1.blk t).view.emb (ix2 k l) = ix2 k l := by
    blk_ext [idx t]
  rw [e]

/-- What a grid point stores at an element of its block. -/
theorem point (c : Dev nD) (t : Fin cfg0.N) (r : Fin 1024) (l : Fin 512) (hr : t.val / 4 * 1024 + r.val < 8192) (hl : t.val % 4 * 512 + l.val < 2048) :
    k0_pay1 (F := Ideal) (iblk m c 0 t) (iblk m c 1 t) (ix2 r l) = wanted m c (ix2 (⟨t.val / 4 * 1024 + r.val, hr⟩ : Fin 8192) (⟨t.val % 4 * 512 + l.val, hl⟩ : Fin 2048)) := by
  have hg : t.val % 4 < 4 := by omega
  by_cases h : l.val < 256
  · refine (pay_of _ _ r l _ _ (fun k => read_tokens m c t r k hr) (fun k => (read_both m c t k l).trans (both_cos k l (⟨l.val, h⟩ : Fin 256) rfl))).trans ?_
    exact (wanted_cos (arg0 m c) _ _ (⟨t.val % 4, hg⟩ : Fin 4) (⟨l.val, h⟩ : Fin 256) rfl).symm
  · have he : l.val - 256 < 256 := by omega
    have hs : l.val = 256 + (l.val - 256) := by omega
    refine (pay_of _ _ r l _ _ (fun k => read_tokens m c t r k hr) (fun k => (read_both m c t k l).trans (both_sin k l (⟨l.val - 256, he⟩ : Fin 256) hs))).trans ?_
    exact (wanted_sin (arg0 m c) _ _ (⟨t.val % 4, hg⟩ : Fin 4) (⟨l.val - 256, he⟩ : Fin 256) (by show t.val % 4 * 512 + l.val = t.val % 4 * 512 + (256 + (l.val - 256)); omega)).symm

/-- THE RESULT ARRAY after the run is the reference's result of the argument. -/
theorem final (c : Dev nD) : (dats m 0 c).arrAt 2 (cfgs 0).N = wanted m c := by
  refine (dats m 0 c).arrAt_eq_of_covers 2 _ (by decide +kernel) fun t _ y => ?_
  blk_simp
  rw [after0_2]
  frame_out
  idx_vars y
  have ht : t.val < 32 := lt_of_lt_of_eq t.isLt (show cfg0.N = 32 from N_0)
  refine (point m c t y0 y1 (by omega) (by omega)).trans ?_
  blk_ext [idx t]

end Cert.DftIdeal.At
end
-- ==== Proof.DftClaims.lean ====
/- The claims of the Fourier transform over the channels, each from the program's run. -/
module
public import proofs.«01_k».proof.Defs
public import proofs.«01_k».proof.Proof.Gen.Dft
public import proofs.«01_k».proof.Proof.Gen.Dft.Frame
public import proofs.«01_k».proof.Proof.DftValue
public import proofs.«01_k».proof.Proof.Gen.DftRefIdeal.Run
public import Idealize.ShloMosaic.Adequacy
@[expose] public section
noncomputable section
open Idealize.ShloMosaic Idealize.ShloMosaic.TcCoe Idealize.SL.Sem
namespace Cert.DftClaims

/-- The kernel terminates, leaves its arguments and ends with every counter at zero. -/
theorem frame_kernel : Cert.quiescent_Dft := fun m ρ _ => Cert.Dft.Gen.frame m ρ

/-- So does the kernel over the extended reals. -/
theorem frame_ideal : Cert.quiescent_DftIdeal := fun m ρ _ => Cert.DftIdeal.Gen.frame m ρ

/-- So does the reference over the extended reals: it runs host operations only and declares no semaphore. -/
theorem frame_reference : Cert.quiescent_DftRefIdeal := fun m ρ _ =>
  (θ_run Cert.DftRefIdeal.defs _ _).mono
    (fun r h => ⟨fun c => (h c).2, Idealize.ShloMosaic.sem_eq_zero_of_no_sems (by decide) r.2⟩)
    (Cert.DftRefIdeal.Value.run (F := Ideal) m ρ)

/-- The kernel's idealization rewrites nothing. -/
theorem preserves : Cert.preserves_Dft_DftIdeal := trivial

/-- THE VALUE: from the same arguments kernel and reference end with equal results. -/
theorem algebraic : Cert.algebraic_DftIdeal_DftRefIdeal := fun m ρ m' ρ' _ hag =>
  ⟨fun c => Cert.DftIdeal.At.wanted m c,
    (θ_run Cert.DftIdeal.defs _ _).mono (fun _ h c => ⟨(h c).1.trans (Cert.DftIdeal.At.final m c), (h c).2⟩)
      (Cert.DftIdeal.Value.run_blocks (F := Ideal) m ρ),
    (θ_run Cert.DftRefIdeal.defs _ _).mono (fun _ h c => ⟨(h c).1.trans (by
        rw [Cert.DftRefIdeal.Read.val_main_v22_eq]
        show Cert.DftRefIdeal.Read.val_main_v22 (F := Ideal) (m' ((c.tc : Thread Cert.DftRefIdeal.nD Cert.DftRefIdeal.τ).loc Cert.DftRefIdeal.main_arg0)) = _
        rw [(hag c)]), (h c).2⟩)
      (Cert.DftRefIdeal.Value.run (F := Ideal) m' ρ')⟩

end Cert.DftClaims
end
-- ==== Proof.PosTable.lean ====
/- The tables of the Fourier transform that the host line prepares. -/
module
public import proofs.«01_k».proof.Proof.Gen.PosIdeal.Value
public import proofs.«01_k».proof.Proof.Gen.PosRefIdeal.Read
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.PosIdeal.At
open Cert.PosIdeal Cert.PosIdeal.Gen

/-- A table as the call takes it: over the extended reals the cast changes nothing. -/
def half (T : FVec Ideal S2048x2048 .f32) : FVec Ideal S2048x2048 .bf16 := truncf .bf16 T bitsLt_bf16_f32

theorem half_at (T : FVec Ideal S2048x2048 .f32) (i : S2048x2048.Idx) : half T i = T i := rfl

/-! The host line, in three parts: the products of the indices, their remainders, the cosines and sines. -/

theorem first_products (S : Valuation τ sig (Elt Ideal)) : StableHlo.after hostOps0 S (Proc.devRef .tc main_v5) = Cert.PosRefIdeal.Read.val_main_v8 (F := Ideal) := by
  simp only [hostOps0, hostOps0_1, hostOps0_2, List.flatten_cons, List.flatten_nil, List.append_nil, List.cons_append, List.nil_append]
  after_results_simp
  rfl

theorem first_modulus (S : Valuation τ sig (Elt Ideal)) : StableHlo.after hostOps0 S (Proc.devRef .tc main_c) = Cert.PosRefIdeal.Read.val_main_c (F := Ideal) := by
  simp only [hostOps0, hostOps0_1, hostOps0_2, List.flatten_cons, List.flatten_nil, List.append_nil, List.cons_append, List.nil_append]
  after_results_simp
  rfl

theorem mid_rest (S : Valuation τ sig (Elt Ideal)) (h5 : S (Proc.devRef .tc main_v5) = Cert.PosRefIdeal.Read.val_main_v8 (F := Ideal)) (hc : S (Proc.devRef .tc main_c) = Cert.PosRefIdeal.Read.val_main_c (F := Ideal)) : StableHlo.after hostOps0_1 S (Proc.devRef .tc main_v6) = Cert.PosRefIdeal.Read.val_main_v9 (F := Ideal) := by
  simp only [hostOps0, hostOps0_1, hostOps0_2, List.flatten_cons, List.flatten_nil, List.append_nil, List.cons_append, List.nil_append]
  after_results_simp
  rw [h5, hc]
  rfl

theorem last_cos (S : Valuation τ sig (Elt Ideal)) (h6 : S (Proc.devRef .tc main_v6) = Cert.PosRefIdeal.Read.val_main_v9 (F := Ideal)) : StableHlo.after hostOps0_2 S (Proc.devRef .tc main_v16) = half (Cert.PosRefIdeal.Read.val_main_v15 (F := Ideal)) := by
  simp only [hostOps0, hostOps0_1, hostOps0_2, List.flatten_cons, List.flatten_nil, List.append_nil, List.cons_append, List.nil_append]
  after_results_simp
  unfold half
  rw [h6]
  rfl

theorem last_sin (S : Valuation τ sig (Elt Ideal)) (h6 : S (Proc.devRef .tc main_v6) = Cert.PosRefIdeal.Read.val_main_v9 (F := Ideal)) : StableHlo.after hostOps0_2 S (Proc.devRef .tc main_v18) = half (Cert.PosRefIdeal.Read.val_main_v23 (F := Ideal)) := by
  simp only [hostOps0, hostOps0_1, hostOps0_2, List.flatten_cons, List.flatten_nil, List.append_nil, List.cons_append, List.nil_append]
  after_results_simp
  unfold half
  rw [h6]
  rfl

theorem split (V : Valuation τ sig (Elt Ideal)) : StableHlo.after ([hostOps0, hostOps0_1, hostOps0_2].flatten) V = StableHlo.after hostOps0_2 (StableHlo.after hostOps0_1 (StableHlo.after hostOps0 V)) := by
  rw [← StableHlo.after_append, ← StableHlo.after_append]
  rfl

variable (m : (ℓ : Loc nD τ sig) → Buf (Elt Ideal) ℓ)

/-- The table of the window that reads `main_v16`. -/
theorem tbl_cos (c : Dev nD) : V m c main_v16 = half (Cert.PosRefIdeal.Read.val_main_v15 (F := Ideal)) := by
  show StableHlo.after ([hostOps0, hostOps0_1, hostOps0_2].flatten) _ _ = _
  rw [split, last_cos _ (mid_rest _ (first_products _) (first_modulus _))]

/-- The table of the window that reads `main_v18`. -/
theorem tbl_sin (c : Dev nD) : V m c main_v18 = half (Cert.PosRefIdeal.Read.val_main_v23 (F := Ideal)) := by
  show StableHlo.after ([hostOps0, hostOps0_1, hostOps0_2].flatten) _ _ = _
  rw [split, last_sin _ (mid_rest _ (first_products _) (first_modulus _))]

end Cert.PosIdeal.At
end
-- ==== Proof.PosValue.lean ====
/- The Fourier transform over the positions: the result array after the run. -/
module
public import proofs.«01_k».proof.Proof.PosTable
@[expose] public section
set_option maxRecDepth 16384
noncomputable section
open Idealize.ShloMosaic Idealize.ShloMosaic.TcCoe Idealize.SL.Sem
open Idealize.ShloMosaic.Pipeline (Dat)
namespace Cert.PosIdeal.At
open Cert.PosIdeal Cert.PosIdeal.Gen

/-- Where each window's block lies, in terms of the grid point's number. -/
theorem idx : ∀ t : Fin cfg0.N, win0_0.index t = ![t.val / 4 % 2, 0] ∧ win0_1.index t = ![t.val / 4 % 2, 0] ∧ win0_2.index t = ![2 + t.val / 8, 2 * (t.val % 4)] ∧ win0_3.index t = ![2 + t.val / 8, 2 * (t.val % 4) + 1] ∧ win0_4.index t = ![t.val / 4, t.val % 4] :=
  (by decide +kernel : ∀ t : Fin grid0.N, _)

variable (m : (ℓ : Loc nD τ sig) → Buf (Elt Ideal) ℓ)

/-- The argument array. -/
abbrev arg0 (c : Dev nD) : FVec Ideal S8192x2048 .bf16 := m ((c : Thread nD τ).loc main_arg0)

/-- The reference's result of the argument. -/
abbrev wanted (c : Dev nD) := Cert.PosRefIdeal.Read.val_main_v30 (F := Ideal) (arg0 m c)

/-- The reference's result at an element: sequence `b`, position `q`, group `g`, channel `e`. -/
theorem wanted_at (a0 : FVec Ideal S8192x2048 .bf16) (r : Fin 4096) (l : Fin 1024) (b : Fin 2) (q : Fin 2048) (g : Fin 4) (e : Fin 256) (hr : r.val = b.val * 2048 + q.val) (hl : l.val = g.val * 256 + e.val) :
    Cert.PosRefIdeal.Read.val_main_v30 (F := Ideal) a0 (ix2 r l) = (∑ k : Fin 2048, Cert.PosRefIdeal.Read.val_main_v15 (F := Ideal) (ix2 q k) * a0 (ix2 (⟨4096 + (b.val * 2048 + k.val), by omega⟩ : Fin 8192) (⟨g.val * 512 + e.val, by omega⟩ : Fin 2048)))
      + (∑ k : Fin 2048, Cert.PosRefIdeal.Read.val_main_v23 (F := Ideal) (ix2 q k) * a0 (ix2 (⟨4096 + (b.val * 2048 + k.val), by omega⟩ : Fin 8192) (⟨g.val * 512 + 256 + e.val, by omega⟩ : Fin 2048))) := by
  pointwise [Cert.PosRefIdeal.Read.val_main_v0, Cert.PosRefIdeal.Read.val_main_v1, Cert.PosRefIdeal.Read.val_main_v2, Cert.PosRefIdeal.Read.val_main_v19, Cert.PosRefIdeal.Read.val_main_v20, Cert.PosRefIdeal.Read.val_main_v21, Cert.PosRefIdeal.Read.val_main_v22, Cert.PosRefIdeal.Read.val_main_v24, Cert.PosRefIdeal.Read.val_main_v25, Cert.PosRefIdeal.Read.val_main_v26, Cert.PosRefIdeal.Read.val_main_v27, Cert.PosRefIdeal.Read.val_main_v28, Cert.PosRefIdeal.Read.val_main_v29, Cert.PosRefIdeal.Read.val_main_v30]
  have h : ∀ (T : FVec Ideal S2048x2048 .f32) (x x' : Fin 8192) (y y' : Fin 2048) (z z' k : Fin 2048), x = x' → y = y' → z = z' → a0 (ix2 x y) * T (ix2 z k) = T (ix2 z' k) * a0 (ix2 x' y') := by
    rintro T x _ y _ z _ k rfl rfl rfl
    exact mul_comm (G := EReal) _ _
  refine congrArg₂ (fun x y : EReal => x + y) (Finset.sum_congr rfl fun k _ => h _ _ _ _ _ _ _ _ ?_ ?_ ?_) (Finset.sum_congr rfl fun k _ => h _ _ _ _ _ _ _ _ ?_ ?_ ?_)
  · exact Fin.ext (by show 4096 + (r.val / 2048 * 2048 + k.val) = 4096 + (b.val * 2048 + k.val); omega)
  · exact Fin.ext (by show l.val / 256 * 512 + l.val % 256 = g.val * 512 + e.val; omega)
  · exact Fin.ext (by show r.val % 2048 = q.val; omega)
  · exact Fin.ext (by show 4096 + (r.val / 2048 * 2048 + k.val) = 4096 + (b.val * 2048 + k.val); omega)
  · exact Fin.ext (by show l.val / 256 * 512 + 256 + l.val % 256 = g.val * 512 + 256 + e.val; omega)
  · exact Fin.ext (by show r.val % 2048 = q.val; omega)

/-- The stored block at an element, rows and columns of the operands known. -/
theorem pay_of (x y : Vec Ideal S1024x2048 .bf16) (w v : Vec Ideal S2048x256 .bf16) (r : Fin 1024) (l : Fin 256) (f g f' g' : Fin 2048 → EReal)
    (hf : ∀ k, x (ix2 r k) = f k) (hg : ∀ k, w (ix2 k l) = g k) (hf' : ∀ k, y (ix2 r k) = f' k) (hg' : ∀ k, v (ix2 k l) = g' k) :
    k0_pay1 (F := Ideal) x w y v (ix2 r l) = (∑ k : Fin 2048, f k * g k) + ∑ k : Fin 2048, f' k * g' k := by
  pointwise [k0_pay1]
  exact congrArg₂ (fun a b : EReal => a + b) (Finset.sum_congr rfl fun k _ => Ideal.mul_congr (hf k) (hg k)) (Finset.sum_congr rfl fun k _ => Ideal.mul_congr (hf' k) (hg' k))

/-- The table's block of window 0. -/
theorem read_cos (c : Dev nD) (t : Fin cfg0.N) (r : Fin 1024) (k : Fin 2048) : iblk m c 0 t (ix2 r k) = Cert.PosRefIdeal.Read.val_main_v15 (F := Ideal) (ix2 (⟨t.val / 4 % 2 * 1024 + r.val, by omega⟩ : Fin 2048) k) := by
  refine (congrFun (tbl_cos m c) ((win0_0.blk t).view.emb (ix2 r k))).trans ((half_at _ _).trans ?_)
  have e : (win0_0.blk t).view.emb (ix2 r k) = ix2 (⟨t.val / 4 % 2 * 1024 + r.val, by omega⟩ : Fin 2048) k := by
    blk_ext [idx t]
  rw [e]

/-- The table's block of window 1. -/
theorem read_sin (c : Dev nD) (t : Fin cfg0.N) (r : Fin 1024) (k : Fin 2048) : iblk m c 1 t (ix2 r k) = Cert.PosRefIdeal.Read.val_main_v23 (F := Ideal) (ix2 (⟨t.val / 4 % 2 * 1024 + r.val, by omega⟩ : Fin 2048) k) := by
  refine (congrFun (tbl_sin m c) ((win0_1.blk t).view.emb (ix2 r k))).trans ((half_at _ _).trans ?_)
  have e : (win0_1.blk t).view.emb (ix2 r k) = ix2 (⟨t.val / 4 % 2 * 1024 + r.val, by omega⟩ : Fin 2048) k := by
    blk_ext [idx t]
  rw [e]

/-- The first half of a group's channels, the rows of a sequence. -/
theorem read_first (c : Dev nD) (t : Fin cfg0.N) (k : Fin 2048) (l : Fin 256) (h : 4096 + (t.val / 8 * 2048 + k.val) < 8192) :
    iblk m c 2 t (ix2 k l) = arg0 m c (ix2 (⟨4096 + (t.val / 8 * 2048 + k.val), h⟩ : Fin 8192) (⟨t.val % 4 * 512 + l.val, by omega⟩ : Fin 2048)) := by
  blk_ext [iblk, V_main_arg0, idx t]

/-- The second half of a group's channels, the rows of a sequence. -/
theorem read_second (c : Dev nD) (t : Fin cfg0.N) (k : Fin 2048) (l : Fin 256) (h : 4096 + (t.val / 8 * 2048 + k.val) < 8192) :
    iblk m c 3 t (ix2 k l) = arg0 m c (ix2 (⟨4096 + (t.val / 8 * 2048 + k.val), h⟩ : Fin 8192) (⟨t.val % 4 * 512 + 256 + l.val, by omega⟩ : Fin 2048)) := by
  blk_ext [iblk, V_main_arg0, idx t]

/-- What a grid point stores at an element of its block. -/
theorem point (c : Dev nD) (t : Fin cfg0.N) (ht : t.val < 16) (r : Fin 1024) (l : Fin 256) (hr : t.val / 4 * 1024 + r.val < 4096) (hl : t.val % 4 * 256 + l.val < 1024) :
    k0_pay1 (F := Ideal) (iblk m c 0 t) (iblk m c 2 t) (iblk m c 1 t) (iblk m c 3 t) (ix2 r l) = wanted m c (ix2 (⟨t.val / 4 * 1024 + r.val, hr⟩ : Fin 4096) (⟨t.val % 4 * 256 + l.val, hl⟩ : Fin 1024)) := by
  have hb : t.val / 8 < 2 := by omega
  have hq : t.val / 4 % 2 * 1024 + r.val < 2048 := by omega
  have hg : t.val % 4 < 4 := by omega
  have hk : ∀ k : Fin 2048, 4096 + (t.val / 8 * 2048 + k.val) < 8192 := fun k => by omega
  refine (pay_of _ _ _ _ r l _ _ _ _ (fun k => read_cos m c t r k) (fun k => read_first m c t k l (hk k)) (fun k => read_sin m c t r k) (fun k => read_second m c t k l (hk k))).trans ?_
  exact (wanted_at (arg0 m c) _ _ (⟨t.val / 8, hb⟩ : Fin 2) (⟨t.val / 4 % 2 * 1024 + r.val, hq⟩ : Fin 2048) (⟨t.val % 4, hg⟩ : Fin 4) l
    (by show t.val / 4 * 1024 + r.val = t.val / 8 * 2048 + (t.val / 4 % 2 * 1024 + r.val); omega) rfl).symm

/-- THE RESULT ARRAY after the run is the reference's result of the argument. -/
theorem final (c : Dev nD) : (dats m 0 c).arrAt 4 (cfgs 0).N = wanted m c := by
  refine (dats m 0 c).arrAt_eq_of_covers 4 _ (by decide +kernel) fun t _ y => ?_
  blk_simp
  rw [after0_4]
  frame_out
  idx_vars y
  have ht : t.val < 16 := lt_of_lt_of_eq t.isLt (show cfg0.N = 16 from N_0)
  refine (point m c t ht y0 y1 (by omega) (by omega)).trans ?_
  blk_ext [idx t]

end Cert.PosIdeal.At
end
-- ==== Proof.PosClaims.lean ====
/- The claims of the Fourier transform over the positions, each from the program's run. -/
module
public import proofs.«01_k».proof.Defs
public import proofs.«01_k».proof.Proof.Gen.Pos
public import proofs.«01_k».proof.Proof.Gen.Pos.Frame
public import proofs.«01_k».proof.Proof.PosValue
public import proofs.«01_k».proof.Proof.Gen.PosRefIdeal.Run
public import Idealize.ShloMosaic.Adequacy
@[expose] public section
noncomputable section
open Idealize.ShloMosaic Idealize.ShloMosaic.TcCoe Idealize.SL.Sem
namespace Cert.PosClaims

/-- The kernel terminates, leaves its arguments and ends with every counter at zero. -/
theorem frame_kernel : Cert.quiescent_Pos := fun m ρ _ => Cert.Pos.Gen.frame m ρ

/-- So does the kernel over the extended reals. -/
theorem frame_ideal : Cert.quiescent_PosIdeal := fun m ρ _ => Cert.PosIdeal.Gen.frame m ρ

/-- So does the reference over the extended reals: it runs host operations only and declares no semaphore. -/
theorem frame_reference : Cert.quiescent_PosRefIdeal := fun m ρ _ =>
  (θ_run Cert.PosRefIdeal.defs _ _).mono
    (fun r h => ⟨fun c => (h c).2, Idealize.ShloMosaic.sem_eq_zero_of_no_sems (by decide) r.2⟩)
    (Cert.PosRefIdeal.Value.run (F := Ideal) m ρ)

/-- The kernel's idealization rewrites nothing. -/
theorem preserves : Cert.preserves_Pos_PosIdeal := trivial

/-- THE VALUE: from the same arguments kernel and reference end with equal results. -/
theorem algebraic : Cert.algebraic_PosIdeal_PosRefIdeal := fun m ρ m' ρ' _ hag =>
  ⟨fun c => Cert.PosIdeal.At.wanted m c,
    (θ_run Cert.PosIdeal.defs _ _).mono (fun _ h c => ⟨(h c).1.trans (Cert.PosIdeal.At.final m c), (h c).2⟩)
      (Cert.PosIdeal.Value.run_blocks (F := Ideal) m ρ),
    (θ_run Cert.PosRefIdeal.defs _ _).mono (fun _ h c => ⟨(h c).1.trans (by
        rw [Cert.PosRefIdeal.Read.val_main_v30_eq]
        show Cert.PosRefIdeal.Read.val_main_v30 (F := Ideal) (m' ((c.tc : Thread Cert.PosRefIdeal.nD Cert.PosRefIdeal.τ).loc Cert.PosRefIdeal.main_arg0)) = _
        rw [(hag c)]), (h c).2⟩)
      (Cert.PosRefIdeal.Value.run (F := Ideal) m' ρ')⟩

end Cert.PosClaims
end
-- ==== Proof.lean ====
module

public import proofs.«01_k».proof.Proof.Gen.Up
public import proofs.«01_k».proof.Proof.Gen.Up.Launch
public import proofs.«01_k».proof.Proof.Gen.Up.Skeleton
public import proofs.«01_k».proof.Proof.Gen.UpIdeal
public import proofs.«01_k».proof.Proof.Gen.UpIdeal.Launch
public import proofs.«01_k».proof.Proof.Gen.UpIdeal.Skeleton
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_experts_up
public import proofs.«01_k».proof.Proof.Gen.Down
public import proofs.«01_k».proof.Proof.Gen.Down.Launch
public import proofs.«01_k».proof.Proof.Gen.Down.Skeleton
public import proofs.«01_k».proof.Proof.Gen.DownIdeal
public import proofs.«01_k».proof.Proof.Gen.DownIdeal.Launch
public import proofs.«01_k».proof.Proof.Gen.DownIdeal.Skeleton
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_experts_down
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gen.GatesRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Kpe
public import proofs.«01_k».proof.Proof.Gen.Kpe.Skeleton
public import proofs.«01_k».proof.Proof.Gen.Kpe.Launch
public import proofs.«01_k».proof.Proof.Gen.Kpe.Points
public import proofs.«01_k».proof.Proof.Gen.Kpe.Frame
public import proofs.«01_k».proof.Proof.Gen.KpeIdeal
public import proofs.«01_k».proof.Proof.Gen.KpeIdeal.Skeleton
public import proofs.«01_k».proof.Proof.Gen.KpeIdeal.Launch
public import proofs.«01_k».proof.Proof.Gen.KpeIdeal.Points
public import proofs.«01_k».proof.Proof.Gen.KpeIdeal.Frame
public import proofs.«01_k».proof.Proof.Gen.KpeRefIdeal
public import proofs.«01_k».proof.Proof.Gen.KpeRefIdeal.Run
public import proofs.«01_k».proof.Proof.Gen.KpeRefIdeal.Read
public import proofs.«01_k».proof.Proof.Gen.Ckv
public import proofs.«01_k».proof.Proof.Gen.Ckv.Skeleton
public import proofs.«01_k».proof.Proof.Gen.Ckv.Launch
public import proofs.«01_k».proof.Proof.Gen.Ckv.Points
public import proofs.«01_k».proof.Proof.Gen.Ckv.Frame
public import proofs.«01_k».proof.Proof.Gen.CkvIdeal
public import proofs.«01_k».proof.Proof.Gen.CkvIdeal.Skeleton
public import proofs.«01_k».proof.Proof.Gen.CkvIdeal.Launch
public import proofs.«01_k».proof.Proof.Gen.CkvIdeal.Points
public import proofs.«01_k».proof.Proof.Gen.CkvIdeal.Frame
public import proofs.«01_k».proof.Proof.Gen.CkvRefIdeal
public import proofs.«01_k».proof.Proof.Gen.CkvRefIdeal.Run
public import proofs.«01_k».proof.Proof.Gen.CkvRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Comb
public import proofs.«01_k».proof.Proof.Gen.Comb.Skeleton
public import proofs.«01_k».proof.Proof.Gen.Comb.Launch
public import proofs.«01_k».proof.Proof.Gen.Comb.Points
public import proofs.«01_k».proof.Proof.Gen.Comb.Frame
public import proofs.«01_k».proof.Proof.Gen.CombIdeal
public import proofs.«01_k».proof.Proof.Gen.CombIdeal.Skeleton
public import proofs.«01_k».proof.Proof.Gen.CombIdeal.Launch
public import proofs.«01_k».proof.Proof.Gen.CombIdeal.Points
public import proofs.«01_k».proof.Proof.Gen.CombIdeal.Frame
public import proofs.«01_k».proof.Proof.Gen.CombIdeal.Value
public import proofs.«01_k».proof.Proof.Gen.CombRefIdeal
public import proofs.«01_k».proof.Proof.Gen.CombRefIdeal.Run
public import proofs.«01_k».proof.Proof.Gen.CombRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Rotk
public import proofs.«01_k».proof.Proof.Gen.Rotk.Skeleton
public import proofs.«01_k».proof.Proof.Gen.Rotk.Launch
public import proofs.«01_k».proof.Proof.Gen.Rotk.Points
public import proofs.«01_k».proof.Proof.Gen.Rotk.Frame
public import proofs.«01_k».proof.Proof.Gen.RotkIdeal
public import proofs.«01_k».proof.Proof.Gen.RotkIdeal.Skeleton
public import proofs.«01_k».proof.Proof.Gen.RotkIdeal.Launch
public import proofs.«01_k».proof.Proof.Gen.RotkIdeal.Points
public import proofs.«01_k».proof.Proof.Gen.RotkIdeal.Frame
public import proofs.«01_k».proof.Proof.Gen.RotkIdeal.Value
public import proofs.«01_k».proof.Proof.Gen.RotkRefIdeal
public import proofs.«01_k».proof.Proof.Gen.RotkRefIdeal.Run
public import proofs.«01_k».proof.Proof.Gen.RotkRefIdeal.Read
public import proofs.«01_k».proof.Proof.Gen.Rotq
public import proofs.«01_k».proof.Proof.Gen.Rotq.Skeleton
public import proofs.«01_k».proof.Proof.Gen.Rotq.Launch
public import proofs.«01_k».proof.Proof.Gen.Rotq.Points
public import proofs.«01_k».proof.Proof.Gen.Rotq.Frame
public import proofs.«01_k».proof.Proof.Gen.RotqIdeal
public import proofs.«01_k».proof.Proof.Gen.RotqIdeal.Skeleton
public import proofs.«01_k».proof.Proof.Gen.RotqIdeal.Launch
public import proofs.«01_k».proof.Proof.Gen.RotqIdeal.Points
public import proofs.«01_k».proof.Proof.Gen.RotqIdeal.Frame
public import proofs.«01_k».proof.Proof.Gen.RotqIdeal.Value
public import proofs.«01_k».proof.Proof.Gen.RotqRefIdeal
public import proofs.«01_k».proof.Proof.Gen.RotqRefIdeal.Run
public import proofs.«01_k».proof.Proof.Gen.RotqRefIdeal.Read
public import proofs.«01_k».proof.Proof.Gen.Dft
public import proofs.«01_k».proof.Proof.Gen.Dft.Skeleton
public import proofs.«01_k».proof.Proof.Gen.Dft.Launch
public import proofs.«01_k».proof.Proof.Gen.Dft.Points
public import proofs.«01_k».proof.Proof.Gen.Dft.Frame
public import proofs.«01_k».proof.Proof.Gen.DftIdeal
public import proofs.«01_k».proof.Proof.Gen.DftIdeal.Skeleton
public import proofs.«01_k».proof.Proof.Gen.DftIdeal.Launch
public import proofs.«01_k».proof.Proof.Gen.DftIdeal.Points
public import proofs.«01_k».proof.Proof.Gen.DftIdeal.Frame
public import proofs.«01_k».proof.Proof.Gen.DftIdeal.Value
public import proofs.«01_k».proof.Proof.Gen.DftRefIdeal
public import proofs.«01_k».proof.Proof.Gen.DftRefIdeal.Run
public import proofs.«01_k».proof.Proof.Gen.DftRefIdeal.Read
public import proofs.«01_k».proof.Proof.Gen.Pos
public import proofs.«01_k».proof.Proof.Gen.Pos.Skeleton
public import proofs.«01_k».proof.Proof.Gen.Pos.Launch
public import proofs.«01_k».proof.Proof.Gen.Pos.Points
public import proofs.«01_k».proof.Proof.Gen.Pos.Frame
public import proofs.«01_k».proof.Proof.Gen.PosIdeal
public import proofs.«01_k».proof.Proof.Gen.PosIdeal.Skeleton
public import proofs.«01_k».proof.Proof.Gen.PosIdeal.Launch
public import proofs.«01_k».proof.Proof.Gen.PosIdeal.Points
public import proofs.«01_k».proof.Proof.Gen.PosIdeal.Frame
public import proofs.«01_k».proof.Proof.Gen.PosIdeal.Value
public import proofs.«01_k».proof.Proof.Gen.PosRefIdeal
public import proofs.«01_k».proof.Proof.Gen.PosRefIdeal.Run
public import proofs.«01_k».proof.Proof.Gen.PosRefIdeal.Read
public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnClaims
public import proofs.«01_k».proof.Proof.UpClaims
public import proofs.«01_k».proof.Proof.DownClaims
public import proofs.«01_k».proof.Proof.GatesClaims
public import proofs.«01_k».proof.Proof.ProjClaims
public import proofs.«01_k».proof.Proof.KpeClaims
public import proofs.«01_k».proof.Proof.CkvClaims
public import proofs.«01_k».proof.Proof.KvClaims
public import proofs.«01_k».proof.Proof.MergeClaims
public import proofs.«01_k».proof.Proof.OutClaims
public import proofs.«01_k».proof.Proof.FfnUpClaims
public import proofs.«01_k».proof.Proof.FfnDownClaims
public import proofs.«01_k».proof.Proof.FinalClaims
public import proofs.«01_k».proof.Proof.AdaClaims
public import proofs.«01_k».proof.Proof.NormClaims
public import proofs.«01_k».proof.Proof.CombClaims
public import proofs.«01_k».proof.Proof.ConvClaims
public import proofs.«01_k».proof.Proof.RotkClaims
public import proofs.«01_k».proof.Proof.RotqClaims
public import proofs.«01_k».proof.Proof.DftClaims
public import proofs.«01_k».proof.Proof.PosClaims
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.Up.Gen.facts, Cert.UpIdeal.Gen.facts, Cert.UpRefIdeal.Gen.facts, Cert.Down.Gen.facts, Cert.DownIdeal.Gen.facts, Cert.DownRefIdeal.Gen.facts,
  Cert.Gates.Gen.facts, Cert.GatesIdeal.Gen.facts, Cert.GatesRefIdeal.Gen.facts,
  Cert.Proj.Gen.facts, Cert.ProjIdeal.Gen.facts, Cert.ProjRefIdeal.Gen.facts,
  Cert.Kpe.Gen.facts, Cert.KpeIdeal.Gen.facts, Cert.KpeRefIdeal.Gen.facts,
  Cert.Ckv.Gen.facts, Cert.CkvIdeal.Gen.facts, Cert.CkvRefIdeal.Gen.facts,
  Cert.Kv.Gen.facts, Cert.KvIdeal.Gen.facts, Cert.KvRefIdeal.Gen.facts,
  Cert.Merge.Gen.facts, Cert.MergeIdeal.Gen.facts, Cert.MergeRefIdeal.Gen.facts,
  Cert.Out.Gen.facts, Cert.OutIdeal.Gen.facts, Cert.OutRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.Final.Gen.facts, Cert.FinalIdeal.Gen.facts, Cert.FinalRefIdeal.Gen.facts,
  Cert.Ada.Gen.facts, Cert.AdaIdeal.Gen.facts, Cert.AdaRefIdeal.Gen.facts,
  Cert.Norm.Gen.facts, Cert.NormIdeal.Gen.facts, Cert.NormRefIdeal.Gen.facts,
  Cert.Comb.Gen.facts, Cert.CombIdeal.Gen.facts, Cert.CombRefIdeal.Gen.facts,
  Cert.Conv.Gen.facts, Cert.ConvIdeal.Gen.facts, Cert.ConvRefIdeal.Gen.facts,
  Cert.Rotk.Gen.facts, Cert.RotkIdeal.Gen.facts, Cert.RotkRefIdeal.Gen.facts,
  Cert.Rotq.Gen.facts, Cert.RotqIdeal.Gen.facts, Cert.RotqRefIdeal.Gen.facts,
  Cert.Dft.Gen.facts, Cert.DftIdeal.Gen.facts, Cert.DftRefIdeal.Gen.facts,
  Cert.Pos.Gen.facts, Cert.PosIdeal.Gen.facts, Cert.PosRefIdeal.Gen.facts,
  Cert.Pre_experts_up.Gen.facts, Cert.Pre_experts_down.Gen.facts,
  AttnClaims.frame_kernel, AttnClaims.frame_ideal, AttnClaims.frame_reference,
  UpClaims.frame_kernel, UpClaims.frame_ideal, UpClaims.frame_reference, UpClaims.frame_reference_pre,
  DownClaims.frame_kernel, DownClaims.frame_ideal, DownClaims.frame_reference, DownClaims.frame_reference_pre,
  GatesClaims.frame_kernel, GatesClaims.frame_ideal, GatesClaims.frame_reference,
  ProjClaims.frame_kernel, ProjClaims.frame_ideal, ProjClaims.frame_reference,
  KpeClaims.frame_kernel, KpeClaims.frame_ideal, KpeClaims.frame_reference,
  CkvClaims.frame_kernel, CkvClaims.frame_ideal, CkvClaims.frame_reference,
  KvClaims.frame_kernel, KvClaims.frame_ideal, KvClaims.frame_reference,
  MergeClaims.frame_kernel, MergeClaims.frame_ideal, MergeClaims.frame_reference,
  OutClaims.frame_kernel, OutClaims.frame_ideal, OutClaims.frame_reference,
  FfnUpClaims.frame_kernel, FfnUpClaims.frame_ideal, FfnUpClaims.frame_reference,
  FfnDownClaims.frame_kernel, FfnDownClaims.frame_ideal, FfnDownClaims.frame_reference,
  FinalClaims.frame_kernel, FinalClaims.frame_ideal, FinalClaims.frame_reference,
  AdaClaims.frame_kernel, AdaClaims.frame_ideal, AdaClaims.frame_reference,
  NormClaims.frame_kernel, NormClaims.frame_ideal, NormClaims.frame_reference,
  CombClaims.frame_kernel, CombClaims.frame_ideal, CombClaims.frame_reference,
  ConvClaims.frame_kernel, ConvClaims.frame_ideal, ConvClaims.frame_reference,
  RotkClaims.frame_kernel, RotkClaims.frame_ideal, RotkClaims.frame_reference,
  RotqClaims.frame_kernel, RotqClaims.frame_ideal, RotqClaims.frame_reference,
  DftClaims.frame_kernel, DftClaims.frame_ideal, DftClaims.frame_reference,
  PosClaims.frame_kernel, PosClaims.frame_ideal, PosClaims.frame_reference,
  AttnClaims.preserves, AttnClaims.algebraic, UpClaims.preserves, UpClaims.algebraic, DownClaims.preserves, DownClaims.algebraic,
  GatesClaims.preserves, GatesClaims.algebraic,
  ProjClaims.preserves, ProjClaims.algebraic,
  KpeClaims.preserves, KpeClaims.algebraic,
  CkvClaims.preserves, CkvClaims.algebraic,
  KvClaims.preserves, KvClaims.algebraic,
  MergeClaims.preserves, MergeClaims.algebraic,
  OutClaims.preserves, OutClaims.algebraic,
  FfnUpClaims.preserves, FfnUpClaims.algebraic,
  FfnDownClaims.preserves, FfnDownClaims.algebraic,
  FinalClaims.preserves, FinalClaims.algebraic,
  AdaClaims.preserves, AdaClaims.algebraic,
  NormClaims.preserves, NormClaims.algebraic,
  CombClaims.preserves, CombClaims.algebraic,
  ConvClaims.preserves, ConvClaims.algebraic,
  RotkClaims.preserves, RotkClaims.algebraic,
  RotqClaims.preserves, RotqClaims.algebraic,
  DftClaims.preserves, DftClaims.algebraic,
  PosClaims.preserves, PosClaims.algebraic⟩

end Cert.Proof

end
